-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Kernel8Ideal_finite_rows [hPre_finite_rows : Cert.Pre_finite_rows.Facts] (m : (ℓ : Loc Cert.Kernel8Ideal.nD Cert.Kernel8Ideal.τ Cert.Kernel8Ideal.sig) → Buf (Elt Ideal) ℓ) : Prop :=
  ∀ c : Dev Cert.Kernel8Ideal.nD,
    (Cert.Pre_finite_rows.fn (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2)) (m ((c.tc : Thread Cert.Kernel8Ideal.nD Cert.Kernel8Ideal.τ).loc Cert.Kernel8Ideal.main_arg3)) (m ((c.tc : Thread Cert.Kernel8Ideal.nD Cert.Kernel8Ideal.τ).loc Cert.Kernel8Ideal.main_arg4)) (m ((c.tc : Thread Cert.Kernel8Ideal.nD Cert.Kernel8Ideal.τ).loc Cert.Kernel8Ideal.main_arg5)) (m ((c.tc : Thread Cert.Kernel8Ideal.nD Cert.Kernel8Ideal.τ).loc Cert.Kernel8Ideal.main_arg6)) (m ((c.tc : Thread Cert.Kernel8Ideal.nD Cert.Kernel8Ideal.τ).loc Cert.Kernel8Ideal.main_arg7)) (m ((c.tc : Thread Cert.Kernel8Ideal.nD Cert.Kernel8Ideal.τ).loc Cert.Kernel8Ideal.main_arg8)) (m ((c.tc : Thread Cert.Kernel8Ideal.nD Cert.Kernel8Ideal.τ).loc Cert.Kernel8Ideal.main_arg9)) (m ((c.tc : Thread Cert.Kernel8Ideal.nD Cert.Kernel8Ideal.τ).loc Cert.Kernel8Ideal.main_arg10))) = (fun _ => 1#1)

def Pre_Reference8Ideal (m : (ℓ : Loc Cert.Reference8Ideal.nD Cert.Reference8Ideal.τ Cert.Reference8Ideal.sig) → Buf (Elt Ideal) ℓ) : Prop :=
  True

def Pre_Reference8Ideal_finite_rows [hPre_finite_rows : Cert.Pre_finite_rows.Facts] (m : (ℓ : Loc Cert.Reference8Ideal.nD Cert.Reference8Ideal.τ Cert.Reference8Ideal.sig) → Buf (Elt Ideal) ℓ) : Prop :=
  ∀ c : Dev Cert.Reference8Ideal.nD,
    (Cert.Pre_finite_rows.fn (F := Ideal) (m ((c.tc : Thread Cert.Reference8Ideal.nD Cert.Reference8Ideal.τ).loc Cert.Reference8Ideal.main_arg0)) (m ((c.tc : Thread Cert.Reference8Ideal.nD Cert.Reference8Ideal.τ).loc Cert.Reference8Ideal.main_arg1)) (m ((c.tc : Thread Cert.Reference8Ideal.nD Cert.Reference8Ideal.τ).loc Cert.Reference8Ideal.main_arg2)) (m ((c.tc : Thread Cert.Reference8Ideal.nD Cert.Reference8Ideal.τ).loc Cert.Reference8Ideal.main_arg3)) (m ((c.tc : Thread Cert.Reference8Ideal.nD Cert.Reference8Ideal.τ).loc Cert.Reference8Ideal.main_arg4)) (m ((c.tc : Thread Cert.Reference8Ideal.nD Cert.Reference8Ideal.τ).loc Cert.Reference8Ideal.main_arg5)) (m ((c.tc : Thread Cert.Reference8Ideal.nD Cert.Reference8Ideal.τ).loc Cert.Reference8Ideal.main_arg6)) (m ((c.tc : Thread Cert.Reference8Ideal.nD Cert.Reference8Ideal.τ).loc Cert.Reference8Ideal.main_arg7)) (m ((c.tc : Thread Cert.Reference8Ideal.nD Cert.Reference8Ideal.τ).loc Cert.Reference8Ideal.main_arg8)) (m ((c.tc : Thread Cert.Reference8Ideal.nD Cert.Reference8Ideal.τ).loc Cert.Reference8Ideal.main_arg9)) (m ((c.tc : Thread Cert.Reference8Ideal.nD Cert.Reference8Ideal.τ).loc Cert.Reference8Ideal.main_arg10))) = (fun _ => 1#1)

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4)
      ∧ r.2.mem ((c.tc : Thread Cert.Kernel8.nD Cert.Kernel8.τ).loc Cert.Kernel8.main_arg5) = m ((c.tc : Thread Cert.Kernel8.nD Cert.Kernel8.τ).loc Cert.Kernel8.main_arg5)
      ∧ r.2.mem ((c.tc : Thread Cert.Kernel8.nD Cert.Kernel8.τ).loc Cert.Kernel8.main_arg6) = m ((c.tc : Thread Cert.Kernel8.nD Cert.Kernel8.τ).loc Cert.Kernel8.main_arg6)
      ∧ r.2.mem ((c.tc : Thread Cert.Kernel8.nD Cert.Kernel8.τ).loc Cert.Kernel8.main_arg7) = m ((c.tc : Thread Cert.Kernel8.nD Cert.Kernel8.τ).loc Cert.Kernel8.main_arg7)
      ∧ r.2.mem ((c.tc : Thread Cert.Kernel8.nD Cert.Kernel8.τ).loc Cert.Kernel8.main_arg8) = m ((c.tc : Thread Cert.Kernel8.nD Cert.Kernel8.τ).loc Cert.Kernel8.main_arg8)
      ∧ r.2.mem ((c.tc : Thread Cert.Kernel8.nD Cert.Kernel8.τ).loc Cert.Kernel8.main_arg9) = m ((c.tc : Thread Cert.Kernel8.nD Cert.Kernel8.τ).loc Cert.Kernel8.main_arg9)
      ∧ r.2.mem ((c.tc : Thread Cert.Kernel8.nD Cert.Kernel8.τ).loc Cert.Kernel8.main_arg10) = m ((c.tc : Thread Cert.Kernel8.nD Cert.Kernel8.τ).loc Cert.Kernel8.main_arg10))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
      ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
      ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6)
      ∧ r.2.mem ((c.tc : Thread Cert.Kernel8Ideal.nD Cert.Kernel8Ideal.τ).loc Cert.Kernel8Ideal.main_arg7) = m ((c.tc : Thread Cert.Kernel8Ideal.nD Cert.Kernel8Ideal.τ).loc Cert.Kernel8Ideal.main_arg7)
      ∧ r.2.mem ((c.tc : Thread Cert.Kernel8Ideal.nD Cert.Kernel8Ideal.τ).loc Cert.Kernel8Ideal.main_arg8) = m ((c.tc : Thread Cert.Kernel8Ideal.nD Cert.Kernel8Ideal.τ).loc Cert.Kernel8Ideal.main_arg8)
      ∧ r.2.mem ((c.tc : Thread Cert.Kernel8Ideal.nD Cert.Kernel8Ideal.τ).loc Cert.Kernel8Ideal.main_arg9) = m ((c.tc : Thread Cert.Kernel8Ideal.nD Cert.Kernel8Ideal.τ).loc Cert.Kernel8Ideal.main_arg9)
      ∧ r.2.mem ((c.tc : Thread Cert.Kernel8Ideal.nD Cert.Kernel8Ideal.τ).loc Cert.Kernel8Ideal.main_arg10) = m ((c.tc : Thread Cert.Kernel8Ideal.nD Cert.Kernel8Ideal.τ).loc Cert.Kernel8Ideal.main_arg10))
      ∧ r.2.sem = fun _ => 0)

def quiescent_Kernel8Ideal_pre_finite_rows [hKernel8Ideal : Cert.Kernel8Ideal.Facts] [hPre_finite_rows : Cert.Pre_finite_rows.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal_finite_rows m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
      ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
      ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6)
      ∧ r.2.mem ((c.tc : Thread Cert.Kernel8Ideal.nD Cert.Kernel8Ideal.τ).loc Cert.Kernel8Ideal.main_arg7) = m ((c.tc : Thread Cert.Kernel8Ideal.nD Cert.Kernel8Ideal.τ).loc Cert.Kernel8Ideal.main_arg7)
      ∧ r.2.mem ((c.tc : Thread Cert.Kernel8Ideal.nD Cert.Kernel8Ideal.τ).loc Cert.Kernel8Ideal.main_arg8) = m ((c.tc : Thread Cert.Kernel8Ideal.nD Cert.Kernel8Ideal.τ).loc Cert.Kernel8Ideal.main_arg8)
      ∧ r.2.mem ((c.tc : Thread Cert.Kernel8Ideal.nD Cert.Kernel8Ideal.τ).loc Cert.Kernel8Ideal.main_arg9) = m ((c.tc : Thread Cert.Kernel8Ideal.nD Cert.Kernel8Ideal.τ).loc Cert.Kernel8Ideal.main_arg9)
      ∧ r.2.mem ((c.tc : Thread Cert.Kernel8Ideal.nD Cert.Kernel8Ideal.τ).loc Cert.Kernel8Ideal.main_arg10) = m ((c.tc : Thread Cert.Kernel8Ideal.nD Cert.Kernel8Ideal.τ).loc Cert.Kernel8Ideal.main_arg10))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4)
      ∧ r.2.mem ((c.tc : Thread Cert.Reference8Ideal.nD Cert.Reference8Ideal.τ).loc Cert.Reference8Ideal.main_arg5) = m ((c.tc : Thread Cert.Reference8Ideal.nD Cert.Reference8Ideal.τ).loc Cert.Reference8Ideal.main_arg5)
      ∧ r.2.mem ((c.tc : Thread Cert.Reference8Ideal.nD Cert.Reference8Ideal.τ).loc Cert.Reference8Ideal.main_arg6) = m ((c.tc : Thread Cert.Reference8Ideal.nD Cert.Reference8Ideal.τ).loc Cert.Reference8Ideal.main_arg6)
      ∧ r.2.mem ((c.tc : Thread Cert.Reference8Ideal.nD Cert.Reference8Ideal.τ).loc Cert.Reference8Ideal.main_arg7) = m ((c.tc : Thread Cert.Reference8Ideal.nD Cert.Reference8Ideal.τ).loc Cert.Reference8Ideal.main_arg7)
      ∧ r.2.mem ((c.tc : Thread Cert.Reference8Ideal.nD Cert.Reference8Ideal.τ).loc Cert.Reference8Ideal.main_arg8) = m ((c.tc : Thread Cert.Reference8Ideal.nD Cert.Reference8Ideal.τ).loc Cert.Reference8Ideal.main_arg8)
      ∧ r.2.mem ((c.tc : Thread Cert.Reference8Ideal.nD Cert.Reference8Ideal.τ).loc Cert.Reference8Ideal.main_arg9) = m ((c.tc : Thread Cert.Reference8Ideal.nD Cert.Reference8Ideal.τ).loc Cert.Reference8Ideal.main_arg9)
      ∧ r.2.mem ((c.tc : Thread Cert.Reference8Ideal.nD Cert.Reference8Ideal.τ).loc Cert.Reference8Ideal.main_arg10) = m ((c.tc : Thread Cert.Reference8Ideal.nD Cert.Reference8Ideal.τ).loc Cert.Reference8Ideal.main_arg10))
      ∧ r.2.sem = fun _ => 0)

def quiescent_Reference8Ideal_pre_finite_rows [hReference8Ideal : Cert.Reference8Ideal.Facts] [hPre_finite_rows : Cert.Pre_finite_rows.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal_finite_rows m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4)
      ∧ r.2.mem ((c.tc : Thread Cert.Reference8Ideal.nD Cert.Reference8Ideal.τ).loc Cert.Reference8Ideal.main_arg5) = m ((c.tc : Thread Cert.Reference8Ideal.nD Cert.Reference8Ideal.τ).loc Cert.Reference8Ideal.main_arg5)
      ∧ r.2.mem ((c.tc : Thread Cert.Reference8Ideal.nD Cert.Reference8Ideal.τ).loc Cert.Reference8Ideal.main_arg6) = m ((c.tc : Thread Cert.Reference8Ideal.nD Cert.Reference8Ideal.τ).loc Cert.Reference8Ideal.main_arg6)
      ∧ r.2.mem ((c.tc : Thread Cert.Reference8Ideal.nD Cert.Reference8Ideal.τ).loc Cert.Reference8Ideal.main_arg7) = m ((c.tc : Thread Cert.Reference8Ideal.nD Cert.Reference8Ideal.τ).loc Cert.Reference8Ideal.main_arg7)
      ∧ r.2.mem ((c.tc : Thread Cert.Reference8Ideal.nD Cert.Reference8Ideal.τ).loc Cert.Reference8Ideal.main_arg8) = m ((c.tc : Thread Cert.Reference8Ideal.nD Cert.Reference8Ideal.τ).loc Cert.Reference8Ideal.main_arg8)
      ∧ r.2.mem ((c.tc : Thread Cert.Reference8Ideal.nD Cert.Reference8Ideal.τ).loc Cert.Reference8Ideal.main_arg9) = m ((c.tc : Thread Cert.Reference8Ideal.nD Cert.Reference8Ideal.τ).loc Cert.Reference8Ideal.main_arg9)
      ∧ r.2.mem ((c.tc : Thread Cert.Reference8Ideal.nD Cert.Reference8Ideal.τ).loc Cert.Reference8Ideal.main_arg10) = m ((c.tc : Thread Cert.Reference8Ideal.nD Cert.Reference8Ideal.τ).loc Cert.Reference8Ideal.main_arg10))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3)
      ∧ r.2.mem ((c.tc : Thread Cert.Kernel10.nD Cert.Kernel10.τ).loc Cert.Kernel10.main_arg4) = m ((c.tc : Thread Cert.Kernel10.nD Cert.Kernel10.τ).loc Cert.Kernel10.main_arg4))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
      ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3)
      ∧ r.2.mem ((c.tc : Thread Cert.Reference10Ideal.nD Cert.Reference10Ideal.τ).loc Cert.Reference10Ideal.main_arg4) = m ((c.tc : Thread Cert.Reference10Ideal.nD Cert.Reference10Ideal.τ).loc Cert.Reference10Ideal.main_arg4))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3)
      ∧ r.2.mem ((c.tc : Thread Cert.Kernel11.nD Cert.Kernel11.τ).loc Cert.Kernel11.main_arg4) = m ((c.tc : Thread Cert.Kernel11.nD Cert.Kernel11.τ).loc Cert.Kernel11.main_arg4)
      ∧ r.2.mem ((c.tc : Thread Cert.Kernel11.nD Cert.Kernel11.τ).loc Cert.Kernel11.main_arg5) = m ((c.tc : Thread Cert.Kernel11.nD Cert.Kernel11.τ).loc Cert.Kernel11.main_arg5)
      ∧ r.2.mem ((c.tc : Thread Cert.Kernel11.nD Cert.Kernel11.τ).loc Cert.Kernel11.main_arg6) = m ((c.tc : Thread Cert.Kernel11.nD Cert.Kernel11.τ).loc Cert.Kernel11.main_arg6))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
      ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4)
      ∧ r.2.mem ((c.tc : Thread Cert.Kernel11Ideal.nD Cert.Kernel11Ideal.τ).loc Cert.Kernel11Ideal.main_arg5) = m ((c.tc : Thread Cert.Kernel11Ideal.nD Cert.Kernel11Ideal.τ).loc Cert.Kernel11Ideal.main_arg5)
      ∧ r.2.mem ((c.tc : Thread Cert.Kernel11Ideal.nD Cert.Kernel11Ideal.τ).loc Cert.Kernel11Ideal.main_arg6) = m ((c.tc : Thread Cert.Kernel11Ideal.nD Cert.Kernel11Ideal.τ).loc Cert.Kernel11Ideal.main_arg6))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3)
      ∧ r.2.mem ((c.tc : Thread Cert.Reference11Ideal.nD Cert.Reference11Ideal.τ).loc Cert.Reference11Ideal.main_arg4) = m ((c.tc : Thread Cert.Reference11Ideal.nD Cert.Reference11Ideal.τ).loc Cert.Reference11Ideal.main_arg4)
      ∧ r.2.mem ((c.tc : Thread Cert.Reference11Ideal.nD Cert.Reference11Ideal.τ).loc Cert.Reference11Ideal.main_arg5) = m ((c.tc : Thread Cert.Reference11Ideal.nD Cert.Reference11Ideal.τ).loc Cert.Reference11Ideal.main_arg5)
      ∧ r.2.mem ((c.tc : Thread Cert.Reference11Ideal.nD Cert.Reference11Ideal.τ).loc Cert.Reference11Ideal.main_arg6) = m ((c.tc : Thread Cert.Reference11Ideal.nD Cert.Reference11Ideal.τ).loc Cert.Reference11Ideal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v90) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v0_0)) (v1 : (c : Dev Cert.Kernel2Ideal.nD) → Buf (Elt Ideal) ((c.tc : Thread Cert.Kernel2Ideal.nD Cert.Kernel2Ideal.τ).loc Cert.Kernel2Ideal.main_v0_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0_0) = v0 c
          ∧ r.2.mem ((c.tc : Thread Cert.Kernel2Ideal.nD Cert.Kernel2Ideal.τ).loc Cert.Kernel2Ideal.main_v0_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v9) = v0 c
          ∧ r.2.mem ((c.tc : Thread Cert.Reference2Ideal.nD Cert.Reference2Ideal.τ).loc Cert.Reference2Ideal.main_v12) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v3_0)) (v1 : (c : Dev Cert.Kernel3Ideal.nD) → Buf (Elt Ideal) ((c.tc : Thread Cert.Kernel3Ideal.nD Cert.Kernel3Ideal.τ).loc Cert.Kernel3Ideal.main_v3_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v3_0) = v0 c
          ∧ r.2.mem ((c.tc : Thread Cert.Kernel3Ideal.nD Cert.Kernel3Ideal.τ).loc Cert.Kernel3Ideal.main_v3_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v16) = v0 c
          ∧ r.2.mem ((c.tc : Thread Cert.Reference3Ideal.nD Cert.Reference3Ideal.τ).loc Cert.Reference3Ideal.main_v30) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v20) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)) →
    ∃ (v0 : (c : Dev Cert.Kernel5Ideal.nD) → Buf (Elt Ideal) ((c.tc : Thread Cert.Kernel5Ideal.nD Cert.Kernel5Ideal.τ).loc Cert.Kernel5Ideal.main_v2_0)) (v1 : (c : Dev Cert.Kernel5Ideal.nD) → Buf (Elt Ideal) ((c.tc : Thread Cert.Kernel5Ideal.nD Cert.Kernel5Ideal.τ).loc Cert.Kernel5Ideal.main_v2_1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v2_0) = v0 c
          ∧ r.2.mem ((c.tc : Thread Cert.Kernel5Ideal.nD Cert.Kernel5Ideal.τ).loc Cert.Kernel5Ideal.main_v2_1) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v18) = v0 c
          ∧ r.2.mem ((c.tc : Thread Cert.Reference5Ideal.nD Cert.Reference5Ideal.τ).loc Cert.Reference5Ideal.main_v32) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v5) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v4)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v4) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v5) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal_pre_finite_rows [hKernel8Ideal : Cert.Kernel8Ideal.Facts] [hReference8Ideal : Cert.Reference8Ideal.Facts] [hPre_finite_rows : Cert.Pre_finite_rows.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal_finite_rows m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)
      ∧ m' ((c.tc : Thread Cert.Reference8Ideal.nD Cert.Reference8Ideal.τ).loc Cert.Reference8Ideal.main_arg5) = m ((c.tc : Thread Cert.Kernel8Ideal.nD Cert.Kernel8Ideal.τ).loc Cert.Kernel8Ideal.main_arg5)
      ∧ m' ((c.tc : Thread Cert.Reference8Ideal.nD Cert.Reference8Ideal.τ).loc Cert.Reference8Ideal.main_arg6) = m ((c.tc : Thread Cert.Kernel8Ideal.nD Cert.Kernel8Ideal.τ).loc Cert.Kernel8Ideal.main_arg6)
      ∧ m' ((c.tc : Thread Cert.Reference8Ideal.nD Cert.Reference8Ideal.τ).loc Cert.Reference8Ideal.main_arg7) = m ((c.tc : Thread Cert.Kernel8Ideal.nD Cert.Kernel8Ideal.τ).loc Cert.Kernel8Ideal.main_arg7)
      ∧ m' ((c.tc : Thread Cert.Reference8Ideal.nD Cert.Reference8Ideal.τ).loc Cert.Reference8Ideal.main_arg8) = m ((c.tc : Thread Cert.Kernel8Ideal.nD Cert.Kernel8Ideal.τ).loc Cert.Kernel8Ideal.main_arg8)
      ∧ m' ((c.tc : Thread Cert.Reference8Ideal.nD Cert.Reference8Ideal.τ).loc Cert.Reference8Ideal.main_arg9) = m ((c.tc : Thread Cert.Kernel8Ideal.nD Cert.Kernel8Ideal.τ).loc Cert.Kernel8Ideal.main_arg9)
      ∧ m' ((c.tc : Thread Cert.Reference8Ideal.nD Cert.Reference8Ideal.τ).loc Cert.Reference8Ideal.main_arg10) = m ((c.tc : Thread Cert.Kernel8Ideal.nD Cert.Kernel8Ideal.τ).loc Cert.Kernel8Ideal.main_arg10)) →
    ∃ (v0 : (c : Dev Cert.Kernel8Ideal.nD) → Buf (Elt Ideal) ((c.tc : Thread Cert.Kernel8Ideal.nD Cert.Kernel8Ideal.τ).loc Cert.Kernel8Ideal.main_v4_0)) (v1 : (c : Dev Cert.Kernel8Ideal.nD) → Buf (Elt Ideal) ((c.tc : Thread Cert.Kernel8Ideal.nD Cert.Kernel8Ideal.τ).loc Cert.Kernel8Ideal.main_v4_1)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v4_0) = v0 c
          ∧ r.2.mem ((c.tc : Thread Cert.Kernel8Ideal.nD Cert.Kernel8Ideal.τ).loc Cert.Kernel8Ideal.main_v4_1) = v1 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
          ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
          ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6)
          ∧ r.2.mem ((c.tc : Thread Cert.Kernel8Ideal.nD Cert.Kernel8Ideal.τ).loc Cert.Kernel8Ideal.main_arg7) = m ((c.tc : Thread Cert.Kernel8Ideal.nD Cert.Kernel8Ideal.τ).loc Cert.Kernel8Ideal.main_arg7)
          ∧ r.2.mem ((c.tc : Thread Cert.Kernel8Ideal.nD Cert.Kernel8Ideal.τ).loc Cert.Kernel8Ideal.main_arg8) = m ((c.tc : Thread Cert.Kernel8Ideal.nD Cert.Kernel8Ideal.τ).loc Cert.Kernel8Ideal.main_arg8)
          ∧ r.2.mem ((c.tc : Thread Cert.Kernel8Ideal.nD Cert.Kernel8Ideal.τ).loc Cert.Kernel8Ideal.main_arg9) = m ((c.tc : Thread Cert.Kernel8Ideal.nD Cert.Kernel8Ideal.τ).loc Cert.Kernel8Ideal.main_arg9)
          ∧ r.2.mem ((c.tc : Thread Cert.Kernel8Ideal.nD Cert.Kernel8Ideal.τ).loc Cert.Kernel8Ideal.main_arg10) = m ((c.tc : Thread Cert.Kernel8Ideal.nD Cert.Kernel8Ideal.τ).loc Cert.Kernel8Ideal.main_arg10))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v61) = v0 c
          ∧ r.2.mem ((c.tc : Thread Cert.Reference8Ideal.nD Cert.Reference8Ideal.τ).loc Cert.Reference8Ideal.main_v75) = v1 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4)
          ∧ r.2.mem ((c.tc : Thread Cert.Reference8Ideal.nD Cert.Reference8Ideal.τ).loc Cert.Reference8Ideal.main_arg5) = m' ((c.tc : Thread Cert.Reference8Ideal.nD Cert.Reference8Ideal.τ).loc Cert.Reference8Ideal.main_arg5)
          ∧ r.2.mem ((c.tc : Thread Cert.Reference8Ideal.nD Cert.Reference8Ideal.τ).loc Cert.Reference8Ideal.main_arg6) = m' ((c.tc : Thread Cert.Reference8Ideal.nD Cert.Reference8Ideal.τ).loc Cert.Reference8Ideal.main_arg6)
          ∧ r.2.mem ((c.tc : Thread Cert.Reference8Ideal.nD Cert.Reference8Ideal.τ).loc Cert.Reference8Ideal.main_arg7) = m' ((c.tc : Thread Cert.Reference8Ideal.nD Cert.Reference8Ideal.τ).loc Cert.Reference8Ideal.main_arg7)
          ∧ r.2.mem ((c.tc : Thread Cert.Reference8Ideal.nD Cert.Reference8Ideal.τ).loc Cert.Reference8Ideal.main_arg8) = m' ((c.tc : Thread Cert.Reference8Ideal.nD Cert.Reference8Ideal.τ).loc Cert.Reference8Ideal.main_arg8)
          ∧ r.2.mem ((c.tc : Thread Cert.Reference8Ideal.nD Cert.Reference8Ideal.τ).loc Cert.Reference8Ideal.main_arg9) = m' ((c.tc : Thread Cert.Reference8Ideal.nD Cert.Reference8Ideal.τ).loc Cert.Reference8Ideal.main_arg9)
          ∧ r.2.mem ((c.tc : Thread Cert.Reference8Ideal.nD Cert.Reference8Ideal.τ).loc Cert.Reference8Ideal.main_arg10) = m' ((c.tc : Thread Cert.Reference8Ideal.nD Cert.Reference8Ideal.τ).loc Cert.Reference8Ideal.main_arg10))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v1)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v1) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v13) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)
      ∧ m' ((c.tc : Thread Cert.Reference10Ideal.nD Cert.Reference10Ideal.τ).loc Cert.Reference10Ideal.main_arg4) = m ((c.tc : Thread Cert.Kernel10Ideal.nD Cert.Kernel10Ideal.τ).loc Cert.Kernel10Ideal.main_arg4)) →
    ∃ (v0 : (c : Dev Cert.Kernel10Ideal.nD) → Buf (Elt Ideal) ((c.tc : Thread Cert.Kernel10Ideal.nD Cert.Kernel10Ideal.τ).loc Cert.Kernel10Ideal.main_v4_0)) (v1 : (c : Dev Cert.Kernel10Ideal.nD) → Buf (Elt Ideal) ((c.tc : Thread Cert.Kernel10Ideal.nD Cert.Kernel10Ideal.τ).loc Cert.Kernel10Ideal.main_v4_1)) (v2 : (c : Dev Cert.Kernel10Ideal.nD) → Buf (Elt Ideal) ((c.tc : Thread Cert.Kernel10Ideal.nD Cert.Kernel10Ideal.τ).loc Cert.Kernel10Ideal.main_v4_2)) (v3 : (c : Dev Cert.Kernel10Ideal.nD) → Buf (Elt Ideal) ((c.tc : Thread Cert.Kernel10Ideal.nD Cert.Kernel10Ideal.τ).loc Cert.Kernel10Ideal.main_v4_3)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v4_0) = v0 c
          ∧ r.2.mem ((c.tc : Thread Cert.Kernel10Ideal.nD Cert.Kernel10Ideal.τ).loc Cert.Kernel10Ideal.main_v4_1) = v1 c
          ∧ r.2.mem ((c.tc : Thread Cert.Kernel10Ideal.nD Cert.Kernel10Ideal.τ).loc Cert.Kernel10Ideal.main_v4_2) = v2 c
          ∧ r.2.mem ((c.tc : Thread Cert.Kernel10Ideal.nD Cert.Kernel10Ideal.τ).loc Cert.Kernel10Ideal.main_v4_3) = v3 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
          ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v8) = v0 c
          ∧ r.2.mem ((c.tc : Thread Cert.Reference10Ideal.nD Cert.Reference10Ideal.τ).loc Cert.Reference10Ideal.main_v12) = v1 c
          ∧ r.2.mem ((c.tc : Thread Cert.Reference10Ideal.nD Cert.Reference10Ideal.τ).loc Cert.Reference10Ideal.main_v38) = v2 c
          ∧ r.2.mem ((c.tc : Thread Cert.Reference10Ideal.nD Cert.Reference10Ideal.τ).loc Cert.Reference10Ideal.main_v39) = v3 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3)
          ∧ r.2.mem ((c.tc : Thread Cert.Reference10Ideal.nD Cert.Reference10Ideal.τ).loc Cert.Reference10Ideal.main_arg4) = m' ((c.tc : Thread Cert.Reference10Ideal.nD Cert.Reference10Ideal.τ).loc Cert.Reference10Ideal.main_arg4))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)
      ∧ m' ((c.tc : Thread Cert.Reference11Ideal.nD Cert.Reference11Ideal.τ).loc Cert.Reference11Ideal.main_arg4) = m ((c.tc : Thread Cert.Kernel11Ideal.nD Cert.Kernel11Ideal.τ).loc Cert.Kernel11Ideal.main_arg4)
      ∧ m' ((c.tc : Thread Cert.Reference11Ideal.nD Cert.Reference11Ideal.τ).loc Cert.Reference11Ideal.main_arg5) = m ((c.tc : Thread Cert.Kernel11Ideal.nD Cert.Kernel11Ideal.τ).loc Cert.Kernel11Ideal.main_arg5)
      ∧ m' ((c.tc : Thread Cert.Reference11Ideal.nD Cert.Reference11Ideal.τ).loc Cert.Reference11Ideal.main_arg6) = m ((c.tc : Thread Cert.Kernel11Ideal.nD Cert.Kernel11Ideal.τ).loc Cert.Kernel11Ideal.main_arg6)) →
    ∃ (v0 : (c : Dev Cert.Kernel11Ideal.nD) → Buf (Elt Ideal) ((c.tc : Thread Cert.Kernel11Ideal.nD Cert.Kernel11Ideal.τ).loc Cert.Kernel11Ideal.main_v4_0)) (v1 : (c : Dev Cert.Kernel11Ideal.nD) → Buf (Elt Ideal) ((c.tc : Thread Cert.Kernel11Ideal.nD Cert.Kernel11Ideal.τ).loc Cert.Kernel11Ideal.main_v4_1)) (v2 : (c : Dev Cert.Kernel11Ideal.nD) → Buf (Elt Ideal) ((c.tc : Thread Cert.Kernel11Ideal.nD Cert.Kernel11Ideal.τ).loc Cert.Kernel11Ideal.main_v4_2)) (v3 : (c : Dev Cert.Kernel11Ideal.nD) → Buf (Elt Ideal) ((c.tc : Thread Cert.Kernel11Ideal.nD Cert.Kernel11Ideal.τ).loc Cert.Kernel11Ideal.main_v4_3)) (v4 : (c : Dev Cert.Kernel11Ideal.nD) → Buf (Elt Ideal) ((c.tc : Thread Cert.Kernel11Ideal.nD Cert.Kernel11Ideal.τ).loc Cert.Kernel11Ideal.main_v4_4)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v4_0) = v0 c
          ∧ r.2.mem ((c.tc : Thread Cert.Kernel11Ideal.nD Cert.Kernel11Ideal.τ).loc Cert.Kernel11Ideal.main_v4_1) = v1 c
          ∧ r.2.mem ((c.tc : Thread Cert.Kernel11Ideal.nD Cert.Kernel11Ideal.τ).loc Cert.Kernel11Ideal.main_v4_2) = v2 c
          ∧ r.2.mem ((c.tc : Thread Cert.Kernel11Ideal.nD Cert.Kernel11Ideal.τ).loc Cert.Kernel11Ideal.main_v4_3) = v3 c
          ∧ r.2.mem ((c.tc : Thread Cert.Kernel11Ideal.nD Cert.Kernel11Ideal.τ).loc Cert.Kernel11Ideal.main_v4_4) = v4 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
          ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4)
          ∧ r.2.mem ((c.tc : Thread Cert.Kernel11Ideal.nD Cert.Kernel11Ideal.τ).loc Cert.Kernel11Ideal.main_arg5) = m ((c.tc : Thread Cert.Kernel11Ideal.nD Cert.Kernel11Ideal.τ).loc Cert.Kernel11Ideal.main_arg5)
          ∧ r.2.mem ((c.tc : Thread Cert.Kernel11Ideal.nD Cert.Kernel11Ideal.τ).loc Cert.Kernel11Ideal.main_arg6) = m ((c.tc : Thread Cert.Kernel11Ideal.nD Cert.Kernel11Ideal.τ).loc Cert.Kernel11Ideal.main_arg6))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v119) = v0 c
          ∧ r.2.mem ((c.tc : Thread Cert.Reference11Ideal.nD Cert.Reference11Ideal.τ).loc Cert.Reference11Ideal.main_v123) = v1 c
          ∧ r.2.mem ((c.tc : Thread Cert.Reference11Ideal.nD Cert.Reference11Ideal.τ).loc Cert.Reference11Ideal.main_v127) = v2 c
          ∧ r.2.mem ((c.tc : Thread Cert.Reference11Ideal.nD Cert.Reference11Ideal.τ).loc Cert.Reference11Ideal.main_v46) = v3 c
          ∧ r.2.mem ((c.tc : Thread Cert.Reference11Ideal.nD Cert.Reference11Ideal.τ).loc Cert.Reference11Ideal.main_v49) = v4 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3)
          ∧ r.2.mem ((c.tc : Thread Cert.Reference11Ideal.nD Cert.Reference11Ideal.τ).loc Cert.Reference11Ideal.main_arg4) = m' ((c.tc : Thread Cert.Reference11Ideal.nD Cert.Reference11Ideal.τ).loc Cert.Reference11Ideal.main_arg4)
          ∧ r.2.mem ((c.tc : Thread Cert.Reference11Ideal.nD Cert.Reference11Ideal.τ).loc Cert.Reference11Ideal.main_arg5) = m' ((c.tc : Thread Cert.Reference11Ideal.nD Cert.Reference11Ideal.τ).loc Cert.Reference11Ideal.main_arg5)
          ∧ r.2.mem ((c.tc : Thread Cert.Reference11Ideal.nD Cert.Reference11Ideal.τ).loc Cert.Reference11Ideal.main_arg6) = m' ((c.tc : Thread Cert.Reference11Ideal.nD Cert.Reference11Ideal.τ).loc Cert.Reference11Ideal.main_arg6))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hPre_finite_rows : Cert.Pre_finite_rows.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Kernel8Ideal_pre_finite_rows (hKernel8Ideal := hKernel8Ideal) (hPre_finite_rows := hPre_finite_rows)
    ∧ quiescent_Reference8Ideal (hReference8Ideal := hReference8Ideal)
    ∧ quiescent_Reference8Ideal_pre_finite_rows (hReference8Ideal := hReference8Ideal) (hPre_finite_rows := hPre_finite_rows)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal_pre_finite_rows (hKernel8Ideal := hKernel8Ideal) (hReference8Ideal := hReference8Ideal) (hPre_finite_rows := hPre_finite_rows)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
-- ==== Pre_finite_rows.lean ====
abbrev S8192x1024 : Shape := ⟨2, ![8192, 1024]⟩
abbrev S2x1024x1024 : Shape := ⟨3, ![2, 1024, 1024]⟩
abbrev S1024 : Shape := ⟨1, ![1024]⟩
abbrev S2x2048x2048 : Shape := ⟨3, ![2, 2048, 2048]⟩
abbrev S8192x2048 : Shape := ⟨2, ![8192, 2048]⟩
abbrev S2048 : Shape := ⟨1, ![2048]⟩
abbrev S_ : Shape := ⟨0, ![]⟩

class Facts : Prop where
  bcast_S_S8192x1024 : S_.BroadcastsInDim S8192x1024 (![] : Fin 0 → Fin S8192x1024.rank)

variable [Facts]

def fn {F : FTy → Type} [FloatOps F] (main_arg0 : FVec F S8192x1024 .f32) (main_arg1 : FVec F S2x1024x1024 .bf16) (main_arg2 : FVec F S8192x1024 .f32) (main_arg3 : FVec F S8192x1024 .bf16) (main_arg4 : FVec F S8192x1024 .bf16) (main_arg5 : FVec F S1024 .f32) (main_arg6 : FVec F S1024 .f32) (main_arg7 : FVec F S2x2048x2048 .bf16) (main_arg8 : FVec F S8192x2048 .f32) (main_arg9 : FVec F S2048 .f32) (main_arg10 : FVec F S2048 .f32) : IVec S8192x1024 1 :=
  let main_v0 : FVec F S8192x1024 .f32 := Host.absf main_arg2
  let main_cst : FVec F S_ .f32 := constant S_ .f32 0x7F7FFFFF#32
  let main_v1 : FVec F S8192x1024 .f32 := broadcastInDim S8192x1024 ![] bcast_S_S8192x1024 main_cst
  let main_v2 : IVec S8192x1024 1 := cmpf .ole main_v0 main_v1
  main_v2
-- ==== Kernel.lean ====
abbrev S8192x4096 : Shape := ⟨2, ![8192, 4096]⟩
abbrev S4x2048 : Shape := ⟨2, ![4, 2048]⟩
abbrev S2048 : Shape := ⟨1, ![2048]⟩
abbrev S2x8x256x256 : Shape := ⟨4, ![2, 8, 256, 256]⟩
abbrev S1x2048 : Shape := ⟨2, ![1, 2048]⟩
abbrev S8192x2048 : Shape := ⟨2, ![8192, 2048]⟩
abbrev S256x2048 : Shape := ⟨2, ![256, 2048]⟩
abbrev S1x8x256x256 : Shape := ⟨4, ![1, 8, 256, 256]⟩
abbrev S8x2048 : Shape := ⟨2, ![8, 2048]⟩
abbrev S264x2048 : Shape := ⟨2, ![264, 2048]⟩
abbrev S256x256 : Shape := ⟨2, ![256, 256]⟩
abbrev S1x1x256x256 : Shape := ⟨4, ![1, 1, 256, 256]⟩
abbrev S1x256 : Shape := ⟨2, ![1, 256]⟩
abbrev S8x512 : Shape := ⟨2, ![8, 512]⟩
abbrev S1x512 : Shape := ⟨2, ![1, 512]⟩

abbrev nBuf : Space → Nat
  | .hbm => 13
  | .vmem => 17
  | .smem => 0
  | _ => 0

abbrev bufTy : (tb : Table) → Fin (tcTables nBuf tb) → BufTy
  | .hbm, ⟨0, _⟩ => ⟨S8192x4096, .bf16⟩
  | .hbm, ⟨1, _⟩ => ⟨S4x2048, .f32⟩
  | .hbm, ⟨2, _⟩ => ⟨S2048, .f32⟩
  | .hbm, ⟨3, _⟩ => ⟨S2x8x256x256, .f32⟩
  | .hbm, ⟨4, _⟩ => ⟨S2048, .f32⟩
  | .hbm, ⟨5, _⟩ => ⟨S2x8x256x256, .f32⟩
  | .hbm, ⟨6, _⟩ => ⟨S2048, .f32⟩
  | .hbm, ⟨7, _⟩ => ⟨S2048, .f32⟩
  | .hbm, ⟨8, _⟩ => ⟨S1x2048, .f32⟩
  | .hbm, ⟨9, _⟩ => ⟨S1x2048, .f32⟩
  | .hbm, ⟨10, _⟩ => ⟨S1x2048, .f32⟩
  | .hbm, ⟨11, _⟩ => ⟨S1x2048, .f32⟩
  | .hbm, ⟨12, _⟩ => ⟨S8192x2048, .bf16⟩
  | .local _ .vmem, ⟨0, _⟩ => ⟨S256x2048, .bf16⟩
  | .local _ .vmem, ⟨1, _⟩ => ⟨S256x2048, .bf16⟩
  | .local _ .vmem, ⟨2, _⟩ => ⟨S256x2048, .bf16⟩
  | .local _ .vmem, ⟨3, _⟩ => ⟨S256x2048, .bf16⟩
  | .local _ .vmem, ⟨4, _⟩ => ⟨S4x2048, .f32⟩
  | .local _ .vmem, ⟨5, _⟩ => ⟨S1x2048, .f32⟩
  | .local _ .vmem, ⟨6, _⟩ => ⟨S1x8x256x256, .f32⟩
  | .local _ .vmem, ⟨7, _⟩ => ⟨S1x2048, .f32⟩
  | .local _ .vmem, ⟨8, _⟩ => ⟨S1x8x256x256, .f32⟩
  | .local _ .vmem, ⟨9, _⟩ => ⟨S1x2048, .f32⟩
  | .local _ .vmem, ⟨10, _⟩ => ⟨S1x2048, .f32⟩
  | .local _ .vmem, ⟨11, _⟩ => ⟨S256x2048, .bf16⟩
  | .local _ .vmem, ⟨12, _⟩ => ⟨S256x2048, .bf16⟩
  | .local _ .vmem, ⟨13, _⟩ => ⟨S8x2048, .f32⟩
  | .local _ .vmem, ⟨14, _⟩ => ⟨S8x2048, .f32⟩
  | .local _ .vmem, ⟨15, _⟩ => ⟨S256x2048, .f32⟩
  | .local _ .vmem, ⟨16, _⟩ => ⟨S256x2048, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg9_1 : Ref sig .tc := ⟨.vmem, 12, rfl⟩
abbrev cc0_scratch0 : Ref sig .tc := ⟨.vmem, 13, rfl⟩
abbrev cc0_scratch1 : Ref sig .tc := ⟨.vmem, 14, rfl⟩
abbrev cc0_scratch2 : Ref sig .tc := ⟨.vmem, 15, rfl⟩
abbrev cc0_scratch3 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem9_1 : DmaSem sig := 12

abbrev nD : Nat := 1
abbrev τ : Topo := Topo.v7x

variable {F : FTy → Type} [FloatOps F]

abbrev grid0 : Pipeline.Grid := ⟨2, ![2, 16], ![false, false]⟩

@[reducible] def k0_t1_loop : Scf.Loop 32 :=
  let c0_i32_223 : BitVec 32 := 0#32
  let c32_i32 : BitVec 32 := 32#32
  let v483 : BitVec 32 := Scalar.addi c0_i32_223 c32_i32
  let c1_i32_224 : BitVec 32 := 1#32
  ⟨c0_i32_223, v483, c1_i32_224⟩
def k0_mult1 (k0_t1 : Fin k0_t1_loop.trips) : BitVec 32 :=
  let c0_i32_223 : BitVec 32 := 0#32
  let c1_i32_224 : BitVec 32 := 1#32
  let arg16 : BitVec 32 := Scf.iv c0_i32_223 c1_i32_224 k0_t1
  let c8_i32 : BitVec 32 := 8#32
  let v490 : BitVec 32 := Scalar.muli arg16 c8_i32
  v490
def k0_off1 (k0_t1 : Fin k0_t1_loop.trips) : Fin 2 → Nat :=
  let c0_i32_223 : BitVec 32 := 0#32
  let c1_i32_224 : BitVec 32 := 1#32
  let arg16 : BitVec 32 := Scf.iv c0_i32_223 c1_i32_224 k0_t1
  let c8_i32 : BitVec 32 := 8#32
  let v490 : BitVec 32 := Scalar.muli arg16 c8_i32
  let v491 : BitVec 32 := v490
  let v492 : Index := Scalar.indexCast v491
  let c0_232 : Index := 0#32
  ![v492.toNat, 0]
def k0_off2 (k0_t1 : Fin k0_t1_loop.trips) : Fin 2 → Nat :=
  let c0_i32_223 : BitVec 32 := 0#32
  let c1_i32_224 : BitVec 32 := 1#32
  let arg16 : BitVec 32 := Scf.iv c0_i32_223 c1_i32_224 k0_t1
  let c8_i32 : BitVec 32 := 8#32
  let v490 : BitVec 32 := Scalar.muli arg16 c8_i32
  let v491 : BitVec 32 := v490
  let v542 : Index := Scalar.indexCast v491
  let c512_253 : Index := 512#32
  ![v542.toNat, 512]
def k0_off3 (k0_t1 : Fin k0_t1_loop.trips) : Fin 2 → Nat :=
  let c0_i32_223 : BitVec 32 := 0#32
  let c1_i32_224 : BitVec 32 := 1#32
  let arg16 : BitVec 32 := Scf.iv c0_i32_223 c1_i32_224 k0_t1
  let c8_i32 : BitVec 32 := 8#32
  let v490 : BitVec 32 := Scalar.muli arg16 c8_i32
  let v491 : BitVec 32 := v490
  let v592 : Index := Scalar.indexCast v491
  let c1024_275 : Index := 1024#32
  ![v592.toNat, 1024]
def k0_off4 (k0_t1 : Fin k0_t1_loop.trips) : Fin 2 → Nat :=
  let c0_i32_223 : BitVec 32 := 0#32
  let c1_i32_224 : BitVec 32 := 1#32
  let arg16 : BitVec 32 := Scf.iv c0_i32_223 c1_i32_224 k0_t1
  let c8_i32 : BitVec 32 := 8#32
  let v490 : BitVec 32 := Scalar.muli arg16 c8_i32
  let v491 : BitVec 32 := v490
  let v642 : Index := Scalar.indexCast v491
  let c1536_297 : Index := 1536#32
  ![v642.toNat, 1536]
def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c1_i32 : BitVec 32 := 1#32
  let c0_i32 : BitVec 32 := 0#32
  ![v1.toNat, c1_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S4x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x8x256x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x8x256x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S256x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== ReferenceIdeal.lean ====
abbrev S8192x4096 : Shape := ⟨2, ![8192, 4096]⟩
abbrev S4x2048 : Shape := ⟨2, ![4, 2048]⟩
abbrev S2048 : Shape := ⟨1, ![2048]⟩
abbrev S2x8x256x256 : Shape := ⟨4, ![2, 8, 256, 256]⟩
abbrev S8192x2048 : Shape := ⟨2, ![8192, 2048]⟩
abbrev S2x4096x2048 : Shape := ⟨3, ![2, 4096, 2048]⟩
abbrev S_ : Shape := ⟨0, ![]⟩
abbrev S2x4099x2048 : Shape := ⟨3, ![2, 4099, 2048]⟩
abbrev S1x2048 : Shape := ⟨2, ![1, 2048]⟩
abbrev S1x1x2048 : Shape := ⟨3, ![1, 1, 2048]⟩
abbrev S2x4096x8x256 : Shape := ⟨4, ![2, 4096, 8, 256]⟩
abbrev S1x8x256x256 : Shape := ⟨4, ![1, 8, 256, 256]⟩
abbrev S8x256x256 : Shape := ⟨3, ![8, 256, 256]⟩
abbrev S8x256x2x4096 : Shape := ⟨4, ![8, 256, 2, 4096]⟩
abbrev S2x2048 : Shape := ⟨2, ![2, 2048]⟩
abbrev S4096x2x2048 : Shape := ⟨3, ![4096, 2, 2048]⟩
abbrev S1x2x2048 : Shape := ⟨3, ![1, 2, 2048]⟩

abbrev nBuf : Space → Nat
  | .hbm => 146
  | .vmem => 0
  | .smem => 0
  | _ => 0

abbrev hbmTy0_0 (i : Nat) : BufTy := match i % 128 with
  | 0 => ⟨S8192x4096, .bf16⟩
  | 1 => ⟨S4x2048, .f32⟩
  | 2 => ⟨S2048, .f32⟩
  | 3 => ⟨S2x8x256x256, .f32⟩
  | 4 => ⟨S2048, .f32⟩
  | 5 => ⟨S2x8x256x256, .f32⟩
  | 6 => ⟨S2048, .f32⟩
  | 7 => ⟨S2048, .f32⟩
  | 8 => ⟨S8192x2048, .bf16⟩
  | 9 => ⟨S8192x2048, .f32⟩
  | 10 => ⟨S2x4096x2048, .f32⟩
  | 11 => ⟨S_, .i32⟩
  | 12 => ⟨S_, .f32⟩
  | 13 => ⟨S2x4099x2048, .f32⟩
  | 14 => ⟨S2x4096x2048, .f32⟩
  | 15 => ⟨S1x2048, .f32⟩
  | 16 => ⟨S2048, .f32⟩
  | 17 => ⟨S1x1x2048, .f32⟩
  | 18 => ⟨S2x4096x2048, .f32⟩
  | 19 => ⟨S2x4096x2048, .f32⟩
  | 20 => ⟨S_, .f32⟩
  | 21 => ⟨S2x4096x2048, .f32⟩
  | 22 => ⟨S2x4096x2048, .f32⟩
  | 23 => ⟨S2x4096x2048, .f32⟩
  | 24 => ⟨S1x2048, .f32⟩
  | 25 => ⟨S2048, .f32⟩
  | 26 => ⟨S1x1x2048, .f32⟩
  | 27 => ⟨S2x4096x2048, .f32⟩
  | 28 => ⟨S2x4096x2048, .f32⟩
  | 29 => ⟨S2x4096x2048, .f32⟩
  | 30 => ⟨S2x4096x2048, .f32⟩
  | 31 => ⟨S1x2048, .f32⟩
  | 32 => ⟨S2048, .f32⟩
  | 33 => ⟨S1x1x2048, .f32⟩
  | 34 => ⟨S2x4096x2048, .f32⟩
  | 35 => ⟨S2x4096x2048, .f32⟩
  | 36 => ⟨S2x4096x2048, .f32⟩
  | 37 => ⟨S2x4096x2048, .f32⟩
  | 38 => ⟨S1x2048, .f32⟩
  | 39 => ⟨S2048, .f32⟩
  | 40 => ⟨S1x1x2048, .f32⟩
  | 41 => ⟨S2x4096x2048, .f32⟩
  | 42 => ⟨S2x4096x2048, .f32⟩
  | 43 => ⟨S2x4096x2048, .f32⟩
  | 44 => ⟨S1x1x2048, .f32⟩
  | 45 => ⟨S2x4096x2048, .f32⟩
  | 46 => ⟨S2x4096x2048, .f32⟩
  | 47 => ⟨S2x4096x8x256, .f32⟩
  | 48 => ⟨S1x8x256x256, .f32⟩
  | 49 => ⟨S8x256x256, .f32⟩
  | 50 => ⟨S8x256x2x4096, .f32⟩
  | 51 => ⟨S2x4096x8x256, .f32⟩
  | 52 => ⟨S2x4096x2048, .f32⟩
  | 53 => ⟨S1x1x2048, .f32⟩
  | 54 => ⟨S2x4096x2048, .f32⟩
  | 55 => ⟨S2x4096x2048, .f32⟩
  | 56 => ⟨S1x8x256x256, .f32⟩
  | 57 => ⟨S8x256x256, .f32⟩
  | 58 => ⟨S8x256x2x4096, .f32⟩
  | 59 => ⟨S2x4096x8x256, .f32⟩
  | 60 => ⟨S2x4096x2048, .f32⟩
  | 61 => ⟨S1x1x2048, .f32⟩
  | 62 => ⟨S2x4096x2048, .f32⟩
  | 63 => ⟨S2x4096x2048, .f32⟩
  | 64 => ⟨S2x4096x2048, .f32⟩
  | 65 => ⟨S2x4096x2048, .f32⟩
  | 66 => ⟨S_, .f32⟩
  | 67 => ⟨S2x4096x2048, .f32⟩
  | 68 => ⟨S2x4096x2048, .f32⟩
  | 69 => ⟨S_, .f32⟩
  | 70 => ⟨S2x4096x2048, .f32⟩
  | 71 => ⟨S2x4096x2048, .f32⟩
  | 72 => ⟨S_, .f32⟩
  | 73 => ⟨S2x4096x2048, .f32⟩
  | 74 => ⟨S2x4096x2048, .f32⟩
  | 75 => ⟨S2048, .f32⟩
  | 76 => ⟨S_, .f32⟩
  | 77 => ⟨S2048, .f32⟩
  | 78 => ⟨S2048, .f32⟩
  | 79 => ⟨S2048, .f32⟩
  | 80 => ⟨S2048, .f32⟩
  | 81 => ⟨S2048, .i1⟩
  | 82 => ⟨S2048, .f32⟩
  | 83 => ⟨S2048, .f32⟩
  | 84 => ⟨S2048, .f32⟩
  | 85 => ⟨S2048, .f32⟩
  | 86 => ⟨S2048, .f32⟩
  | 87 => ⟨S2048, .f32⟩
  | 88 => ⟨S2048, .f32⟩
  | 89 => ⟨S2048, .f32⟩
  | 90 => ⟨S1x1x2048, .f32⟩
  | 91 => ⟨S2x4096x2048, .f32⟩
  | 92 => ⟨S2x4096x2048, .f32⟩
  | 93 => ⟨S2x4096x2048, .f32⟩
  | 94 => ⟨S_, .f32⟩
  | 95 => ⟨S2x4096x2048, .f32⟩
  | 96 => ⟨S2x4096x2048, .f32⟩
  | 97 => ⟨S2x4096x2048, .f32⟩
  | 98 => ⟨S2x4096x2048, .f32⟩
  | 99 => ⟨S2x4096x2048, .f32⟩
  | 100 => ⟨S2x4096x2048, .f32⟩
  | 101 => ⟨S2x4096x2048, .f32⟩
  | 102 => ⟨S_, .f32⟩
  | 103 => ⟨S2x4096x2048, .f32⟩
  | 104 => ⟨S2x4096x2048, .f32⟩
  | 105 => ⟨S_, .f32⟩
  | 106 => ⟨S2x4096x2048, .f32⟩
  | 107 => ⟨S2x4096x2048, .f32⟩
  | 108 => ⟨S2x4096x2048, .f32⟩
  | 109 => ⟨S2x4096x2048, .f32⟩
  | 110 => ⟨S_, .f32⟩
  | 111 => ⟨S2x2048, .f32⟩
  | 112 => ⟨S4096x2x2048, .f32⟩
  | 113 => ⟨S4096x2x2048, .f32⟩
  | 114 => ⟨S_, .f32⟩
  | 115 => ⟨S4096x2x2048, .f32⟩
  | 116 => ⟨S_, .i32⟩
  | 117 => ⟨S4096x2x2048, .f32⟩
  | 118 => ⟨S4096x2x2048, .f32⟩
  | 119 => ⟨S_, .i32⟩
  | 120 => ⟨S2x2048, .f32⟩
  | 121 => ⟨S4096x2x2048, .f32⟩
  | 122 => ⟨S_, .i32⟩
  | 123 => ⟨S_, .i1⟩
  | 124 => ⟨S_, .i32⟩
  | 125 => ⟨S_, .i32⟩
  | 126 => ⟨S1x2x2048, .f32⟩
  | 127 => ⟨S2x2048, .f32⟩
  | _ => ⟨S8192x4096, .bf16⟩

abbrev hbmTy0_1 (i : Nat) : BufTy := match i % 128 with
  | 0 => ⟨S_, .i32⟩
  | 1 => ⟨S_, .i32⟩
  | 2 => ⟨S1x2x2048, .f32⟩
  | 3 => ⟨S2x2048, .f32⟩
  | 4 => ⟨S2x2048, .f32⟩
  | 5 => ⟨S2x2048, .f32⟩
  | 6 => ⟨S1x2x2048, .f32⟩
  | 7 => ⟨S_, .i32⟩
  | 8 => ⟨S_, .i32⟩
  | 9 => ⟨S4096x2x2048, .f32⟩
  | 10 => ⟨S_, .i32⟩
  | 11 => ⟨S_, .i32⟩
  | 12 => ⟨S2x4096x2048, .f32⟩
  | 13 => ⟨S8192x2048, .f32⟩
  | 14 => ⟨S8192x2048, .bf16⟩
  | 15 => ⟨S8192x2048, .f32⟩
  | 16 => ⟨S8192x2048, .f32⟩
  | 17 => ⟨S8192x2048, .bf16⟩
  | _ => ⟨S8192x4096, .bf16⟩

abbrev hbmTy (i : Nat) : BufTy := match i / 128 with
  | 0 => hbmTy0_0 i
  | 1 => hbmTy0_1 i
  | _ => ⟨S8192x4096, .bf16⟩

abbrev bufTy : (tb : Table) → Fin (tcTables nBuf tb) → BufTy
  | .hbm, ⟨i, _⟩ => hbmTy i
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_c : Ref sig .tc := ⟨.hbm, 11, rfl⟩
abbrev main_call0_v0 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_cst_0 : Ref sig .tc := ⟨.hbm, 66, rfl⟩
abbrev main_v55 : Ref sig .tc := ⟨.hbm, 67, rfl⟩
abbrev main_v56 : Ref sig .tc := ⟨.hbm, 68, rfl⟩
abbrev main_cst_1 : Ref sig .tc := ⟨.hbm, 69, rfl⟩
abbrev main_v57 : Ref sig .tc := ⟨.hbm, 70, rfl⟩
abbrev main_v58 : Ref sig .tc := ⟨.hbm, 71, rfl⟩
abbrev main_cst_2 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_call1_cst : Ref sig .tc := ⟨.hbm, 76, rfl⟩
abbrev main_call1_v0 : Ref sig .tc := ⟨.hbm, 77, rfl⟩
abbrev main_call1_v1 : Ref sig .tc := ⟨.hbm, 78, rfl⟩
abbrev main_call1_v2 : Ref sig .tc := ⟨.hbm, 79, rfl⟩
abbrev main_call1_v3 : Ref sig .tc := ⟨.hbm, 80, rfl⟩
abbrev main_call1_v4 : Ref sig .tc := ⟨.hbm, 81, rfl⟩
abbrev main_call1_v5 : Ref sig .tc := ⟨.hbm, 82, rfl⟩
abbrev main_call1_v6 : Ref sig .tc := ⟨.hbm, 83, rfl⟩
abbrev main_call1_v7 : Ref sig .tc := ⟨.hbm, 84, rfl⟩
abbrev main_call1_v8 : Ref sig .tc := ⟨.hbm, 85, rfl⟩
abbrev main_call1_v9 : Ref sig .tc := ⟨.hbm, 86, rfl⟩
abbrev main_call1_v10 : Ref sig .tc := ⟨.hbm, 87, rfl⟩
abbrev main_call1_v11 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_cst_3 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_cst_4 : Ref sig .tc := ⟨.hbm, 102, rfl⟩
abbrev main_v74 : Ref sig .tc := ⟨.hbm, 103, rfl⟩
abbrev main_v75 : Ref sig .tc := ⟨.hbm, 104, rfl⟩
abbrev main_cst_5 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_cst_6 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_cst_7 : Ref sig .tc := ⟨.hbm, 114, rfl⟩
abbrev main_v83 : Ref sig .tc := ⟨.hbm, 115, rfl⟩
abbrev main_c_8 : Ref sig .tc := ⟨.hbm, 116, rfl⟩
abbrev main_v84_0 : Ref sig .tc := ⟨.hbm, 117, rfl⟩
abbrev main_v84_1 : Ref sig .tc := ⟨.hbm, 118, rfl⟩
abbrev main_v84_2 : Ref sig .tc := ⟨.hbm, 119, rfl⟩
abbrev main_v84_3 : Ref sig .tc := ⟨.hbm, 120, rfl⟩
abbrev main_v84_4 : Ref sig .tc := ⟨.hbm, 121, rfl⟩
abbrev main_while0c_c_13 : Ref sig .tc := ⟨.hbm, 122, rfl⟩
abbrev main_while0c_v91 : Ref sig .tc := ⟨.hbm, 123, rfl⟩
abbrev main_while0b_call2_c : Ref sig .tc := ⟨.hbm, 124, rfl⟩
abbrev main_while0b_call2_c_0 : Ref sig .tc := ⟨.hbm, 125, rfl⟩
abbrev main_while0b_call2_v0 : Ref sig .tc := ⟨.hbm, 126, rfl⟩
abbrev main_while0b_v91 : Ref sig .tc := ⟨.hbm, 127, rfl⟩
abbrev main_while0b_call3_c : Ref sig .tc := ⟨.hbm, 128, rfl⟩
abbrev main_while0b_call3_c_0 : Ref sig .tc := ⟨.hbm, 129, rfl⟩
abbrev main_while0b_call3_v0 : Ref sig .tc := ⟨.hbm, 130, rfl⟩
abbrev main_while0b_v92 : Ref sig .tc := ⟨.hbm, 131, rfl⟩
abbrev main_while0b_v93 : Ref sig .tc := ⟨.hbm, 132, rfl⟩
abbrev main_while0b_v94 : Ref sig .tc := ⟨.hbm, 133, rfl⟩
abbrev main_while0b_call4_v0 : Ref sig .tc := ⟨.hbm, 134, rfl⟩
abbrev main_while0b_call4_c : Ref sig .tc := ⟨.hbm, 135, rfl⟩
abbrev main_while0b_call4_c_0 : Ref sig .tc := ⟨.hbm, 136, rfl⟩
abbrev main_while0b_v95 : Ref sig .tc := ⟨.hbm, 137, rfl⟩
abbrev main_while0b_c_13 : Ref sig .tc := ⟨.hbm, 138, rfl⟩
abbrev main_while0b_v96 : Ref sig .tc := ⟨.hbm, 139, rfl⟩
abbrev main_v85 : Ref sig .tc := ⟨.hbm, 140, rfl⟩
abbrev main_v86 : Ref sig .tc := ⟨.hbm, 141, rfl⟩
abbrev main_v87 : Ref sig .tc := ⟨.hbm, 142, rfl⟩
abbrev main_v88 : Ref sig .tc := ⟨.hbm, 143, rfl⟩
abbrev main_v89 : Ref sig .tc := ⟨.hbm, 144, rfl⟩
abbrev main_v90 : Ref sig .tc := ⟨.hbm, 145, rfl⟩

abbrev nD : Nat := 1
abbrev τ : Topo := Topo.v7x

variable {F : FTy → Type} [FloatOps F]

abbrev main_while0_count : Scf.Loop 32 := ⟨0#32, 4096#32, 1#32⟩
-- ==== Kernel2.lean ====
abbrev S8192x2048 : Shape := ⟨2, ![8192, 2048]⟩
abbrev S4x2048x5632 : Shape := ⟨3, ![4, 2048, 5632]⟩
abbrev S4x5632x2048 : Shape := ⟨3, ![4, 5632, 2048]⟩
abbrev S8192x5632 : Shape := ⟨2, ![8192, 5632]⟩
abbrev S5632x2048 : Shape := ⟨2, ![5632, 2048]⟩
abbrev S2048x2048 : Shape := ⟨2, ![2048, 2048]⟩
abbrev S1x2048x512 : Shape := ⟨3, ![1, 2048, 512]⟩
abbrev S1x256x2048 : Shape := ⟨3, ![1, 256, 2048]⟩
abbrev S2048x512 : Shape := ⟨2, ![2048, 512]⟩
abbrev S256x2048 : Shape := ⟨2, ![256, 2048]⟩
abbrev S512x2048 : Shape := ⟨2, ![512, 2048]⟩
abbrev S512x512 : Shape := ⟨2, ![512, 512]⟩

abbrev nBuf : Space → Nat
  | .hbm => 6
  | .vmem => 12
  | .smem => 0
  | _ => 0

abbrev bufTy : (tb : Table) → Fin (tcTables nBuf tb) → BufTy
  | .hbm, ⟨0, _⟩ => ⟨S8192x2048, .bf16⟩
  | .hbm, ⟨1, _⟩ => ⟨S4x2048x5632, .f32⟩
  | .hbm, ⟨2, _⟩ => ⟨S4x2048x5632, .f32⟩
  | .hbm, ⟨3, _⟩ => ⟨S4x5632x2048, .f32⟩
  | .hbm, ⟨4, _⟩ => ⟨S8192x5632, .bf16⟩
  | .hbm, ⟨5, _⟩ => ⟨S5632x2048, .bf16⟩
  | .local _ .vmem, ⟨0, _⟩ => ⟨S2048x2048, .bf16⟩
  | .local _ .vmem, ⟨1, _⟩ => ⟨S2048x2048, .bf16⟩
  | .local _ .vmem, ⟨2, _⟩ => ⟨S1x2048x512, .f32⟩
  | .local _ .vmem, ⟨3, _⟩ => ⟨S1x2048x512, .f32⟩
  | .local _ .vmem, ⟨4, _⟩ => ⟨S1x2048x512, .f32⟩
  | .local _ .vmem, ⟨5, _⟩ => ⟨S1x2048x512, .f32⟩
  | .local _ .vmem, ⟨6, _⟩ => ⟨S1x256x2048, .f32⟩
  | .local _ .vmem, ⟨7, _⟩ => ⟨S1x256x2048, .f32⟩
  | .local _ .vmem, ⟨8, _⟩ => ⟨S2048x512, .bf16⟩
  | .local _ .vmem, ⟨9, _⟩ => ⟨S2048x512, .bf16⟩
  | .local _ .vmem, ⟨10, _⟩ => ⟨S256x2048, .bf16⟩
  | .local _ .vmem, ⟨11, _⟩ => ⟨S256x2048, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![4, 11], ![false, false]⟩

def k0_cond1 (i : grid0.Coords) : BitVec 1 :=
  let arg0 : BitVec 32 := BitVec.ofNat 32 (i 0).val
  let c2_i32 : BitVec 32 := 2#32
  let v62 : BitVec 1 := Scalar.cmpi .slt arg0 c2_i32
  let v63 : BitVec 32 := Scalar.extui v62
  let c0_i32 : BitVec 32 := 0#32
  let v64 : BitVec 1 := Scalar.cmpi .ne v63 c0_i32
  v64

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_3 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 1 := Scalar.cmpi .slt arg0 c2_i32
  let c2_i32_0 : BitVec 32 := 2#32
  let v1 : BitVec 32 := Scalar.muli c2_i32_0 arg1
  let v2 : BitVec 32 := Scalar.addi v1 arg0
  let c21_i32 : BitVec 32 := 21#32
  let v3 : BitVec 32 := Scalar.select v0 v2 c21_i32
  let c0_i32 : BitVec 32 := 0#32
  let c0_i32_1 : BitVec 32 := 0#32
  let c0_i32_2 : BitVec 32 := 0#32
  ![c0_i32.toNat, v3.toNat, c0_i32_1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 1 := Scalar.cmpi .slt arg0 c2_i32
  let c2_i32_0 : BitVec 32 := 2#32
  let v1 : BitVec 32 := Scalar.muli c2_i32_0 arg1
  let v2 : BitVec 32 := Scalar.addi v1 arg0
  let c21_i32 : BitVec 32 := 21#32
  let v3 : BitVec 32 := Scalar.select v0 v2 c21_i32
  let c0_i32 : BitVec 32 := 0#32
  let c0_i32_1 : BitVec 32 := 0#32
  ![v3.toNat, c0_i32.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference2Ideal.lean ====
abbrev S8192x2048 : Shape := ⟨2, ![8192, 2048]⟩
abbrev S4x2048x5632 : Shape := ⟨3, ![4, 2048, 5632]⟩
abbrev S4x5632x2048 : Shape := ⟨3, ![4, 5632, 2048]⟩
abbrev S1x2048x5632 : Shape := ⟨3, ![1, 2048, 5632]⟩
abbrev S2048x5632 : Shape := ⟨2, ![2048, 5632]⟩
abbrev S8192x5632 : Shape := ⟨2, ![8192, 5632]⟩
abbrev S_ : Shape := ⟨0, ![]⟩
abbrev S1x5632x2048 : Shape := ⟨3, ![1, 5632, 2048]⟩
abbrev S5632x2048 : Shape := ⟨2, ![5632, 2048]⟩

abbrev nBuf : Space → Nat
  | .hbm => 25
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S4x2048x5632, .f32⟩
  | .hbm, ⟨2, _⟩ => ⟨S4x2048x5632, .f32⟩
  | .hbm, ⟨3, _⟩ => ⟨S4x5632x2048, .f32⟩
  | .hbm, ⟨4, _⟩ => ⟨S8192x2048, .f32⟩
  | .hbm, ⟨5, _⟩ => ⟨S1x2048x5632, .f32⟩
  | .hbm, ⟨6, _⟩ => ⟨S2048x5632, .f32⟩
  | .hbm, ⟨7, _⟩ => ⟨S8192x5632, .f32⟩
  | .hbm, ⟨8, _⟩ => ⟨S8192x5632, .f32⟩
  | .hbm, ⟨9, _⟩ => ⟨S8192x5632, .f32⟩
  | .hbm, ⟨10, _⟩ => ⟨S_, .f32⟩
  | .hbm, ⟨11, _⟩ => ⟨S8192x5632, .f32⟩
  | .hbm, ⟨12, _⟩ => ⟨S8192x5632, .f32⟩
  | .hbm, ⟨13, _⟩ => ⟨S_, .f32⟩
  | .hbm, ⟨14, _⟩ => ⟨S8192x5632, .f32⟩
  | .hbm, ⟨15, _⟩ => ⟨S8192x5632, .f32⟩
  | .hbm, ⟨16, _⟩ => ⟨S8192x5632, .f32⟩
  | .hbm, ⟨17, _⟩ => ⟨S1x2048x5632, .f32⟩
  | .hbm, ⟨18, _⟩ => ⟨S2048x5632, .f32⟩
  | .hbm, ⟨19, _⟩ => ⟨S8192x5632, .f32⟩
  | .hbm, ⟨20, _⟩ => ⟨S8192x5632, .f32⟩
  | .hbm, ⟨21, _⟩ => ⟨S8192x5632, .bf16⟩
  | .hbm, ⟨22, _⟩ => ⟨S1x5632x2048, .f32⟩
  | .hbm, ⟨23, _⟩ => ⟨S5632x2048, .f32⟩
  | .hbm, ⟨24, _⟩ => ⟨S5632x2048, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_call0_v5 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩

abbrev nD : Nat := 1
abbrev τ : Topo := Topo.v7x

variable {F : FTy → Type} [FloatOps F]
-- ==== Kernel3.lean ====
abbrev S8192x5632 : Shape := ⟨2, ![8192, 5632]⟩
abbrev S5632x2048 : Shape := ⟨2, ![5632, 2048]⟩
abbrev S8192x2048 : Shape := ⟨2, ![8192, 2048]⟩
abbrev S2048 : Shape := ⟨1, ![2048]⟩
abbrev S1x5632x2048 : Shape := ⟨3, ![1, 5632, 2048]⟩
abbrev S1x2048 : Shape := ⟨2, ![1, 2048]⟩
abbrev S1024x512 : Shape := ⟨2, ![1024, 512]⟩
abbrev S1x512x2048 : Shape := ⟨3, ![1, 512, 2048]⟩
abbrev S1024x2048 : Shape := ⟨2, ![1024, 2048]⟩
abbrev S1x512x512 : Shape := ⟨3, ![1, 512, 512]⟩
abbrev S512x512 : Shape := ⟨2, ![512, 512]⟩
abbrev S1024 : Shape := ⟨1, ![1024]⟩
abbrev S1024x1 : Shape := ⟨2, ![1024, 1]⟩

abbrev nBuf : Space → Nat
  | .hbm => 10
  | .vmem => 12
  | .smem => 0
  | _ => 0

abbrev bufTy : (tb : Table) → Fin (tcTables nBuf tb) → BufTy
  | .hbm, ⟨0, _⟩ => ⟨S8192x5632, .bf16⟩
  | .hbm, ⟨1, _⟩ => ⟨S5632x2048, .bf16⟩
  | .hbm, ⟨2, _⟩ => ⟨S8192x2048, .f32⟩
  | .hbm, ⟨3, _⟩ => ⟨S2048, .f32⟩
  | .hbm, ⟨4, _⟩ => ⟨S2048, .f32⟩
  | .hbm, ⟨5, _⟩ => ⟨S1x5632x2048, .bf16⟩
  | .hbm, ⟨6, _⟩ => ⟨S1x2048, .f32⟩
  | .hbm, ⟨7, _⟩ => ⟨S1x2048, .f32⟩
  | .hbm, ⟨8, _⟩ => ⟨S8192x2048, .f32⟩
  | .hbm, ⟨9, _⟩ => ⟨S8192x2048, .bf16⟩
  | .local _ .vmem, ⟨0, _⟩ => ⟨S1024x512, .bf16⟩
  | .local _ .vmem, ⟨1, _⟩ => ⟨S1024x512, .bf16⟩
  | .local _ .vmem, ⟨2, _⟩ => ⟨S1x512x2048, .bf16⟩
  | .local _ .vmem, ⟨3, _⟩ => ⟨S1x512x2048, .bf16⟩
  | .local _ .vmem, ⟨4, _⟩ => ⟨S1024x2048, .f32⟩
  | .local _ .vmem, ⟨5, _⟩ => ⟨S1024x2048, .f32⟩
  | .local _ .vmem, ⟨6, _⟩ => ⟨S1x2048, .f32⟩
  | .local _ .vmem, ⟨7, _⟩ => ⟨S1x2048, .f32⟩
  | .local _ .vmem, ⟨8, _⟩ => ⟨S1024x2048, .f32⟩
  | .local _ .vmem, ⟨9, _⟩ => ⟨S1024x2048, .f32⟩
  | .local _ .vmem, ⟨10, _⟩ => ⟨S1024x2048, .bf16⟩
  | .local _ .vmem, ⟨11, _⟩ => ⟨S1024x2048, .bf16⟩
  | _, _ => ⟨S8192x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![8, 11], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg1 : BitVec 32 := BitVec.ofNat 32 (i 1).val
  let c0_i32_1 : BitVec 32 := 0#32
  let v3 : BitVec 1 := Scalar.cmpi .sgt arg1 c0_i32_1
  let v4 : BitVec 32 := Scalar.extui v3
  let c0_i32_2 : BitVec 32 := 0#32
  let v5 : BitVec 1 := Scalar.cmpi .ne v4 c0_i32_2
  v5

def k0_cond3 (i : grid0.Coords) : BitVec 1 :=
  let arg1 : BitVec 32 := BitVec.ofNat 32 (i 1).val
  let c10_i32 : BitVec 32 := 10#32
  let v6 : BitVec 1 := Scalar.cmpi .eq arg1 c10_i32
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1024x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1024x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== Reference3Ideal.lean ====
abbrev S8192x5632 : Shape := ⟨2, ![8192, 5632]⟩
abbrev S5632x2048 : Shape := ⟨2, ![5632, 2048]⟩
abbrev S8192x2048 : Shape := ⟨2, ![8192, 2048]⟩
abbrev S2048 : Shape := ⟨1, ![2048]⟩
abbrev S_ : Shape := ⟨0, ![]⟩
abbrev S8192 : Shape := ⟨1, ![8192]⟩
abbrev S8192x1 : Shape := ⟨2, ![8192, 1]⟩
abbrev S1x2048 : Shape := ⟨2, ![1, 2048]⟩

abbrev nBuf : Space → Nat
  | .hbm => 42
  | .vmem => 0
  | .smem => 0
  | _ => 0

abbrev bufTy : (tb : Table) → Fin (tcTables nBuf tb) → BufTy
  | .hbm, ⟨0, _⟩ => ⟨S8192x5632, .bf16⟩
  | .hbm, ⟨1, _⟩ => ⟨S5632x2048, .bf16⟩
  | .hbm, ⟨2, _⟩ => ⟨S8192x2048, .f32⟩
  | .hbm, ⟨3, _⟩ => ⟨S2048, .f32⟩
  | .hbm, ⟨4, _⟩ => ⟨S2048, .f32⟩
  | .hbm, ⟨5, _⟩ => ⟨S8192x5632, .f32⟩
  | .hbm, ⟨6, _⟩ => ⟨S5632x2048, .f32⟩
  | .hbm, ⟨7, _⟩ => ⟨S8192x2048, .f32⟩
  | .hbm, ⟨8, _⟩ => ⟨S8192x2048, .f32⟩
  | .hbm, ⟨9, _⟩ => ⟨S_, .f32⟩
  | .hbm, ⟨10, _⟩ => ⟨S8192, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S8192x2048, .f32⟩
  | .hbm, ⟨20, _⟩ => ⟨S8192x2048, .f32⟩
  | .hbm, ⟨21, _⟩ => ⟨S1x2048, .f32⟩
  | .hbm, ⟨22, _⟩ => ⟨S8192x2048, .f32⟩
  | .hbm, ⟨23, _⟩ => ⟨S8192x2048, .f32⟩
  | .hbm, ⟨24, _⟩ => ⟨S8192x2048, .f32⟩
  | .hbm, ⟨25, _⟩ => ⟨S8192x2048, .f32⟩
  | .hbm, ⟨26, _⟩ => ⟨S_, .f32⟩
  | .hbm, ⟨27, _⟩ => ⟨S8192, .f32⟩
  | .hbm, ⟨28, _⟩ => ⟨S8192x1, .f32⟩
  | .hbm, ⟨29, _⟩ => ⟨S_, .f32⟩
  | .hbm, ⟨30, _⟩ => ⟨S8192x1, .f32⟩
  | .hbm, ⟨31, _⟩ => ⟨S8192x1, .f32⟩
  | .hbm, ⟨32, _⟩ => ⟨S_, .f32⟩
  | .hbm, ⟨33, _⟩ => ⟨S8192x1, .f32⟩
  | .hbm, ⟨34, _⟩ => ⟨S8192x1, .f32⟩
  | .hbm, ⟨35, _⟩ => ⟨S8192x1, .f32⟩
  | .hbm, ⟨36, _⟩ => ⟨S8192x2048, .f32⟩
  | .hbm, ⟨37, _⟩ => ⟨S8192x2048, .f32⟩
  | .hbm, ⟨38, _⟩ => ⟨S1x2048, .f32⟩
  | .hbm, ⟨39, _⟩ => ⟨S8192x2048, .f32⟩
  | .hbm, ⟨40, _⟩ => ⟨S8192x2048, .f32⟩
  | .hbm, ⟨41, _⟩ => ⟨S8192x2048, .bf16⟩
  | _, _ => ⟨S8192x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_2 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_cst_4 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩

abbrev nD : Nat := 1
abbrev τ : Topo := Topo.v7x

variable {F : FTy → Type} [FloatOps F]
-- ==== Kernel4.lean ====
abbrev S8192x2048 : Shape := ⟨2, ![8192, 2048]⟩
abbrev S2x2048x4096 : Shape := ⟨3, ![2, 2048, 4096]⟩
abbrev S8192x4096 : Shape := ⟨2, ![8192, 4096]⟩
abbrev S2048x2048 : Shape := ⟨2, ![2048, 2048]⟩
abbrev S1x2048x512 : Shape := ⟨3, ![1, 2048, 512]⟩
abbrev S2048x512 : Shape := ⟨2, ![2048, 512]⟩
abbrev S512x2048 : Shape := ⟨2, ![512, 2048]⟩
abbrev S512x512 : Shape := ⟨2, ![512, 512]⟩

abbrev nBuf : Space → Nat
  | .hbm => 3
  | .vmem => 6
  | .smem => 0
  | _ => 0

abbrev bufTy : (tb : Table) → Fin (tcTables nBuf tb) → BufTy
  | .hbm, ⟨0, _⟩ => ⟨S8192x2048, .bf16⟩
  | .hbm, ⟨1, _⟩ => ⟨S2x2048x4096, .f32⟩
  | .hbm, ⟨2, _⟩ => ⟨S8192x4096, .bf16⟩
  | .local _ .vmem, ⟨0, _⟩ => ⟨S2048x2048, .bf16⟩
  | .local _ .vmem, ⟨1, _⟩ => ⟨S2048x2048, .bf16⟩
  | .local _ .vmem, ⟨2, _⟩ => ⟨S1x2048x512, .f32⟩
  | .local _ .vmem, ⟨3, _⟩ => ⟨S1x2048x512, .f32⟩
  | .local _ .vmem, ⟨4, _⟩ => ⟨S2048x512, .bf16⟩
  | .local _ .vmem, ⟨5, _⟩ => ⟨S2048x512, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 8], ![false, false]⟩

def k0_cond1 (i : grid0.Coords) : BitVec 1 :=
  let arg1 : BitVec 32 := BitVec.ofNat 32 (i 1).val
  let c4_i32 : BitVec 32 := 4#32
  let v3 : BitVec 1 := Scalar.cmpi .slt arg1 c4_i32
  let v4 : BitVec 32 := Scalar.extui v3
  let c0_i32 : BitVec 32 := 0#32
  let v5 : BitVec 1 := Scalar.cmpi .ne v4 c0_i32
  v5

def k0_cond2 (i : grid0.Coords) : BitVec 1 :=
  let arg1 : BitVec 32 := BitVec.ofNat 32 (i 1).val
  let c4_i32_2 : BitVec 32 := 4#32
  let v6 : BitVec 1 := Scalar.cmpi .sge arg1 c4_i32_2
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference4Ideal.lean ====
abbrev S8192x2048 : Shape := ⟨2, ![8192, 2048]⟩
abbrev S2x2048x4096 : Shape := ⟨3, ![2, 2048, 4096]⟩
abbrev S1x2048x4096 : Shape := ⟨3, ![1, 2048, 4096]⟩
abbrev S2048x4096 : Shape := ⟨2, ![2048, 4096]⟩
abbrev S8192x4096 : Shape := ⟨2, ![8192, 4096]⟩
abbrev S_ : Shape := ⟨0, ![]⟩

abbrev nBuf : Space → Nat
  | .hbm => 27
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2x2048x4096, .f32⟩
  | .hbm, ⟨2, _⟩ => ⟨S8192x2048, .f32⟩
  | .hbm, ⟨3, _⟩ => ⟨S1x2048x4096, .f32⟩
  | .hbm, ⟨4, _⟩ => ⟨S2048x4096, .f32⟩
  | .hbm, ⟨5, _⟩ => ⟨S8192x4096, .f32⟩
  | .hbm, ⟨6, _⟩ => ⟨S8192x2048, .f32⟩
  | .hbm, ⟨7, _⟩ => ⟨S8192x2048, .f32⟩
  | .hbm, ⟨8, _⟩ => ⟨S8192x2048, .f32⟩
  | .hbm, ⟨9, _⟩ => ⟨S_, .f32⟩
  | .hbm, ⟨10, _⟩ => ⟨S8192x2048, .f32⟩
  | .hbm, ⟨11, _⟩ => ⟨S8192x2048, .f32⟩
  | .hbm, ⟨12, _⟩ => ⟨S8192x2048, .f32⟩
  | .hbm, ⟨13, _⟩ => ⟨S_, .f32⟩
  | .hbm, ⟨14, _⟩ => ⟨S8192x2048, .f32⟩
  | .hbm, ⟨15, _⟩ => ⟨S8192x2048, .f32⟩
  | .hbm, ⟨16, _⟩ => ⟨S8192x2048, .f32⟩
  | .hbm, ⟨17, _⟩ => ⟨S_, .f32⟩
  | .hbm, ⟨18, _⟩ => ⟨S8192x2048, .f32⟩
  | .hbm, ⟨19, _⟩ => ⟨S8192x2048, .f32⟩
  | .hbm, ⟨20, _⟩ => ⟨S_, .f32⟩
  | .hbm, ⟨21, _⟩ => ⟨S8192x2048, .f32⟩
  | .hbm, ⟨22, _⟩ => ⟨S8192x2048, .f32⟩
  | .hbm, ⟨23, _⟩ => ⟨S8192x2048, .f32⟩
  | .hbm, ⟨24, _⟩ => ⟨S8192x2048, .f32⟩
  | .hbm, ⟨25, _⟩ => ⟨S8192x4096, .f32⟩
  | .hbm, ⟨26, _⟩ => ⟨S8192x4096, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_cst : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst_0 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_cst_1 : Ref sig .tc := ⟨.hbm, 17, rfl⟩
abbrev main_v13 : Ref sig .tc := ⟨.hbm, 18, rfl⟩
abbrev main_v14 : Ref sig .tc := ⟨.hbm, 19, rfl⟩
abbrev main_cst_2 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩

abbrev nD : Nat := 1
abbrev τ : Topo := Topo.v7x

variable {F : FTy → Type} [FloatOps F]
-- ==== Kernel5.lean ====
abbrev S8192x2048 : Shape := ⟨2, ![8192, 2048]⟩
abbrev S2x2048x2048 : Shape := ⟨3, ![2, 2048, 2048]⟩
abbrev S2048 : Shape := ⟨1, ![2048]⟩
abbrev S1x2048 : Shape := ⟨2, ![1, 2048]⟩
abbrev S512x2048 : Shape := ⟨2, ![512, 2048]⟩
abbrev S1x2048x2048 : Shape := ⟨3, ![1, 2048, 2048]⟩
abbrev S2048x2048 : Shape := ⟨2, ![2048, 2048]⟩
abbrev S512 : Shape := ⟨1, ![512]⟩
abbrev S512x1 : Shape := ⟨2, ![512, 1]⟩

abbrev nBuf : Space → Nat
  | .hbm => 9
  | .vmem => 11
  | .smem => 0
  | _ => 0

abbrev bufTy : (tb : Table) → Fin (tcTables nBuf tb) → BufTy
  | .hbm, ⟨0, _⟩ => ⟨S8192x2048, .bf16⟩
  | .hbm, ⟨1, _⟩ => ⟨S2x2048x2048, .bf16⟩
  | .hbm, ⟨2, _⟩ => ⟨S8192x2048, .f32⟩
  | .hbm, ⟨3, _⟩ => ⟨S2048, .f32⟩
  | .hbm, ⟨4, _⟩ => ⟨S2048, .f32⟩
  | .hbm, ⟨5, _⟩ => ⟨S1x2048, .f32⟩
  | .hbm, ⟨6, _⟩ => ⟨S1x2048, .f32⟩
  | .hbm, ⟨7, _⟩ => ⟨S8192x2048, .f32⟩
  | .hbm, ⟨8, _⟩ => ⟨S8192x2048, .bf16⟩
  | .local _ .vmem, ⟨0, _⟩ => ⟨S512x2048, .bf16⟩
  | .local _ .vmem, ⟨1, _⟩ => ⟨S512x2048, .bf16⟩
  | .local _ .vmem, ⟨2, _⟩ => ⟨S1x2048x2048, .bf16⟩
  | .local _ .vmem, ⟨3, _⟩ => ⟨S512x2048, .f32⟩
  | .local _ .vmem, ⟨4, _⟩ => ⟨S512x2048, .f32⟩
  | .local _ .vmem, ⟨5, _⟩ => ⟨S1x2048, .f32⟩
  | .local _ .vmem, ⟨6, _⟩ => ⟨S1x2048, .f32⟩
  | .local _ .vmem, ⟨7, _⟩ => ⟨S512x2048, .f32⟩
  | .local _ .vmem, ⟨8, _⟩ => ⟨S512x2048, .f32⟩
  | .local _ .vmem, ⟨9, _⟩ => ⟨S512x2048, .bf16⟩
  | .local _ .vmem, ⟨10, _⟩ => ⟨S512x2048, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference5Ideal.lean ====
abbrev S8192x2048 : Shape := ⟨2, ![8192, 2048]⟩
abbrev S2x2048x2048 : Shape := ⟨3, ![2, 2048, 2048]⟩
abbrev S2048 : Shape := ⟨1, ![2048]⟩
abbrev S1x2048x2048 : Shape := ⟨3, ![1, 2048, 2048]⟩
abbrev S2048x2048 : Shape := ⟨2, ![2048, 2048]⟩
abbrev S_ : Shape := ⟨0, ![]⟩
abbrev S8192 : Shape := ⟨1, ![8192]⟩
abbrev S8192x1 : Shape := ⟨2, ![8192, 1]⟩
abbrev S1x2048 : Shape := ⟨2, ![1, 2048]⟩

abbrev nBuf : Space → Nat
  | .hbm => 44
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2x2048x2048, .bf16⟩
  | .hbm, ⟨2, _⟩ => ⟨S8192x2048, .f32⟩
  | .hbm, ⟨3, _⟩ => ⟨S2048, .f32⟩
  | .hbm, ⟨4, _⟩ => ⟨S2048, .f32⟩
  | .hbm, ⟨5, _⟩ => ⟨S8192x2048, .f32⟩
  | .hbm, ⟨6, _⟩ => ⟨S1x2048x2048, .bf16⟩
  | .hbm, ⟨7, _⟩ => ⟨S2048x2048, .bf16⟩
  | .hbm, ⟨8, _⟩ => ⟨S2048x2048, .f32⟩
  | .hbm, ⟨9, _⟩ => ⟨S8192x2048, .f32⟩
  | .hbm, ⟨10, _⟩ => ⟨S8192x2048, .f32⟩
  | .hbm, ⟨11, _⟩ => ⟨S_, .f32⟩
  | .hbm, ⟨12, _⟩ => ⟨S8192, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x1, .f32⟩
  | .hbm, ⟨21, _⟩ => ⟨S8192x2048, .f32⟩
  | .hbm, ⟨22, _⟩ => ⟨S8192x2048, .f32⟩
  | .hbm, ⟨23, _⟩ => ⟨S1x2048, .f32⟩
  | .hbm, ⟨24, _⟩ => ⟨S8192x2048, .f32⟩
  | .hbm, ⟨25, _⟩ => ⟨S8192x2048, .f32⟩
  | .hbm, ⟨26, _⟩ => ⟨S8192x2048, .f32⟩
  | .hbm, ⟨27, _⟩ => ⟨S8192x2048, .f32⟩
  | .hbm, ⟨28, _⟩ => ⟨S_, .f32⟩
  | .hbm, ⟨29, _⟩ => ⟨S8192, .f32⟩
  | .hbm, ⟨30, _⟩ => ⟨S8192x1, .f32⟩
  | .hbm, ⟨31, _⟩ => ⟨S_, .f32⟩
  | .hbm, ⟨32, _⟩ => ⟨S8192x1, .f32⟩
  | .hbm, ⟨33, _⟩ => ⟨S8192x1, .f32⟩
  | .hbm, ⟨34, _⟩ => ⟨S_, .f32⟩
  | .hbm, ⟨35, _⟩ => ⟨S8192x1, .f32⟩
  | .hbm, ⟨36, _⟩ => ⟨S8192x1, .f32⟩
  | .hbm, ⟨37, _⟩ => ⟨S8192x1, .f32⟩
  | .hbm, ⟨38, _⟩ => ⟨S8192x2048, .f32⟩
  | .hbm, ⟨39, _⟩ => ⟨S8192x2048, .f32⟩
  | .hbm, ⟨40, _⟩ => ⟨S1x2048, .f32⟩
  | .hbm, ⟨41, _⟩ => ⟨S8192x2048, .f32⟩
  | .hbm, ⟨42, _⟩ => ⟨S8192x2048, .f32⟩
  | .hbm, ⟨43, _⟩ => ⟨S8192x2048, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_2 : Ref sig .tc := ⟨.hbm, 28, rfl⟩
abbrev main_v20 : Ref sig .tc := ⟨.hbm, 29, rfl⟩
abbrev main_v21 : Ref sig .tc := ⟨.hbm, 30, rfl⟩
abbrev main_cst_3 : Ref sig .tc := ⟨.hbm, 31, rfl⟩
abbrev main_v22 : Ref sig .tc := ⟨.hbm, 32, rfl⟩
abbrev main_v23 : Ref sig .tc := ⟨.hbm, 33, rfl⟩
abbrev main_cst_4 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩

abbrev nD : Nat := 1
abbrev τ : Topo := Topo.v7x

variable {F : FTy → Type} [FloatOps F]
-- ==== Kernel6.lean ====
abbrev S8192x2048 : Shape := ⟨2, ![8192, 2048]⟩
abbrev S2x2048x4384 : Shape := ⟨3, ![2, 2048, 4384]⟩
abbrev S8192x4096 : Shape := ⟨2, ![8192, 4096]⟩
abbrev S2048x2048 : Shape := ⟨2, ![2048, 2048]⟩
abbrev S1x2048x512 : Shape := ⟨3, ![1, 2048, 512]⟩
abbrev S2048x512 : Shape := ⟨2, ![2048, 512]⟩
abbrev S512x2048 : Shape := ⟨2, ![512, 2048]⟩
abbrev S512x512 : Shape := ⟨2, ![512, 512]⟩

abbrev nBuf : Space → Nat
  | .hbm => 3
  | .vmem => 6
  | .smem => 0
  | _ => 0

abbrev bufTy : (tb : Table) → Fin (tcTables nBuf tb) → BufTy
  | .hbm, ⟨0, _⟩ => ⟨S8192x2048, .bf16⟩
  | .hbm, ⟨1, _⟩ => ⟨S2x2048x4384, .f32⟩
  | .hbm, ⟨2, _⟩ => ⟨S8192x4096, .bf16⟩
  | .local _ .vmem, ⟨0, _⟩ => ⟨S2048x2048, .bf16⟩
  | .local _ .vmem, ⟨1, _⟩ => ⟨S2048x2048, .bf16⟩
  | .local _ .vmem, ⟨2, _⟩ => ⟨S1x2048x512, .f32⟩
  | .local _ .vmem, ⟨3, _⟩ => ⟨S1x2048x512, .f32⟩
  | .local _ .vmem, ⟨4, _⟩ => ⟨S2048x512, .bf16⟩
  | .local _ .vmem, ⟨5, _⟩ => ⟨S2048x512, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference6Ideal.lean ====
abbrev S8192x2048 : Shape := ⟨2, ![8192, 2048]⟩
abbrev S2x2048x4384 : Shape := ⟨3, ![2, 2048, 4384]⟩
abbrev S1x2048x4384 : Shape := ⟨3, ![1, 2048, 4384]⟩
abbrev S2048x4384 : Shape := ⟨2, ![2048, 4384]⟩
abbrev S8192x4384 : Shape := ⟨2, ![8192, 4384]⟩
abbrev S8192x4096 : Shape := ⟨2, ![8192, 4096]⟩

abbrev nBuf : Space → Nat
  | .hbm => 8
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2x2048x4384, .f32⟩
  | .hbm, ⟨2, _⟩ => ⟨S8192x2048, .f32⟩
  | .hbm, ⟨3, _⟩ => ⟨S1x2048x4384, .f32⟩
  | .hbm, ⟨4, _⟩ => ⟨S2048x4384, .f32⟩
  | .hbm, ⟨5, _⟩ => ⟨S8192x4384, .f32⟩
  | .hbm, ⟨6, _⟩ => ⟨S8192x4096, .f32⟩
  | .hbm, ⟨7, _⟩ => ⟨S8192x4096, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== Kernel7.lean ====
abbrev S8192x2048 : Shape := ⟨2, ![8192, 2048]⟩
abbrev S2x2048x4384 : Shape := ⟨3, ![2, 2048, 4384]⟩
abbrev S1x2048x288 : Shape := ⟨3, ![1, 2048, 288]⟩
abbrev S2048x288 : Shape := ⟨2, ![2048, 288]⟩
abbrev S_ : Shape := ⟨0, ![]⟩
abbrev S2048x384 : Shape := ⟨2, ![2048, 384]⟩
abbrev S1x2048x384 : Shape := ⟨3, ![1, 2048, 384]⟩
abbrev S8192x384 : Shape := ⟨2, ![8192, 384]⟩
abbrev S2048x2048 : Shape := ⟨2, ![2048, 2048]⟩
abbrev S512x2048 : Shape := ⟨2, ![512, 2048]⟩
abbrev S512x384 : Shape := ⟨2, ![512, 384]⟩

abbrev nBuf : Space → Nat
  | .hbm => 9
  | .vmem => 5
  | .smem => 0
  | _ => 0

abbrev bufTy : (tb : Table) → Fin (tcTables nBuf tb) → BufTy
  | .hbm, ⟨0, _⟩ => ⟨S8192x2048, .bf16⟩
  | .hbm, ⟨1, _⟩ => ⟨S2x2048x4384, .f32⟩
  | .hbm, ⟨2, _⟩ => ⟨S1x2048x288, .f32⟩
  | .hbm, ⟨3, _⟩ => ⟨S2048x288, .f32⟩
  | .hbm, ⟨4, _⟩ => ⟨S_, .i32⟩
  | .hbm, ⟨5, _⟩ => ⟨S_, .f32⟩
  | .hbm, ⟨6, _⟩ => ⟨S2048x384, .f32⟩
  | .hbm, ⟨7, _⟩ => ⟨S1x2048x384, .f32⟩
  | .hbm, ⟨8, _⟩ => ⟨S8192x384, .f32⟩
  | .local _ .vmem, ⟨0, _⟩ => ⟨S2048x2048, .bf16⟩
  | .local _ .vmem, ⟨1, _⟩ => ⟨S2048x2048, .bf16⟩
  | .local _ .vmem, ⟨2, _⟩ => ⟨S1x2048x384, .f32⟩
  | .local _ .vmem, ⟨3, _⟩ => ⟨S2048x384, .f32⟩
  | .local _ .vmem, ⟨4, _⟩ => ⟨S2048x384, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_call0_v0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![4, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048x384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S2048x384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference7Ideal.lean ====
abbrev S8192x2048 : Shape := ⟨2, ![8192, 2048]⟩
abbrev S2x2048x4384 : Shape := ⟨3, ![2, 2048, 4384]⟩
abbrev S1x2048x4384 : Shape := ⟨3, ![1, 2048, 4384]⟩
abbrev S2048x4384 : Shape := ⟨2, ![2048, 4384]⟩
abbrev S8192x4384 : Shape := ⟨2, ![8192, 4384]⟩
abbrev S8192x288 : Shape := ⟨2, ![8192, 288]⟩
abbrev S_ : Shape := ⟨0, ![]⟩
abbrev S8192x384 : Shape := ⟨2, ![8192, 384]⟩

abbrev nBuf : Space → Nat
  | .hbm => 10
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2x2048x4384, .f32⟩
  | .hbm, ⟨2, _⟩ => ⟨S8192x2048, .f32⟩
  | .hbm, ⟨3, _⟩ => ⟨S1x2048x4384, .f32⟩
  | .hbm, ⟨4, _⟩ => ⟨S2048x4384, .f32⟩
  | .hbm, ⟨5, _⟩ => ⟨S8192x4384, .f32⟩
  | .hbm, ⟨6, _⟩ => ⟨S8192x288, .f32⟩
  | .hbm, ⟨7, _⟩ => ⟨S_, .i32⟩
  | .hbm, ⟨8, _⟩ => ⟨S_, .f32⟩
  | .hbm, ⟨9, _⟩ => ⟨S8192x384, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_c : Ref sig .tc := ⟨.hbm, 7, rfl⟩
abbrev main_call0_v0 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== Kernel8.lean ====
abbrev S8192x1024 : Shape := ⟨2, ![8192, 1024]⟩
abbrev S2x1024x1024 : Shape := ⟨3, ![2, 1024, 1024]⟩
abbrev S1024 : Shape := ⟨1, ![1024]⟩
abbrev S2x2048x2048 : Shape := ⟨3, ![2, 2048, 2048]⟩
abbrev S8192x2048 : Shape := ⟨2, ![8192, 2048]⟩
abbrev S2048 : Shape := ⟨1, ![2048]⟩
abbrev S1x1024 : Shape := ⟨2, ![1, 1024]⟩
abbrev S1x2048 : Shape := ⟨2, ![1, 2048]⟩
abbrev S256x1024 : Shape := ⟨2, ![256, 1024]⟩
abbrev S1x1024x1024 : Shape := ⟨3, ![1, 1024, 1024]⟩
abbrev S1x2048x2048 : Shape := ⟨3, ![1, 2048, 2048]⟩
abbrev S256x2048 : Shape := ⟨2, ![256, 2048]⟩
abbrev S1024x1024 : Shape := ⟨2, ![1024, 1024]⟩
abbrev S128x128 : Shape := ⟨2, ![128, 128]⟩
abbrev S256x128 : Shape := ⟨2, ![256, 128]⟩
abbrev S1x1024x2048 : Shape := ⟨3, ![1, 1024, 2048]⟩
abbrev S1024x2048 : Shape := ⟨2, ![1024, 2048]⟩
abbrev S256 : Shape := ⟨1, ![256]⟩
abbrev S256x1 : Shape := ⟨2, ![256, 1]⟩

abbrev nBuf : Space → Nat
  | .hbm => 17
  | .vmem => 20
  | .smem => 0
  | _ => 0

abbrev bufTy : (tb : Table) → Fin (tcTables nBuf tb) → BufTy
  | .hbm, ⟨0, _⟩ => ⟨S8192x1024, .f32⟩
  | .hbm, ⟨1, _⟩ => ⟨S2x1024x1024, .bf16⟩
  | .hbm, ⟨2, _⟩ => ⟨S8192x1024, .f32⟩
  | .hbm, ⟨3, _⟩ => ⟨S8192x1024, .bf16⟩
  | .hbm, ⟨4, _⟩ => ⟨S8192x1024, .bf16⟩
  | .hbm, ⟨5, _⟩ => ⟨S1024, .f32⟩
  | .hbm, ⟨6, _⟩ => ⟨S1024, .f32⟩
  | .hbm, ⟨7, _⟩ => ⟨S2x2048x2048, .bf16⟩
  | .hbm, ⟨8, _⟩ => ⟨S8192x2048, .f32⟩
  | .hbm, ⟨9, _⟩ => ⟨S2048, .f32⟩
  | .hbm, ⟨10, _⟩ => ⟨S2048, .f32⟩
  | .hbm, ⟨11, _⟩ => ⟨S1x1024, .f32⟩
  | .hbm, ⟨12, _⟩ => ⟨S1x1024, .f32⟩
  | .hbm, ⟨13, _⟩ => ⟨S1x2048, .f32⟩
  | .hbm, ⟨14, _⟩ => ⟨S1x2048, .f32⟩
  | .hbm, ⟨15, _⟩ => ⟨S8192x2048, .f32⟩
  | .hbm, ⟨16, _⟩ => ⟨S8192x2048, .bf16⟩
  | .local _ .vmem, ⟨0, _⟩ => ⟨S256x1024, .f32⟩
  | .local _ .vmem, ⟨1, _⟩ => ⟨S256x1024, .f32⟩
  | .local _ .vmem, ⟨2, _⟩ => ⟨S1x1024x1024, .bf16⟩
  | .local _ .vmem, ⟨3, _⟩ => ⟨S256x1024, .f32⟩
  | .local _ .vmem, ⟨4, _⟩ => ⟨S256x1024, .f32⟩
  | .local _ .vmem, ⟨5, _⟩ => ⟨S256x1024, .bf16⟩
  | .local _ .vmem, ⟨6, _⟩ => ⟨S256x1024, .bf16⟩
  | .local _ .vmem, ⟨7, _⟩ => ⟨S256x1024, .bf16⟩
  | .local _ .vmem, ⟨8, _⟩ => ⟨S256x1024, .bf16⟩
  | .local _ .vmem, ⟨9, _⟩ => ⟨S1x1024, .f32⟩
  | .local _ .vmem, ⟨10, _⟩ => ⟨S1x1024, .f32⟩
  | .local _ .vmem, ⟨11, _⟩ => ⟨S1x2048x2048, .bf16⟩
  | .local _ .vmem, ⟨12, _⟩ => ⟨S256x2048, .f32⟩
  | .local _ .vmem, ⟨13, _⟩ => ⟨S256x2048, .f32⟩
  | .local _ .vmem, ⟨14, _⟩ => ⟨S1x2048, .f32⟩
  | .local _ .vmem, ⟨15, _⟩ => ⟨S1x2048, .f32⟩
  | .local _ .vmem, ⟨16, _⟩ => ⟨S256x2048, .f32⟩
  | .local _ .vmem, ⟨17, _⟩ => ⟨S256x2048, .f32⟩
  | .local _ .vmem, ⟨18, _⟩ => ⟨S256x2048, .bf16⟩
  | .local _ .vmem, ⟨19, _⟩ => ⟨S256x2048, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4_0 : Ref sig .tc := ⟨.hbm, 15, rfl⟩
abbrev main_v4_1 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem10_0 : DmaSem sig := 15
abbrev cc0_sem11_0 : DmaSem sig := 16
abbrev cc0_sem11_1 : DmaSem sig := 17
abbrev cc0_sem12_0 : DmaSem sig := 18
abbrev cc0_sem12_1 : DmaSem sig := 19

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x2048x2048 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x2048 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S256x2048 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x2048 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== Reference8Ideal.lean ====
abbrev S8192x1024 : Shape := ⟨2, ![8192, 1024]⟩
abbrev S2x1024x1024 : Shape := ⟨3, ![2, 1024, 1024]⟩
abbrev S1024 : Shape := ⟨1, ![1024]⟩
abbrev S2x2048x2048 : Shape := ⟨3, ![2, 2048, 2048]⟩
abbrev S8192x2048 : Shape := ⟨2, ![8192, 2048]⟩
abbrev S2048 : Shape := ⟨1, ![2048]⟩
abbrev S1x1024x1024 : Shape := ⟨3, ![1, 1024, 1024]⟩
abbrev S1024x1024 : Shape := ⟨2, ![1024, 1024]⟩
abbrev S_ : Shape := ⟨0, ![]⟩
abbrev S8192x16x64 : Shape := ⟨3, ![8192, 16, 64]⟩
abbrev S8192x16 : Shape := ⟨2, ![8192, 16]⟩
abbrev S8192x16x1 : Shape := ⟨3, ![8192, 16, 1]⟩
abbrev S16x64 : Shape := ⟨2, ![16, 64]⟩
abbrev S1x16x64 : Shape := ⟨3, ![1, 16, 64]⟩
abbrev S1x2048x2048 : Shape := ⟨3, ![1, 2048, 2048]⟩
abbrev S2048x2048 : Shape := ⟨2, ![2048, 2048]⟩
abbrev S8192 : Shape := ⟨1, ![8192]⟩
abbrev S8192x1 : Shape := ⟨2, ![8192, 1]⟩
abbrev S1x2048 : Shape := ⟨2, ![1, 2048]⟩

abbrev nBuf : Space → Nat
  | .hbm => 100
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S2x1024x1024, .bf16⟩
  | .hbm, ⟨2, _⟩ => ⟨S8192x1024, .f32⟩
  | .hbm, ⟨3, _⟩ => ⟨S8192x1024, .bf16⟩
  | .hbm, ⟨4, _⟩ => ⟨S8192x1024, .bf16⟩
  | .hbm, ⟨5, _⟩ => ⟨S1024, .f32⟩
  | .hbm, ⟨6, _⟩ => ⟨S1024, .f32⟩
  | .hbm, ⟨7, _⟩ => ⟨S2x2048x2048, .bf16⟩
  | .hbm, ⟨8, _⟩ => ⟨S8192x2048, .f32⟩
  | .hbm, ⟨9, _⟩ => ⟨S2048, .f32⟩
  | .hbm, ⟨10, _⟩ => ⟨S2048, .f32⟩
  | .hbm, ⟨11, _⟩ => ⟨S1x1024x1024, .bf16⟩
  | .hbm, ⟨12, _⟩ => ⟨S1024x1024, .bf16⟩
  | .hbm, ⟨13, _⟩ => ⟨S1024x1024, .f32⟩
  | .hbm, ⟨14, _⟩ => ⟨S8192x1024, .f32⟩
  | .hbm, ⟨15, _⟩ => ⟨S8192x1024, .f32⟩
  | .hbm, ⟨16, _⟩ => ⟨S8192x1024, .f32⟩
  | .hbm, ⟨17, _⟩ => ⟨S_, .f32⟩
  | .hbm, ⟨18, _⟩ => ⟨S8192x1024, .f32⟩
  | .hbm, ⟨19, _⟩ => ⟨S8192x1024, .f32⟩
  | .hbm, ⟨20, _⟩ => ⟨S_, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S8192x16x64, .f32⟩
  | .hbm, ⟨25, _⟩ => ⟨S_, .f32⟩
  | .hbm, ⟨26, _⟩ => ⟨S8192x16, .f32⟩
  | .hbm, ⟨27, _⟩ => ⟨S8192x16x1, .f32⟩
  | .hbm, ⟨28, _⟩ => ⟨S_, .f32⟩
  | .hbm, ⟨29, _⟩ => ⟨S8192x16x1, .f32⟩
  | .hbm, ⟨30, _⟩ => ⟨S8192x16x1, .f32⟩
  | .hbm, ⟨31, _⟩ => ⟨S8192x16x64, .f32⟩
  | .hbm, ⟨32, _⟩ => ⟨S8192x16x64, .f32⟩
  | .hbm, ⟨33, _⟩ => ⟨S8192x16x64, .f32⟩
  | .hbm, ⟨34, _⟩ => ⟨S_, .f32⟩
  | .hbm, ⟨35, _⟩ => ⟨S8192x16, .f32⟩
  | .hbm, ⟨36, _⟩ => ⟨S8192x16x1, .f32⟩
  | .hbm, ⟨37, _⟩ => ⟨S_, .f32⟩
  | .hbm, ⟨38, _⟩ => ⟨S8192x16x1, .f32⟩
  | .hbm, ⟨39, _⟩ => ⟨S8192x16x1, .f32⟩
  | .hbm, ⟨40, _⟩ => ⟨S8192x16x64, .f32⟩
  | .hbm, ⟨41, _⟩ => ⟨S8192x16x64, .f32⟩
  | .hbm, ⟨42, _⟩ => ⟨S_, .f32⟩
  | .hbm, ⟨43, _⟩ => ⟨S8192x16x1, .f32⟩
  | .hbm, ⟨44, _⟩ => ⟨S8192x16x1, .f32⟩
  | .hbm, ⟨45, _⟩ => ⟨S8192x16x1, .f32⟩
  | .hbm, ⟨46, _⟩ => ⟨S8192x16x64, .f32⟩
  | .hbm, ⟨47, _⟩ => ⟨S8192x16x64, .f32⟩
  | .hbm, ⟨48, _⟩ => ⟨S16x64, .f32⟩
  | .hbm, ⟨49, _⟩ => ⟨S1x16x64, .f32⟩
  | .hbm, ⟨50, _⟩ => ⟨S8192x16x64, .f32⟩
  | .hbm, ⟨51, _⟩ => ⟨S8192x16x64, .f32⟩
  | .hbm, ⟨52, _⟩ => ⟨S16x64, .f32⟩
  | .hbm, ⟨53, _⟩ => ⟨S1x16x64, .f32⟩
  | .hbm, ⟨54, _⟩ => ⟨S8192x16x64, .f32⟩
  | .hbm, ⟨55, _⟩ => ⟨S8192x16x64, .f32⟩
  | .hbm, ⟨56, _⟩ => ⟨S8192x1024, .f32⟩
  | .hbm, ⟨57, _⟩ => ⟨S8192x1024, .f32⟩
  | .hbm, ⟨58, _⟩ => ⟨S8192x1024, .f32⟩
  | .hbm, ⟨59, _⟩ => ⟨S8192x1024, .f32⟩
  | .hbm, ⟨60, _⟩ => ⟨S8192x1024, .f32⟩
  | .hbm, ⟨61, _⟩ => ⟨S8192x2048, .f32⟩
  | .hbm, ⟨62, _⟩ => ⟨S1x2048x2048, .bf16⟩
  | .hbm, ⟨63, _⟩ => ⟨S2048x2048, .bf16⟩
  | .hbm, ⟨64, _⟩ => ⟨S2048x2048, .f32⟩
  | .hbm, ⟨65, _⟩ => ⟨S8192x2048, .f32⟩
  | .hbm, ⟨66, _⟩ => ⟨S8192x2048, .f32⟩
  | .hbm, ⟨67, _⟩ => ⟨S_, .f32⟩
  | .hbm, ⟨68, _⟩ => ⟨S8192, .f32⟩
  | .hbm, ⟨69, _⟩ => ⟨S8192x1, .f32⟩
  | .hbm, ⟨70, _⟩ => ⟨S_, .f32⟩
  | .hbm, ⟨71, _⟩ => ⟨S8192x1, .f32⟩
  | .hbm, ⟨72, _⟩ => ⟨S8192x1, .f32⟩
  | .hbm, ⟨73, _⟩ => ⟨S_, .f32⟩
  | .hbm, ⟨74, _⟩ => ⟨S8192x1, .f32⟩
  | .hbm, ⟨75, _⟩ => ⟨S8192x1, .f32⟩
  | .hbm, ⟨76, _⟩ => ⟨S8192x1, .f32⟩
  | .hbm, ⟨77, _⟩ => ⟨S8192x2048, .f32⟩
  | .hbm, ⟨78, _⟩ => ⟨S8192x2048, .f32⟩
  | .hbm, ⟨79, _⟩ => ⟨S1x2048, .f32⟩
  | .hbm, ⟨80, _⟩ => ⟨S8192x2048, .f32⟩
  | .hbm, ⟨81, _⟩ => ⟨S8192x2048, .f32⟩
  | .hbm, ⟨82, _⟩ => ⟨S8192x2048, .f32⟩
  | .hbm, ⟨83, _⟩ => ⟨S8192x2048, .f32⟩
  | .hbm, ⟨84, _⟩ => ⟨S_, .f32⟩
  | .hbm, ⟨85, _⟩ => ⟨S8192, .f32⟩
  | .hbm, ⟨86, _⟩ => ⟨S8192x1, .f32⟩
  | .hbm, ⟨87, _⟩ => ⟨S_, .f32⟩
  | .hbm, ⟨88, _⟩ => ⟨S8192x1, .f32⟩
  | .hbm, ⟨89, _⟩ => ⟨S8192x1, .f32⟩
  | .hbm, ⟨90, _⟩ => ⟨S_, .f32⟩
  | .hbm, ⟨91, _⟩ => ⟨S8192x1, .f32⟩
  | .hbm, ⟨92, _⟩ => ⟨S8192x1, .f32⟩
  | .hbm, ⟨93, _⟩ => ⟨S8192x1, .f32⟩
  | .hbm, ⟨94, _⟩ => ⟨S8192x2048, .f32⟩
  | .hbm, ⟨95, _⟩ => ⟨S8192x2048, .f32⟩
  | .hbm, ⟨96, _⟩ => ⟨S1x2048, .f32⟩
  | .hbm, ⟨97, _⟩ => ⟨S8192x2048, .f32⟩
  | .hbm, ⟨98, _⟩ => ⟨S8192x2048, .f32⟩
  | .hbm, ⟨99, _⟩ => ⟨S8192x2048, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_cst : Ref sig .tc := ⟨.hbm, 17, rfl⟩
abbrev main_v6 : Ref sig .tc := ⟨.hbm, 18, rfl⟩
abbrev main_v7 : Ref sig .tc := ⟨.hbm, 19, rfl⟩
abbrev main_cst_0 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_cst_1 : Ref sig .tc := ⟨.hbm, 25, rfl⟩
abbrev main_v12 : Ref sig .tc := ⟨.hbm, 26, rfl⟩
abbrev main_v13 : Ref sig .tc := ⟨.hbm, 27, rfl⟩
abbrev main_cst_2 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_cst_3 : Ref sig .tc := ⟨.hbm, 34, rfl⟩
abbrev main_v19 : Ref sig .tc := ⟨.hbm, 35, rfl⟩
abbrev main_v20 : Ref sig .tc := ⟨.hbm, 36, rfl⟩
abbrev main_cst_4 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_cst_5 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_cst_6 : Ref sig .tc := ⟨.hbm, 67, rfl⟩
abbrev main_v49 : Ref sig .tc := ⟨.hbm, 68, rfl⟩
abbrev main_v50 : Ref sig .tc := ⟨.hbm, 69, rfl⟩
abbrev main_cst_7 : Ref sig .tc := ⟨.hbm, 70, rfl⟩
abbrev main_v51 : Ref sig .tc := ⟨.hbm, 71, rfl⟩
abbrev main_v52 : Ref sig .tc := ⟨.hbm, 72, rfl⟩
abbrev main_cst_8 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_cst_9 : Ref sig .tc := ⟨.hbm, 84, rfl⟩
abbrev main_v63 : Ref sig .tc := ⟨.hbm, 85, rfl⟩
abbrev main_v64 : Ref sig .tc := ⟨.hbm, 86, rfl⟩
abbrev main_cst_10 : Ref sig .tc := ⟨.hbm, 87, rfl⟩
abbrev main_v65 : Ref sig .tc := ⟨.hbm, 88, rfl⟩
abbrev main_v66 : Ref sig .tc := ⟨.hbm, 89, rfl⟩
abbrev main_cst_11 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩

abbrev nD : Nat := 1
abbrev τ : Topo := Topo.v7x

variable {F : FTy → Type} [FloatOps F]
-- ==== Kernel9.lean ====
abbrev S8192x2048 : Shape := ⟨2, ![8192, 2048]⟩
abbrev S2048 : Shape := ⟨1, ![2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩

abbrev nBuf : Space → Nat
  | .hbm => 4
  | .vmem => 5
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S1x2048, .f32⟩
  | .hbm, ⟨3, _⟩ => ⟨S8192x2048, .bf16⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S512x2048, .bf16⟩
  | .local _ .vmem, ⟨4, _⟩ => ⟨S512x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference9Ideal.lean ====
abbrev S8192x2048 : Shape := ⟨2, ![8192, 2048]⟩
abbrev S2048 : Shape := ⟨1, ![2048]⟩
abbrev S_ : Shape := ⟨0, ![]⟩
abbrev S8192 : Shape := ⟨1, ![8192]⟩
abbrev S8192x1 : Shape := ⟨2, ![8192, 1]⟩
abbrev S1x2048 : Shape := ⟨2, ![1, 2048]⟩

abbrev nBuf : Space → Nat
  | .hbm => 19
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S8192x2048, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S_, .f32⟩
  | .hbm, ⟨7, _⟩ => ⟨S8192x1, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S8192x1, .f32⟩
  | .hbm, ⟨13, _⟩ => ⟨S8192x2048, .f32⟩
  | .hbm, ⟨14, _⟩ => ⟨S8192x2048, .f32⟩
  | .hbm, ⟨15, _⟩ => ⟨S1x2048, .f32⟩
  | .hbm, ⟨16, _⟩ => ⟨S8192x2048, .f32⟩
  | .hbm, ⟨17, _⟩ => ⟨S8192x2048, .f32⟩
  | .hbm, ⟨18, _⟩ => ⟨S8192x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== Kernel10.lean ====
abbrev S64x64 : Shape := ⟨2, ![64, 64]⟩
abbrev S64 : Shape := ⟨1, ![64]⟩
abbrev S64x64x16 : Shape := ⟨3, ![64, 64, 16]⟩
abbrev S64x1 : Shape := ⟨2, ![64, 1]⟩
abbrev S16x64x64 : Shape := ⟨3, ![16, 64, 64]⟩
abbrev S1x64x64 : Shape := ⟨3, ![1, 64, 64]⟩

abbrev nBuf : Space → Nat
  | .hbm => 13
  | .vmem => 9
  | .smem => 0
  | _ => 0

abbrev bufTy : (tb : Table) → Fin (tcTables nBuf tb) → BufTy
  | .hbm, ⟨0, _⟩ => ⟨S64x64, .f32⟩
  | .hbm, ⟨1, _⟩ => ⟨S64x64, .f32⟩
  | .hbm, ⟨2, _⟩ => ⟨S64, .f32⟩
  | .hbm, ⟨3, _⟩ => ⟨S64x64x16, .f32⟩
  | .hbm, ⟨4, _⟩ => ⟨S64x64x16, .f32⟩
  | .hbm, ⟨5, _⟩ => ⟨S64x1, .f32⟩
  | .hbm, ⟨6, _⟩ => ⟨S64x64, .f32⟩
  | .hbm, ⟨7, _⟩ => ⟨S16x64x64, .f32⟩
  | .hbm, ⟨8, _⟩ => ⟨S16x64x64, .f32⟩
  | .hbm, ⟨9, _⟩ => ⟨S64x64, .f32⟩
  | .hbm, ⟨10, _⟩ => ⟨S64x64, .f32⟩
  | .hbm, ⟨11, _⟩ => ⟨S16x64x64, .f32⟩
  | .hbm, ⟨12, _⟩ => ⟨S16x64x64, .f32⟩
  | .local _ .vmem, ⟨0, _⟩ => ⟨S64x64, .f32⟩
  | .local _ .vmem, ⟨1, _⟩ => ⟨S64x64, .f32⟩
  | .local _ .vmem, ⟨2, _⟩ => ⟨S64x64, .f32⟩
  | .local _ .vmem, ⟨3, _⟩ => ⟨S16x64x64, .f32⟩
  | .local _ .vmem, ⟨4, _⟩ => ⟨S16x64x64, .f32⟩
  | .local _ .vmem, ⟨5, _⟩ => ⟨S64x64, .f32⟩
  | .local _ .vmem, ⟨6, _⟩ => ⟨S64x64, .f32⟩
  | .local _ .vmem, ⟨7, _⟩ => ⟨S16x64x64, .f32⟩
  | .local _ .vmem, ⟨8, _⟩ => ⟨S16x64x64, .f32⟩
  | _, _ => ⟨S64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev main_v4_2 : Ref sig .tc := ⟨.hbm, 11, rfl⟩
abbrev main_v4_3 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := .none

abbrev stage0_0 : Fin 1 → Memref sig .tc .vmem S64x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S16x64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S16x64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S64x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S64x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S16x64x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S16x64x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
-- ==== Reference10Ideal.lean ====
abbrev S64x64 : Shape := ⟨2, ![64, 64]⟩
abbrev S64 : Shape := ⟨1, ![64]⟩
abbrev S64x64x16 : Shape := ⟨3, ![64, 64, 16]⟩
abbrev S64x1 : Shape := ⟨2, ![64, 1]⟩
abbrev S_ : Shape := ⟨0, ![]⟩
abbrev S64x64x1 : Shape := ⟨3, ![64, 64, 1]⟩
abbrev S16x64x64 : Shape := ⟨3, ![16, 64, 64]⟩

abbrev nBuf : Space → Nat
  | .hbm => 46
  | .vmem => 0
  | .smem => 0
  | _ => 0

abbrev bufTy : (tb : Table) → Fin (tcTables nBuf tb) → BufTy
  | .hbm, ⟨0, _⟩ => ⟨S64x64, .f32⟩
  | .hbm, ⟨1, _⟩ => ⟨S64x64, .f32⟩
  | .hbm, ⟨2, _⟩ => ⟨S64, .f32⟩
  | .hbm, ⟨3, _⟩ => ⟨S64x64x16, .f32⟩
  | .hbm, ⟨4, _⟩ => ⟨S64x64x16, .f32⟩
  | .hbm, ⟨5, _⟩ => ⟨S64, .f32⟩
  | .hbm, ⟨6, _⟩ => ⟨S64x1, .f32⟩
  | .hbm, ⟨7, _⟩ => ⟨S64x64, .f32⟩
  | .hbm, ⟨8, _⟩ => ⟨S64x64, .f32⟩
  | .hbm, ⟨9, _⟩ => ⟨S64x64, .f32⟩
  | .hbm, ⟨10, _⟩ => ⟨S64x64, .f32⟩
  | .hbm, ⟨11, _⟩ => ⟨S64x64, .f32⟩
  | .hbm, ⟨12, _⟩ => ⟨S64x64, .f32⟩
  | .hbm, ⟨13, _⟩ => ⟨S64x64, .f32⟩
  | .hbm, ⟨14, _⟩ => ⟨S64x64, .f32⟩
  | .hbm, ⟨15, _⟩ => ⟨S64x64, .f32⟩
  | .hbm, ⟨16, _⟩ => ⟨S64x64, .f32⟩
  | .hbm, ⟨17, _⟩ => ⟨S64x64, .f32⟩
  | .hbm, ⟨18, _⟩ => ⟨S64x64, .f32⟩
  | .hbm, ⟨19, _⟩ => ⟨S64x64, .f32⟩
  | .hbm, ⟨20, _⟩ => ⟨S64x64, .f32⟩
  | .hbm, ⟨21, _⟩ => ⟨S_, .f32⟩
  | .hbm, ⟨22, _⟩ => ⟨S64x64, .f32⟩
  | .hbm, ⟨23, _⟩ => ⟨S64x64, .f32⟩
  | .hbm, ⟨24, _⟩ => ⟨S64x64, .f32⟩
  | .hbm, ⟨25, _⟩ => ⟨S64x64, .f32⟩
  | .hbm, ⟨26, _⟩ => ⟨S64x64, .f32⟩
  | .hbm, ⟨27, _⟩ => ⟨S64x64, .f32⟩
  | .hbm, ⟨28, _⟩ => ⟨S64x64x1, .f32⟩
  | .hbm, ⟨29, _⟩ => ⟨S64x64, .f32⟩
  | .hbm, ⟨30, _⟩ => ⟨S64x64, .f32⟩
  | .hbm, ⟨31, _⟩ => ⟨S64x64, .f32⟩
  | .hbm, ⟨32, _⟩ => ⟨S64x64, .f32⟩
  | .hbm, ⟨33, _⟩ => ⟨S64x64x1, .f32⟩
  | .hbm, ⟨34, _⟩ => ⟨S64x64x16, .f32⟩
  | .hbm, ⟨35, _⟩ => ⟨S64x64x16, .f32⟩
  | .hbm, ⟨36, _⟩ => ⟨S64x64x16, .f32⟩
  | .hbm, ⟨37, _⟩ => ⟨S64x64x16, .f32⟩
  | .hbm, ⟨38, _⟩ => ⟨S64x64x16, .f32⟩
  | .hbm, ⟨39, _⟩ => ⟨S64x64x16, .f32⟩
  | .hbm, ⟨40, _⟩ => ⟨S64x64x16, .f32⟩
  | .hbm, ⟨41, _⟩ => ⟨S64x64x16, .f32⟩
  | .hbm, ⟨42, _⟩ => ⟨S64x64x16, .f32⟩
  | .hbm, ⟨43, _⟩ => ⟨S64x64x16, .f32⟩
  | .hbm, ⟨44, _⟩ => ⟨S16x64x64, .f32⟩
  | .hbm, ⟨45, _⟩ => ⟨S16x64x64, .f32⟩
  | _, _ => ⟨S64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩

abbrev nD : Nat := 1
abbrev τ : Topo := Topo.v7x

variable {F : FTy → Type} [FloatOps F]
-- ==== Kernel11.lean ====
abbrev S8x128x512 : Shape := ⟨3, ![8, 128, 512]⟩
abbrev S8x512x128 : Shape := ⟨3, ![8, 512, 128]⟩
abbrev S8x1x512 : Shape := ⟨3, ![8, 1, 512]⟩
abbrev S8x1x128 : Shape := ⟨3, ![8, 1, 128]⟩
abbrev S8x512x1 : Shape := ⟨3, ![8, 512, 1]⟩
abbrev S8x1024x128 : Shape := ⟨3, ![8, 1024, 128]⟩
abbrev S8x1024x1024 : Shape := ⟨3, ![8, 1024, 1024]⟩
abbrev S1x128x512 : Shape := ⟨3, ![1, 128, 512]⟩
abbrev S1x512x128 : Shape := ⟨3, ![1, 512, 128]⟩
abbrev S1x1x512 : Shape := ⟨3, ![1, 1, 512]⟩
abbrev S1x1x128 : Shape := ⟨3, ![1, 1, 128]⟩
abbrev S1x1024x128 : Shape := ⟨3, ![1, 1024, 128]⟩
abbrev S1x1024x1024 : Shape := ⟨3, ![1, 1024, 1024]⟩
abbrev S128x512 : Shape := ⟨2, ![128, 512]⟩
abbrev S512x128 : Shape := ⟨2, ![512, 128]⟩
abbrev S1x512 : Shape := ⟨2, ![1, 512]⟩
abbrev S128x128 : Shape := ⟨2, ![128, 128]⟩
abbrev S1x128 : Shape := ⟨2, ![1, 128]⟩
abbrev S1x128x128 : Shape := ⟨3, ![1, 128, 128]⟩

abbrev nBuf : Space → Nat
  | .hbm => 16
  | .vmem => 28
  | .smem => 0
  | _ => 0

abbrev bufTy : (tb : Table) → Fin (tcTables nBuf tb) → BufTy
  | .hbm, ⟨0, _⟩ => ⟨S8x128x512, .f32⟩
  | .hbm, ⟨1, _⟩ => ⟨S8x128x512, .f32⟩
  | .hbm, ⟨2, _⟩ => ⟨S8x512x128, .f32⟩
  | .hbm, ⟨3, _⟩ => ⟨S8x512x128, .f32⟩
  | .hbm, ⟨4, _⟩ => ⟨S8x1x512, .f32⟩
  | .hbm, ⟨5, _⟩ => ⟨S8x1x512, .f32⟩
  | .hbm, ⟨6, _⟩ => ⟨S8x1x128, .f32⟩
  | .hbm, ⟨7, _⟩ => ⟨S8x512x1, .f32⟩
  | .hbm, ⟨8, _⟩ => ⟨S8x512x128, .f32⟩
  | .hbm, ⟨9, _⟩ => ⟨S8x512x1, .f32⟩
  | .hbm, ⟨10, _⟩ => ⟨S8x512x128, .f32⟩
  | .hbm, ⟨11, _⟩ => ⟨S8x1024x128, .bf16⟩
  | .hbm, ⟨12, _⟩ => ⟨S8x1024x1024, .bf16⟩
  | .hbm, ⟨13, _⟩ => ⟨S8x1024x1024, .bf16⟩
  | .hbm, ⟨14, _⟩ => ⟨S8x1x512, .f32⟩
  | .hbm, ⟨15, _⟩ => ⟨S8x1x512, .f32⟩
  | .local _ .vmem, ⟨0, _⟩ => ⟨S1x128x512, .f32⟩
  | .local _ .vmem, ⟨1, _⟩ => ⟨S1x128x512, .f32⟩
  | .local _ .vmem, ⟨2, _⟩ => ⟨S1x128x512, .f32⟩
  | .local _ .vmem, ⟨3, _⟩ => ⟨S1x128x512, .f32⟩
  | .local _ .vmem, ⟨4, _⟩ => ⟨S1x512x128, .f32⟩
  | .local _ .vmem, ⟨5, _⟩ => ⟨S1x512x128, .f32⟩
  | .local _ .vmem, ⟨6, _⟩ => ⟨S1x512x128, .f32⟩
  | .local _ .vmem, ⟨7, _⟩ => ⟨S1x512x128, .f32⟩
  | .local _ .vmem, ⟨8, _⟩ => ⟨S1x1x512, .f32⟩
  | .local _ .vmem, ⟨9, _⟩ => ⟨S1x1x512, .f32⟩
  | .local _ .vmem, ⟨10, _⟩ => ⟨S1x1x512, .f32⟩
  | .local _ .vmem, ⟨11, _⟩ => ⟨S1x1x512, .f32⟩
  | .local _ .vmem, ⟨12, _⟩ => ⟨S1x512x128, .f32⟩
  | .local _ .vmem, ⟨13, _⟩ => ⟨S1x512x128, .f32⟩
  | .local _ .vmem, ⟨14, _⟩ => ⟨S1x512x128, .f32⟩
  | .local _ .vmem, ⟨15, _⟩ => ⟨S1x512x128, .f32⟩
  | .local _ .vmem, ⟨16, _⟩ => ⟨S1x1x128, .f32⟩
  | .local _ .vmem, ⟨17, _⟩ => ⟨S1x1x128, .f32⟩
  | .local _ .vmem, ⟨18, _⟩ => ⟨S1x1024x128, .bf16⟩
  | .local _ .vmem, ⟨19, _⟩ => ⟨S1x1024x128, .bf16⟩
  | .local _ .vmem, ⟨20, _⟩ => ⟨S1x1024x1024, .bf16⟩
  | .local _ .vmem, ⟨21, _⟩ => ⟨S1x1024x1024, .bf16⟩
  | .local _ .vmem, ⟨22, _⟩ => ⟨S1x1024x1024, .bf16⟩
  | .local _ .vmem, ⟨23, _⟩ => ⟨S1x1024x1024, .bf16⟩
  | .local _ .vmem, ⟨24, _⟩ => ⟨S1x1x512, .f32⟩
  | .local _ .vmem, ⟨25, _⟩ => ⟨S1x1x512, .f32⟩
  | .local _ .vmem, ⟨26, _⟩ => ⟨S1x1x512, .f32⟩
  | .local _ .vmem, ⟨27, _⟩ => ⟨S1x1x512, .f32⟩
  | _, _ => ⟨S8x128x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4_0 : Ref sig .tc := ⟨.hbm, 11, rfl⟩
abbrev main_v4_1 : Ref sig .tc := ⟨.hbm, 12, rfl⟩
abbrev main_v4_2 : Ref sig .tc := ⟨.hbm, 13, rfl⟩
abbrev main_v4_3 : Ref sig .tc := ⟨.hbm, 14, rfl⟩
abbrev main_v4_4 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x128x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x128x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x1x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x1024x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x1024x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x1024x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1x1x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1x1x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== Reference11Ideal.lean ====
abbrev S8x128x512 : Shape := ⟨3, ![8, 128, 512]⟩
abbrev S8x512x128 : Shape := ⟨3, ![8, 512, 128]⟩
abbrev S8x1x512 : Shape := ⟨3, ![8, 1, 512]⟩
abbrev S8x1x128 : Shape := ⟨3, ![8, 1, 128]⟩
abbrev S_ : Shape := ⟨0, ![]⟩
abbrev S8x9x512 : Shape := ⟨3, ![8, 9, 512]⟩
abbrev S8x8x512 : Shape := ⟨3, ![8, 8, 512]⟩
abbrev S8x8x1x512 : Shape := ⟨4, ![8, 8, 1, 512]⟩
abbrev S8x1x128x512 : Shape := ⟨4, ![8, 1, 128, 512]⟩
abbrev S8x8x128x512 : Shape := ⟨4, ![8, 8, 128, 512]⟩
abbrev S8x8x128x128 : Shape := ⟨4, ![8, 8, 128, 128]⟩
abbrev S128x128 : Shape := ⟨2, ![128, 128]⟩
abbrev S1x128x128 : Shape := ⟨3, ![1, 128, 128]⟩
abbrev S8x128x128 : Shape := ⟨3, ![8, 128, 128]⟩
abbrev S8 : Shape := ⟨1, ![8]⟩
abbrev S1x8x1x1 : Shape := ⟨4, ![1, 8, 1, 1]⟩
abbrev S8x1x128x128 : Shape := ⟨4, ![8, 1, 128, 128]⟩
abbrev S8x512x8 : Shape := ⟨3, ![8, 512, 8]⟩
abbrev S8x512x8x1 : Shape := ⟨4, ![8, 512, 8, 1]⟩
abbrev S8x512x1x128 : Shape := ⟨4, ![8, 512, 1, 128]⟩
abbrev S8x512x8x128 : Shape := ⟨4, ![8, 512, 8, 128]⟩
abbrev S8x1024x128 : Shape := ⟨3, ![8, 1024, 128]⟩
abbrev S8x8x128x1024 : Shape := ⟨4, ![8, 8, 128, 1024]⟩
abbrev S8x1024x1024 : Shape := ⟨3, ![8, 1024, 1024]⟩
abbrev S8x1024x8x128 : Shape := ⟨4, ![8, 1024, 8, 128]⟩

abbrev nBuf : Space → Nat
  | .hbm => 144
  | .vmem => 0
  | .smem => 0
  | _ => 0

abbrev hbmTy0_0 (i : Nat) : BufTy := match i % 128 with
  | 0 => ⟨S8x128x512, .f32⟩
  | 1 => ⟨S8x128x512, .f32⟩
  | 2 => ⟨S8x512x128, .f32⟩
  | 3 => ⟨S8x512x128, .f32⟩
  | 4 => ⟨S8x1x512, .f32⟩
  | 5 => ⟨S8x1x512, .f32⟩
  | 6 => ⟨S8x1x128, .f32⟩
  | 7 => ⟨S_, .f32⟩
  | 8 => ⟨S8x1x512, .f32⟩
  | 9 => ⟨S_, .f32⟩
  | 10 => ⟨S8x1x512, .f32⟩
  | 11 => ⟨S8x1x512, .f32⟩
  | 12 => ⟨S8x1x512, .f32⟩
  | 13 => ⟨S8x1x512, .f32⟩
  | 14 => ⟨S8x1x512, .f32⟩
  | 15 => ⟨S8x1x512, .f32⟩
  | 16 => ⟨S8x1x512, .f32⟩
  | 17 => ⟨S8x1x512, .f32⟩
  | 18 => ⟨S8x1x512, .f32⟩
  | 19 => ⟨S8x1x512, .f32⟩
  | 20 => ⟨S8x1x512, .f32⟩
  | 21 => ⟨S8x1x512, .f32⟩
  | 22 => ⟨S8x1x512, .f32⟩
  | 23 => ⟨S8x1x512, .f32⟩
  | 24 => ⟨S8x1x512, .f32⟩
  | 25 => ⟨S8x1x512, .f32⟩
  | 26 => ⟨S8x1x512, .f32⟩
  | 27 => ⟨S8x1x512, .f32⟩
  | 28 => ⟨S8x1x512, .f32⟩
  | 29 => ⟨S8x1x512, .f32⟩
  | 30 => ⟨S8x1x512, .f32⟩
  | 31 => ⟨S8x1x512, .f32⟩
  | 32 => ⟨S8x1x512, .f32⟩
  | 33 => ⟨S8x1x512, .f32⟩
  | 34 => ⟨S8x1x512, .f32⟩
  | 35 => ⟨S8x1x512, .f32⟩
  | 36 => ⟨S8x1x512, .f32⟩
  | 37 => ⟨S8x1x512, .f32⟩
  | 38 => ⟨S8x1x512, .f32⟩
  | 39 => ⟨S8x1x512, .f32⟩
  | 40 => ⟨S8x1x512, .f32⟩
  | 41 => ⟨S8x1x512, .f32⟩
  | 42 => ⟨S8x1x512, .f32⟩
  | 43 => ⟨S8x1x512, .f32⟩
  | 44 => ⟨S8x1x512, .f32⟩
  | 45 => ⟨S8x1x512, .f32⟩
  | 46 => ⟨S8x1x512, .f32⟩
  | 47 => ⟨S8x1x512, .f32⟩
  | 48 => ⟨S8x1x512, .f32⟩
  | 49 => ⟨S8x1x512, .f32⟩
  | 50 => ⟨S8x1x512, .f32⟩
  | 51 => ⟨S8x1x512, .f32⟩
  | 52 => ⟨S8x1x512, .f32⟩
  | 53 => ⟨S8x1x512, .f32⟩
  | 54 => ⟨S8x1x512, .f32⟩
  | 55 => ⟨S8x1x512, .f32⟩
  | 56 => ⟨S8x1x512, .f32⟩
  | 57 => ⟨S8x1x512, .f32⟩
  | 58 => ⟨S8x1x512, .f32⟩
  | 59 => ⟨S8x9x512, .f32⟩
  | 60 => ⟨S8x9x512, .f32⟩
  | 61 => ⟨S8x8x512, .f32⟩
  | 62 => ⟨S8x8x1x512, .f32⟩
  | 63 => ⟨S8x8x512, .f32⟩
  | 64 => ⟨S8x8x1x512, .f32⟩
  | 65 => ⟨S8x1x128x512, .f32⟩
  | 66 => ⟨S8x8x128x512, .f32⟩
  | 67 => ⟨S8x8x128x512, .f32⟩
  | 68 => ⟨S8x8x128x512, .f32⟩
  | 69 => ⟨S8x1x128x512, .f32⟩
  | 70 => ⟨S8x8x128x512, .f32⟩
  | 71 => ⟨S8x8x128x512, .f32⟩
  | 72 => ⟨S8x8x128x512, .f32⟩
  | 73 => ⟨S8x8x128x512, .f32⟩
  | 74 => ⟨S8x1x128x512, .f32⟩
  | 75 => ⟨S8x8x128x512, .f32⟩
  | 76 => ⟨S8x8x128x512, .f32⟩
  | 77 => ⟨S8x8x128x512, .f32⟩
  | 78 => ⟨S8x1x128x512, .f32⟩
  | 79 => ⟨S8x8x128x512, .f32⟩
  | 80 => ⟨S8x8x128x512, .f32⟩
  | 81 => ⟨S8x8x128x512, .f32⟩
  | 82 => ⟨S8x8x128x512, .f32⟩
  | 83 => ⟨S8x8x128x128, .f32⟩
  | 84 => ⟨S8x8x128x128, .f32⟩
  | 85 => ⟨S8x8x128x128, .f32⟩
  | 86 => ⟨S128x128, .i32⟩
  | 87 => ⟨S128x128, .i32⟩
  | 88 => ⟨S_, .i32⟩
  | 89 => ⟨S128x128, .i32⟩
  | 90 => ⟨S128x128, .i32⟩
  | 91 => ⟨S128x128, .i1⟩
  | 92 => ⟨S128x128, .f32⟩
  | 93 => ⟨S1x128x128, .f32⟩
  | 94 => ⟨S8x128x128, .f32⟩
  | 95 => ⟨S8x128x128, .f32⟩
  | 96 => ⟨S8x128x128, .f32⟩
  | 97 => ⟨S8, .i32⟩
  | 98 => ⟨S1x8x1x1, .i32⟩
  | 99 => ⟨S_, .i32⟩
  | 100 => ⟨S1x8x1x1, .i32⟩
  | 101 => ⟨S1x8x1x1, .i1⟩
  | 102 => ⟨S8x1x128x128, .f32⟩
  | 103 => ⟨S_, .f32⟩
  | 104 => ⟨S_, .f32⟩
  | 105 => ⟨S8x8x128x128, .i1⟩
  | 106 => ⟨S8x8x128x128, .f32⟩
  | 107 => ⟨S8x8x128x128, .f32⟩
  | 108 => ⟨S8x8x128x128, .f32⟩
  | 109 => ⟨S8x8x128x128, .f32⟩
  | 110 => ⟨S8x8x512, .f32⟩
  | 111 => ⟨S8x512x8, .f32⟩
  | 112 => ⟨S8x512x8x1, .f32⟩
  | 113 => ⟨S8x8x512, .f32⟩
  | 114 => ⟨S8x512x8, .f32⟩
  | 115 => ⟨S8x512x8x1, .f32⟩
  | 116 => ⟨S8x512x1x128, .f32⟩
  | 117 => ⟨S8x512x8x128, .f32⟩
  | 118 => ⟨S8x512x8x128, .f32⟩
  | 119 => ⟨S8x512x8x128, .f32⟩
  | 120 => ⟨S8x512x1x128, .f32⟩
  | 121 => ⟨S8x512x8x128, .f32⟩
  | 122 => ⟨S8x512x8x128, .f32⟩
  | 123 => ⟨S8x512x8x128, .f32⟩
  | 124 => ⟨S8x512x8x128, .f32⟩
  | 125 => ⟨S8x512x1x128, .f32⟩
  | 126 => ⟨S8x512x8x128, .f32⟩
  | 127 => ⟨S8x512x8x128, .f32⟩
  | _ => ⟨S8x128x512, .f32⟩

abbrev hbmTy0_1 (i : Nat) : BufTy := match i % 128 with
  | 0 => ⟨S8x512x8x128, .f32⟩
  | 1 => ⟨S8x512x1x128, .f32⟩
  | 2 => ⟨S8x512x8x128, .f32⟩
  | 3 => ⟨S8x512x8x128, .f32⟩
  | 4 => ⟨S8x512x8x128, .f32⟩
  | 5 => ⟨S8x512x8x128, .f32⟩
  | 6 => ⟨S8x1024x128, .f32⟩
  | 7 => ⟨S8x1024x128, .bf16⟩
  | 8 => ⟨S8x8x128x1024, .f32⟩
  | 9 => ⟨S8x8x128x1024, .f32⟩
  | 10 => ⟨S8x1024x1024, .f32⟩
  | 11 => ⟨S8x1024x1024, .bf16⟩
  | 12 => ⟨S8x512x8x128, .f32⟩
  | 13 => ⟨S8x1024x8x128, .f32⟩
  | 14 => ⟨S8x1024x1024, .f32⟩
  | 15 => ⟨S8x1024x1024, .bf16⟩
  | _ => ⟨S8x128x512, .f32⟩

abbrev hbmTy (i : Nat) : BufTy := match i / 128 with
  | 0 => hbmTy0_0 i
  | 1 => hbmTy0_1 i
  | _ => ⟨S8x128x512, .f32⟩

abbrev bufTy : (tb : Table) → Fin (tcTables nBuf tb) → BufTy
  | .hbm, ⟨i, _⟩ => hbmTy i
  | _, _ => ⟨S8x128x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_v55 : Ref sig .tc := ⟨.hbm, 64, rfl⟩
abbrev main_v56 : Ref sig .tc := ⟨.hbm, 65, rfl⟩
abbrev main_v57 : Ref sig .tc := ⟨.hbm, 66, rfl⟩
abbrev main_v58 : Ref sig .tc := ⟨.hbm, 67, rfl⟩
abbrev main_v59 : Ref sig .tc := ⟨.hbm, 68, rfl⟩
abbrev main_v60 : Ref sig .tc := ⟨.hbm, 69, rfl⟩
abbrev main_v61 : Ref sig .tc := ⟨.hbm, 70, rfl⟩
abbrev main_v62 : Ref sig .tc := ⟨.hbm, 71, rfl⟩
abbrev main_v63 : Ref sig .tc := ⟨.hbm, 72, rfl⟩
abbrev main_v64 : Ref sig .tc := ⟨.hbm, 73, rfl⟩
abbrev main_v65 : Ref sig .tc := ⟨.hbm, 74, rfl⟩
abbrev main_v66 : Ref sig .tc := ⟨.hbm, 75, rfl⟩
abbrev main_v67 : Ref sig .tc := ⟨.hbm, 76, rfl⟩
abbrev main_v68 : Ref sig .tc := ⟨.hbm, 77, rfl⟩
abbrev main_v69 : Ref sig .tc := ⟨.hbm, 78, rfl⟩
abbrev main_v70 : Ref sig .tc := ⟨.hbm, 79, rfl⟩
abbrev main_v71 : Ref sig .tc := ⟨.hbm, 80, rfl⟩
abbrev main_v72 : Ref sig .tc := ⟨.hbm, 81, rfl⟩
abbrev main_v73 : Ref sig .tc := ⟨.hbm, 82, rfl⟩
abbrev main_v74 : Ref sig .tc := ⟨.hbm, 83, rfl⟩
abbrev main_v75 : Ref sig .tc := ⟨.hbm, 84, rfl⟩
abbrev main_v76 : Ref sig .tc := ⟨.hbm, 85, rfl⟩
abbrev main_v77 : Ref sig .tc := ⟨.hbm, 86, rfl⟩
abbrev main_v78 : Ref sig .tc := ⟨.hbm, 87, rfl⟩
abbrev main_c : Ref sig .tc := ⟨.hbm, 88, rfl⟩
abbrev main_v79 : Ref sig .tc := ⟨.hbm, 89, rfl⟩
abbrev main_v80 : Ref sig .tc := ⟨.hbm, 90, rfl⟩
abbrev main_v81 : Ref sig .tc := ⟨.hbm, 91, rfl⟩
abbrev main_v82 : Ref sig .tc := ⟨.hbm, 92, rfl⟩
abbrev main_v83 : Ref sig .tc := ⟨.hbm, 93, rfl⟩
abbrev main_v84 : Ref sig .tc := ⟨.hbm, 94, rfl⟩
abbrev main_v85 : Ref sig .tc := ⟨.hbm, 95, rfl⟩
abbrev main_v86 : Ref sig .tc := ⟨.hbm, 96, rfl⟩
abbrev main_v87 : Ref sig .tc := ⟨.hbm, 97, rfl⟩
abbrev main_v88 : Ref sig .tc := ⟨.hbm, 98, rfl⟩
abbrev main_c_1 : Ref sig .tc := ⟨.hbm, 99, rfl⟩
abbrev main_v89 : Ref sig .tc := ⟨.hbm, 100, rfl⟩
abbrev main_v90 : Ref sig .tc := ⟨.hbm, 101, rfl⟩
abbrev main_v91 : Ref sig .tc := ⟨.hbm, 102, rfl⟩
abbrev main_cst_2 : Ref sig .tc := ⟨.hbm, 103, rfl⟩
abbrev main_call0_v0 : Ref sig .tc := ⟨.hbm, 104, rfl⟩
abbrev main_call0_v1 : Ref sig .tc := ⟨.hbm, 105, rfl⟩
abbrev main_call0_v2 : Ref sig .tc := ⟨.hbm, 106, rfl⟩
abbrev main_call0_v3 : Ref sig .tc := ⟨.hbm, 107, rfl⟩
abbrev main_v92 : Ref sig .tc := ⟨.hbm, 108, rfl⟩
abbrev main_v93 : Ref sig .tc := ⟨.hbm, 109, rfl⟩
abbrev main_v94 : Ref sig .tc := ⟨.hbm, 110, rfl⟩
abbrev main_v95 : Ref sig .tc := ⟨.hbm, 111, rfl⟩
abbrev main_v96 : Ref sig .tc := ⟨.hbm, 112, rfl⟩
abbrev main_v97 : Ref sig .tc := ⟨.hbm, 113, rfl⟩
abbrev main_v98 : Ref sig .tc := ⟨.hbm, 114, rfl⟩
abbrev main_v99 : Ref sig .tc := ⟨.hbm, 115, rfl⟩
abbrev main_v100 : Ref sig .tc := ⟨.hbm, 116, rfl⟩
abbrev main_v101 : Ref sig .tc := ⟨.hbm, 117, rfl⟩
abbrev main_v102 : Ref sig .tc := ⟨.hbm, 118, rfl⟩
abbrev main_v103 : Ref sig .tc := ⟨.hbm, 119, rfl⟩
abbrev main_v104 : Ref sig .tc := ⟨.hbm, 120, rfl⟩
abbrev main_v105 : Ref sig .tc := ⟨.hbm, 121, rfl⟩
abbrev main_v106 : Ref sig .tc := ⟨.hbm, 122, rfl⟩
abbrev main_v107 : Ref sig .tc := ⟨.hbm, 123, rfl⟩
abbrev main_v108 : Ref sig .tc := ⟨.hbm, 124, rfl⟩
abbrev main_v109 : Ref sig .tc := ⟨.hbm, 125, rfl⟩
abbrev main_v110 : Ref sig .tc := ⟨.hbm, 126, rfl⟩
abbrev main_v111 : Ref sig .tc := ⟨.hbm, 127, rfl⟩
abbrev main_v112 : Ref sig .tc := ⟨.hbm, 128, rfl⟩
abbrev main_v113 : Ref sig .tc := ⟨.hbm, 129, rfl⟩
abbrev main_v114 : Ref sig .tc := ⟨.hbm, 130, rfl⟩
abbrev main_v115 : Ref sig .tc := ⟨.hbm, 131, rfl⟩
abbrev main_v116 : Ref sig .tc := ⟨.hbm, 132, rfl⟩
abbrev main_v117 : Ref sig .tc := ⟨.hbm, 133, rfl⟩
abbrev main_v118 : Ref sig .tc := ⟨.hbm, 134, rfl⟩
abbrev main_v119 : Ref sig .tc := ⟨.hbm, 135, rfl⟩
abbrev main_v120 : Ref sig .tc := ⟨.hbm, 136, rfl⟩
abbrev main_v121 : Ref sig .tc := ⟨.hbm, 137, rfl⟩
abbrev main_v122 : Ref sig .tc := ⟨.hbm, 138, rfl⟩
abbrev main_v123 : Ref sig .tc := ⟨.hbm, 139, rfl⟩
abbrev main_v124 : Ref sig .tc := ⟨.hbm, 140, rfl⟩
abbrev main_v125 : Ref sig .tc := ⟨.hbm, 141, rfl⟩
abbrev main_v126 : Ref sig .tc := ⟨.hbm, 142, rfl⟩
abbrev main_v127 : Ref sig .tc := ⟨.hbm, 143, rfl⟩

abbrev nD : Nat := 1
abbrev τ : Topo := Topo.v7x

variable {F : FTy → Type} [FloatOps F]
-- ==== Proof.Frames.lean ====
/-
  The frames of the references: each run leaves the arguments as they were, and the module names no semaphore.
-/
module

public import proofs.«01_k».proof.Defs
public import proofs.«01_k».proof.Proof.Gen.ReferenceIdeal.Run
public import proofs.«01_k».proof.Proof.Gen.Reference2Ideal.Run
public import proofs.«01_k».proof.Proof.Gen.Reference3Ideal.Run
public import proofs.«01_k».proof.Proof.Gen.Reference4Ideal.Run
public import proofs.«01_k».proof.Proof.Gen.Reference5Ideal.Run
public import proofs.«01_k».proof.Proof.Gen.Reference6Ideal.Run
public import proofs.«01_k».proof.Proof.Gen.Reference7Ideal.Run
public import proofs.«01_k».proof.Proof.Gen.Reference8Ideal.Run
public import proofs.«01_k».proof.Proof.Gen.Reference9Ideal.Run
public import proofs.«01_k».proof.Proof.Gen.Reference10Ideal.Run
public import proofs.«01_k».proof.Proof.Gen.Reference11Ideal.Run
public import proofs.«01_k».proof.Proof.Gen.Pre_finite_rows
public import Idealize.ShloMosaic.Lib.Claim

@[expose] public section

set_option maxRecDepth 16384

noncomputable section

open Idealize.ShloMosaic Idealize.ShloMosaic.TcCoe Idealize.SL.Sem

namespace Cert.Proof.Frames

theorem reference : Cert.quiescent_ReferenceIdeal := fun m ρ _ =>
  (θ_run _ _ _).mono (fun r h => ⟨fun c => (h c).2, sem_eq_zero_of_no_sems (by decide) r.2⟩) (Cert.ReferenceIdeal.Value.run (F := Ideal) m ρ)

theorem reference2 : Cert.quiescent_Reference2Ideal := fun m ρ _ =>
  (θ_run _ _ _).mono (fun r h => ⟨fun c => (h c).2.2, sem_eq_zero_of_no_sems (by decide) r.2⟩) (Cert.Reference2Ideal.Value.run (F := Ideal) m ρ)

theorem reference3 : Cert.quiescent_Reference3Ideal := fun m ρ _ =>
  (θ_run _ _ _).mono (fun r h => ⟨fun c => (h c).2.2, sem_eq_zero_of_no_sems (by decide) r.2⟩) (Cert.Reference3Ideal.Value.run (F := Ideal) m ρ)

theorem reference4 : Cert.quiescent_Reference4Ideal := fun m ρ _ =>
  (θ_run _ _ _).mono (fun r h => ⟨fun c => (h c).2, sem_eq_zero_of_no_sems (by decide) r.2⟩) (Cert.Reference4Ideal.Value.run (F := Ideal) m ρ)

theorem reference5 : Cert.quiescent_Reference5Ideal := fun m ρ _ =>
  (θ_run _ _ _).mono (fun r h => ⟨fun c => (h c).2.2, sem_eq_zero_of_no_sems (by decide) r.2⟩) (Cert.Reference5Ideal.Value.run (F := Ideal) m ρ)

theorem reference6 : Cert.quiescent_Reference6Ideal := fun m ρ _ =>
  (θ_run _ _ _).mono (fun r h => ⟨fun c => (h c).2, sem_eq_zero_of_no_sems (by decide) r.2⟩) (Cert.Reference6Ideal.Value.run (F := Ideal) m ρ)

theorem reference7 : Cert.quiescent_Reference7Ideal := fun m ρ _ =>
  (θ_run _ _ _).mono (fun r h => ⟨fun c => (h c).2, sem_eq_zero_of_no_sems (by decide) r.2⟩) (Cert.Reference7Ideal.Value.run (F := Ideal) m ρ)

theorem reference8 : Cert.quiescent_Reference8Ideal := fun m ρ _ =>
  (θ_run _ _ _).mono (fun r h => ⟨fun c => (h c).2.2, sem_eq_zero_of_no_sems (by decide) r.2⟩) (Cert.Reference8Ideal.Value.run (F := Ideal) m ρ)

theorem reference8_pre : Cert.quiescent_Reference8Ideal_pre_finite_rows := fun m ρ _ =>
  (θ_run _ _ _).mono (fun r h => ⟨fun c => (h c).2.2, sem_eq_zero_of_no_sems (by decide) r.2⟩) (Cert.Reference8Ideal.Value.run (F := Ideal) m ρ)

theorem reference9 : Cert.quiescent_Reference9Ideal := fun m ρ _ =>
  (θ_run _ _ _).mono (fun r h => ⟨fun c => (h c).2, sem_eq_zero_of_no_sems (by decide) r.2⟩) (Cert.Reference9Ideal.Value.run (F := Ideal) m ρ)

theorem reference10 : Cert.quiescent_Reference10Ideal := fun m ρ _ =>
  (θ_run _ _ _).mono (fun r h => ⟨fun c => (h c).2.2.2.2, sem_eq_zero_of_no_sems (by decide) r.2⟩) (Cert.Reference10Ideal.Value.run (F := Ideal) m ρ)

theorem reference11 : Cert.quiescent_Reference11Ideal := fun m ρ _ =>
  (θ_run _ _ _).mono (fun r h => ⟨fun c => (h c).2.2.2.2.2, sem_eq_zero_of_no_sems (by decide) r.2⟩) (Cert.Reference11Ideal.Value.run (F := Ideal) m ρ)

end Cert.Proof.Frames

end
-- ==== Proof.LruRefRun.lean ====
/-
  The recurrence of the reference's RG-LRU block, whose rows a host loop computes one after another: the run's result
  told by the states that loop goes through.
-/
module

public import proofs.«01_k».proof.Proof.Gen.ReferenceIdeal.Run
public import proofs.«01_k».proof.Proof.Gen.ReferenceIdeal.Step

@[expose] public section

set_option maxRecDepth 65536

noncomputable section

namespace Cert.Proof.LruRefRun

open Idealize.ShloMosaic Idealize.ShloMosaic.TcCoe Idealize.SL.Sem Idealize.ShloMosaic.StableHlo
open Cert.ReferenceIdeal Cert.ReferenceIdeal.Gen Cert.ReferenceIdeal.Value
open Cert.ReferenceIdeal.Step (State step init)

variable {F : FTy → Type} [FloatOps F]

/-- What the loop's buffers hold when its next trip is number `n`: the carried row, the rows written so far, the decays and
    the inputs of the recurrence, and the counter. -/
structure Holds (V : Valuation τ sig (Elt F)) (s : State F) (n : ℕ) : Prop where
  row : V (Proc.devRef .tc main_v84_3) = s.main_v84_3
  rows : V (Proc.devRef .tc main_v84_4) = s.main_v84_4
  decay : V (Proc.devRef .tc main_v84_0) = s.main_v84_0
  drive : V (Proc.devRef .tc main_v84_1) = s.main_v84_1
  trip : V (Proc.devRef .tc main_v84_2) = constantI S_ 32 (BitVec.ofNat 32 n)

variable {V : Valuation τ sig (Elt F)} {s : State F} {n : ℕ}

theorem row_eq (h : Holds V s n) : res_main_while0b_v94 V = Step.b9 n s := by
  unfold res_main_while0b_v94
  simp only [h.row, h.decay, h.drive, h.trip]
  rfl

theorem Holds.next (h : Holds V s n) : Holds (STEP V) (step n s) (n + 1) where
  row := (STEP_main_v84_3 V).trans (by unfold step_main_v84_3; exact row_eq h)
  rows := (STEP_main_v84_4 V).trans (by
    unfold step_main_v84_4
    simp only [row_eq h, h.rows, h.trip]
    rfl)
  decay := (STEP_main_v84_0 V).trans h.decay
  drive := (STEP_main_v84_1 V).trans h.drive
  trip := (STEP_main_v84_2 V).trans (by
    unfold step_main_v84_2
    rw [h.trip]
    funext i
    show BitVec.ofNat 32 n + 1#32 = BitVec.ofNat 32 (n + 1)
    simp only [BitVec.ofNat_add])

variable (m : (ℓ : Loc nD τ sig) → Buf (Elt F) ℓ) (c : Dev nD)

/-- An argument of the run. -/
abbrev arg (b : Ref sig .tc) := m ((c.tc : Thread nD τ).loc b)

/-- The states the loop goes through. -/
def states : ℕ → State F
  | 0 => init (arg m c main_arg0) (arg m c main_arg1) (arg m c main_arg2) (arg m c main_arg3) (arg m c main_arg4) (arg m c main_arg5) (arg m c main_arg6)
      (arg m c main_arg7)
  | n + 1 => step n (states n)

set_option maxHeartbeats 500000 in
theorem holds_entry : Holds (entryContents preI m c) (states m c 0) 0 := by
  constructor <;> (simp only [entryContents, afterL_cons, afterL_nil]; after_reads_simp) <;> rfl

theorem holds (k : ℕ) : Holds (STEP^[k] (entryContents preI m c)) (states m c k) k := by
  induction k with
  | zero => exact holds_entry m c
  | succ k ih => rw [Function.iterate_succ_apply']; exact ih.next

theorem result_eq : out_main_v90 (STEP^[4096] (entryContents preI m c))
    = Step.R_main_v90 (states m c 4096) (arg m c main_arg0) := by
  unfold out_main_v90 Step.R_main_v90
  rw [(holds m c 4096).rows, iter_main_arg0 m c 4096]
  try rfl

end Cert.Proof.LruRefRun

end
-- ==== Proof.LruMath.lean ====
/-
  The arithmetic of the RG-LRU block on the extended reals: the decay of a step lies between 0 and 1, so the steps of the
  recurrence compose as maps of the row before; a block of eight rows reached by three doublings is eight steps.
-/
module

public import Idealize.ShloMosaic.PureOps.Ideal
public import Idealize.ShloMosaic.PureOps.Ideal.Laws
public import Idealize.ShloMosaic.Lib.IdealHost
public import Mathlib.Analysis.SpecialFunctions.Trigonometric.DerivHyp
public import Mathlib.Analysis.SpecialFunctions.Log.Basic

@[expose] public section

noncomputable section

open Idealize.ShloMosaic

namespace Cert.Proof.LruMath

/-! ## The gate -/

/-- The logistic function, as a quotient. -/
def sigm (x : EReal) : EReal := Ideal.div 1 (1 + Ideal.exp (-x))

/-- The softplus function, in its form that does not overflow. -/
def soft (x : EReal) : EReal := max x 0 + Ideal.log (1 + Ideal.exp (-(max x (-x))))

/-- The literal -8 of the decay's exponent. -/
def c8 : EReal := Ideal.ofBits .f32 0xC1000000#32

/-- The exponent of the decay. -/
def logA (g lam : EReal) : EReal := c8 * sigm g * soft (-lam)

/-- The decay of a step, of its gate's argument and of the layer's parameter. -/
def decay (g lam : EReal) : EReal := Ideal.exp (logA g lam)

/-- What a step adds to the decayed row. -/
def drive (g i lam x : EReal) : EReal := Ideal.sqrt (-(Ideal.exp (2 * logA g lam) - 1)) * sigm i * x

theorem exp_nonneg (x : EReal) : 0 ≤ Ideal.exp x := by
  induction x with
  | bot => simp
  | top => simp
  | coe r => rw [Ideal.exp_coe]; exact_mod_cast (Real.exp_pos r).le

theorem sigm_nonneg (x : EReal) : 0 ≤ sigm x := by
  have h : (0 : EReal) < 1 + Ideal.exp (-x) := lt_of_lt_of_le zero_lt_one (le_add_of_nonneg_right (exp_nonneg _))
  unfold sigm Ideal.div
  rw [if_neg h.ne', one_mul]
  exact EReal.inv_nonneg_of_nonneg h.le

theorem log_nonneg {y : EReal} (h : 0 ≤ y) : 0 ≤ Ideal.log (1 + y) := by
  induction y with
  | bot => exact absurd h (by simp)
  | top => rw [EReal.add_top_of_ne_bot (show (1 : EReal) ≠ ⊥ from EReal.coe_ne_bot 1)]; simp
  | coe r =>
    have hr : 0 ≤ r := by exact_mod_cast h
    rw [← EReal.coe_one, ← EReal.coe_add, Ideal.log_coe, if_neg (by linarith)]
    exact_mod_cast Real.log_nonneg (by linarith)

theorem soft_nonneg (x : EReal) : 0 ≤ soft x :=
  add_nonneg (le_max_right _ _) (log_nonneg (exp_nonneg _))

theorem c8_eq : c8 = ((-8 : ℝ) : EReal) := by
  have e : (3238002688 : ℕ) >>> 23 % 256 = 130 := by decide
  have s : BitVec.extractLsb' 31 1 3238002688#32 = 1#1 := by decide
  unfold c8
  norm_num [Ideal.ofBits, Ideal.ieee, e, s]
  try norm_cast

theorem two_eq : Ideal.ofBits .f32 0x40000000#32 = 2 := by
  have : (2 : EReal) = ((2 : ℝ) : EReal) := rfl
  have e : (1073741824 : ℕ) >>> 23 % 256 = 128 := by decide
  have s : ¬ BitVec.extractLsb' 31 1 1073741824#32 = 1#1 := by decide
  rw [this]
  norm_num [Ideal.ofBits, Ideal.ieee, e, s]
  try norm_cast

theorem logA_nonpos (g lam : EReal) : logA g lam ≤ 0 := by
  unfold logA
  rw [mul_assoc, c8_eq]
  have h := mul_nonneg (sigm_nonneg g) (soft_nonneg (-lam))
  exact EReal.mul_nonpos_iff.mpr (Or.inr ⟨by exact_mod_cast (by norm_num : (-8 : ℝ) ≤ 0), h⟩)

/-- The two forms of a step's gain: by the hyperbolic tangent of the exponent, and by the exponential of its double. -/
theorem gain_eq {y : EReal} (h : y ≤ 0) :
    -Ideal.tanh y * (Ideal.exp y * Ideal.exp y + 1) = -(Ideal.exp (2 * y) - 1) := by
  induction y with
  | top => exact absurd h (by simp)
  | bot =>
    have : (2 : EReal) * ⊥ = ⊥ := EReal.mul_bot_of_pos (by norm_num)
    rw [this]
    simp
  | coe r =>
    have h2 : (2 : EReal) * (r : EReal) = ((2 * r : ℝ) : EReal) := by rw [EReal.coe_mul]; rfl
    rw [h2, Ideal.tanh_coe, Ideal.exp_coe, Ideal.exp_coe, ← EReal.coe_one]
    norm_cast
    rw [Real.tanh_eq_sinh_div_cosh, Real.sinh_eq, Real.cosh_eq, two_mul, Real.exp_add, Real.exp_neg]
    have := Real.exp_pos r
    field_simp

/-! ## Steps of the recurrence -/

/-- A factor that distributes over sums. -/
structure Good (a : EReal) : Prop where
  nonneg : 0 ≤ a
  ne_top : a ≠ ⊤

theorem Good.one : Good 1 := ⟨zero_le_one, EReal.coe_ne_top 1⟩

theorem Good.mul {a b : EReal} (ha : Good a) (hb : Good b) : Good (a * b) := by
  refine ⟨mul_nonneg ha.1 hb.1, ?_⟩
  induction a with
  | bot => exact absurd ha.1 (by simp)
  | top => exact absurd rfl ha.2
  | coe a =>
    induction b with
    | bot => exact absurd hb.1 (by simp)
    | top => exact absurd rfl hb.2
    | coe b => rw [← EReal.coe_mul]; exact EReal.coe_ne_top _

theorem Good.decay (g lam : EReal) : Good (decay g lam) := by
  refine ⟨exp_nonneg _, ?_⟩
  have h := logA_nonpos g lam
  unfold LruMath.decay
  generalize logA g lam = y at h
  induction y with
  | top => exact absurd h (by simp)
  | bot => simp
  | coe r => rw [Ideal.exp_coe]; exact EReal.coe_ne_top _

/-- The rows of a recurrence: each is the decayed row before it and that step's input. -/
def seq (a b : ℕ → EReal) : ℕ → EReal
  | 0 => 0
  | n + 1 => a n * seq a b n + b n

/-- The pair of rows `a`, `b` takes the rows of the recurrence `d` steps at a time (no further back than row `n`). -/
structure Span (S : ℕ → EReal) (n d : ℕ) (a b : Fin 8 → EReal) : Prop where
  good : ∀ r, Good (a r)
  step : ∀ r, b r + a r * S (n + (r.val + 1 - d)) = S (n + (r.val + 1))

/-- A row of the pair combined with the row `d` before it, if there is one. -/
def back (d : ℕ) (x : Fin 8 → EReal) (o : EReal) (r : Fin 8) : EReal :=
  if d ≤ r.val then x ⟨r.val - d, lt_of_le_of_lt (Nat.sub_le _ _) r.isLt⟩ else o

theorem Span.double {S : ℕ → EReal} {n d : ℕ} {a b : Fin 8 → EReal} (h : Span S n d a b) :
    Span S n (d + d) (fun r => a r * back d a 1 r) (fun r => b r + a r * back d b 0 r) := by
  refine ⟨fun r => ?_, fun r => ?_⟩
  · unfold back
    split
    · exact (h.good r).mul (h.good _)
    · exact (h.good r).mul .one
  · unfold back
    by_cases hd : d ≤ r.val
    · rw [if_pos hd, if_pos hd, add_assoc, mul_assoc, ← EReal.left_distrib_of_nonneg_of_ne_top (h.good r).1 (h.good r).2]
      have := h.step ⟨r.val - d, lt_of_le_of_lt (Nat.sub_le _ _) r.isLt⟩
      have e1 : n + (r.val + 1 - (d + d)) = n + (r.val - d + 1 - d) := by omega
      have e2 : n + (r.val - d + 1) = n + (r.val + 1 - d) := by omega
      rw [e1, this, e2]
      exact h.step r
    · rw [if_neg hd, if_neg hd, mul_zero, add_zero, mul_one, ← h.step r]
      have e1 : n + (r.val + 1 - (d + d)) = n + (r.val + 1 - d) := by omega
      rw [e1]

theorem Span.one {S a b : ℕ → EReal} (n : ℕ) (hg : ∀ k, Good (a k)) (hS : ∀ k, S (k + 1) = a k * S k + b k) :
    Span S n 1 (fun r => a (n + r.val)) (fun r => b (n + r.val)) :=
  ⟨fun r => hg _, fun r => by
    show b (n + r.val) + a (n + r.val) * S (n + (r.val + 1 - 1)) = _
    rw [Nat.add_sub_cancel, ← Nat.add_assoc, hS, add_comm]⟩

theorem Span.eight {S : ℕ → EReal} {n : ℕ} {a b : Fin 8 → EReal} (h : Span S n 8 a b) (r : Fin 8) :
    b r + a r * S n = S (n + (r.val + 1)) := by
  have := h.step r
  rwa [show r.val + 1 - 8 = 0 by omega, Nat.add_zero] at this

end Cert.Proof.LruMath

end
-- ==== Proof.Shared.lean ====
/-
  What the calls' value proofs share: the zero offsets, the root-mean-square scaling of one row, the logistic gate.
-/
module

public import Idealize.ShloMosaic.Lib.Pipeline.Value
public import Idealize.ShloMosaic.Lib.StableHlo.ReadAt
public import Idealize.ShloMosaic.Lib.Pointwise

@[expose] public section

set_option maxRecDepth 16384

noncomputable section

open Idealize.ShloMosaic

namespace Cert.Proof.Shared

theorem hz : (![0, 0] : Fin 2 → Nat) = fun _ => 0 := funext fun a => by fin_cases a <;> rfl
theorem hz3 : (![0, 0, 0] : Fin 3 → Nat) = fun _ => 0 := funext fun a => by fin_cases a <;> rfl

/-- An index of three coordinates is the one they name. -/
theorem named3 {p n k : Nat} (i : Shape.Idx ⟨3, ![p, n, k]⟩) (z : Fin p) (a : Fin n) (b : Fin k) (hz : (i 0).val = z.val) (h0 : (i 1).val = a.val)
    (h1 : (i 2).val = b.val) : i = ix3 z a b :=
  funext fun x => Fin.ext (match x with | ⟨0, _⟩ => hz | ⟨1, _⟩ => h0 | ⟨2, _⟩ => h1)

/-- A coordinate of the block that starts at zero. -/
theorem at_zero {i n : Nat} (l : Nat) (h : i = 0) : i * n + 1 * l = l := by rw [h]; omega

/-- One row scaled by the reciprocal root of its mean square (plus the printed epsilon) and by the weights `g`. -/
def rms (f g : Fin 2048 → EReal) (l : Fin 2048) : EReal :=
  f l * Ideal.rsqrt (Ideal.div (∑ k, f k * f k) (Ideal.ofBits FTy.f32 1157627904#32) + Ideal.ofBits FTy.f32 897988541#32) * g l

end Cert.Proof.Shared

end
-- ==== Proof.LruRef.lean ====
/-
  The reference's RG-LRU block read element by element: the convolution over time, the two gates of each block of lanes,
  the decay and the input of each step, the recurrence its loop runs, and the product that is its result.
-/
module

public import proofs.«01_k».proof.Proof.LruRefRun
public import proofs.«01_k».proof.Proof.LruMath
public import proofs.«01_k».proof.Proof.Shared
public import Idealize.ShloMosaic.Lib.DynamicIndex
public import Idealize.ShloMosaic.Lib.Pipeline.Value
public import Idealize.ShloMosaic.Lib.Pipeline.ValueKit.Tiles

@[expose] public section

set_option maxRecDepth 16384

noncomputable section

open Idealize.ShloMosaic Idealize.ShloMosaic.TcCoe Idealize.SL.Sem Idealize.ShloMosaic.Tactic

namespace Cert.Proof.LruRef

open Cert.ReferenceIdeal Cert.ReferenceIdeal.Gen Cert.ReferenceIdeal.Step Cert.Proof.LruMath

/-! ## The block's mathematics, of its eight arguments -/

/-- The padded input: three zero rows before each batch entry's rows. -/
def xp (A0 : S8192x4096.Idx → EReal) (b : Fin 2) (u : ℕ) (l : Fin 2048) : EReal :=
  if h : 3 ≤ u ∧ u < 4099 then A0 (ix2 ⟨4096 * b.val + (u - 3), by omega⟩ ⟨2048 + l.val, by omega⟩) else 0

/-- The convolution of the four rows up to row `t`. -/
def conv (A0 : S8192x4096.Idx → EReal) (A1 : S4x2048.Idx → EReal) (A2 : S2048.Idx → EReal) (b : Fin 2) (t : ℕ) (l : Fin 2048) : EReal :=
  xp A0 b t l * A1 (ix2 0 l) + xp A0 b (t + 1) l * A1 (ix2 1 l) + xp A0 b (t + 2) l * A1 (ix2 2 l)
    + xp A0 b (t + 3) l * A1 (ix2 3 l) + A2 (ix1 l)

/-- The block of a lane and its place in the block. -/
def blk (l : Fin 2048) : Fin 8 := ⟨l.val / 256, by omega⟩
def plc (l : Fin 2048) : Fin 256 := ⟨l.val % 256, by omega⟩
def lane (n : Fin 8) (k : Fin 256) : Fin 2048 := ⟨n.val * 256 + k.val, by omega⟩

/-- A gate's argument: the block of the convolved row, by the block's matrix, and the bias. -/
def gate (x : Fin 2048 → EReal) (W : S2x8x256x256.Idx → EReal) (B : S2048.Idx → EReal) (l : Fin 2048) : EReal :=
  (∑ k : Fin 256, W (ix4 0 (blk l) k (plc l)) * x (lane (blk l) k)) + B (ix1 l)

variable (A0 : (⟨S8192x4096, .bf16⟩ : BufTy).Contents (Elt Ideal)) (A1 : (⟨S4x2048, .f32⟩ : BufTy).Contents (Elt Ideal))
  (A2 : (⟨S2048, .f32⟩ : BufTy).Contents (Elt Ideal)) (A3 : (⟨S2x8x256x256, .f32⟩ : BufTy).Contents (Elt Ideal))
  (A4 : (⟨S2048, .f32⟩ : BufTy).Contents (Elt Ideal)) (A5 : (⟨S2x8x256x256, .f32⟩ : BufTy).Contents (Elt Ideal))
  (A6 : (⟨S2048, .f32⟩ : BufTy).Contents (Elt Ideal)) (A7 : (⟨S2048, .f32⟩ : BufTy).Contents (Elt Ideal))

theorem v2_apply (b : Fin 2) (t : Fin 4096) (l : Fin 2048) :
    A_main_v2 A0 A1 A2 A3 A4 A5 A6 A7 (ix3 b t l) = A0 (ix2 ⟨4096 * b.val + t.val, by omega⟩ ⟨2048 + l.val, by omega⟩) := by
  pointwise [A_main_v2, A_main_v1, A_main_v0]
  exact congrArg A0 (congrArg₂ ix2 (Fin.ext (by show b.val * 4096 + t.val = 4096 * b.val + t.val; omega)) rfl)

theorem v3_apply (b : Fin 2) (u : Fin 4099) (l : Fin 2048) :
    A_main_v3 A0 A1 A2 A3 A4 A5 A6 A7 (ix3 b u l) = xp A0 b u.val l := by
  pointwise [A_main_v3, K_main_call0_v0, K_main_c]
  unfold xp
  by_cases h : 3 ≤ u.val
  · have h4 : u.val - 3 < 4096 := by omega
    rw [dif_pos ⟨h, h4⟩, dif_pos ⟨h, u.isLt⟩]
    exact v2_apply A0 A1 A2 A3 A4 A5 A6 A7 b ⟨u.val - 3, h4⟩ l
  · rw [dif_neg (fun hh => h hh.1), dif_neg (fun hh => h hh.1)]
    exact (congrArg (fun z : ℝ => (z : EReal)) (by simp) : ((((0#32 : BitVec 32).toInt : ℝ)) : EReal) = ((0 : ℝ) : EReal))

theorem v35_apply (b : Fin 2) (t : Fin 4096) (l : Fin 2048) :
    A_main_v35 A0 A1 A2 A3 A4 A5 A6 A7 (ix3 b t l) = conv A0 A1 A2 b t.val l := by
  unfold conv
  pointwise [A_main_v35, A_main_v34, A_main_v33, A_main_v32, A_main_v31, A_main_v30, A_main_v29, A_main_v28, A_main_v27, A_main_v26, A_main_v25, A_main_v24, A_main_v23, A_main_v22, A_main_v21, A_main_v20, A_main_v19, A_main_v18, A_main_v17, A_main_v16, A_main_v15, A_main_v14, A_main_v13, A_main_v12, A_main_v11, A_main_v9, A_main_v8, A_main_v7, A_main_v6, A_main_v5, A_main_v4, K_main_v10, K_main_cst, v3_apply]
  simp only [Nat.add_comm]

theorem v44_apply (b : Fin 2) (t : Fin 4096) (l : Fin 2048) :
    A_main_v44 A0 A1 A2 A3 A4 A5 A6 A7 (ix3 b t l) = gate (fun l => conv A0 A1 A2 b t.val l) A3 A4 l := by
  unfold gate
  pointwise [A_main_v44, A_main_v43, A_main_v42, A_main_v41, A_main_v40, A_main_v39, A_main_v38, A_main_v37, A_main_v36, v35_apply]
  rfl

theorem v52_apply (b : Fin 2) (t : Fin 4096) (l : Fin 2048) :
    A_main_v52 A0 A1 A2 A3 A4 A5 A6 A7 (ix3 b t l) = gate (fun l => conv A0 A1 A2 b t.val l) A5 A6 l := by
  unfold gate
  pointwise [A_main_v52, A_main_v51, A_main_v50, A_main_v49, A_main_v48, A_main_v47, A_main_v46, A_main_v45, A_main_v36, v35_apply]
  rfl

theorem v62_apply (l : Fin 2048) :
    A_main_v62 A0 A1 A2 A3 A4 A5 A6 A7 (ix1 l) = soft (-(A7 (ix1 l))) := by
  unfold soft
  pointwise [A_main_v62, A_main_v61, A_main_call1_v1, A_main_call1_v3, A_main_call1_v4, A_main_call1_v6, A_main_call1_v7, A_main_call1_v8, A_main_call1_v9, A_main_call1_v10, A_main_call1_v11, K_main_call1_v0, K_main_call1_v2, K_main_call1_v5, K_main_call1_cst]
  rw [if_neg (fun h => h rfl)]
  rfl

theorem v66_apply (b : Fin 2) (t : Fin 4096) (l : Fin 2048) :
    A_main_v66 A0 A1 A2 A3 A4 A5 A6 A7 (ix3 b t l)
      = decay (gate (fun l => conv A0 A1 A2 b t.val l) A3 A4 l) (A7 (ix1 l)) := by
  unfold decay logA sigm c8
  pointwise [A_main_v66, A_main_v65, A_main_v64, A_main_v63, A_main_v60, A_main_v58, A_main_v56, A_main_v54, A_main_v53, K_main_v55, K_main_v57, K_main_v59, K_main_cst_0, K_main_cst_1, K_main_cst_2, v62_apply, v44_apply]

theorem v79_apply (b : Fin 2) (t : Fin 4096) (l : Fin 2048) :
    A_main_v79 A0 A1 A2 A3 A4 A5 A6 A7 (ix3 b t l)
      = drive (gate (fun l => conv A0 A1 A2 b t.val l) A3 A4 l) (gate (fun l => conv A0 A1 A2 b t.val l) A5 A6 l) (A7 (ix1 l)) (conv A0 A1 A2 b t.val l) := by
  unfold drive logA sigm c8
  pointwise [A_main_v79, A_main_v78, A_main_v77, A_main_v75, A_main_v73, A_main_v72, A_main_v71, A_main_v70, A_main_v69, A_main_v68, A_main_v65, A_main_v64, A_main_v63, A_main_v60, A_main_v58, A_main_v56, A_main_v54, A_main_v53, K_main_v55, K_main_v57, K_main_v59, K_main_v67, K_main_v74, K_main_v76, K_main_cst_0, K_main_cst_1, K_main_cst_2, K_main_cst_3, K_main_cst_4, K_main_cst_5, v62_apply, v44_apply, v52_apply, v35_apply]
  rw [two_eq]

/-! ## The recurrence -/

/-- The decays and the inputs of a lane's recurrence. -/
def decays (b : Fin 2) (l : Fin 2048) (t : ℕ) : EReal :=
  decay (gate (fun l => conv A0 A1 A2 b t l) A3 A4 l) (A7 (ix1 l))
def drives (b : Fin 2) (l : Fin 2048) (t : ℕ) : EReal :=
  drive (gate (fun l => conv A0 A1 A2 b t l) A3 A4 l) (gate (fun l => conv A0 A1 A2 b t l) A5 A6 l) (A7 (ix1 l)) (conv A0 A1 A2 b t l)

/-- A lane's rows. -/
def rows (b : Fin 2) (l : Fin 2048) : ℕ → EReal :=
  seq (decays A0 A1 A2 A3 A4 A7 b l) (drives A0 A1 A2 A3 A4 A5 A6 A7 b l)

theorem slices_row {n : ℕ} (hn : n < 4096) : S4096x2x2048.Slices ![n, 0, 0] S1x2x2048 :=
  ⟨rfl, fun a => by fin_cases a <;> simp <;> omega⟩

theorem start_row {n : ℕ} (hn : n < 4096) (a : Fin 3) :
    (((![(constantI S_ 32 (BitVec.ofNat 32 n) : (⟨S_, .i32⟩ : BufTy).Contents (Elt Ideal)), constantI S_ 32 0#32, constantI S_ 32 0#32]
      : Fin 3 → (⟨S_, .i32⟩ : BufTy).Contents (Elt Ideal))) a (Shape.Idx.first h_S_)).toInt = ((![n, 0, 0] : Fin 3 → ℕ) a : ℤ) := by
  fin_cases a
  · exact toInt_ofNat_of_lt (by omega)
  · rfl
  · rfl

theorem b3_apply {n : ℕ} (hn : n < 4096) (s : State Ideal) (b : Fin 2) (l : Fin 2048) :
    b3 n s (ix2 b l) = s.main_v84_0 (ix3 ⟨n, hn⟩ b l) := by
  unfold b3 b2 b1 b0
  rw [Host.dynamicSlice_eq_extractStridedSlice S1x2x2048 s.main_v84_0 _ ![n, 0, 0] _ (slices_row hn) (start_row hn)]
  pointwise

theorem b7_apply {n : ℕ} (hn : n < 4096) (s : State Ideal) (b : Fin 2) (l : Fin 2048) :
    b7 n s (ix2 b l) = s.main_v84_1 (ix3 ⟨n, hn⟩ b l) := by
  unfold b7 b6 b5 b4
  rw [Host.dynamicSlice_eq_extractStridedSlice S1x2x2048 s.main_v84_1 _ ![n, 0, 0] _ (slices_row hn) (start_row hn)]
  pointwise

theorem b9_apply {n : ℕ} (hn : n < 4096) (s : State Ideal) (b : Fin 2) (l : Fin 2048) :
    b9 n s (ix2 b l) = @HAdd.hAdd EReal EReal EReal _ (@HMul.hMul EReal EReal EReal _ (s.main_v84_0 (ix3 ⟨n, hn⟩ b l)) (s.main_v84_3 (ix2 b l)))
      (s.main_v84_1 (ix3 ⟨n, hn⟩ b l)) := by
  rw [← b3_apply hn s b l, ← b7_apply hn s b l]
  rfl

theorem b13_apply {n : ℕ} (hn : n < 4096) (s : State Ideal) (t : Fin 4096) (b : Fin 2) (l : Fin 2048) :
    b13 n s (ix3 t b l) = if t.val = n then b9 n s (ix2 b l) else s.main_v84_4 (ix3 t b l) := by
  unfold b13
  rw [Host.dynamicUpdateSlice_eq_updateSlice s.main_v84_4 _ _ _ ![n, 0, 0] (fun a => by
    rw [show ((((![(constantI S_ 32 (BitVec.ofNat 32 n) : (⟨S_, .i32⟩ : BufTy).Contents (Elt Ideal)), b11 n s, b12 n s]
      : Fin 3 → (⟨S_, .i32⟩ : BufTy).Contents (Elt Ideal))) a (Shape.Idx.first h_S_)).toInt) = _ from start_row hn a]
    fin_cases a <;> simp <;> omega) (slices_row hn)]
  pointwise [b10]
  by_cases h : t.val = n
  · rw [dif_pos (by omega), if_pos h]
  · rw [dif_neg (by omega), if_neg h]

variable (m : (ℓ : Loc nD τ sig) → Buf (Elt Ideal) ℓ) (c : Dev nD)

/-- A lane's rows, of the run's arguments. -/
abbrev rowsOf : Fin 2 → Fin 2048 → ℕ → EReal :=
  rows (LruRefRun.arg m c main_arg0) (LruRefRun.arg m c main_arg1) (LruRefRun.arg m c main_arg2) (LruRefRun.arg m c main_arg3)
    (LruRefRun.arg m c main_arg4) (LruRefRun.arg m c main_arg5) (LruRefRun.arg m c main_arg6) (LruRefRun.arg m c main_arg7)

/-- The states of the loop hold the rows of the lanes' recurrences. -/
theorem states_rows (n : ℕ) (hn : n ≤ 4096) :
    (LruRefRun.states m c n).main_v84_0 = (LruRefRun.states m c 0).main_v84_0
    ∧ (LruRefRun.states m c n).main_v84_1 = (LruRefRun.states m c 0).main_v84_1
    ∧ (∀ b l, (LruRefRun.states m c n).main_v84_3 (ix2 b l) = rowsOf m c b l n)
    ∧ ∀ t b l, t.val < n → (LruRefRun.states m c n).main_v84_4 (ix3 t b l) = rowsOf m c b l (t.val + 1) := by
  induction n with
  | zero =>
    refine ⟨rfl, rfl, fun b l => ?_, fun t b l h => absurd h (Nat.not_lt_zero _)⟩
    show K_main_v80 (F := Ideal) (ix2 b l) = 0
    pointwise [K_main_v80, K_main_cst_6]
  | succ n ih =>
    obtain ⟨h0, h1, h3, h4⟩ := ih (Nat.le_of_succ_le hn)
    have hr : ∀ b l, b9 n (LruRefRun.states m c n) (ix2 b l) = rowsOf m c b l (n + 1) := fun b l => by
      rw [b9_apply hn, h3, h0, h1]
      refine congrArg₂ _ (congrArg₂ _ ?_ rfl) ?_
      · show A_main_v81 _ _ _ _ _ _ _ _ (ix3 ⟨n, hn⟩ b l) = _
        pointwise [A_main_v81]
        exact v66_apply _ _ _ _ _ _ _ _ b ⟨n, hn⟩ l
      · show A_main_v82 _ _ _ _ _ _ _ _ (ix3 ⟨n, hn⟩ b l) = _
        pointwise [A_main_v82]
        exact v79_apply _ _ _ _ _ _ _ _ b ⟨n, hn⟩ l
    refine ⟨h0, h1, hr, fun t b l h => ?_⟩
    show b13 n (LruRefRun.states m c n) (ix3 t b l) = _
    rw [b13_apply hn]
    by_cases ht : t.val = n
    · rw [if_pos ht, hr, ht]
    · rw [if_neg ht, h4 t b l (by omega)]

/-- The reference's result, at an index: a lane's row by the gate branch. -/
theorem result_apply (b : Fin 2) (t : Fin 4096) (l : Fin 2048) :
    R_main_v90 (LruRefRun.states m c 4096) (LruRefRun.arg m c main_arg0) (ix2 ⟨4096 * b.val + t.val, by omega⟩ l)
      = @HMul.hMul EReal EReal EReal _ (rowsOf m c b l (t.val + 1)) (LruRefRun.arg m c main_arg0 (ix2 ⟨4096 * b.val + t.val, by omega⟩ ⟨l.val, by omega⟩)) := by
  rw [← (states_rows m c 4096 le_rfl).2.2.2 t b l t.isLt]
  pointwise [R_main_v90]

end Cert.Proof.LruRef

end
-- ==== Proof.LruScan.lean ====
/-
  Eight rows of the RG-LRU recurrence at once: three steps in which each row takes in the row one, two, four before it, and
  the row before the eight; lane by lane.
-/
module

public import proofs.«01_k».proof.Defs
public import proofs.«01_k».proof.Proof.Gen.KernelIdeal.Value
public import proofs.«01_k».proof.Proof.Shared
public import proofs.«01_k».proof.Proof.LruMath

@[expose] public section

set_option maxRecDepth 16384

noncomputable section

open Idealize.ShloMosaic Idealize.ShloMosaic.TcCoe Idealize.SL.Sem Idealize.ShloMosaic.Tactic

namespace Cert.Proof.LruScan

open Cert.KernelIdeal Cert.KernelIdeal.Gen Cert.Proof.LruMath

/-- The row numbers the steps' masks are made of. -/
abbrev rowNo : IVec S8x512 32 := iota Kind.tc S8x512 32 [0] iota_S8x512_d0_w32

/-- The rows `d` before, and `o` where there is none. -/
abbrev shift (d : ℕ) (x : FVec Ideal S8x512 .f32) (o : Ideal .f32) : FVec Ideal S8x512 .f32 :=
  select (cmpi .sge rowNo (broadcast S8x512 (BitVec.ofNat 32 d))) (dynamicRotate 0 (BitVec.ofNat 32 d) none x rotates_S8x512_d0)
    (broadcast S8x512 o)

theorem shift_apply (d : ℕ) (hd : d = 1 ∨ d = 2 ∨ d = 4) (x : FVec Ideal S8x512 .f32) (o : Ideal .f32) (r : Fin 8) (l : Fin 512) :
    shift d x o (ix2 r l) = back d (fun r => x (ix2 r l)) o r := by
  rcases hd with rfl | rfl | rfl <;> fin_cases r <;> (pointwise; try rfl)

/-- A pair of rows taking one row at a time takes eight after the three steps. -/
theorem steps {S : ℕ → EReal} {n : ℕ} (A B : FVec Ideal S8x512 .f32) (l : Fin 512)
    (h : Span S n 1 (fun r => A (ix2 r l)) (fun r => B (ix2 r l))) :
    Span S n 8 (fun r => k0_pay10 (F := Ideal) rowNo A (ix2 r l)) (fun r => k0_pay9 (F := Ideal) rowNo A B (ix2 r l)) := by
  have one : (Scalar.ofBits .f32 0x3F800000#32 : Ideal .f32) = (1 : EReal) := by pointwise
  have zero : (Scalar.ofBits .f32 0x00000000#32 : Ideal .f32) = (0 : EReal) := by pointwise
  have e1 : ∀ r, k0_pay5 (F := Ideal) rowNo A (ix2 r l) = A (ix2 r l) * back 1 (fun r => A (ix2 r l)) 1 r := fun r => by
    rw [← one, ← shift_apply 1 (Or.inl rfl)]; rfl
  have e2 : ∀ r, k0_pay7 (F := Ideal) rowNo A (ix2 r l) = k0_pay5 (F := Ideal) rowNo A (ix2 r l) * back 2 (fun r => k0_pay5 (F := Ideal) rowNo A (ix2 r l)) 1 r := fun r => by
    rw [← one, ← shift_apply 2 (Or.inr (Or.inl rfl))]; rfl
  have e4 : ∀ r, k0_pay10 (F := Ideal) rowNo A (ix2 r l) = k0_pay7 (F := Ideal) rowNo A (ix2 r l) * back 4 (fun r => k0_pay7 (F := Ideal) rowNo A (ix2 r l)) 1 r := fun r => by
    rw [← one, ← shift_apply 4 (Or.inr (Or.inr rfl))]; rfl
  let B1 : FVec Ideal S8x512 .f32 := addf B (mulf A (shift 1 B (Scalar.ofBits .f32 0x00000000#32)))
  let B2 : FVec Ideal S8x512 .f32 := addf B1 (mulf (k0_pay5 (F := Ideal) rowNo A) (shift 2 B1 (Scalar.ofBits .f32 0x00000000#32)))
  have f1 : ∀ r, B1 (ix2 r l) = B (ix2 r l) + A (ix2 r l) * back 1 (fun r => B (ix2 r l)) 0 r := fun r => by
    rw [← zero, ← shift_apply 1 (Or.inl rfl)]; rfl
  have f2 : ∀ r, B2 (ix2 r l) = B1 (ix2 r l) + k0_pay5 (F := Ideal) rowNo A (ix2 r l) * back 2 (fun r => B1 (ix2 r l)) 0 r := fun r => by
    rw [← zero, ← shift_apply 2 (Or.inr (Or.inl rfl))]; rfl
  have f4 : ∀ r, k0_pay9 (F := Ideal) rowNo A B (ix2 r l) = B2 (ix2 r l) + k0_pay7 (F := Ideal) rowNo A (ix2 r l) * back 4 (fun r => B2 (ix2 r l)) 0 r := fun r => by
    rw [← zero, ← shift_apply 4 (Or.inr (Or.inr rfl))]; rfl
  have h2 : Span S n 2 (fun r => k0_pay5 (F := Ideal) rowNo A (ix2 r l)) (fun r => B1 (ix2 r l)) := by
    rw [funext e1, funext f1]; exact h.double
  have h4 : Span S n 4 (fun r => k0_pay7 (F := Ideal) rowNo A (ix2 r l)) (fun r => B2 (ix2 r l)) := by
    rw [funext e2, funext f2]; exact h2.double
  rw [funext e4, funext f4]; exact h4.double

/-- The eight rows of a lane: the recurrence's, from the row before them. -/
theorem pay12_apply {S : ℕ → EReal} {n : ℕ} (A B H : FVec Ideal S8x512 .f32) (l : Fin 512)
    (h : Span S n 1 (fun r => A (ix2 r l)) (fun r => B (ix2 r l))) (hH : ∀ r, H (ix2 r l) = S n) (r : Fin 8) :
    k0_pay12 (F := Ideal) (k0_pay9 (F := Ideal) rowNo A B) (k0_pay10 (F := Ideal) rowNo A) H (ix2 r l) = S (n + (r.val + 1)) := by
  rw [← (steps A B l h).eight r, ← hH r]
  pointwise [k0_pay12, k0_pay11]

/-- The last of the eight rows, in every row. -/
theorem pay13_apply {S : ℕ → EReal} {n : ℕ} (A B H : FVec Ideal S8x512 .f32) (l : Fin 512)
    (h : Span S n 1 (fun r => A (ix2 r l)) (fun r => B (ix2 r l))) (hH : ∀ r, H (ix2 r l) = S n) (r : Fin 8) :
    k0_pay13 (F := Ideal) (k0_pay9 (F := Ideal) rowNo A B) (k0_pay10 (F := Ideal) rowNo A) H (ix2 r l) = S (n + 8) := by
  have := (steps A B l h).eight 7
  rw [← hH 7] at this
  refine Eq.trans ?_ this
  pointwise [k0_pay13, k0_pay11]

end Cert.Proof.LruScan

end
-- ==== Proof.LruLoop.lean ====
/-
  The loop over the RG-LRU kernel's 32 groups of eight rows: before each group the state's rows all hold the row before
  it, and the rows of the groups gone by hold the recurrence's.
-/
module

public import proofs.«01_k».proof.Proof.LruScan
public import Idealize.ShloMosaic.Lib.WritesUnit
public import Idealize.ShloMosaic.Lib.Pipeline.ValueKit.Tiles

@[expose] public section

set_option maxRecDepth 16384

noncomputable section

open Idealize.ShloMosaic Idealize.ShloMosaic.TcCoe Idealize.SL.Sem Idealize.ShloMosaic.Tactic

namespace Cert.Proof.LruLoop

open Cert.KernelIdeal Cert.KernelIdeal.Gen Cert.Proof.LruMath Cert.Proof.LruScan

theorem row_lt (k : Fin k0_t1_loop.trips) : k.val < 32 := Nat.lt_of_lt_of_le k.isLt k0_t1_abs.2.1

theorem first_row (k : Fin k0_t1_loop.trips) :
    (Scalar.indexCast (Scalar.muli (Scf.iv 0#32 1#32 k) 8#32) : Index).toNat = 8 * k.val := by
  have := row_lt k
  simp [Scf.iv, Scalar.muli, IntOp.muli, Scalar.indexCast, BitVec.toNat_mul, BitVec.toNat_ofNat]
  omega

theorem off1 (k : Fin k0_t1_loop.trips) : k0_off1 k = ![8 * k.val, 0] := by rw [← first_row k]; rfl
theorem off2 (k : Fin k0_t1_loop.trips) : k0_off2 k = ![8 * k.val, 512] := by rw [← first_row k]; rfl
theorem off3 (k : Fin k0_t1_loop.trips) : k0_off3 k = ![8 * k.val, 1024] := by rw [← first_row k]; rfl
theorem off4 (k : Fin k0_t1_loop.trips) : k0_off4 k = ![8 * k.val, 1536] := by rw [← first_row k]; rfl

/-- A load of eight rows and 512 lanes of a buffer, at an index. -/
theorem load_apply {R : ℕ} (m : Memref sig .tc .vmem ⟨2, ![R, 2048]⟩ .f32) (f : BufTy.Contents (Elt Ideal) m.view.ty)
    {off : Fin 2 → ℕ} (inb : ∀ a, off a + S8x512.size a ≤ (⟨2, ![R, 2048]⟩ : Shape).size a) (n o : ℕ) (h : off = ![n, o])
    (r : Fin 8) (l : Fin 512) (hn : n + r.val < R) (ho : o + l.val < 2048) :
    View.readAt (Elt Ideal) m.view (Rect.unit (s := ⟨2, ![R, 2048]⟩) off S8x512.size inb).toLoadRect f (ix2 r l)
      = m.view.read (Elt Ideal) f (ix2 ⟨n + r.val, hn⟩ ⟨o + l.val, ho⟩) := by
  subst h
  rw [View.readAt_eq_ld]
  refine View.ld_unit_apply_of _ _ _ _ _ _ fun a => ?_
  fin_cases a <;> rfl

/-- A buffer after the store of eight rows and 512 lanes, at an index under the store. -/
theorem store_hit {R : ℕ} (m : Memref sig .tc .vmem ⟨2, ![R, 2048]⟩ .f32) (f : BufTy.Contents (Elt Ideal) m.view.ty)
    {off : Fin 2 → ℕ} (inb : ∀ a, off a + S8x512.size a ≤ (⟨2, ![R, 2048]⟩ : Shape).size a) (n o : ℕ) (h : off = ![n, o])
    (w : FVec Ideal S8x512 .f32) (L : List (View.Piece (Elt Ideal) ⟨2, ![R, 2048]⟩ .f32)) (r : Fin R) (l : Fin 2048)
    (q : Fin 8) (p : Fin 512) (hn : r.val = n + q.val) (ho : l.val = o + p.val) :
    m.view.read (Elt Ideal) (m.view.writes (Elt Ideal) f ((⟨Rect.unit off S8x512.size inb, w⟩ : View.Piece (Elt Ideal) ⟨2, ![R, 2048]⟩ .f32) :: L)) (ix2 r l)
      = w (ix2 q p) :=
  View.read_writes_cons_unit_of_mem m.view f inb w L (ix2 r l) (ix2 q p) h fun a => by
    fin_cases a
    · exact hn
    · exact ho

/-- At an index of other lanes, or of other rows. -/
theorem store_lane {R : ℕ} (m : Memref sig .tc .vmem ⟨2, ![R, 2048]⟩ .f32) (f : BufTy.Contents (Elt Ideal) m.view.ty)
    {off : Fin 2 → ℕ} (inb : ∀ a, off a + S8x512.size a ≤ (⟨2, ![R, 2048]⟩ : Shape).size a) (n o : ℕ) (h : off = ![n, o])
    (w : FVec Ideal S8x512 .f32) (L : List (View.Piece (Elt Ideal) ⟨2, ![R, 2048]⟩ .f32)) (r : Fin R) (l : Fin 2048)
    (ho : l.val < o ∨ o + 512 ≤ l.val) :
    m.view.read (Elt Ideal) (m.view.writes (Elt Ideal) f ((⟨Rect.unit off S8x512.size inb, w⟩ : View.Piece (Elt Ideal) ⟨2, ![R, 2048]⟩ .f32) :: L)) (ix2 r l)
      = m.view.read (Elt Ideal) (m.view.writes (Elt Ideal) f L) (ix2 r l) :=
  View.read_writes_cons_unit_of_not_mem m.view f inb w L (ix2 r l) h 1 ho

theorem store_row {R : ℕ} (m : Memref sig .tc .vmem ⟨2, ![R, 2048]⟩ .f32) (f : BufTy.Contents (Elt Ideal) m.view.ty)
    {off : Fin 2 → ℕ} (inb : ∀ a, off a + S8x512.size a ≤ (⟨2, ![R, 2048]⟩ : Shape).size a) (n o : ℕ) (h : off = ![n, o])
    (w : FVec Ideal S8x512 .f32) (L : List (View.Piece (Elt Ideal) ⟨2, ![R, 2048]⟩ .f32)) (r : Fin R) (l : Fin 2048)
    (hn : r.val < n ∨ n + 8 ≤ r.val) :
    m.view.read (Elt Ideal) (m.view.writes (Elt Ideal) f ((⟨Rect.unit off S8x512.size inb, w⟩ : View.Piece (Elt Ideal) ⟨2, ![R, 2048]⟩ .f32) :: L)) (ix2 r l)
      = m.view.read (Elt Ideal) (m.view.writes (Elt Ideal) f L) (ix2 r l) :=
  View.read_writes_cons_unit_of_not_mem m.view f inb w L (ix2 r l) h 0 hn

variable (c : Dev nD) (i : grid0.Coords) (arg2 : Memref sig .tc .vmem S256x2048 .bf16) (h2 : arg2.IsWhole) (arg3 : Memref sig .tc .vmem S256x2048 .bf16) (h3 : arg3.IsWhole) (arg4 : Memref sig .tc .vmem S4x2048 .f32) (h4 : arg4.IsWhole) (arg5 : Memref sig .tc .vmem S1x2048 .f32) (h5 : arg5.IsWhole) (arg6 : Memref sig .tc .vmem S1x8x256x256 .f32) (h6 : arg6.IsWhole) (arg7 : Memref sig .tc .vmem S1x2048 .f32) (h7 : arg7.IsWhole) (arg8 : Memref sig .tc .vmem S1x8x256x256 .f32) (h8 : arg8.IsWhole) (arg9 : Memref sig .tc .vmem S1x2048 .f32) (h9 : arg9.IsWhole) (arg10 : Memref sig .tc .vmem S1x2048 .f32) (h10 : arg10.IsWhole)
  (arg11 : Memref sig .tc .vmem S256x2048 .bf16) (h11 : arg11.IsWhole) (arg12 : Memref sig .tc .vmem S8x2048 .f32) (h12 : arg12.IsWhole) (arg13 : Memref sig .tc .vmem S8x2048 .f32) (h13 : arg13.IsWhole) (arg14 : Memref sig .tc .vmem S256x2048 .f32) (h14 : arg14.IsWhole) (arg15 : Memref sig .tc .vmem S256x2048 .f32) (h15 : arg15.IsWhole)
  (X14 : BufTy.Contents (Elt Ideal) arg14.view.ty)

/-- The loads of a trip: a group of lanes' decays, inputs, and state. -/
abbrev ldA (off : Fin 2 → ℕ) (inb : ∀ a, off a + S8x512.size a ≤ S256x2048.size a) : FVec Ideal S8x512 .f32 :=
  View.readAt (Elt Ideal) arg14.view (Rect.unit (s := S256x2048) off S8x512.size inb).toLoadRect X14
abbrev ldB (f15 : BufTy.Contents (Elt Ideal) arg15.view.ty) (off : Fin 2 → ℕ) (inb : ∀ a, off a + S8x512.size a ≤ S256x2048.size a) : FVec Ideal S8x512 .f32 :=
  View.readAt (Elt Ideal) arg15.view (Rect.unit (s := S256x2048) off S8x512.size inb).toLoadRect f15
abbrev ldH (f13 : BufTy.Contents (Elt Ideal) arg13.view.ty) (off : Fin 2 → ℕ) (inb : ∀ a, off a + S8x512.size a ≤ S8x2048.size a) : FVec Ideal S8x512 .f32 :=
  View.readAt (Elt Ideal) arg13.view (Rect.unit (s := S8x2048) off S8x512.size inb).toLoadRect f13

/-- What a trip stores: a group's eight rows, and the last of them. -/
abbrev newB (A B H : FVec Ideal S8x512 .f32) : FVec Ideal S8x512 .f32 := k0_pay12 (k0_pay9 rowNo A B) (k0_pay10 rowNo A) H
abbrev newH (A B H : FVec Ideal S8x512 .f32) : FVec Ideal S8x512 .f32 := k0_pay13 (k0_pay9 rowNo A B) (k0_pay10 rowNo A) H

theorem trip_eq (k : Fin k0_t1_loop.trips) (f13 : BufTy.Contents (Elt Ideal) arg13.view.ty) (f15 : BufTy.Contents (Elt Ideal) arg15.view.ty) :
    tripL_k0_t1 (F := Ideal) Variants.none c none i arg2 h2 arg3 h3 arg4 h4 arg5 h5 arg6 h6 arg7 h7 arg8 h8 arg9 h9 arg10 h10 arg11 h11 arg12 h12 arg13 h13 arg14 h14 arg15 h15 rowNo X14 k f13 f15
      = ([⟨Rect.unit ![0, 1536] S8x512.size inb_S8x2048_S8x512_0_1536, newH (ldA arg14 X14 (k0_off4 k) (k0_off4_inb k)) (ldB arg15 f15 (k0_off4 k) (k0_off4_inb k)) (ldH arg13 f13 ![0, 1536] inb_S8x2048_S8x512_0_1536)⟩,
          ⟨Rect.unit ![0, 1024] S8x512.size inb_S8x2048_S8x512_0_1024, newH (ldA arg14 X14 (k0_off3 k) (k0_off3_inb k)) (ldB arg15 f15 (k0_off3 k) (k0_off3_inb k)) (ldH arg13 f13 ![0, 1024] inb_S8x2048_S8x512_0_1024)⟩,
          ⟨Rect.unit ![0, 512] S8x512.size inb_S8x2048_S8x512_0_512, newH (ldA arg14 X14 (k0_off2 k) (k0_off2_inb k)) (ldB arg15 f15 (k0_off2 k) (k0_off2_inb k)) (ldH arg13 f13 ![0, 512] inb_S8x2048_S8x512_0_512)⟩,
          ⟨Rect.unit ![0, 0] S8x512.size inb_S8x2048_S8x512_0_0, newH (ldA arg14 X14 (k0_off1 k) (k0_off1_inb k)) (ldB arg15 f15 (k0_off1 k) (k0_off1_inb k)) (ldH arg13 f13 ![0, 0] inb_S8x2048_S8x512_0_0)⟩],
        [⟨Rect.unit (k0_off4 k) S8x512.size (k0_off4_inb k), newB (ldA arg14 X14 (k0_off4 k) (k0_off4_inb k)) (ldB arg15 f15 (k0_off4 k) (k0_off4_inb k)) (ldH arg13 f13 ![0, 1536] inb_S8x2048_S8x512_0_1536)⟩,
          ⟨Rect.unit (k0_off3 k) S8x512.size (k0_off3_inb k), newB (ldA arg14 X14 (k0_off3 k) (k0_off3_inb k)) (ldB arg15 f15 (k0_off3 k) (k0_off3_inb k)) (ldH arg13 f13 ![0, 1024] inb_S8x2048_S8x512_0_1024)⟩,
          ⟨Rect.unit (k0_off2 k) S8x512.size (k0_off2_inb k), newB (ldA arg14 X14 (k0_off2 k) (k0_off2_inb k)) (ldB arg15 f15 (k0_off2 k) (k0_off2_inb k)) (ldH arg13 f13 ![0, 512] inb_S8x2048_S8x512_0_512)⟩,
          ⟨Rect.unit (k0_off1 k) S8x512.size (k0_off1_inb k), newB (ldA arg14 X14 (k0_off1 k) (k0_off1_inb k)) (ldB arg15 f15 (k0_off1 k) (k0_off1_inb k)) (ldH arg13 f13 ![0, 0] inb_S8x2048_S8x512_0_0)⟩]) := by
  unfold tripL_k0_t1 trip_k0_t1
  rfl

theorem trips_eq : k0_t1_loop.trips = 32 := by rfl

/-! ## The rows before each trip -/

variable {S a b : Fin 2048 → ℕ → EReal}

/-- The decays, one row per row of the block. -/
def Decays (a : Fin 2048 → ℕ → EReal) : Prop := ∀ (r : Fin 256) (l : Fin 2048), arg14.view.read (Elt Ideal) X14 (ix2 r l) = a l r.val

/-- Row `n` in every row of the state. -/
def State (S : Fin 2048 → ℕ → EReal) (n : ℕ) (f13 : BufTy.Contents (Elt Ideal) arg13.view.ty) : Prop :=
  ∀ (r : Fin 8) (l : Fin 2048), arg13.view.read (Elt Ideal) f13 (ix2 r l) = S l n

/-- The recurrence's rows up to row `n`, and from there on its inputs. -/
def Rows (S b : Fin 2048 → ℕ → EReal) (n : ℕ) (f15 : BufTy.Contents (Elt Ideal) arg15.view.ty) : Prop :=
  ∀ (r : Fin 256) (l : Fin 2048), arg15.view.read (Elt Ideal) f15 (ix2 r l) = if r.val < n then S l (r.val + 1) else b l r.val

variable {X14} (hg : ∀ l k, Good (a l k)) (hS : ∀ l k, S l (k + 1) = a l k * S l k + b l k) (hA : Decays arg14 X14 a)

include hg hS hA in
/-- A group's new rows, and the state it leaves. -/
theorem group_apply {k : Fin k0_t1_loop.trips} {f13 : BufTy.Contents (Elt Ideal) arg13.view.ty} {f15 : BufTy.Contents (Elt Ideal) arg15.view.ty}
    (hH : State arg13 S (8 * k.val) f13) (hB : Rows arg15 S b (8 * k.val) f15) {off off' : Fin 2 → ℕ} (o : ℕ)
    (inb : ∀ a, off a + S8x512.size a ≤ S256x2048.size a) (inb' : ∀ a, off' a + S8x512.size a ≤ S8x2048.size a)
    (h : off = ![8 * k.val, o]) (h' : off' = ![0, o]) (l : Fin 2048) (p : Fin 512) (hl : l.val = o + p.val) (r : Fin 8) :
    newB (ldA arg14 X14 off inb) (ldB arg15 f15 off inb) (ldH arg13 f13 off' inb') (ix2 r p) = S l (8 * k.val + r.val + 1)
    ∧ newH (ldA arg14 X14 off inb) (ldB arg15 f15 off inb) (ldH arg13 f13 off' inb') (ix2 r p) = S l (8 * (k.val + 1)) := by
  have hk := row_lt k
  have hl' : l = ⟨o + p.val, by omega⟩ := Fin.ext hl
  have hs : Span (S l) (8 * k.val) 1 (fun r => ldA arg14 X14 off inb (ix2 r p)) (fun r => ldB arg15 f15 off inb (ix2 r p)) := by
    have e1 : ∀ r : Fin 8, ldA arg14 X14 off inb (ix2 r p) = a l (8 * k.val + r.val) := fun r => by
      rw [hl']
      refine (load_apply arg14 X14 inb _ _ h r p (by omega) (by omega)).trans ?_
      exact hA _ _
    have e2 : ∀ r : Fin 8, ldB arg15 f15 off inb (ix2 r p) = b l (8 * k.val + r.val) := fun r => by
      rw [hl']
      refine (load_apply arg15 f15 inb _ _ h r p (by omega) (by omega)).trans ?_
      refine (hB _ _).trans (if_neg ?_)
      show ¬ 8 * k.val + r.val < 8 * k.val
      omega
    rw [funext e1, funext e2]
    exact Span.one _ (hg l) (hS l)
  have hh : ∀ r : Fin 8, ldH arg13 f13 off' inb' (ix2 r p) = S l (8 * k.val) := fun r => by
    rw [hl']
    exact (load_apply arg13 f13 inb' _ _ h' r p (by omega) (by omega)).trans (hH _ _)
  exact ⟨pay12_apply _ _ _ p hs hh r, pay13_apply _ _ _ p hs hh r⟩

include hg hS hA in
theorem trip_held {k : Fin k0_t1_loop.trips} {f13 : BufTy.Contents (Elt Ideal) arg13.view.ty} {f15 : BufTy.Contents (Elt Ideal) arg15.view.ty}
    (hH : State arg13 S (8 * k.val) f13) (hB : Rows arg15 S b (8 * k.val) f15) :
    State arg13 S (8 * (k.val + 1)) (arg13.view.writes (Elt Ideal) f13 (tripL_k0_t1 (F := Ideal) Variants.none c none i arg2 h2 arg3 h3 arg4 h4 arg5 h5 arg6 h6 arg7 h7 arg8 h8 arg9 h9 arg10 h10 arg11 h11 arg12 h12 arg13 h13 arg14 h14 arg15 h15 rowNo X14 k f13 f15).1)
    ∧ Rows arg15 S b (8 * (k.val + 1)) (arg15.view.writes (Elt Ideal) f15 (tripL_k0_t1 (F := Ideal) Variants.none c none i arg2 h2 arg3 h3 arg4 h4 arg5 h5 arg6 h6 arg7 h7 arg8 h8 arg9 h9 arg10 h10 arg11 h11 arg12 h12 arg13 h13 arg14 h14 arg15 h15 rowNo X14 k f13 f15).2) := by
  have hk := row_lt k
  rw [trip_eq]
  dsimp only
  refine ⟨fun r l => ?_, fun r l => ?_⟩
  · by_cases l3 : 1536 ≤ l.val
    · rw [store_hit arg13 f13 _ 0 1536 rfl _ _ r l r ⟨l.val - 1536, by omega⟩ (by omega) (by show l.val = 1536 + (l.val - 1536); omega)]
      exact (group_apply arg13 arg14 arg15 hg hS hA hH hB 1536 _ _ (off4 k) rfl l _ (by show l.val = 1536 + (l.val - 1536); omega) r).2
    rw [store_lane arg13 f13 _ 0 1536 rfl _ _ r l (by omega)]
    by_cases l2 : 1024 ≤ l.val
    · rw [store_hit arg13 f13 _ 0 1024 rfl _ _ r l r ⟨l.val - 1024, by omega⟩ (by omega) (by show l.val = 1024 + (l.val - 1024); omega)]
      exact (group_apply arg13 arg14 arg15 hg hS hA hH hB 1024 _ _ (off3 k) rfl l _ (by show l.val = 1024 + (l.val - 1024); omega) r).2
    rw [store_lane arg13 f13 _ 0 1024 rfl _ _ r l (by omega)]
    by_cases l1 : 512 ≤ l.val
    · rw [store_hit arg13 f13 _ 0 512 rfl _ _ r l r ⟨l.val - 512, by omega⟩ (by omega) (by show l.val = 512 + (l.val - 512); omega)]
      exact (group_apply arg13 arg14 arg15 hg hS hA hH hB 512 _ _ (off2 k) rfl l _ (by show l.val = 512 + (l.val - 512); omega) r).2
    rw [store_lane arg13 f13 _ 0 512 rfl _ _ r l (by omega)]
    rw [store_hit arg13 f13 _ 0 0 rfl _ _ r l r ⟨l.val, by omega⟩ (by omega) (by show l.val = 0 + l.val; omega)]
    exact (group_apply arg13 arg14 arg15 hg hS hA hH hB 0 _ _ (off1 k) rfl l _ (by show l.val = 0 + l.val; omega) r).2
  · by_cases hr : 8 * k.val ≤ r.val ∧ r.val < 8 * k.val + 8
    · rw [if_pos (by omega)]
      have hq : r.val = 8 * k.val + (⟨r.val - 8 * k.val, by omega⟩ : Fin 8).val := by show r.val = 8 * k.val + (r.val - 8 * k.val); omega
      generalize (⟨r.val - 8 * k.val, by omega⟩ : Fin 8) = q at hq
      rw [hq]
      by_cases l3 : 1536 ≤ l.val
      · rw [store_hit arg15 f15 _ (8 * k.val) 1536 (off4 k) _ _ r l q ⟨l.val - 1536, by omega⟩ hq (by show l.val = 1536 + (l.val - 1536); omega)]
        exact (group_apply arg13 arg14 arg15 hg hS hA hH hB 1536 _ _ (off4 k) rfl l _ (by show l.val = 1536 + (l.val - 1536); omega) q).1
      rw [store_lane arg15 f15 _ (8 * k.val) 1536 (off4 k) _ _ r l (by omega)]
      by_cases l2 : 1024 ≤ l.val
      · rw [store_hit arg15 f15 _ (8 * k.val) 1024 (off3 k) _ _ r l q ⟨l.val - 1024, by omega⟩ hq (by show l.val = 1024 + (l.val - 1024); omega)]
        exact (group_apply arg13 arg14 arg15 hg hS hA hH hB 1024 _ _ (off3 k) rfl l _ (by show l.val = 1024 + (l.val - 1024); omega) q).1
      rw [store_lane arg15 f15 _ (8 * k.val) 1024 (off3 k) _ _ r l (by omega)]
      by_cases l1 : 512 ≤ l.val
      · rw [store_hit arg15 f15 _ (8 * k.val) 512 (off2 k) _ _ r l q ⟨l.val - 512, by omega⟩ hq (by show l.val = 512 + (l.val - 512); omega)]
        exact (group_apply arg13 arg14 arg15 hg hS hA hH hB 512 _ _ (off2 k) rfl l _ (by show l.val = 512 + (l.val - 512); omega) q).1
      rw [store_lane arg15 f15 _ (8 * k.val) 512 (off2 k) _ _ r l (by omega)]
      rw [store_hit arg15 f15 _ (8 * k.val) 0 (off1 k) _ _ r l q ⟨l.val, by omega⟩ hq (by show l.val = 0 + l.val; omega)]
      exact (group_apply arg13 arg14 arg15 hg hS hA hH hB 0 _ _ (off1 k) rfl l _ (by show l.val = 0 + l.val; omega) q).1
    · rw [store_row arg15 f15 _ (8 * k.val) 1536 (off4 k) _ _ r l (by omega), store_row arg15 f15 _ (8 * k.val) 1024 (off3 k) _ _ r l (by omega),
        store_row arg15 f15 _ (8 * k.val) 512 (off2 k) _ _ r l (by omega), store_row arg15 f15 _ (8 * k.val) 0 (off1 k) _ _ r l (by omega)]
      refine (hB r l).trans ?_
      by_cases h : r.val < 8 * k.val
      · rw [if_pos h, if_pos (by omega)]
      · rw [if_neg h, if_neg (by omega)]

include hg hS hA in
/-- The rows before trip `k`, whatever the loop starts from. -/
theorem loop_held {G13 : BufTy.Contents (Elt Ideal) arg13.view.ty} {G15 : BufTy.Contents (Elt Ideal) arg15.view.ty}
    (hH : State arg13 S 0 G13) (hB : Rows arg15 S b 0 G15) (k : ℕ) (hk : k ≤ k0_t1_loop.trips) :
    State arg13 S (8 * k) (arg13.view.writes (Elt Ideal) G13 (pb_k0_t1 (F := Ideal) Variants.none c none i arg2 h2 arg3 h3 arg4 h4 arg5 h5 arg6 h6 arg7 h7 arg8 h8 arg9 h9 arg10 h10 arg11 h11 arg12 h12 arg13 h13 arg14 h14 arg15 h15 rowNo X14 G13 G15 k).1)
    ∧ Rows arg15 S b (8 * k) (arg15.view.writes (Elt Ideal) G15 (pb_k0_t1 (F := Ideal) Variants.none c none i arg2 h2 arg3 h3 arg4 h4 arg5 h5 arg6 h6 arg7 h7 arg8 h8 arg9 h9 arg10 h10 arg11 h11 arg12 h12 arg13 h13 arg14 h14 arg15 h15 rowNo X14 G13 G15 k).2) := by
  induction k with
  | zero => exact ⟨hH, hB⟩
  | succ k ih =>
    obtain ⟨ih13, ih15⟩ := ih (Nat.le_of_succ_le hk)
    rw [show k + 1 = (⟨k, hk⟩ : Fin k0_t1_loop.trips).val + 1 from rfl, pb_k0_t1_succ]
    dsimp only
    rw [View.writes_append, View.writes_append]
    exact trip_held c i arg2 h2 arg3 h3 arg4 h4 arg5 h5 arg6 h6 arg7 h7 arg8 h8 arg9 h9 arg10 h10 arg11 h11 arg12 h12 arg13 h13 arg14 h14 arg15 h15 hg hS hA (k := ⟨k, hk⟩) ih13 ih15

end Cert.Proof.LruLoop

end
-- ==== Proof.LruGates.lean ====
/-
  The first half of the RG-LRU kernel's body, element by element: the convolution over the block's rows and the rows before
  it, and, for each block of 256 lanes, the decays and the inputs of the recurrence.
-/
module

public import proofs.«01_k».proof.Proof.LruRef
public import proofs.«01_k».proof.Proof.LruLoop

@[expose] public section

set_option maxRecDepth 16384

noncomputable section

open Idealize.ShloMosaic Idealize.ShloMosaic.TcCoe Idealize.SL.Sem Idealize.ShloMosaic.Tactic

namespace Cert.Proof.LruGates

open Cert.KernelIdeal Cert.KernelIdeal.Gen Cert.Proof.LruMath Cert.Proof.LruRef

/-- The convolution of the block's rows: of the lane's values `U`, three of them before the block. -/
theorem pay39_apply (x1 : Vec Ideal S256x2048 .bf16) (s0 : Vec Ideal S8x2048 .f32) (w3 cb w2 w1 w0 : Vec Ideal S1x2048 .f32)
    (U : ℕ → EReal) (r : Fin 256) (l : Fin 2048) (hx : ∀ r : Fin 256, x1 (ix2 r l) = U (r.val + 3))
    (hs : ∀ q : Fin 8, 5 ≤ q.val → s0 (ix2 q l) = U (q.val - 5)) :
    k0_pay39 x1 s0 w3 cb w2 w1 w0 (ix2 r l)
      = U r.val * w0 (ix2 0 l) + U (r.val + 1) * w1 (ix2 0 l) + U (r.val + 2) * w2 (ix2 0 l) + U (r.val + 3) * w3 (ix2 0 l) + cb (ix2 0 l) := by
  have tap : ∀ d, d = 1 ∨ d = 2 ∨ d = 3 →
      (if h : (8 + r.val + 264 - d) % 264 < 8 then s0 (ix2 ⟨(8 + r.val + 264 - d) % 264, h⟩ l)
        else x1 (ix2 ⟨(8 + r.val + 264 - d) % 264 - 8, by omega⟩ l) : EReal) = U (r.val + (3 - d)) := fun d hd => by
    split
    · exact (hs _ (by show 5 ≤ (8 + r.val + 264 - d) % 264; omega)).trans
        (congrArg U (by show (8 + r.val + 264 - d) % 264 - 5 = r.val + (3 - d); omega))
    · exact (hx _).trans (congrArg U (by show (8 + r.val + 264 - d) % 264 - 8 + 3 = r.val + (3 - d); omega))
  pointwise [k0_pay39, k0_pay38]
  rw [tap 1 (Or.inl rfl), tap 2 (Or.inr (Or.inl rfl)), tap 3 (Or.inr (Or.inr rfl)), hx]
  ac_rfl

/-- The exponents of a block's decays, and the decays. -/
abbrev logBlk (sn : FVec Ideal S1x256 .f32) (gr : FVec Ideal S256x256 .f32) : FVec Ideal S256x256 .f32 :=
  mulf (mulf (broadcast S256x256 (Scalar.ofBits .f32 0xC1000000#32)) (divf (broadcast S256x256 (Scalar.ofBits .f32 0x3F800000#32))
    (addf (broadcast S256x256 (Scalar.ofBits .f32 0x3F800000#32)) (exp (subf (broadcast S256x256 (Scalar.ofBits .f32 0x00000000#32)) gr)))))
    (broadcastTo S256x256 sn broadcasts_S1x256_S256x256)
abbrev aBlk (sn : FVec Ideal S1x256 .f32) (gr : FVec Ideal S256x256 .f32) : FVec Ideal S256x256 .f32 := exp (logBlk sn gr)

/-- A gate's argument: the block's lanes by the block's matrix, and the bias. -/
abbrev argBlk (xn : FVec Ideal S256x256 .f32) (w : Vec Ideal S1x1x256x256 .f32) (bias : Vec Ideal S1x256 .f32) : FVec Ideal S256x256 .f32 :=
  addf (matmul dot_S256x256_S256x256_S256x256_1_0_0_1_n_n none (truncf .bf16 xn bitsLt_bf16_f32)
      (truncf .bf16 (shapeCast S256x256 w shapeCasts_S1x1x256x256_S256x256) bitsLt_bf16_f32) (constant S256x256 .f32 0x00000000#32))
    (broadcastTo S256x256 (shapeCast S1x256 bias shapeCasts_S1x256_S1x256) broadcasts_S1x256_S256x256)

theorem argBlk_apply (xn : FVec Ideal S256x256 .f32) (w : Vec Ideal S1x1x256x256 .f32) (bias : Vec Ideal S1x256 .f32) (r p : Fin 256) :
    argBlk xn w bias (ix2 r p) = @HAdd.hAdd EReal EReal EReal _ (∑ k : Fin 256, @HMul.hMul EReal EReal EReal _ (xn (ix2 r k)) (w (ix4 0 0 k p))) (bias (ix2 0 p)) := by
  pointwise

theorem aBlk_apply (sn : FVec Ideal S1x256 .f32) (gr : FVec Ideal S256x256 .f32) (r p : Fin 256) (lam : EReal)
    (h : sn (ix2 0 p) = soft (-lam)) : aBlk sn gr (ix2 r p) = decay (gr (ix2 r p)) lam := by
  unfold decay logA sigm c8
  rw [← h]
  pointwise
  rw [zero_sub]

theorem pay41_apply (v : Vec Ideal S1x2048 .f32) (l : Fin 2048) : k0_pay41 v (ix2 0 l) = soft (-(v (ix2 0 l))) := by
  unfold soft
  pointwise [k0_pay41]
  rw [zero_sub, zero_sub]
  rfl

/-- The inputs of a block's steps. -/
abbrev bBlk (sn : FVec Ideal S1x256 .f32) (xn gr gi : FVec Ideal S256x256 .f32) : FVec Ideal S256x256 .f32 :=
  mulf (mulf (sqrt (mulf (subf (broadcast S256x256 (Scalar.ofBits .f32 0x00000000#32)) (tanh (logBlk sn gr)))
      (addf (mulf (exp (logBlk sn gr)) (exp (logBlk sn gr))) (broadcast S256x256 (Scalar.ofBits .f32 0x3F800000#32)))))
    (divf (broadcast S256x256 (Scalar.ofBits .f32 0x3F800000#32))
      (addf (broadcast S256x256 (Scalar.ofBits .f32 0x3F800000#32)) (exp (subf (broadcast S256x256 (Scalar.ofBits .f32 0x00000000#32)) gi))))) xn

theorem bBlk_apply (sn : FVec Ideal S1x256 .f32) (xn gr gi : FVec Ideal S256x256 .f32) (r p : Fin 256) (lam : EReal)
    (h : sn (ix2 0 p) = soft (-lam)) :
    bBlk sn xn gr gi (ix2 r p) = drive (gr (ix2 r p)) (gi (ix2 r p)) lam (xn (ix2 r p)) := by
  unfold drive
  rw [← gain_eq (logA_nonpos _ _)]
  unfold logA sigm c8
  rw [← h]
  pointwise
  rw [zero_sub, zero_sub, zero_sub]

/-! ## The blocks of lanes -/

theorem lanes_apply {R o : ℕ} (v : FVec Ideal ⟨2, ![R, 2048]⟩ .f32) (hs : (⟨2, ![R, 2048]⟩ : Shape).Slices ![0, o] ⟨2, ![R, 256]⟩)
    (r : Fin R) (p : Fin 256) (l : Fin 2048) (hl : l.val = o + p.val) :
    extractStridedSlice ⟨2, ![R, 256]⟩ ![0, o] v hs (ix2 r p) = v (ix2 r l) := by
  obtain ⟨q, hq⟩ := l
  dsimp only at hl
  subst hl
  unfold extractStridedSlice
  refine congrArg v (funext fun a => Fin.ext ?_)
  fin_cases a
  · exact Nat.zero_add _
  · rfl

/-- What the kernel reads of the gates' weights, the parameter: the blocks and lanes of the reference's. -/
structure Same (W : Vec Ideal S1x8x256x256 .f32) (B : Vec Ideal S1x2048 .f32) (A : S2x8x256x256.Idx → EReal) (a : S2048.Idx → EReal) : Prop where
  mat : ∀ (n : Fin 8) (k p : Fin 256), W (ix4 0 n k p) = A (ix4 0 n k p)
  bias : ∀ l : Fin 2048, B (ix2 0 l) = a (ix1 l)

theorem gate_tile {n o : ℕ} (hn : n < 8) (ho : o = 256 * n) (xc : FVec Ideal S256x2048 .f32) {W : Vec Ideal S1x8x256x256 .f32}
    {B : Vec Ideal S1x2048 .f32} {A : S2x8x256x256.Idx → EReal} {a : S2048.Idx → EReal} (h : Same W B A a)
    (hxs : S256x2048.Slices ![0, o] S256x256) (inbW : ∀ a, (![0, n, 0, 0] : Fin 4 → ℕ) a + S1x1x256x256.size a ≤ S1x8x256x256.size a)
    (inbB : ∀ a, (![0, o] : Fin 2 → ℕ) a + S1x256.size a ≤ S1x2048.size a) (r p : Fin 256) (l : Fin 2048) (hl : l.val = o + p.val) :
    argBlk (extractStridedSlice S256x256 ![0, o] xc hxs)
        (View.ld W (Rect.unit (s := S1x8x256x256) ![0, n, 0, 0] S1x1x256x256.size inbW))
        (View.ld B (Rect.unit (s := S1x2048) ![0, o] S1x256.size inbB)) (ix2 r p)
      = gate (fun l => xc (ix2 r l)) A a l := by
  have hb : blk l = ⟨n, hn⟩ := Fin.ext (by show l.val / 256 = n; omega)
  have hp : plc l = p := Fin.ext (by show l.val % 256 = p.val; omega)
  rw [argBlk_apply]
  unfold gate
  rw [hb, hp, ← h.bias]
  refine congrArg₂ _ (Finset.sum_congr rfl fun k _ => ?_) ?_
  · rw [← h.mat]
    refine (congrArg₂ (fun a b : EReal => a * b) ?_ ?_).trans (mul_comm (G := EReal) _ _)
    · exact lanes_apply xc hxs r k _ (by show n * 256 + k.val = o + k.val; omega)
    · exact View.ld_unit_apply_of _ _ _ _ _ _ fun a => by fin_cases a <;> simp
  · exact View.ld_unit_apply_of _ _ _ _ _ _ fun a => by
      fin_cases a
      · rfl
      · exact hl

variable (xc : FVec Ideal S256x2048 .f32) (x4 x6 : Vec Ideal S1x8x256x256 .f32) (x5 x7 x8 : Vec Ideal S1x2048 .f32)

/-- What the kernel stores for block `n` of the lanes: the decays, the inputs. -/
abbrev storeA (n o : ℕ) (hs : S1x2048.Slices ![0, o] S1x256) (hxs : S256x2048.Slices ![0, o] S256x256)
    (inbW : ∀ a, (![0, n, 0, 0] : Fin 4 → ℕ) a + S1x1x256x256.size a ≤ S1x8x256x256.size a)
    (inbB : ∀ a, (![0, o] : Fin 2 → ℕ) a + S1x256.size a ≤ S1x2048.size a) : FVec Ideal S256x256 .f32 :=
  shapeCast S256x256 (aBlk (extractStridedSlice S1x256 ![0, o] (k0_pay41 x8) hs)
    (argBlk (extractStridedSlice S256x256 ![0, o] xc hxs) (View.ld x4 (Rect.unit (s := S1x8x256x256) ![0, n, 0, 0] S1x1x256x256.size inbW))
      (View.ld x5 (Rect.unit (s := S1x2048) ![0, o] S1x256.size inbB)))) shapeCasts_S256x256_S256x256
abbrev storeB (n o : ℕ) (hs : S1x2048.Slices ![0, o] S1x256) (hxs : S256x2048.Slices ![0, o] S256x256)
    (inbW : ∀ a, (![0, n, 0, 0] : Fin 4 → ℕ) a + S1x1x256x256.size a ≤ S1x8x256x256.size a)
    (inbB : ∀ a, (![0, o] : Fin 2 → ℕ) a + S1x256.size a ≤ S1x2048.size a) : FVec Ideal S256x256 .f32 :=
  shapeCast S256x256 (bBlk (extractStridedSlice S1x256 ![0, o] (k0_pay41 x8) hs) (extractStridedSlice S256x256 ![0, o] xc hxs)
    (argBlk (extractStridedSlice S256x256 ![0, o] xc hxs) (View.ld x4 (Rect.unit (s := S1x8x256x256) ![0, n, 0, 0] S1x1x256x256.size inbW))
      (View.ld x5 (Rect.unit (s := S1x2048) ![0, o] S1x256.size inbB)))
    (argBlk (extractStridedSlice S256x256 ![0, o] xc hxs) (View.ld x6 (Rect.unit (s := S1x8x256x256) ![0, n, 0, 0] S1x1x256x256.size inbW))
      (View.ld x7 (Rect.unit (s := S1x2048) ![0, o] S1x256.size inbB)))) shapeCasts_S256x256_S256x256

abbrev storesA : List (View.Piece (Elt Ideal) S256x2048 .f32) :=
  [⟨Rect.unit ![0, 1792] S256x256.size inb_S256x2048_S256x256_0_1792, storeA xc x4 x5 x8 7 1792 slices_S1x2048_o0_1792_S1x256 slices_S256x2048_o0_1792_S256x256 inb_S1x8x256x256_S1x1x256x256_0_7_0_0 inb_S1x2048_S1x256_0_1792⟩,
    ⟨Rect.unit ![0, 1536] S256x256.size inb_S256x2048_S256x256_0_1536, storeA xc x4 x5 x8 6 1536 slices_S1x2048_o0_1536_S1x256 slices_S256x2048_o0_1536_S256x256 inb_S1x8x256x256_S1x1x256x256_0_6_0_0 inb_S1x2048_S1x256_0_1536⟩,
    ⟨Rect.unit ![0, 1280] S256x256.size inb_S256x2048_S256x256_0_1280, storeA xc x4 x5 x8 5 1280 slices_S1x2048_o0_1280_S1x256 slices_S256x2048_o0_1280_S256x256 inb_S1x8x256x256_S1x1x256x256_0_5_0_0 inb_S1x2048_S1x256_0_1280⟩,
    ⟨Rect.unit ![0, 1024] S256x256.size inb_S256x2048_S256x256_0_1024, storeA xc x4 x5 x8 4 1024 slices_S1x2048_o0_1024_S1x256 slices_S256x2048_o0_1024_S256x256 inb_S1x8x256x256_S1x1x256x256_0_4_0_0 inb_S1x2048_S1x256_0_1024⟩,
    ⟨Rect.unit ![0, 768] S256x256.size inb_S256x2048_S256x256_0_768, storeA xc x4 x5 x8 3 768 slices_S1x2048_o0_768_S1x256 slices_S256x2048_o0_768_S256x256 inb_S1x8x256x256_S1x1x256x256_0_3_0_0 inb_S1x2048_S1x256_0_768⟩,
    ⟨Rect.unit ![0, 512] S256x256.size inb_S256x2048_S256x256_0_512, storeA xc x4 x5 x8 2 512 slices_S1x2048_o0_512_S1x256 slices_S256x2048_o0_512_S256x256 inb_S1x8x256x256_S1x1x256x256_0_2_0_0 inb_S1x2048_S1x256_0_512⟩,
    ⟨Rect.unit ![0, 256] S256x256.size inb_S256x2048_S256x256_0_256, storeA xc x4 x5 x8 1 256 slices_S1x2048_o0_256_S1x256 slices_S256x2048_o0_256_S256x256 inb_S1x8x256x256_S1x1x256x256_0_1_0_0 inb_S1x2048_S1x256_0_256⟩,
    ⟨Rect.unit ![0, 0] S256x256.size inb_S256x2048_S256x256_0_0, storeA xc x4 x5 x8 0 0 slices_S1x2048_o0_0_S1x256 slices_S256x2048_o0_0_S256x256 inb_S1x8x256x256_S1x1x256x256_0_0_0_0 inb_S1x2048_S1x256_0_0⟩]
abbrev storesB : List (View.Piece (Elt Ideal) S256x2048 .f32) :=
  [⟨Rect.unit ![0, 1792] S256x256.size inb_S256x2048_S256x256_0_1792, storeB xc x4 x6 x5 x7 x8 7 1792 slices_S1x2048_o0_1792_S1x256 slices_S256x2048_o0_1792_S256x256 inb_S1x8x256x256_S1x1x256x256_0_7_0_0 inb_S1x2048_S1x256_0_1792⟩,
    ⟨Rect.unit ![0, 1536] S256x256.size inb_S256x2048_S256x256_0_1536, storeB xc x4 x6 x5 x7 x8 6 1536 slices_S1x2048_o0_1536_S1x256 slices_S256x2048_o0_1536_S256x256 inb_S1x8x256x256_S1x1x256x256_0_6_0_0 inb_S1x2048_S1x256_0_1536⟩,
    ⟨Rect.unit ![0, 1280] S256x256.size inb_S256x2048_S256x256_0_1280, storeB xc x4 x6 x5 x7 x8 5 1280 slices_S1x2048_o0_1280_S1x256 slices_S256x2048_o0_1280_S256x256 inb_S1x8x256x256_S1x1x256x256_0_5_0_0 inb_S1x2048_S1x256_0_1280⟩,
    ⟨Rect.unit ![0, 1024] S256x256.size inb_S256x2048_S256x256_0_1024, storeB xc x4 x6 x5 x7 x8 4 1024 slices_S1x2048_o0_1024_S1x256 slices_S256x2048_o0_1024_S256x256 inb_S1x8x256x256_S1x1x256x256_0_4_0_0 inb_S1x2048_S1x256_0_1024⟩,
    ⟨Rect.unit ![0, 768] S256x256.size inb_S256x2048_S256x256_0_768, storeB xc x4 x6 x5 x7 x8 3 768 slices_S1x2048_o0_768_S1x256 slices_S256x2048_o0_768_S256x256 inb_S1x8x256x256_S1x1x256x256_0_3_0_0 inb_S1x2048_S1x256_0_768⟩,
    ⟨Rect.unit ![0, 512] S256x256.size inb_S256x2048_S256x256_0_512, storeB xc x4 x6 x5 x7 x8 2 512 slices_S1x2048_o0_512_S1x256 slices_S256x2048_o0_512_S256x256 inb_S1x8x256x256_S1x1x256x256_0_2_0_0 inb_S1x2048_S1x256_0_512⟩,
    ⟨Rect.unit ![0, 256] S256x256.size inb_S256x2048_S256x256_0_256, storeB xc x4 x6 x5 x7 x8 1 256 slices_S1x2048_o0_256_S1x256 slices_S256x2048_o0_256_S256x256 inb_S1x8x256x256_S1x1x256x256_0_1_0_0 inb_S1x2048_S1x256_0_256⟩,
    ⟨Rect.unit ![0, 0] S256x256.size inb_S256x2048_S256x256_0_0, storeB xc x4 x6 x5 x7 x8 0 0 slices_S1x2048_o0_0_S1x256 slices_S256x2048_o0_0_S256x256 inb_S1x8x256x256_S1x1x256x256_0_0_0_0 inb_S1x2048_S1x256_0_0⟩]

variable {xc x4 x6 x5 x7 x8}

theorem storeA_apply {A3 : S2x8x256x256.Idx → EReal} {A4 A7 : S2048.Idx → EReal} (h : Same x4 x5 A3 A4)
    (h8 : ∀ l : Fin 2048, x8 (ix2 0 l) = A7 (ix1 l)) {n o : ℕ} (hn : n < 8) (ho : o = 256 * n)
    (hs : S1x2048.Slices ![0, o] S1x256) (hxs : S256x2048.Slices ![0, o] S256x256)
    (inbW : ∀ a, (![0, n, 0, 0] : Fin 4 → ℕ) a + S1x1x256x256.size a ≤ S1x8x256x256.size a)
    (inbB : ∀ a, (![0, o] : Fin 2 → ℕ) a + S1x256.size a ≤ S1x2048.size a) (r : Fin 256) (l : Fin 2048)
    (x : S256x256.Idx) (hr : r.val = (x 0).val) (hl : l.val = o + (x 1).val) :
    storeA xc x4 x5 x8 n o hs hxs inbW inbB x = decay (gate (fun l => xc (ix2 r l)) A3 A4 l) (A7 (ix1 l)) := by
  obtain ⟨q, p, rfl⟩ : ∃ q p, x = ix2 q p := ⟨x 0, x 1, funext fun a => by fin_cases a <;> rfl⟩
  obtain rfl : r = q := Fin.ext hr
  replace hl : l.val = o + p.val := hl
  rw [← gate_tile hn ho xc h hxs inbW inbB r p l hl, ← h8]
  refine Eq.trans ?_ (aBlk_apply _ _ r p _ ((lanes_apply (k0_pay41 x8) hs 0 p l hl).trans (pay41_apply x8 l)))
  exact congrFun (shapeCast_self _ _) _

theorem storeB_apply {A3 A5 : S2x8x256x256.Idx → EReal} {A4 A6 A7 : S2048.Idx → EReal} (h : Same x4 x5 A3 A4) (h' : Same x6 x7 A5 A6)
    (h8 : ∀ l : Fin 2048, x8 (ix2 0 l) = A7 (ix1 l)) {n o : ℕ} (hn : n < 8) (ho : o = 256 * n)
    (hs : S1x2048.Slices ![0, o] S1x256) (hxs : S256x2048.Slices ![0, o] S256x256)
    (inbW : ∀ a, (![0, n, 0, 0] : Fin 4 → ℕ) a + S1x1x256x256.size a ≤ S1x8x256x256.size a)
    (inbB : ∀ a, (![0, o] : Fin 2 → ℕ) a + S1x256.size a ≤ S1x2048.size a) (r : Fin 256) (l : Fin 2048)
    (x : S256x256.Idx) (hr : r.val = (x 0).val) (hl : l.val = o + (x 1).val) :
    storeB xc x4 x6 x5 x7 x8 n o hs hxs inbW inbB x
      = drive (gate (fun l => xc (ix2 r l)) A3 A4 l) (gate (fun l => xc (ix2 r l)) A5 A6 l) (A7 (ix1 l)) (xc (ix2 r l)) := by
  obtain ⟨q, p, rfl⟩ : ∃ q p, x = ix2 q p := ⟨x 0, x 1, funext fun a => by fin_cases a <;> rfl⟩
  obtain rfl : r = q := Fin.ext hr
  replace hl : l.val = o + p.val := hl
  rw [← gate_tile hn ho xc h hxs inbW inbB r p l hl, ← gate_tile hn ho xc h' hxs inbW inbB r p l hl, ← h8, ← lanes_apply xc hxs r p l hl]
  refine Eq.trans ?_ (bBlk_apply _ _ _ _ r p _ ((lanes_apply (k0_pay41 x8) hs 0 p l hl).trans (pay41_apply x8 l)))
  exact congrFun (shapeCast_self _ _) _

/-- The decays after the eight stores. -/
theorem storesA_held {A3 : S2x8x256x256.Idx → EReal} {A4 A7 : S2048.Idx → EReal} (h : Same x4 x5 A3 A4)
    (h8 : ∀ l : Fin 2048, x8 (ix2 0 l) = A7 (ix1 l)) {X : ℕ → Fin 2048 → EReal} (hX : ∀ (r : Fin 256) (l : Fin 2048), xc (ix2 r l) = X r.val l)
    (m : Memref sig .tc .vmem S256x2048 .f32) (f : BufTy.Contents (Elt Ideal) m.view.ty) :
    LruLoop.Decays m (m.view.writes (Elt Ideal) f (storesA xc x4 x5 x8)) (fun l k => decay (gate (X k) A3 A4 l) (A7 (ix1 l))) := by
  intro r l
  rw [View.read_writes_eq_canon _ _ _ (View.cover_of_tiled_head _ _ _ (by rfl))]
  beta_reduce
  rw [← show (fun l => xc (ix2 r l)) = X r.val from funext fun l => hX r l]
  canon_tiles x hx
  all_goals exact storeA_apply h h8 (by omega) (by omega) _ _ _ _ r l x hx0 (hx1.trans (by omega))

/-- The inputs after the eight stores. -/
theorem storesB_held {A3 A5 : S2x8x256x256.Idx → EReal} {A4 A6 A7 : S2048.Idx → EReal} (h : Same x4 x5 A3 A4) (h' : Same x6 x7 A5 A6)
    (h8 : ∀ l : Fin 2048, x8 (ix2 0 l) = A7 (ix1 l)) {X : ℕ → Fin 2048 → EReal} (hX : ∀ (r : Fin 256) (l : Fin 2048), xc (ix2 r l) = X r.val l)
    (S : Fin 2048 → ℕ → EReal) (m : Memref sig .tc .vmem S256x2048 .f32) (f : BufTy.Contents (Elt Ideal) m.view.ty) :
    LruLoop.Rows m S (fun l k => drive (gate (X k) A3 A4 l) (gate (X k) A5 A6 l) (A7 (ix1 l)) (X k l)) 0
      (m.view.writes (Elt Ideal) f (storesB xc x4 x6 x5 x7 x8)) := by
  intro r l
  rw [if_neg (Nat.not_lt_zero _), View.read_writes_eq_canon _ _ _ (View.cover_of_tiled_head _ _ _ (by rfl))]
  beta_reduce
  rw [← show (fun l => xc (ix2 r l)) = X r.val from funext fun l => hX r l]
  canon_tiles x hx
  all_goals exact storeB_apply h h' h8 (by omega) (by omega) _ _ _ _ r l x hx0 (hx1.trans (by omega))

end Cert.Proof.LruGates

end
-- ==== Proof.LruBody.lean ====
/-
  The RG-LRU kernel's body at a grid point: what it stores in its output block and in the two scratch buffers it carries
  between points, element by element.
-/
module

public import proofs.«01_k».proof.Proof.LruGates

@[expose] public section

set_option maxRecDepth 16384

noncomputable section

open Idealize.ShloMosaic Idealize.ShloMosaic.TcCoe Idealize.SL.Sem Idealize.ShloMosaic.Tactic

namespace Cert.Proof.LruBody

open Cert.KernelIdeal Cert.KernelIdeal.Gen Cert.Proof.LruMath Cert.Proof.LruRef Cert.Proof.LruScan Cert.Proof.LruLoop Cert.Proof.LruGates
open Cert.Proof.Shared

/-! ## The values a point reads and what they stand for -/

variable (A0 : S8192x4096.Idx → EReal) (A1 : S4x2048.Idx → EReal) (A2 : S2048.Idx → EReal) (A3 : S2x8x256x256.Idx → EReal)
  (A4 : S2048.Idx → EReal) (A5 : S2x8x256x256.Idx → EReal) (A6 A7 : S2048.Idx → EReal)
  (x0 x1 : Vec Ideal S256x2048 .bf16) (x2 : Vec Ideal S4x2048 .f32) (x3 : Vec Ideal S1x2048 .f32) (x4 : Vec Ideal S1x8x256x256 .f32)
  (x5 : Vec Ideal S1x2048 .f32) (x6 : Vec Ideal S1x8x256x256 .f32) (x7 x8 : Vec Ideal S1x2048 .f32) (s0 s1 : Vec Ideal S8x2048 .f32)

/-- The blocks a point reads are the arguments': rows `256 n` and on of sequence `b`, and the parameters. -/
structure Blocks (b : Fin 2) (n : ℕ) : Prop where
  branch : ∀ (r : Fin 256) (l : Fin 2048), x1 (ix2 r l) = xp A0 b (256 * n + (r.val + 3)) l
  conv_w : ∀ (j : Fin 4) (l : Fin 2048), x2 (ix2 j l) = A1 (ix2 j l)
  conv_b : ∀ l : Fin 2048, x3 (ix2 0 l) = A2 (ix1 l)
  gate_r : Same x4 x5 A3 A4
  gate_i : Same x6 x7 A5 A6
  lam : ∀ l : Fin 2048, x8 (ix2 0 l) = A7 (ix1 l)

/-- The last five of the carried rows of the branch are those before row `256 n`. -/
def Halo (b : Fin 2) (n : ℕ) (s0 : Vec Ideal S8x2048 .f32) : Prop :=
  ∀ (q : Fin 8) (l : Fin 2048), 5 ≤ q.val → s0 (ix2 q l) = xp A0 b (256 * n + (q.val - 5)) l

/-- The carried state holds row `256 n` of the recurrence in all its rows. -/
def Carried (b : Fin 2) (n : ℕ) (s1 : Vec Ideal S8x2048 .f32) : Prop :=
  ∀ (q : Fin 8) (l : Fin 2048), s1 (ix2 q l) = rows A0 A1 A2 A3 A4 A5 A6 A7 b l (256 * n)

/-- The rows of the conv weights as the kernel loads them. -/
abbrev tap (j : ℕ) (inb : ∀ a, (![j, 0] : Fin 2 → ℕ) a + S1x2048.size a ≤ S4x2048.size a) : Vec Ideal S1x2048 .f32 :=
  View.ld x2 (Rect.unit (s := S4x2048) ![j, 0] S1x2048.size inb)

/-- The convolved rows. -/
abbrev xcOf : FVec Ideal S256x2048 .f32 :=
  k0_pay39 x1 s0 (tap x2 3 inb_S4x2048_S1x2048_3_0) x3 (tap x2 2 inb_S4x2048_S1x2048_2_0) (tap x2 1 inb_S4x2048_S1x2048_1_0)
    (tap x2 0 inb_S4x2048_S1x2048_0_0)

variable {A0 A1 A2 A3 A4 A5 A6 A7 x0 x1 x2 x3 x4 x5 x6 x7 x8 s0 s1} {b : Fin 2} {n : ℕ}

theorem tap_apply (j : Fin 4) (inb : ∀ a, (![j.val, 0] : Fin 2 → ℕ) a + S1x2048.size a ≤ S4x2048.size a) (l : Fin 2048) :
    tap x2 j.val inb (ix2 0 l) = x2 (ix2 j l) :=
  View.ld_unit_apply_of _ _ _ _ _ _ fun a => by
    fin_cases a
    · rfl
    · exact (Nat.zero_add _).symm

theorem xcOf_apply (h : Blocks A0 A1 A2 A3 A4 A5 A6 A7 x1 x2 x3 x4 x5 x6 x7 x8 b n) (hs : Halo A0 b n s0) (r : Fin 256) (l : Fin 2048) :
    xcOf x1 x2 x3 s0 (ix2 r l) = conv A0 A1 A2 b (256 * n + r.val) l := by
  refine (pay39_apply x1 s0 _ _ _ _ _ (fun u => xp A0 b (256 * n + u) l) r l (fun r => h.branch r l) (fun q => hs q l)).trans ?_
  unfold conv
  rw [show tap x2 3 _ (ix2 0 l) = _ from tap_apply 3 _ l, show tap x2 2 _ (ix2 0 l) = _ from tap_apply 2 _ l,
    show tap x2 1 _ (ix2 0 l) = _ from tap_apply 1 _ l, show tap x2 0 _ (ix2 0 l) = _ from tap_apply 0 _ l, h.conv_w, h.conv_w, h.conv_w, h.conv_w, h.conv_b]
  rfl

/-! ## The loop's result -/

variable (c : Dev nD) (i : grid0.Coords) (arg2 : Memref sig .tc .vmem S256x2048 .bf16) (h2 : arg2.IsWhole) (arg3 : Memref sig .tc .vmem S256x2048 .bf16) (h3 : arg3.IsWhole) (arg4 : Memref sig .tc .vmem S4x2048 .f32) (h4 : arg4.IsWhole) (arg5 : Memref sig .tc .vmem S1x2048 .f32) (h5 : arg5.IsWhole) (arg6 : Memref sig .tc .vmem S1x8x256x256 .f32) (h6 : arg6.IsWhole) (arg7 : Memref sig .tc .vmem S1x2048 .f32) (h7 : arg7.IsWhole) (arg8 : Memref sig .tc .vmem S1x8x256x256 .f32) (h8 : arg8.IsWhole) (arg9 : Memref sig .tc .vmem S1x2048 .f32) (h9 : arg9.IsWhole) (arg10 : Memref sig .tc .vmem S1x2048 .f32) (h10 : arg10.IsWhole)
  (arg11 : Memref sig .tc .vmem S256x2048 .bf16) (h11 : arg11.IsWhole) (arg12 : Memref sig .tc .vmem S8x2048 .f32) (h12 : arg12.IsWhole) (arg13 : Memref sig .tc .vmem S8x2048 .f32) (h13 : arg13.IsWhole) (arg14 : Memref sig .tc .vmem S256x2048 .f32) (h14 : arg14.IsWhole) (arg15 : Memref sig .tc .vmem S256x2048 .f32) (h15 : arg15.IsWhole)

/-- Before the loop: the decays and the inputs stored, the state carried; after it the recurrence's rows. -/
theorem loop_rows (h : Blocks A0 A1 A2 A3 A4 A5 A6 A7 x1 x2 x3 x4 x5 x6 x7 x8 b n) (hs : Halo A0 b n s0)
    (f14 : BufTy.Contents (Elt Ideal) arg14.view.ty) (f15 : BufTy.Contents (Elt Ideal) arg15.view.ty) (G13 : BufTy.Contents (Elt Ideal) arg13.view.ty)
    (hc : Carried A0 A1 A2 A3 A4 A5 A6 A7 b n (arg13.view.read (Elt Ideal) G13)) :
    Carried A0 A1 A2 A3 A4 A5 A6 A7 b (n + 1) (arg13.view.read (Elt Ideal) (arg13.view.writes (Elt Ideal) G13
      (pb_k0_t1 (F := Ideal) Variants.none c none i arg2 h2 arg3 h3 arg4 h4 arg5 h5 arg6 h6 arg7 h7 arg8 h8 arg9 h9 arg10 h10 arg11 h11 arg12 h12 arg13 h13 arg14 h14 arg15 h15 rowNo (arg14.view.writes (Elt Ideal) f14 (storesA (xcOf x1 x2 x3 s0) x4 x5 x8)) G13
        (arg15.view.writes (Elt Ideal) f15 (storesB (xcOf x1 x2 x3 s0) x4 x6 x5 x7 x8)) k0_t1_loop.trips).1))
    ∧ ∀ (r : Fin 256) (l : Fin 2048), arg15.view.read (Elt Ideal) (arg15.view.writes (Elt Ideal) f15
      ((pb_k0_t1 (F := Ideal) Variants.none c none i arg2 h2 arg3 h3 arg4 h4 arg5 h5 arg6 h6 arg7 h7 arg8 h8 arg9 h9 arg10 h10 arg11 h11 arg12 h12 arg13 h13 arg14 h14 arg15 h15 rowNo (arg14.view.writes (Elt Ideal) f14 (storesA (xcOf x1 x2 x3 s0) x4 x5 x8)) G13
        (arg15.view.writes (Elt Ideal) f15 (storesB (xcOf x1 x2 x3 s0) x4 x6 x5 x7 x8)) k0_t1_loop.trips).2
        ++ storesB (xcOf x1 x2 x3 s0) x4 x6 x5 x7 x8)) (ix2 r l) = rows A0 A1 A2 A3 A4 A5 A6 A7 b l (256 * n + (r.val + 1)) := by
  have hX : ∀ (r : Fin 256) (l : Fin 2048), xcOf x1 x2 x3 s0 (ix2 r l) = (fun k l => conv A0 A1 A2 b (256 * n + k) l) r.val l := xcOf_apply h hs
  have hl := loop_held (S := fun l k => rows A0 A1 A2 A3 A4 A5 A6 A7 b l (256 * n + k)) c i arg2 h2 arg3 h3 arg4 h4 arg5 h5 arg6 h6 arg7 h7 arg8 h8 arg9 h9 arg10 h10 arg11 h11 arg12 h12 arg13 h13 arg14 h14 arg15 h15
    (fun l k => Good.decay _ _) (fun l k => rfl)
    (storesA_held h.gate_r h.lam hX arg14 f14) (G13 := G13) hc (storesB_held h.gate_r h.gate_i h.lam hX _ arg15 f15) k0_t1_loop.trips le_rfl
  have e : 8 * k0_t1_loop.trips = 256 := by rw [trips_eq]
  refine ⟨fun q l => (hl.1 q l).trans ?_, fun r l => ?_⟩
  · show rows _ _ _ _ _ _ _ _ b l (256 * n + 8 * k0_t1_loop.trips) = _
    rw [e]
    rfl
  · rw [View.writes_append]
    refine (hl.2 r l).trans (if_pos ?_)
    rw [e]
    exact r.isLt

theorem pay3_apply (Y : Vec Ideal S256x2048 .f32) (g : Vec Ideal S256x2048 .bf16) (r : Fin 256) (l : Fin 2048) :
    k0_pay3 Y g (ix2 r l) = @HMul.hMul EReal EReal EReal _ (Y (ix2 r l)) (g (ix2 r l)) := by
  pointwise [k0_pay3]

theorem pay40_apply (x : Vec Ideal S256x2048 .bf16) (q : Fin 8) (l : Fin 2048) :
    k0_pay40 (F := Ideal) x (ix2 q l) = x (ix2 ⟨248 + q.val, by omega⟩ l) := by
  pointwise [k0_pay40, k0_pay38]

/-- The last rows of a point's branch are the rows before the next point's. -/
theorem halo_next (h : Blocks A0 A1 A2 A3 A4 A5 A6 A7 x1 x2 x3 x4 x5 x6 x7 x8 b n) : Halo A0 b (n + 1) (k0_pay40 (F := Ideal) x1) := fun q l hq => by
  rw [pay40_apply, h.branch]
  congr 1
  show 256 * n + (248 + q.val + 3) = 256 * (n + 1) + (q.val - 5)
  omega

/-- Before the first row there are only zeros. -/
theorem halo_zero : Halo A0 b 0 (k0_pay36 (F := Ideal)) := fun q l hq => by
  unfold xp
  rw [dif_neg (by omega)]
  pointwise [k0_pay36]

theorem carried_zero : Carried A0 A1 A2 A3 A4 A5 A6 A7 b 0 (k0_pay37 (F := Ideal)) := fun q l => by
  show _ = (0 : EReal)
  pointwise [k0_pay37]

/-! ## What a point leaves -/

theorem outB (hc : ¬cond0_0 i) (h : Blocks A0 A1 A2 A3 A4 A5 A6 A7 x1 x2 x3 x4 x5 x6 x7 x8 b n) (hs : Halo A0 b n s0)
    (h1 : Carried A0 A1 A2 A3 A4 A5 A6 A7 b n s1) (r : Fin 256) (l : Fin 2048) :
    out0_B_9 (F := Ideal) c i arg2 h2 arg3 h3 arg4 h4 arg5 h5 arg6 h6 arg7 h7 arg8 h8 arg9 h9 arg10 h10 arg11 h11 arg12 h12 arg13 h13 arg14 h14 arg15 h15 hc x0 x1 x2 x3 x4 x5 x6 x7 x8 s0 s1 (ix2 r l)
      = @HMul.hMul EReal EReal EReal _ (rows A0 A1 A2 A3 A4 A5 A6 A7 b l (256 * n + (r.val + 1))) (x0 (ix2 r l)) := by
  unfold out0_B_9
  rw [View.read_writes_eq_canon _ _ _ (cover0_B_9 c i arg2 h2 arg3 h3 arg4 h4 arg5 h5 arg6 h6 arg7 h7 arg8 h8 arg9 h9 arg10 h10 arg11 h11 arg12 h12 arg13 h13 arg14 h14 arg15 h15 hc x0 x1 x2 x3 x4 x5 x6 x7 x8 s0 s1)]
  unfold kernelRun0_B
  dsimp only
  sl_unfold_words
  simp only [View.readAt_eq_ld, h2.read_unread, h3.read_unread, h4.read_unread, h5.read_unread, h6.read_unread, h7.read_unread, h8.read_unread,
    h9.read_unread, h10.read_unread, h12.read_unread, View.readCov_unit_zero (S := S8x2048) _ hz, View.ld_unit_zero (S := S256x2048) hz,
    View.ld_unit_zero (S := S1x2048) hz, View.ld_unit_zero (S := S8x2048) hz, View.canon_cons_unit_zero (S := S256x2048) hz]
  refine (pay3_apply _ _ r l).trans (congrArg (fun y : EReal => y * x0 (ix2 r l)) ?_)
  exact (loop_rows c i arg2 h2 arg3 h3 arg4 h4 arg5 h5 arg6 h6 arg7 h7 arg8 h8 arg9 h9 arg10 h10 arg11 h11 arg12 h12 arg13 h13 arg14 h14 arg15 h15 h hs arg14.view.junk arg15.view.junk (h13.unread s1) (by rw [h13.read_unread]; exact h1)).2 r l

theorem haloB (hc : ¬cond0_0 i) (h : Blocks A0 A1 A2 A3 A4 A5 A6 A7 x1 x2 x3 x4 x5 x6 x7 x8 b n) : Halo A0 b (n + 1) (sout0_B_0 (F := Ideal) c i arg2 h2 arg3 h3 arg4 h4 arg5 h5 arg6 h6 arg7 h7 arg8 h8 arg9 h9 arg10 h10 arg11 h11 arg12 h12 arg13 h13 arg14 h14 arg15 h15 hc x0 x1 x2 x3 x4 x5 x6 x7 x8 s0 s1) := by
  unfold sout0_B_0
  rw [View.read_writes_eq_canon _ _ _ (scover0_B_0 c i arg2 h2 arg3 h3 arg4 h4 arg5 h5 arg6 h6 arg7 h7 arg8 h8 arg9 h9 arg10 h10 arg11 h11 arg12 h12 arg13 h13 arg14 h14 arg15 h15 hc x0 x1 x2 x3 x4 x5 x6 x7 x8 s0 s1)]
  unfold kernelRun0_B
  dsimp only
  sl_unfold_words
  simp only [View.readAt_eq_ld, h3.read_unread, View.ld_unit_zero (S := S256x2048) hz, View.canon_cons_unit_zero (S := S8x2048) hz]
  exact halo_next h

theorem carriedB (hc : ¬cond0_0 i) (h : Blocks A0 A1 A2 A3 A4 A5 A6 A7 x1 x2 x3 x4 x5 x6 x7 x8 b n) (hs : Halo A0 b n s0)
    (h1 : Carried A0 A1 A2 A3 A4 A5 A6 A7 b n s1) :
    Carried A0 A1 A2 A3 A4 A5 A6 A7 b (n + 1) (sout0_B_1 (F := Ideal) c i arg2 h2 arg3 h3 arg4 h4 arg5 h5 arg6 h6 arg7 h7 arg8 h8 arg9 h9 arg10 h10 arg11 h11 arg12 h12 arg13 h13 arg14 h14 arg15 h15 hc x0 x1 x2 x3 x4 x5 x6 x7 x8 s0 s1) := by
  unfold sout0_B_1
  rw [View.read_writes_eq_canon _ _ _ (scover0_B_1 c i arg2 h2 arg3 h3 arg4 h4 arg5 h5 arg6 h6 arg7 h7 arg8 h8 arg9 h9 arg10 h10 arg11 h11 arg12 h12 arg13 h13 arg14 h14 arg15 h15 hc x0 x1 x2 x3 x4 x5 x6 x7 x8 s0 s1),
    ← View.read_writes_eq_canon arg13.view (h13.unread s1) _ (scover0_B_1 c i arg2 h2 arg3 h3 arg4 h4 arg5 h5 arg6 h6 arg7 h7 arg8 h8 arg9 h9 arg10 h10 arg11 h11 arg12 h12 arg13 h13 arg14 h14 arg15 h15 hc x0 x1 x2 x3 x4 x5 x6 x7 x8 s0 s1)]
  unfold kernelRun0_B
  dsimp only
  sl_unfold_words
  simp only [View.readAt_eq_ld, h2.read_unread, h3.read_unread, h4.read_unread, h5.read_unread, h6.read_unread, h7.read_unread, h8.read_unread,
    h9.read_unread, h10.read_unread, h12.read_unread, View.readCov_unit_zero (S := S8x2048) _ hz, View.ld_unit_zero (S := S256x2048) hz,
    View.ld_unit_zero (S := S1x2048) hz, View.ld_unit_zero (S := S8x2048) hz, View.canon_cons_unit_zero (S := S256x2048) hz]
  exact (loop_rows c i arg2 h2 arg3 h3 arg4 h4 arg5 h5 arg6 h6 arg7 h7 arg8 h8 arg9 h9 arg10 h10 arg11 h11 arg12 h12 arg13 h13 arg14 h14 arg15 h15 h hs arg14.view.junk arg15.view.junk (h13.unread s1) (by rw [h13.read_unread]; exact h1)).1

/-- The state's buffer after the zeros of a sequence's first point. -/
abbrev zeroed : BufTy.Contents (Elt Ideal) arg13.view.ty :=
  arg13.view.writes (Elt Ideal) arg13.view.junk
    [⟨Rect.unit (s := S8x2048) ![0, 0] S8x2048.size inb_S8x2048_S8x2048_0_0, k0_pay37 (F := Ideal)⟩]

theorem zeroed_carried : Carried A0 A1 A2 A3 A4 A5 A6 A7 b 0 (arg13.view.read (Elt Ideal) (zeroed arg13)) := by
  rw [show arg13.view.read (Elt Ideal) (zeroed arg13) = k0_pay37 (F := Ideal) from funext fun j =>
    View.read_writes_cons_unit_of_mem arg13.view _ _ _ _ j j hz (fun a => (Nat.zero_add _).symm)]
  exact carried_zero

theorem outA (hc : cond0_0 i) (h : Blocks A0 A1 A2 A3 A4 A5 A6 A7 x1 x2 x3 x4 x5 x6 x7 x8 b 0) (r : Fin 256) (l : Fin 2048) :
    out0_A_9 (F := Ideal) c i arg2 h2 arg3 h3 arg4 h4 arg5 h5 arg6 h6 arg7 h7 arg8 h8 arg9 h9 arg10 h10 arg11 h11 arg12 h12 arg13 h13 arg14 h14 arg15 h15 hc x0 x1 x2 x3 x4 x5 x6 x7 x8 (ix2 r l)
      = @HMul.hMul EReal EReal EReal _ (rows A0 A1 A2 A3 A4 A5 A6 A7 b l (256 * 0 + (r.val + 1))) (x0 (ix2 r l)) := by
  unfold out0_A_9
  rw [View.read_writes_eq_canon _ _ _ (cover0_A_9 c i arg2 h2 arg3 h3 arg4 h4 arg5 h5 arg6 h6 arg7 h7 arg8 h8 arg9 h9 arg10 h10 arg11 h11 arg12 h12 arg13 h13 arg14 h14 arg15 h15 hc x0 x1 x2 x3 x4 x5 x6 x7 x8)]
  unfold kernelRun0_A
  dsimp only
  sl_unfold_words
  simp only [View.readAt_eq_ld, h2.read_unread, h3.read_unread, h4.read_unread, h5.read_unread, h6.read_unread, h7.read_unread, h8.read_unread,
    h9.read_unread, h10.read_unread, h12.read_unread, View.readCov_unit_zero (S := S8x2048) _ hz, View.ld_unit_zero (S := S256x2048) hz,
    View.ld_unit_zero (S := S1x2048) hz, View.ld_unit_zero (S := S8x2048) hz, View.canon_cons_unit_zero (S := S256x2048) hz]
  refine (pay3_apply _ _ r l).trans (congrArg (fun y : EReal => y * x0 (ix2 r l)) ?_)
  exact (loop_rows c i arg2 h2 arg3 h3 arg4 h4 arg5 h5 arg6 h6 arg7 h7 arg8 h8 arg9 h9 arg10 h10 arg11 h11 arg12 h12 arg13 h13 arg14 h14 arg15 h15 h halo_zero arg14.view.junk arg15.view.junk (zeroed arg13) (zeroed_carried arg13)).2 r l

theorem haloA (hc : cond0_0 i) (h : Blocks A0 A1 A2 A3 A4 A5 A6 A7 x1 x2 x3 x4 x5 x6 x7 x8 b 0) : Halo A0 b 1 (sout0_A_0 (F := Ideal) c i arg2 h2 arg3 h3 arg4 h4 arg5 h5 arg6 h6 arg7 h7 arg8 h8 arg9 h9 arg10 h10 arg11 h11 arg12 h12 arg13 h13 arg14 h14 arg15 h15 hc x0 x1 x2 x3 x4 x5 x6 x7 x8) := by
  unfold sout0_A_0
  rw [View.read_writes_eq_canon _ _ _ (scover0_A_0 c i arg2 h2 arg3 h3 arg4 h4 arg5 h5 arg6 h6 arg7 h7 arg8 h8 arg9 h9 arg10 h10 arg11 h11 arg12 h12 arg13 h13 arg14 h14 arg15 h15 hc x0 x1 x2 x3 x4 x5 x6 x7 x8)]
  unfold kernelRun0_A
  dsimp only
  sl_unfold_words
  simp only [View.readAt_eq_ld, h3.read_unread, View.ld_unit_zero (S := S256x2048) hz, View.canon_cons_unit_zero (S := S8x2048) hz]
  exact halo_next h

theorem carriedA (hc : cond0_0 i) (h : Blocks A0 A1 A2 A3 A4 A5 A6 A7 x1 x2 x3 x4 x5 x6 x7 x8 b 0) : Carried A0 A1 A2 A3 A4 A5 A6 A7 b 1 (sout0_A_1 (F := Ideal) c i arg2 h2 arg3 h3 arg4 h4 arg5 h5 arg6 h6 arg7 h7 arg8 h8 arg9 h9 arg10 h10 arg11 h11 arg12 h12 arg13 h13 arg14 h14 arg15 h15 hc x0 x1 x2 x3 x4 x5 x6 x7 x8) := by
  unfold sout0_A_1
  rw [View.read_writes_eq_canon _ _ _ (scover0_A_1 c i arg2 h2 arg3 h3 arg4 h4 arg5 h5 arg6 h6 arg7 h7 arg8 h8 arg9 h9 arg10 h10 arg11 h11 arg12 h12 arg13 h13 arg14 h14 arg15 h15 hc x0 x1 x2 x3 x4 x5 x6 x7 x8), ← View.read_writes_eq_canon arg13.view arg13.view.junk _ (scover0_A_1 c i arg2 h2 arg3 h3 arg4 h4 arg5 h5 arg6 h6 arg7 h7 arg8 h8 arg9 h9 arg10 h10 arg11 h11 arg12 h12 arg13 h13 arg14 h14 arg15 h15 hc x0 x1 x2 x3 x4 x5 x6 x7 x8)]
  unfold kernelRun0_A
  dsimp only
  sl_unfold_words
  simp only [View.readAt_eq_ld, h2.read_unread, h3.read_unread, h4.read_unread, h5.read_unread, h6.read_unread, h7.read_unread, h8.read_unread,
    h9.read_unread, h10.read_unread, h12.read_unread, View.readCov_unit_zero (S := S8x2048) _ hz, View.ld_unit_zero (S := S256x2048) hz,
    View.ld_unit_zero (S := S1x2048) hz, View.ld_unit_zero (S := S8x2048) hz, View.canon_cons_unit_zero (S := S256x2048) hz]
  rw [View.writes_append]
  exact (loop_rows c i arg2 h2 arg3 h3 arg4 h4 arg5 h5 arg6 h6 arg7 h7 arg8 h8 arg9 h9 arg10 h10 arg11 h11 arg12 h12 arg13 h13 arg14 h14 arg15 h15 h halo_zero arg14.view.junk arg15.view.junk (zeroed arg13) (zeroed_carried arg13)).1

end Cert.Proof.LruBody

end
-- ==== Proof.Lru.lean ====
/-
  The RG-LRU block over its grid: sixteen points for each of the two sequences, each handing the next the rows before its
  own and the state. The result array is the recurrence's rows times the gate branch, and so is the reference's.
-/
module

public import proofs.«01_k».proof.Defs
public import proofs.«01_k».proof.Proof.LruBody

@[expose] public section

set_option maxRecDepth 16384

noncomputable section

open Idealize.ShloMosaic Idealize.ShloMosaic.TcCoe Idealize.SL.Sem
open Idealize.ShloMosaic.Pipeline (Dat)

namespace Cert.Proof.Lru

open Cert.KernelIdeal Cert.KernelIdeal.Gen Cert.Proof.LruRef Cert.Proof.LruGates Cert.Proof.LruBody

/-- The result: the recurrence's rows times the gate branch. -/
def result (A0 : S8192x4096.Idx → EReal) (A1 : S4x2048.Idx → EReal) (A2 : S2048.Idx → EReal) (A3 : S2x8x256x256.Idx → EReal)
    (A4 : S2048.Idx → EReal) (A5 : S2x8x256x256.Idx → EReal) (A6 A7 : S2048.Idx → EReal) (u : Fin 8192) (l : Fin 2048) : EReal :=
  rows A0 A1 A2 A3 A4 A5 A6 A7 ⟨u.val / 4096, by omega⟩ l (u.val % 4096 + 1) * A0 (ix2 u ⟨l.val, by omega⟩)

variable (m : (ℓ : Loc nD τ sig) → Buf (Elt Ideal) ℓ) (ρ : Dev nD → PrngReg)

/-! ## The blocks of the arguments -/

/-- The index maps, decided over the thirty-two points. -/
theorem idx_facts : ∀ t : Fin cfg0.N, (win0_0.index t 0 = t.val ∧ win0_0.index t 1 = 0)
    ∧ (win0_1.index t 0 = t.val ∧ win0_1.index t 1 = 1)
    ∧ (win0_2.index t 0 = 0 ∧ win0_2.index t 1 = 0)
    ∧ (win0_3.index t 0 = 0 ∧ win0_3.index t 1 = 0)
    ∧ (win0_4.index t 0 = 0 ∧ win0_4.index t 1 = 0 ∧ win0_4.index t 2 = 0 ∧ win0_4.index t 3 = 0)
    ∧ (win0_5.index t 0 = 0 ∧ win0_5.index t 1 = 0)
    ∧ (win0_6.index t 0 = 0 ∧ win0_6.index t 1 = 0 ∧ win0_6.index t 2 = 0 ∧ win0_6.index t 3 = 0)
    ∧ (win0_7.index t 0 = 0 ∧ win0_7.index t 1 = 0)
    ∧ (win0_8.index t 0 = 0 ∧ win0_8.index t 1 = 0)
    ∧ (win0_9.index t 0 = t.val ∧ win0_9.index t 1 = 0) :=
  (by decide +kernel : ∀ t : Fin grid0.N, _)

theorem lt32 (t : Fin cfg0.N) : t.val < 32 := lt_of_lt_of_eq t.isLt N_0

/-- Row `r` of point `t`'s block, as a row of the array. -/
def row (t : Fin cfg0.N) (r : Fin 256) : Fin 8192 := ⟨256 * t.val + r.val, by have := lt32 t; omega⟩

theorem blk0 (c : Dev nD) (t : Fin cfg0.N) (r : Fin 256) (l : Fin 2048) :
    iblk m c 0 t (ix2 r l) = m ((c : Thread nD τ).loc main_arg0) (ix2 (row t r) ⟨l.val, by omega⟩) := by
  obtain ⟨h0, h1⟩ := (idx_facts t).1
  unfold iblk
  rw [View.read_apply]
  show V m c main_arg0 _ = _
  rw [V_main_arg0]
  refine congrArg _ (funext fun a => Fin.ext ?_)
  match a with
  | ⟨0, _⟩ => show win0_0.index t 0 * 256 + 1 * r.val = 256 * t.val + r.val; rw [h0]; omega
  | ⟨1, _⟩ => show win0_0.index t 1 * 2048 + 1 * l.val = l.val; rw [h1]; omega

theorem blk1 (c : Dev nD) (t : Fin cfg0.N) (r : Fin 256) (l : Fin 2048) :
    iblk m c 1 t (ix2 r l) = m ((c : Thread nD τ).loc main_arg0) (ix2 (row t r) ⟨2048 + l.val, by omega⟩) := by
  obtain ⟨h0, h1⟩ := (idx_facts t).2.1
  unfold iblk
  rw [View.read_apply]
  show V m c main_arg0 _ = _
  rw [V_main_arg0]
  refine congrArg _ (funext fun a => Fin.ext ?_)
  match a with
  | ⟨0, _⟩ => show win0_1.index t 0 * 256 + 1 * r.val = 256 * t.val + r.val; rw [h0]; omega
  | ⟨1, _⟩ => show win0_1.index t 1 * 2048 + 1 * l.val = 2048 + l.val; rw [h1]; omega

theorem blk2 (c : Dev nD) (t : Fin cfg0.N) (j : Fin 4) (l : Fin 2048) :
    iblk m c 2 t (ix2 j l) = m ((c : Thread nD τ).loc main_arg1) (ix2 j l) := by
  obtain ⟨h0, h1⟩ := (idx_facts t).2.2.1
  unfold iblk
  rw [View.read_apply]
  show V m c main_arg1 _ = _
  rw [V_main_arg1]
  refine congrArg _ (funext fun a => Fin.ext ?_)
  match a with
  | ⟨0, _⟩ => show win0_2.index t 0 * 4 + 1 * j.val = j.val; rw [h0]; omega
  | ⟨1, _⟩ => show win0_2.index t 1 * 2048 + 1 * l.val = l.val; rw [h1]; omega

theorem blk4 (c : Dev nD) (t : Fin cfg0.N) (n : Fin 8) (k p : Fin 256) :
    iblk m c 4 t (ix4 0 n k p) = m ((c : Thread nD τ).loc main_arg3) (ix4 0 n k p) := by
  obtain ⟨h0, h1, h2, h3⟩ := (idx_facts t).2.2.2.2.1
  unfold iblk
  rw [View.read_apply]
  show V m c main_arg3 _ = _
  rw [V_main_arg3]
  refine congrArg _ (funext fun a => Fin.ext ?_)
  match a with
  | ⟨0, _⟩ => show win0_4.index t 0 * 1 + 1 * 0 = 0; rw [h0]
  | ⟨1, _⟩ => show win0_4.index t 1 * 8 + 1 * n.val = n.val; rw [h1]; omega
  | ⟨2, _⟩ => show win0_4.index t 2 * 256 + 1 * k.val = k.val; rw [h2]; omega
  | ⟨3, _⟩ => show win0_4.index t 3 * 256 + 1 * p.val = p.val; rw [h3]; omega

theorem blk6 (c : Dev nD) (t : Fin cfg0.N) (n : Fin 8) (k p : Fin 256) :
    iblk m c 6 t (ix4 0 n k p) = m ((c : Thread nD τ).loc main_arg5) (ix4 0 n k p) := by
  obtain ⟨h0, h1, h2, h3⟩ := (idx_facts t).2.2.2.2.2.2.1
  unfold iblk
  rw [View.read_apply]
  show V m c main_arg5 _ = _
  rw [V_main_arg5]
  refine congrArg _ (funext fun a => Fin.ext ?_)
  match a with
  | ⟨0, _⟩ => show win0_6.index t 0 * 1 + 1 * 0 = 0; rw [h0]
  | ⟨1, _⟩ => show win0_6.index t 1 * 8 + 1 * n.val = n.val; rw [h1]; omega
  | ⟨2, _⟩ => show win0_6.index t 2 * 256 + 1 * k.val = k.val; rw [h2]; omega
  | ⟨3, _⟩ => show win0_6.index t 3 * 256 + 1 * p.val = p.val; rw [h3]; omega

/-- The reshaped biases, read at an index. -/
theorem V0 (c : Dev nD) (l : Fin 2048) : V m c main_v0 (ix2 0 l) = m ((c : Thread nD τ).loc main_arg2) (ix1 l) := by
  unfold V
  after_reads_at
theorem V1 (c : Dev nD) (l : Fin 2048) : V m c main_v1 (ix2 0 l) = m ((c : Thread nD τ).loc main_arg4) (ix1 l) := by
  unfold V
  after_reads_at
theorem V2 (c : Dev nD) (l : Fin 2048) : V m c main_v2 (ix2 0 l) = m ((c : Thread nD τ).loc main_arg6) (ix1 l) := by
  unfold V
  after_reads_at
theorem V3 (c : Dev nD) (l : Fin 2048) : V m c main_v3 (ix2 0 l) = m ((c : Thread nD τ).loc main_arg7) (ix1 l) := by
  unfold V
  after_reads_at

theorem blk3 (c : Dev nD) (t : Fin cfg0.N) (l : Fin 2048) :
    iblk m c 3 t (ix2 0 l) = m ((c : Thread nD τ).loc main_arg2) (ix1 l) := by
  obtain ⟨h0, h1⟩ := (idx_facts t).2.2.2.1
  unfold iblk
  rw [View.read_apply]
  refine Eq.trans ?_ (V0 m c l)
  show V m c main_v0 _ = _
  refine congrArg _ (funext fun a => Fin.ext ?_)
  match a with
  | ⟨0, _⟩ => show win0_3.index t 0 * 1 + 1 * 0 = 0; rw [h0]
  | ⟨1, _⟩ => show win0_3.index t 1 * 2048 + 1 * l.val = l.val; rw [h1]; omega

theorem blk5 (c : Dev nD) (t : Fin cfg0.N) (l : Fin 2048) :
    iblk m c 5 t (ix2 0 l) = m ((c : Thread nD τ).loc main_arg4) (ix1 l) := by
  obtain ⟨h0, h1⟩ := (idx_facts t).2.2.2.2.2.1
  unfold iblk
  rw [View.read_apply]
  refine Eq.trans ?_ (V1 m c l)
  show V m c main_v1 _ = _
  refine congrArg _ (funext fun a => Fin.ext ?_)
  match a with
  | ⟨0, _⟩ => show win0_5.index t 0 * 1 + 1 * 0 = 0; rw [h0]
  | ⟨1, _⟩ => show win0_5.index t 1 * 2048 + 1 * l.val = l.val; rw [h1]; omega

theorem blk7 (c : Dev nD) (t : Fin cfg0.N) (l : Fin 2048) :
    iblk m c 7 t (ix2 0 l) = m ((c : Thread nD τ).loc main_arg6) (ix1 l) := by
  obtain ⟨h0, h1⟩ := (idx_facts t).2.2.2.2.2.2.2.1
  unfold iblk
  rw [View.read_apply]
  refine Eq.trans ?_ (V2 m c l)
  show V m c main_v2 _ = _
  refine congrArg _ (funext fun a => Fin.ext ?_)
  match a with
  | ⟨0, _⟩ => show win0_7.index t 0 * 1 + 1 * 0 = 0; rw [h0]
  | ⟨1, _⟩ => show win0_7.index t 1 * 2048 + 1 * l.val = l.val; rw [h1]; omega

theorem blk8 (c : Dev nD) (t : Fin cfg0.N) (l : Fin 2048) :
    iblk m c 8 t (ix2 0 l) = m ((c : Thread nD τ).loc main_arg7) (ix1 l) := by
  obtain ⟨h0, h1⟩ := (idx_facts t).2.2.2.2.2.2.2.2.1
  unfold iblk
  rw [View.read_apply]
  refine Eq.trans ?_ (V3 m c l)
  show V m c main_v3 _ = _
  refine congrArg _ (funext fun a => Fin.ext ?_)
  match a with
  | ⟨0, _⟩ => show win0_8.index t 0 * 1 + 1 * 0 = 0; rw [h0]
  | ⟨1, _⟩ => show win0_8.index t 1 * 2048 + 1 * l.val = l.val; rw [h1]; omega

/-- The sequence a point works on. -/
def seqNo (t : Fin cfg0.N) : Fin 2 := ⟨t.val / 16, by have := lt32 t; omega⟩

/-- A point's blocks are its rows of its sequence. -/
theorem blocks (c : Dev nD) (t : Fin cfg0.N) :
    Blocks (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5))
      (m ((c : Thread nD τ).loc main_arg6)) (m ((c : Thread nD τ).loc main_arg7)) (iblk m c 1 t) (iblk m c 2 t) (iblk m c 3 t)
      (iblk m c 4 t) (iblk m c 5 t) (iblk m c 6 t) (iblk m c 7 t) (iblk m c 8 t) (seqNo t) (t.val % 16) where
  branch r l := by
    have := lt32 t
    rw [blk1]
    unfold xp
    rw [dif_pos (by omega)]
    refine congrArg _ (funext fun a => Fin.ext ?_)
    match a with
    | ⟨0, _⟩ => show 256 * t.val + r.val = 4096 * (t.val / 16) + (256 * (t.val % 16) + (r.val + 3) - 3); omega
    | ⟨1, _⟩ => rfl
  conv_w j l := blk2 m c t j l
  conv_b l := blk3 m c t l
  gate_r := ⟨blk4 m c t, blk5 m c t⟩
  gate_i := ⟨blk6 m c t, blk7 m c t⟩
  lam l := blk8 m c t l

/-! ## The points in turn -/

/-- What a point leaves: its block of the result, the rows before the next point's, the state after its last row. -/
structure Left (c : Dev nD) (t : Fin cfg0.N) : Prop where
  out : ∀ (r : Fin 256) (l : Fin 2048), (outsAt0 m c t.val t.isLt).1 (ix2 r l)
    = @HMul.hMul EReal EReal EReal _ (rows (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) (m ((c : Thread nD τ).loc main_arg6)) (m ((c : Thread nD τ).loc main_arg7))
      (seqNo t) l (256 * (t.val % 16) + (r.val + 1))) (iblk m c 0 t (ix2 r l))
  halo : Halo (m ((c : Thread nD τ).loc main_arg0)) (seqNo t) (t.val % 16 + 1) (outsAt0 m c t.val t.isLt).2.1
  state : Carried (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (seqNo t) (t.val % 16 + 1) (outsAt0 m c t.val t.isLt).2.2

theorem left_first (c : Dev nD) (t : Fin cfg0.N) (h : t.val % 16 = 0) : Left m c t := by
  have hb := blocks m c t
  rw [h] at hb
  constructor <;> rw [h, outsAt0_A m c t h] <;> dsimp only
  · exact outA _ _ _ _ _ _ _ _ _ _ _ _ _ _ _ _ _ _ _ _ _ _ _ _ _ _ _ _ _ _ _ hb
  · exact haloA _ _ _ _ _ _ _ _ _ _ _ _ _ _ _ _ _ _ _ _ _ _ _ _ _ _ _ _ _ _ _ hb
  · exact carriedA _ _ _ _ _ _ _ _ _ _ _ _ _ _ _ _ _ _ _ _ _ _ _ _ _ _ _ _ _ _ _ hb

theorem left_next (c : Dev nD) (t s : Fin cfg0.N) (h : ¬t.val % 16 = 0) (hs : s.val = t.val - 1) (hl : Left m c s) : Left m c t := by
  have hb := blocks m c t
  have e : s.val % 16 + 1 = t.val % 16 := by omega
  have e' : seqNo s = seqNo t := Fin.ext (by show s.val / 16 = t.val / 16; omega)
  have hh := hl.halo
  have hc := hl.state
  rw [e, e'] at hh hc
  obtain ⟨s, hsl⟩ := s
  dsimp only at hs
  subst hs
  constructor <;> rw [outsAt0_B m c t h] <;> dsimp only
  · exact outB _ _ _ _ _ _ _ _ _ _ _ _ _ _ _ _ _ _ _ _ _ _ _ _ _ _ _ _ _ _ _ hb hh hc
  · exact haloB _ _ _ _ _ _ _ _ _ _ _ _ _ _ _ _ _ _ _ _ _ _ _ _ _ _ _ _ _ _ _ hb
  · exact carriedB _ _ _ _ _ _ _ _ _ _ _ _ _ _ _ _ _ _ _ _ _ _ _ _ _ _ _ _ _ _ _ hb hh hc

theorem left (c : Dev nD) : ∀ (k : ℕ) (t : Fin cfg0.N), t.val = k → Left m c t
  | 0, t, ht => left_first m c t (by rw [ht])
  | k + 1, t, ht => by
    by_cases h : t.val % 16 = 0
    · exact left_first m c t h
    · obtain ⟨s, hs⟩ : ∃ s : Fin cfg0.N, s.val = t.val - 1 := ⟨⟨t.val - 1, by have := t.isLt; omega⟩, rfl⟩
      exact left_next m c t s h hs (left c k s (by omega))

/-! ## The result array -/

/-- What the result array ends holding. -/
abbrev G9 (c : Dev nD) : Buf (Elt Ideal) ((c : Thread nD τ).loc main_v4) := fun i =>
  result (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (i 0) (i 1)

theorem block9 (c : Dev nD) (t : Fin cfg0.N) (r : Fin 256) (l : Fin 2048) :
    (outsAt0 m c t.val t.isLt).1 (ix2 r l) = G9 m c (ix2 (row t r) l) := by
  have := lt32 t
  rw [(left m c t.val t rfl).out, blk0]
  show _ = result _ _ _ _ _ _ _ _ (row t r) l
  unfold result
  rw [show (⟨(row t r).val / 4096, by omega⟩ : Fin 2) = seqNo t from Fin.ext (by show (256 * t.val + r.val) / 4096 = t.val / 16; omega),
    show (row t r).val % 4096 + 1 = 256 * (t.val % 16) + (r.val + 1) from by show (256 * t.val + r.val) % 4096 + 1 = _; omega]

theorem flushed9_eq (c : Dev nD) (t : Fin cfg0.N) :
    (dats m 0 c).flushed 9 t = (win0_9.blk t).view.read (Elt Ideal) (G9 m c) := by
  rw [Value.flushed9]
  funext j
  rw [View.read_apply]
  obtain ⟨h0, h1⟩ := (idx_facts t).2.2.2.2.2.2.2.2.2
  idx_vars j
  refine (block9 m c t _ _).trans (congrArg _ (funext fun a => Fin.ext ?_))
  match a with
  | ⟨0, _⟩ => show 256 * t.val + j0.val = win0_9.index t 0 * 256 + 1 * j0.val; rw [h0]; omega
  | ⟨1, _⟩ => show j1.val = win0_9.index t 1 * 2048 + 1 * j1.val; rw [h1]; omega

/-- Every index of the result is in the block of the point its row names. -/
theorem cover9 (i : S8192x2048.Idx) : ∃ t : Fin cfg0.N, (cfg0.win 9).flush t = true ∧ i ∈ ((cfg0.win 9).blk t).view.set := by
  have hi0 : (i 0).val < 8192 := (i 0).isLt
  have hi1 : (i 1).val < 2048 := (i 1).isLt
  obtain ⟨t, ht⟩ : ∃ t : Fin cfg0.N, t.val = (i 0).val / 256 :=
    ⟨⟨(i 0).val / 256, by show _ < grid0.N; rw [N_0]; omega⟩, rfl⟩
  refine ⟨t, flush0_9 t, ?_⟩
  show i ∈ ((View.whole main_v4).slice (win0_9.rect t)).set
  rw [View.set_slice_whole, Rect.mem_set_unit]
  obtain ⟨h0, h1⟩ := (idx_facts t).2.2.2.2.2.2.2.2.2
  intro a
  match a with
  | ⟨0, _⟩ => show win0_9.index t 0 * 256 ≤ (i 0).val ∧ (i 0).val < win0_9.index t 0 * 256 + 256; rw [h0, ht]; omega
  | ⟨1, _⟩ => show win0_9.index t 1 * 2048 ≤ (i 1).val ∧ (i 1).val < win0_9.index t 1 * 2048 + 2048; rw [h1]; omega

theorem final9 (c : Dev nD) : (dats m 0 c).arrAt 9 cfg0.N = G9 m c :=
  (dats m 0 c).arrAt_eq_of_cover 9 (G9 m c) (fun t _ => flushed9_eq m c t) cover9

/-- The reference's result. -/
theorem reference_eq (m' : (ℓ : Loc Cert.ReferenceIdeal.nD Cert.ReferenceIdeal.τ Cert.ReferenceIdeal.sig) → Buf (Elt Ideal) ℓ)
    (c : Dev Cert.ReferenceIdeal.nD) (u : Fin 8192) (l : Fin 2048) :
    Cert.ReferenceIdeal.Step.R_main_v90 (LruRefRun.states m' c 4096) (LruRefRun.arg m' c Cert.ReferenceIdeal.main_arg0) (ix2 u l)
      = result (LruRefRun.arg m' c Cert.ReferenceIdeal.main_arg0) (LruRefRun.arg m' c Cert.ReferenceIdeal.main_arg1)
        (LruRefRun.arg m' c Cert.ReferenceIdeal.main_arg2) (LruRefRun.arg m' c Cert.ReferenceIdeal.main_arg3)
        (LruRefRun.arg m' c Cert.ReferenceIdeal.main_arg4) (LruRefRun.arg m' c Cert.ReferenceIdeal.main_arg5)
        (LruRefRun.arg m' c Cert.ReferenceIdeal.main_arg6) (LruRefRun.arg m' c Cert.ReferenceIdeal.main_arg7) u l := by
  have hu : (⟨4096 * (u.val / 4096) + u.val % 4096, by omega⟩ : Fin 8192) = u := Fin.ext (Nat.div_add_mod _ _)
  have h := result_apply m' c ⟨u.val / 4096, by omega⟩ ⟨u.val % 4096, by omega⟩ l
  dsimp only at h
  rw [hu] at h
  exact h

/-- The kernel's and the reference's runs end at one array. -/
theorem algebraic : Cert.algebraic_KernelIdeal_ReferenceIdeal := by
  intro m ρ m' ρ' _ hag
  refine ⟨G9 m, (θ_run _ _ _).mono (fun r h c => ?_) (Value.run_blocks m ρ),
    (θ_run _ _ _).mono (fun r h c => ?_) (Cert.ReferenceIdeal.Value.run m' ρ')⟩
  · obtain ⟨e, h⟩ := h c
    exact ⟨e.trans (final9 m c), h⟩
  · obtain ⟨e, h⟩ := h c
    obtain ⟨a0, a1, a2, a3, a4, a5, a6, a7⟩ := hag c
    refine ⟨e.trans ?_, h⟩
    rw [LruRefRun.result_eq]
    funext j
    idx_vars j
    rw [reference_eq]
    unfold LruRefRun.arg
    rw [a0, a1, a2, a3, a4, a5, a6, a7]
    rfl

end Cert.Proof.Lru

end
-- ==== Proof.UpRun.lean ====
/-
  The gate and up projections of the feed-forward block: the body's run at a point, by the case of its condition (the cast
  of the down weight's block is stored at the first half of the points only), the proof data and the launch. At the points
  that store no cast the block index stays at the last one, so the buffer holds the cast of the same block throughout.
-/
module

public import proofs.«01_k».proof.Defs
public import proofs.«01_k».proof.Proof.Gen.Kernel2Ideal
public import proofs.«01_k».proof.Proof.Gen.Kernel2Ideal.Frame
public import proofs.«01_k».proof.Proof.Gen.Kernel2Ideal.Skeleton
public import proofs.«01_k».proof.Proof.Shared
public import Idealize.ShloMosaic.Lib.Pipeline.FrameBody
public import Idealize.ShloMosaic.Lib.Pipeline.TableIdle
public import Idealize.ShloMosaic.Lib.Pipeline.ValueKit.Tiles
public import Idealize.ShloMosaic.Lib.Ring
public import Idealize.ShloMosaic.Lib.Tactic
public import Idealize.ShloMosaic.Lib.WordCmp
public import Idealize.ShloMosaic.Lib.Claim

@[expose] public section

set_option maxRecDepth 16384

noncomputable section

namespace Cert.Proof.UpRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel2Ideal Cert.Kernel2Ideal.Gen Cert.Proof.Shared

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the body stores -/

/-- The four row tiles of the activation block, last first. -/
def tiles (a : Vec F S2048x2048 .bf16) (g u : Vec F S1x2048x512 .f32) : List (View.Piece (Elt F) S2048x512 .bf16) :=
  [⟨Rect.unit ![1536, 0] ![512, 512] inb_S2048x512_S512x512_1536_0,
      k0_pay2 (k0_pay4 g) (k0_pay5 u) (View.ld a (Rect.unit ![1536, 0] ![512, 2048] inb_S2048x2048_S512x2048_1536_0))⟩,
   ⟨Rect.unit ![1024, 0] ![512, 512] inb_S2048x512_S512x512_1024_0,
      k0_pay1 (k0_pay4 g) (k0_pay5 u) (View.ld a (Rect.unit ![1024, 0] ![512, 2048] inb_S2048x2048_S512x2048_1024_0))⟩,
   ⟨Rect.unit ![512, 0] ![512, 512] inb_S2048x512_S512x512_512_0,
      k0_pay7 g u (View.ld a (Rect.unit ![512, 0] ![512, 2048] inb_S2048x2048_S512x2048_512_0))⟩,
   ⟨Rect.unit ![0, 0] ![512, 512] inb_S2048x512_S512x512_0_0,
      k0_pay6 g u (View.ld a (Rect.unit ![0, 0] ![512, 2048] inb_S2048x2048_S512x2048_0_0))⟩]

theorem tiles_cover (a : Vec F S2048x2048 .bf16) (g u : Vec F S1x2048x512 .f32) (y : S2048x512.Idx) : ∃ pc ∈ tiles a g u, y ∈ pc.1.set :=
  View.cover_of_tiledL (tiles a g u) S512x512.size (by sl_kernel_rfl) y

section Run

variable (c : Dev nD) (i : grid0.Coords) (arg2 : Memref sig .tc .vmem S2048x2048 .bf16) (harg2 : arg2.IsWhole)
  (arg3 : Memref sig .tc .vmem S1x2048x512 .f32) (harg3 : arg3.IsWhole) (arg4 : Memref sig .tc .vmem S1x2048x512 .f32) (harg4 : arg4.IsWhole)
  (arg5 : Memref sig .tc .vmem S1x256x2048 .f32) (harg5 : arg5.IsWhole) (arg6 : Memref sig .tc .vmem S2048x512 .bf16) (harg6 : arg6.IsWhole)
  (arg7 : Memref sig .tc .vmem S256x2048 .bf16) (harg7 : arg7.IsWhole)
  (x0 : Vec F S2048x2048 .bf16) (x1 x2 : Vec F S1x2048x512 .f32) (x3 : Vec F S1x256x2048 .f32)

/-- The body where the condition holds: the activation tiles and the cast block are stored. -/
theorem run_live (hc : k0_cond1 i = 1#1) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3
        ∗ (∃ d, owns (c : Thread nD τ) arg6 fullShare d) ∗ (∃ d, owns (c : Thread nD τ) arg7 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare (View.canon (tiles x0 x1 x2)) ∗ owns (c : Thread nD τ) arg7 fullShare (k0_pay3 x3)) -∗ K ⟨⟩))
      ⊢ wp frame (wpE (defs₀ (F := F)) Variants.none c none) E (cc0_ffn_up i arg2 harg2 arg3 harg3 arg4 harg4 arg5 harg5 arg6 harg6 arg7 harg7) K := by
  simp only [cc0_ffn_up_eq_skeleton]; unfold cc0_ffn_up_skel
  simp only [k0_part1_eq_skeleton]
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
  obtain rfl := harg2.eq_unread hf0; obtain rfl := harg3.eq_unread hf1; obtain rfl := harg4.eq_unread hf2; obtain rfl := harg5.eq_unread hf3
  sl_exec (disch := first | sl_exact hc)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr
    swap; · iexact H4
    ipureintro
    sl_unfold_words
    simp only [View.readAt_eq_ld, harg2.read_unread, harg3.read_unread, harg4.read_unread, View.ld_unit_zero (S := S1x2048x512) hz3]
    exact View.read_writes_eq_canon _ _ _ (tiles_cover x0 x1 x2)
  iexists _; isplitr
  swap; · iexact H5
  ipureintro
  simp only [View.readAt_eq_ld, harg5.read_unread, View.ld_unit_zero (S := S1x256x2048) hz3]
  rw [View.read_writes_eq_canon _ _ _ (fun y => View.cover_of_tiledL _ S256x2048.size (by sl_kernel_rfl) y)]
  exact View.canon_unit_zero (S := S256x2048) hz _ _

/-- The body where the condition fails: the activation tiles are stored, the cast buffer is left as it was. -/
theorem run_idle (hc : ¬ k0_cond1 i = 1#1) (xi : Vec F S256x2048 .bf16) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3
        ∗ (∃ d, owns (c : Thread nD τ) arg6 fullShare d) ∗ owns (c : Thread nD τ) arg7 fullShare xi
        ∗ (iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare (View.canon (tiles x0 x1 x2)) ∗ owns (c : Thread nD τ) arg7 fullShare xi) -∗ K ⟨⟩))
      ⊢ wp frame (wpE (defs₀ (F := F)) Variants.none c none) E (cc0_ffn_up i arg2 harg2 arg3 harg3 arg4 harg4 arg5 harg5 arg6 harg6 arg7 harg7) K := by
  simp only [cc0_ffn_up_eq_skeleton]; unfold cc0_ffn_up_skel
  simp only [k0_part1_eq_skeleton]
  unfold owns
  iintro ⟨⟨%f0, %hf0, H0⟩, ⟨%f1, %hf1, H1⟩, ⟨%f2, %hf2, H2⟩, ⟨%f3, %hf3, H3⟩, ⟨%d4, %f4, -, H4⟩, ⟨%f5, %hf5, H5⟩, Hk⟩
  obtain rfl := harg2.eq_unread hf0; obtain rfl := harg3.eq_unread hf1; obtain rfl := harg4.eq_unread hf2; obtain rfl := harg5.eq_unread hf3
  obtain rfl := harg7.eq_unread hf5
  sl_exec (disch := first | sl_exact hc)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr
    swap; · iexact H4
    ipureintro
    sl_unfold_words
    simp only [View.readAt_eq_ld, harg2.read_unread, harg3.read_unread, harg4.read_unread, View.ld_unit_zero (S := S1x2048x512) hz3]
    exact View.read_writes_eq_canon _ _ _ (tiles_cover x0 x1 x2)
  iexists _; isplitr; · ipureintro; exact harg7.read_unread _
  iexact H5

end Run

/-! ## The schedule of the cast block -/

theorem lt44 (t : Fin cfg0.N) : t.val < 44 := lt_of_lt_of_eq t.isLt N_0

/-- The cast is stored at the points below 22, -/
theorem cond_iff : ∀ t : Fin cfg0.N, k0_cond1 (grid0.coords t) = 1#1 ↔ t.val < 22 :=
  (by decide +kernel : ∀ t : Fin grid0.N, _)

theorem live5 : ∀ t : Fin cfg0.N, t.val < 22 → cfg0.idle 5 (grid0.coords t) = false :=
  (by decide +kernel : ∀ t : Fin grid0.N, _)

theorem idle5 : ∀ t : Fin cfg0.N, 22 ≤ t.val → cfg0.idle 5 (grid0.coords t) = true :=
  (by decide +kernel : ∀ t : Fin grid0.N, _)

/-- past them its block is written back at the last point only, -/
theorem flush5 : ∀ t : Fin cfg0.N, 22 ≤ t.val → (cfg0.win 5).flush t = decide (t.val = 43) :=
  (by decide +kernel : ∀ t : Fin grid0.N, _)

/-- and its buffer is unfilled only before the points below 22. -/
def freshTab (n : ℕ) : Bool := decide (n < 22 ∨ n = 44)

theorem fresh5 (t : Fin cfg0.N) : cfg0.fresh 5 t.val = freshTab t.val :=
  Pipeline.Cfg.fresh_tab cfg0 5 freshTab rfl
    (by decide +kernel : ∀ t : Fin grid0.N, freshTab (t.val + 1) = ((cfg0.win 5).flush t || (cfg0.idle 5 (cfg0.grid.coords t) && freshTab t.val)))
    t.val (Nat.le_of_lt t.isLt)

/-- Past the points below 22 the weight's block stays the one before. -/
theorem stay3 : ∀ t : Fin cfg0.N, 22 ≤ t.val → win0_3.index t 1 = 21 :=
  (by decide +kernel : ∀ t : Fin grid0.N, _)

theorem last3 : ∀ t : Fin cfg0.N, t.val = 21 → win0_3.index t 1 = 21 :=
  (by decide +kernel : ∀ t : Fin grid0.N, _)

theorem idx3 : ∀ t : Fin cfg0.N, win0_3.index t 0 = 0 ∧ win0_3.index t 2 = 0 :=
  (by decide +kernel : ∀ t : Fin grid0.N, _)

/-! ## The proof data -/

/-- The arrays as the region finds them; after the body each input's buffer at its block, the activation block's at the
    tiles and the cast block's at the cast of the point's weight block. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => View.canon (tiles (iblk m c 0 t) (iblk m c 1 t) (iblk m c 2 t))
    | ⟨5, _⟩ => k0_pay3 (iblk m c 3 t)
  Φ _ := Pipeline.ΦA spec0 c
  q _ := fullShare
  owed _ := 0

theorem A_eq (c : Dev nD) (w : Fin cfg0.W) : (dats m 0 c).A w = V m c (Pipeline.arrRef spec0 w) := by dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) :
    (dats m 0 c).after 4 t = View.canon (tiles (iblk m c 0 t) (iblk m c 1 t) (iblk m c 2 t)) := by dsimp only [dats]
theorem after5 (c : Dev nD) (t : Fin cfg0.N) : (dats m 0 c).after 5 t = k0_pay3 (iblk m c 3 t) := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d

/-- The weight's block at two points with the same block index. -/
theorem iblk3_congr (c : Dev nD) (t s : Fin cfg0.N) (h : win0_3.index t 1 = win0_3.index s 1) : iblk m c 3 t = iblk m c 3 s := by
  funext j
  unfold iblk
  rw [View.read_apply, View.read_apply]
  show V m c main_arg3 _ = V m c main_arg3 _
  refine congrArg _ (funext fun a => Fin.ext ?_)
  match a with
  | ⟨0, _⟩ => show win0_3.index t 0 * 1 + 1 * (j 0).val = win0_3.index s 0 * 1 + 1 * (j 0).val; rw [(idx3 t).1, (idx3 s).1]
  | ⟨1, _⟩ => show win0_3.index t 1 * 256 + 1 * (j 1).val = win0_3.index s 1 * 256 + 1 * (j 1).val; rw [h]
  | ⟨2, _⟩ => show win0_3.index t 2 * 2048 + 1 * (j 2).val = win0_3.index s 2 * 2048 + 1 * (j 2).val; rw [(idx3 t).2, (idx3 s).2]

/-- Past the points below 22 the cast block is the point before's. -/
theorem carry5 (c : Dev nD) (t s : Fin cfg0.N) (h : 22 ≤ t.val) (hs : s.val = t.val - 1) : (dats m 0 c).after 5 t = (dats m 0 c).after 5 s := by
  rw [after5, after5, iblk3_congr m c t s]
  rw [stay3 t h]
  by_cases h' : 22 ≤ s.val
  · exact (stay3 s h').symm
  · exact (last3 s (by omega)).symm

/-- There its buffer holds it before the body already. -/
theorem before5 (c : Dev nD) (t : Fin cfg0.N) (h : 22 ≤ t.val) (d) : (dats m 0 c).before 5 t d = (dats m 0 c).after 5 t := by
  have h44 := lt44 t
  rw [Dat.before_out_traj _ 5 rfl (fun _ _ => rfl) ?_ t.val t rfl d, fresh5, if_neg (by unfold freshTab; rw [decide_eq_true_eq]; omega)]
  · exact (carry5 m c t _ h rfl).symm
  · intro t _ hi _
    by_cases h : 22 ≤ t.val
    · exact carry5 m c t _ h rfl
    · rw [live5 t (by omega)] at hi
      exact absurd hi Bool.false_ne_true

/-! ## The body at a point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t)

/-- A window no point leaves idle is left at `after`. -/
theorem leaves_live (c : Dev nD) (w : Fin cfg0.W) (t : Fin cfg0.N) (h : cfg0.idle w (grid0.coords t) = false) :
    (dats m 0 c).leavesExact w t = owns (c : Thread nD τ) ((cfg0.win w).stage (cfg0.slots t w)) fullShare ((dats m 0 c).after w t) := by
  unfold Dat.leavesExact; rw [h]

/-- Past the points below 22 a buffer holding the cast block is what is to be left. -/
theorem leaves5 (c : Dev nD) (t : Fin cfg0.N) (h : 22 ≤ t.val) :
    owns (c : Thread nD τ) (st0_5 t) fullShare ((dats m 0 c).after 5 t) ⊢ (dats m 0 c).leavesExact 5 t := by
  by_cases h43 : t.val = 43
  · unfold Dat.leavesExact; rw [idle5 t h, flush5 t h, decide_eq_true h43]
  · rw [Dat.leavesExact_idle (dats m 0 c) 5 t (idle5 t h) ((flush5 t h).trans (decide_eq_false h43))]
    simp only [before5 m c t h]
    iintro H
    iexists (fun _ => default)
    iexact H

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3]
  rw [show (dats m 0 c).Φ t.succ = (dats m 0 c).Φ t.castSucc from rfl,
    show (dats m 0 c).owesAt () t.succ = (dats m 0 c).owesAt () t.castSucc from rfl,
    leaves_live m c 0 t rfl, leaves_live m c 1 t rfl, leaves_live m c 2 t rfl, leaves_live m c 3 t rfl, leaves_live m c 4 t rfl,
    after0, after1, after2, after3, after4]
  by_cases h : t.val < 22
  · rw [leaves_live m c 5 t (live5 t h), after5]
    iintro ⟨HΦ, Ho, ⟨%d0, H0⟩, ⟨%d1, H1⟩, ⟨%d2, H2⟩, ⟨%d3, H3⟩, ⟨%d4, H4⟩, ⟨%d5, H5⟩⟩
    iapply (run_live c (grid0.coords t) _ _ _ _ _ _ _ _ _ _ _ _ (iblk m c 0 t) (iblk m c 1 t) (iblk m c 2 t) (iblk m c 3 t) ((cond_iff t).mpr h) Set.univ _)
    isplitl [H0]; · iexact H0
    isplitl [H1]; · iexact H1
    isplitl [H2]; · iexact H2
    isplitl [H3]; · iexact H3
    isplitl [H4]; · iexists _; iexact H4
    isplitl [H5]; · iexists _; iexact H5
    iintro ⟨H0, H1, H2, H3, H4, H5⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    iexact H5
  · simp only [before5 m c t (by omega)]
    iintro ⟨HΦ, Ho, ⟨%d0, H0⟩, ⟨%d1, H1⟩, ⟨%d2, H2⟩, ⟨%d3, H3⟩, ⟨%d4, H4⟩, ⟨%d5, H5⟩⟩
    iapply (run_idle c (grid0.coords t) _ _ _ _ _ _ _ _ _ _ _ _ (iblk m c 0 t) (iblk m c 1 t) (iblk m c 2 t) (iblk m c 3 t) (fun hc => h ((cond_iff t).mp hc)) ((dats m 0 c).after 5 t) Set.univ _)
    isplitl [H0]; · iexact H0
    isplitl [H1]; · iexact H1
    isplitl [H2]; · iexact H2
    isplitl [H3]; · iexact H3
    isplitl [H4]; · iexists _; iexact H4
    isplitl [H5]; · iexact H5
    iintro ⟨H0, H1, H2, H3, H4, H5⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    iapply (leaves5 m c t (by omega))
    iexact H5

theorem body_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, body_row]
  exact triple_restated (sound_body m c t) rfl .rfl fun _ => .rfl

/-! ## The launch -/

set_option backward.isDefEq.respectTransparency.types false in
/-- Every run ends with the pipeline's arrays at what the proof data say, and every counter at zero. -/
theorem run_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem run : θ_run defs (onTc (τ := τ) (main (F := F))) (s₀ m ρ) (Pipeline.FramePost cfgs (dats m) 0 (V m)) :=
  (θ_run defs _ _).mono (fun _ h => h.1) (run_quiescent m ρ)

/-- The argument arrays end unchanged and the counters at zero. -/
theorem quiescent : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) (run m ρ)) ((θ_run defs _ _).mono (fun _ h => h.2) (run_quiescent m ρ))

end Cert.Proof.UpRun
end
-- ==== Proof.Up.lean ====
/-
  The gate and up projections of the feed-forward block: the result arrays of the launch are the reference's composed terms
  of the arguments — the activation, and the down weight with its format changed.
-/
module

public import proofs.«01_k».proof.Defs
public import proofs.«01_k».proof.Proof.UpRun
public import proofs.«01_k».proof.Proof.Gen.Reference2Ideal.Run
public import proofs.«01_k».proof.Proof.Gen.Reference2Ideal.Read
public import Idealize.ShloMosaic.Lib.Pipeline.Value
public import Idealize.ShloMosaic.Lib.Pipeline.ValueKit.Tiles

@[expose] public section

set_option maxRecDepth 16384

noncomputable section

open Idealize.ShloMosaic Idealize.ShloMosaic.TcCoe Idealize.SL.Sem
open Idealize.ShloMosaic.Pipeline (Dat)

namespace Cert.Proof.Up

open Cert.Kernel2Ideal Cert.Kernel2Ideal.Gen Cert.Proof.Shared Cert.Proof.UpRun

variable (m : (ℓ : Loc nD τ sig) → Buf (Elt Ideal) ℓ) (ρ : Dev nD → PrngReg)

/-- The block of the down weight a point casts. -/
def castBlk (n : ℕ) : ℕ := if n < 22 then 2 * (n % 11) + n / 11 else 21

/-- The index maps, decided over the points: row block `t / 11`, column block `t % 11`. -/
theorem idx_facts : ∀ t : Fin cfg0.N, (win0_0.index t 0 = t.val / 11 ∧ win0_0.index t 1 = 0)
    ∧ (win0_1.index t 0 = 0 ∧ win0_1.index t 1 = 0 ∧ win0_1.index t 2 = t.val % 11)
    ∧ (win0_2.index t 0 = 0 ∧ win0_2.index t 1 = 0 ∧ win0_2.index t 2 = t.val % 11)
    ∧ (win0_3.index t 0 = 0 ∧ win0_3.index t 1 = castBlk t.val ∧ win0_3.index t 2 = 0)
    ∧ (win0_4.index t 0 = t.val / 11 ∧ win0_4.index t 1 = t.val % 11)
    ∧ (win0_5.index t 0 = castBlk t.val ∧ win0_5.index t 1 = 0) :=
  (by decide +kernel : ∀ t : Fin grid0.N, _)

theorem flushed_early : ∀ t : Fin cfg0.N, t.val < 21 ∨ t.val = 43 → (cfg0.win 5).flush t = true :=
  (by decide +kernel : ∀ t : Fin grid0.N, _)

theorem castBlk_lt (n : ℕ) (h : n < 44) : castBlk n < 22 := by unfold castBlk; split <;> omega

/-- A point's rows and columns, as the arrays'. -/
def row (t : Fin cfg0.N) (r : Fin 2048) : Fin 8192 := ⟨2048 * (t.val / 11) + r.val, by have := lt44 t; omega⟩
def col (t : Fin cfg0.N) (l : Fin 512) : Fin 5632 := ⟨512 * (t.val % 11) + l.val, by omega⟩
def crow (t : Fin cfg0.N) (r : Fin 256) : Fin 5632 := ⟨256 * castBlk t.val + r.val, by have := castBlk_lt _ (lt44 t); omega⟩

theorem blk0 (c : Dev nD) (t : Fin cfg0.N) (r k : Fin 2048) :
    iblk m c 0 t (ix2 r k) = m ((c : Thread nD τ).loc main_arg0) (ix2 (row t r) k) := by
  obtain ⟨h0, h1⟩ := (idx_facts t).1
  unfold iblk
  rw [View.read_apply]
  show V m c main_arg0 _ = _
  rw [V_main_arg0]
  refine congrArg _ (funext fun a => Fin.ext ?_)
  match a with
  | ⟨0, _⟩ => show win0_0.index t 0 * 2048 + 1 * r.val = 2048 * (t.val / 11) + r.val; rw [h0]; omega
  | ⟨1, _⟩ => show win0_0.index t 1 * 2048 + 1 * k.val = k.val; rw [h1]; omega

theorem blk1 (c : Dev nD) (t : Fin cfg0.N) (k : Fin 2048) (l : Fin 512) :
    iblk m c 1 t (ix3 0 k l) = m ((c : Thread nD τ).loc main_arg1) (ix3 0 k (col t l)) := by
  obtain ⟨h0, h1, h2⟩ := (idx_facts t).2.1
  unfold iblk
  rw [View.read_apply]
  show V m c main_arg1 _ = _
  rw [V_main_arg1]
  refine congrArg _ (funext fun a => Fin.ext ?_)
  match a with
  | ⟨0, _⟩ => show win0_1.index t 0 * 1 + 1 * 0 = 0; rw [h0]
  | ⟨1, _⟩ => show win0_1.index t 1 * 2048 + 1 * k.val = k.val; rw [h1]; omega
  | ⟨2, _⟩ => show win0_1.index t 2 * 512 + 1 * l.val = 512 * (t.val % 11) + l.val; rw [h2]; omega

theorem blk2 (c : Dev nD) (t : Fin cfg0.N) (k : Fin 2048) (l : Fin 512) :
    iblk m c 2 t (ix3 0 k l) = m ((c : Thread nD τ).loc main_arg2) (ix3 0 k (col t l)) := by
  obtain ⟨h0, h1, h2⟩ := (idx_facts t).2.2.1
  unfold iblk
  rw [View.read_apply]
  show V m c main_arg2 _ = _
  rw [V_main_arg2]
  refine congrArg _ (funext fun a => Fin.ext ?_)
  match a with
  | ⟨0, _⟩ => show win0_2.index t 0 * 1 + 1 * 0 = 0; rw [h0]
  | ⟨1, _⟩ => show win0_2.index t 1 * 2048 + 1 * k.val = k.val; rw [h1]; omega
  | ⟨2, _⟩ => show win0_2.index t 2 * 512 + 1 * l.val = 512 * (t.val % 11) + l.val; rw [h2]; omega

theorem blk3 (c : Dev nD) (t : Fin cfg0.N) (r : Fin 256) (l : Fin 2048) :
    iblk m c 3 t (ix3 0 r l) = m ((c : Thread nD τ).loc main_arg3) (ix3 0 (crow t r) l) := by
  obtain ⟨h0, h1, h2⟩ := (idx_facts t).2.2.2.1
  unfold iblk
  rw [View.read_apply]
  show V m c main_arg3 _ = _
  rw [V_main_arg3]
  refine congrArg _ (funext fun a => Fin.ext ?_)
  match a with
  | ⟨0, _⟩ => show win0_3.index t 0 * 1 + 1 * 0 = 0; rw [h0]
  | ⟨1, _⟩ => show win0_3.index t 1 * 256 + 1 * r.val = 256 * castBlk t.val + r.val; rw [h1]; omega
  | ⟨2, _⟩ => show win0_3.index t 2 * 2048 + 1 * l.val = l.val; rw [h2]; omega

/-! ## The activation -/

/-- The gated unit of a gate and an up value. -/
def swiglu (x y : EReal) : EReal := x * Ideal.div 1 (1 + Ideal.exp (-x)) * y

theorem pay6_apply (g u : Vec Ideal S1x2048x512 .f32) (a : Vec Ideal S512x2048 .bf16) (r l : Fin 512) :
    k0_pay6 g u a (ix2 r l) = swiglu (∑ k : Fin 2048, a (ix2 r k) * g (ix3 0 k l)) (∑ k : Fin 2048, a (ix2 r k) * u (ix3 0 k l)) := by
  unfold swiglu
  pointwise [k0_pay6, k0_pay4, k0_pay5]
  rw [zero_sub]

theorem pay7_eq (g u : Vec Ideal S1x2048x512 .f32) (a : Vec Ideal S512x2048 .bf16) : k0_pay7 g u a = k0_pay6 g u a := rfl
theorem pay1_eq (g u : Vec Ideal S1x2048x512 .f32) (a : Vec Ideal S512x2048 .bf16) : k0_pay1 (k0_pay4 g) (k0_pay5 u) a = k0_pay6 g u a := rfl
theorem pay2_eq (g u : Vec Ideal S1x2048x512 .f32) (a : Vec Ideal S512x2048 .bf16) : k0_pay2 (k0_pay4 g) (k0_pay5 u) a = k0_pay6 g u a := rfl

theorem pay3_apply (w : Vec Ideal S1x256x2048 .f32) (r : Fin 256) (l : Fin 2048) : k0_pay3 w (ix2 r l) = w (ix3 0 r l) := by
  pointwise [k0_pay3]

/-- A row of a block's 512-row slice is a row of the block. -/
theorem slice_sum (a : Vec Ideal S2048x2048 .bf16) (w : Vec Ideal S1x2048x512 .f32) (o : ℕ) (inb) (r : Fin 2048) (l : Fin 512)
    (r' l' : Fin 512) (h0 : r.val = o + r'.val) (h1 : l.val = l'.val) :
    ∑ k : Fin 2048, View.ld a (Rect.unit (s := S2048x2048) ![o, 0] ![512, 2048] inb) (ix2 r' k) * w (ix3 0 k l')
      = ∑ k : Fin 2048, a (ix2 r k) * w (ix3 0 k l) := by
  obtain rfl : l = l' := Fin.ext h1
  refine Finset.sum_congr rfl fun k _ => congrArg (· * _) (congrArg a (funext fun a => Fin.ext ?_))
  match a with
  | ⟨0, _⟩ => show o + 1 * r'.val = r.val; omega
  | ⟨1, _⟩ => show 0 + 1 * k.val = k.val; omega

/-- The four tiles are the activation block. -/
theorem tiles_apply (a : Vec Ideal S2048x2048 .bf16) (g u : Vec Ideal S1x2048x512 .f32) (r : Fin 2048) (l : Fin 512) :
    View.canon (tiles a g u) (ix2 r l)
      = swiglu (∑ k : Fin 2048, a (ix2 r k) * g (ix3 0 k l)) (∑ k : Fin 2048, a (ix2 r k) * u (ix3 0 k l)) := by
  unfold tiles
  canon_tiles j h
  all_goals
    first | rw [pay2_eq] | rw [pay1_eq] | rw [pay7_eq] | skip
    idx_vars j
    refine (pay6_apply _ _ _ _ _).trans (congrArg₂ swiglu ?_ ?_)
  · exact slice_sum a g 1536 _ r l _ _ h0 h1
  · exact slice_sum a u 1536 _ r l _ _ h0 h1
  · exact slice_sum a g 1024 _ r l _ _ h0 h1
  · exact slice_sum a u 1024 _ r l _ _ h0 h1
  · exact slice_sum a g 512 _ r l _ _ h0 h1
  · exact slice_sum a u 512 _ r l _ _ h0 h1
  · exact slice_sum a g 0 _ r l _ _ (h0.trans (Nat.zero_add _).symm) h1
  · exact slice_sum a u 0 _ r l _ _ (h0.trans (Nat.zero_add _).symm) h1

section Reference
open Cert.Reference2Ideal.Read

theorem ref9_apply (x0 : Vec Ideal S8192x2048 .bf16) (x1 x2 : Vec Ideal S4x2048x5632 .f32) (r : Fin 8192) (l : Fin 5632) :
    val_main_v9 (F := Ideal) x0 x1 x2 (ix2 r l)
      = swiglu (∑ k : Fin 2048, x0 (ix2 r k) * x1 (ix3 0 k l)) (∑ k : Fin 2048, x0 (ix2 r k) * x2 (ix3 0 k l)) := by
  unfold swiglu
  pointwise [val_main_v9, val_main_v8, val_main_v7, val_main_v6, val_main_v5, val_main_v4, val_main_v3, val_main_v2, val_main_v1, val_main_v0,
    val_main_call0_v5, val_main_call0_v4, val_main_call0_v3, val_main_call0_v2, val_main_call0_v1, val_main_call0_v0, val_main_call0_cst, val_main_call0_cst_0]

theorem ref12_apply (x3 : Vec Ideal S4x5632x2048 .f32) (r : Fin 5632) (l : Fin 2048) :
    val_main_v12 (F := Ideal) x3 (ix2 r l) = x3 (ix3 0 r l) := by
  pointwise [val_main_v12, val_main_v11, val_main_v10]

end Reference

/-! ## The result arrays -/

def G4 (c : Dev nD) : Vec Ideal S8192x5632 .bf16 :=
  Cert.Reference2Ideal.Read.val_main_v9 (F := Ideal) (m ((c : Thread nD τ).loc main_arg0)) (m ((c : Thread nD τ).loc main_arg1)) (m ((c : Thread nD τ).loc main_arg2))

def G5 (c : Dev nD) : Vec Ideal S5632x2048 .bf16 :=
  Cert.Reference2Ideal.Read.val_main_v12 (F := Ideal) (m ((c : Thread nD τ).loc main_arg3))

theorem block4 (c : Dev nD) (t : Fin cfg0.N) (r : Fin 2048) (l : Fin 512) :
    View.canon (tiles (iblk m c 0 t) (iblk m c 1 t) (iblk m c 2 t)) (ix2 r l) = G4 m c (ix2 (row t r) (col t l)) := by
  refine (tiles_apply _ _ _ r l).trans (Eq.trans ?_ (ref9_apply _ _ _ _ _).symm)
  exact congrArg₂ swiglu
    (Finset.sum_congr rfl fun k _ => congrArg₂ (fun x y : EReal => x * y) (blk0 m c t r k) (blk1 m c t k l))
    (Finset.sum_congr rfl fun k _ => congrArg₂ (fun x y : EReal => x * y) (blk0 m c t r k) (blk2 m c t k l))

theorem flushed4_eq (c : Dev nD) (t : Fin cfg0.N) :
    (dats m 0 c).flushed 4 t = (win0_4.blk t).view.read (Elt Ideal) (G4 m c) := by
  funext j
  rw [View.read_apply]
  obtain ⟨h0, h1⟩ := (idx_facts t).2.2.2.2.1
  show (dats m 0 c).after 4 t j = _
  rw [after4]
  idx_vars j
  refine (block4 m c t _ _).trans (congrArg _ (funext fun a => Fin.ext ?_))
  match a with
  | ⟨0, _⟩ => show 2048 * (t.val / 11) + j0.val = win0_4.index t 0 * 2048 + 1 * j0.val; rw [h0]; omega
  | ⟨1, _⟩ => show 512 * (t.val % 11) + j1.val = win0_4.index t 1 * 512 + 1 * j1.val; rw [h1]; omega

theorem flushed5_eq (c : Dev nD) (t : Fin cfg0.N) :
    (dats m 0 c).flushed 5 t = (win0_5.blk t).view.read (Elt Ideal) (G5 m c) := by
  funext j
  rw [View.read_apply]
  obtain ⟨h0, h1⟩ := (idx_facts t).2.2.2.2.2
  show (dats m 0 c).after 5 t j = _
  rw [after5]
  idx_vars j
  refine (pay3_apply _ _ _).trans ((blk3 m c t _ _).trans ((ref12_apply _ _ _).symm.trans (congrArg (G5 m c) (funext fun a => Fin.ext ?_))))
  match a with
  | ⟨0, _⟩ => show 256 * castBlk t.val + j0.val = win0_5.index t 0 * 256 + 1 * j0.val; rw [h0]; omega
  | ⟨1, _⟩ => show j1.val = win0_5.index t 1 * 2048 + 1 * j1.val; rw [h1]; omega

theorem cover4 (i : S8192x5632.Idx) : ∃ t : Fin cfg0.N, (cfg0.win 4).flush t = true ∧ i ∈ ((cfg0.win 4).blk t).view.set := by
  have hi0 : (i 0).val < 8192 := (i 0).isLt
  have hi1 : (i 1).val < 5632 := (i 1).isLt
  obtain ⟨t, ht⟩ : ∃ t : Fin cfg0.N, t.val = 11 * ((i 0).val / 2048) + (i 1).val / 512 :=
    ⟨⟨11 * ((i 0).val / 2048) + (i 1).val / 512, by show _ < grid0.N; rw [N_0]; omega⟩, rfl⟩
  refine ⟨t, flush0_4 t, ?_⟩
  show i ∈ ((View.whole main_v0_0).slice (win0_4.rect t)).set
  rw [View.set_slice_whole, Rect.mem_set_unit]
  obtain ⟨h0, h1⟩ := (idx_facts t).2.2.2.2.1
  intro a
  match a with
  | ⟨0, _⟩ => show win0_4.index t 0 * 2048 ≤ (i 0).val ∧ (i 0).val < win0_4.index t 0 * 2048 + 2048; rw [h0, ht]; omega
  | ⟨1, _⟩ => show win0_4.index t 1 * 512 ≤ (i 1).val ∧ (i 1).val < win0_4.index t 1 * 512 + 512; rw [h1, ht]; omega

theorem cover5 (i : S5632x2048.Idx) : ∃ t : Fin cfg0.N, (cfg0.win 5).flush t = true ∧ i ∈ ((cfg0.win 5).blk t).view.set := by
  have hi0 : (i 0).val < 5632 := (i 0).isLt
  have hi1 : (i 1).val < 2048 := (i 1).isLt
  obtain ⟨t, hf, ht⟩ : ∃ t : Fin cfg0.N, (t.val < 21 ∨ t.val = 43) ∧ castBlk t.val = (i 0).val / 256 := by
    by_cases h : (i 0).val / 256 = 21
    · exact ⟨⟨43, by show _ < grid0.N; rw [N_0]; omega⟩, .inr rfl, h.symm⟩
    · refine ⟨⟨11 * ((i 0).val / 256 % 2) + (i 0).val / 256 / 2, by show _ < grid0.N; rw [N_0]; omega⟩, .inl (by dsimp only; omega), ?_⟩
      unfold castBlk
      dsimp only
      rw [if_pos (by omega)]
      omega
  refine ⟨t, flushed_early t hf, ?_⟩
  show i ∈ ((View.whole main_v0_1).slice (win0_5.rect t)).set
  rw [View.set_slice_whole, Rect.mem_set_unit]
  obtain ⟨h0, h1⟩ := (idx_facts t).2.2.2.2.2
  intro a
  match a with
  | ⟨0, _⟩ => show win0_5.index t 0 * 256 ≤ (i 0).val ∧ (i 0).val < win0_5.index t 0 * 256 + 256; rw [h0, ht]; omega
  | ⟨1, _⟩ => show win0_5.index t 1 * 2048 ≤ (i 1).val ∧ (i 1).val < win0_5.index t 1 * 2048 + 2048; rw [h1]; omega

theorem final4 (c : Dev nD) : (dats m 0 c).arrAt 4 cfg0.N = G4 m c :=
  (dats m 0 c).arrAt_eq_of_cover 4 (G4 m c) (fun t _ => flushed4_eq m c t) cover4

theorem final5 (c : Dev nD) : (dats m 0 c).arrAt 5 cfg0.N = G5 m c :=
  (dats m 0 c).arrAt_eq_of_cover 5 (G5 m c) (fun t _ => flushed5_eq m c t) cover5

/-- The kernel's and the reference's runs end at the same two arrays. -/
theorem algebraic : Cert.algebraic_Kernel2Ideal_Reference2Ideal := by
  intro m ρ m' ρ' _ hag
  refine ⟨G4 m, G5 m, (θ_run _ _ _).mono (fun r h c => ?_) (θ_run_and (frame_of m ρ (dats m) (A_eq m) (run m ρ)) (run m ρ)),
    (θ_run _ _ _).mono (fun r h c => ?_) (Cert.Reference2Ideal.Value.run m' ρ')⟩
  · exact ⟨((h.2 c).1 4).trans (final4 m c), ((h.2 c).1 5).trans (final5 m c), h.1 c⟩
  · obtain ⟨e4, e5, h⟩ := h c
    obtain ⟨a0, a1, a2, a3⟩ := hag c
    refine ⟨e4.trans ?_, e5.trans ?_, h⟩
    · rw [a0, a1, a2]
      rfl
    · rw [a3]
      rfl

end Cert.Proof.Up

end
-- ==== Proof.UpFrame.lean ====
/-
  The frame of the feed-forward up call before the change of reading. The two printed programs are the same text in two
  namespaces, so the run already proved, which holds for every reading of the floats, serves for both.
-/
module

public import proofs.«01_k».proof.Defs
public import proofs.«01_k».proof.Proof.UpRun
public import proofs.«01_k».proof.Proof.Gen.Kernel2

@[expose] public section

set_option maxRecDepth 16384

noncomputable section

namespace Cert.Proof.UpFrame

open Idealize.ShloMosaic

variable {F : FTy → Type} [FloatOps F]

/-- One grid point's body is the same program. -/
theorem body_eq : Cert.Kernel2.cc0_ffn_up (F := F) = Cert.Kernel2Ideal.cc0_ffn_up (F := F) := rfl

/-- The body's label means the same program. -/
theorem labels_eq : Cert.Kernel2.defs₀ (F := F) = Cert.Kernel2Ideal.defs₀ (F := F) := by
  unfold Cert.Kernel2.defs₀ Cert.Kernel2Ideal.defs₀
  congr 1
  funext l x
  match l, x with
  | 0, (t, s) => exact rfl
  | ⟨_ + 1, h⟩, _ => exact absurd h (Nat.not_lt.2 (Nat.le_add_left _ _))

/-- Every label of the launch means the same program. -/
theorem defs_eq : Cert.Kernel2.defs (F := F) = Cert.Kernel2Ideal.defs (F := F) :=
  congrArg (Pipeline.defs (Cert.Kernel2Ideal.pcfgs (F := F))) labels_eq

/-- The run's claim for any meaning of the labels that is equal to the printed one. -/
theorem of_eq (d) (hd : d = Cert.Kernel2Ideal.defs (F := F))
    (m : (ℓ : Loc Cert.Kernel2Ideal.nD Cert.Kernel2Ideal.τ Cert.Kernel2Ideal.sig) → Buf (Elt F) ℓ) (ρ : Dev Cert.Kernel2Ideal.nD → PrngReg) :
    θ_run d (onTc (τ := Cert.Kernel2Ideal.τ) (Cert.Kernel2Ideal.main (F := F))) ⟨m, fun _ => 0, ρ⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0) := by
  subst hd
  exact UpRun.quiescent m ρ

/-- The frame of the call as printed. -/
theorem quiescent : Cert.quiescent_Kernel2 := fun m ρ _ => of_eq (F := Bits) Cert.Kernel2.defs defs_eq m ρ

end Cert.Proof.UpFrame

end
-- ==== Proof.DownProj.lean ====
/-
  The down projection of the feed-forward block: the contraction in eleven steps of 512, accumulated in the output block,
  at the last step the root-mean-square scaling added to the residual stream and the next norm of the sum. The result
  arrays are the reference's composed terms of the arguments.
-/
module

public import proofs.«01_k».proof.Defs
public import proofs.«01_k».proof.Proof.Gen.Kernel3Ideal.Value
public import proofs.«01_k».proof.Proof.Gen.Reference3Ideal.Run
public import proofs.«01_k».proof.Proof.Gen.Reference3Ideal.Read
public import proofs.«01_k».proof.Proof.Shared
public import Idealize.ShloMosaic.Lib.Pipeline.ValueKit.Tiles

@[expose] public section

set_option maxRecDepth 16384

noncomputable section

open Idealize.ShloMosaic Idealize.ShloMosaic.TcCoe Idealize.SL.Sem
open Idealize.ShloMosaic.Pipeline (Dat)

namespace Cert.Proof.DownProj

open Cert.Kernel3Ideal Cert.Kernel3Ideal.Gen Cert.Proof.Shared

variable (m : (ℓ : Loc nD τ sig) → Buf (Elt Ideal) ℓ) (ρ : Dev nD → PrngReg)

/-- The index maps, decided over the points: row block `t / 11`, step `t % 11`. -/
theorem idx_facts : ∀ t : Fin cfg0.N, (win0_0.index t 0 = t.val / 11 ∧ win0_0.index t 1 = t.val % 11)
    ∧ (win0_1.index t 0 = 0 ∧ win0_1.index t 1 = t.val % 11 ∧ win0_1.index t 2 = 0)
    ∧ (win0_2.index t 0 = t.val / 11 ∧ win0_2.index t 1 = 0)
    ∧ (win0_3.index t 0 = 0 ∧ win0_3.index t 1 = 0)
    ∧ (win0_4.index t 0 = 0 ∧ win0_4.index t 1 = 0)
    ∧ (win0_5.index t 0 = t.val / 11 ∧ win0_5.index t 1 = 0)
    ∧ (win0_6.index t 0 = t.val / 11 ∧ win0_6.index t 1 = 0) :=
  (by decide +kernel : ∀ t : Fin grid0.N, _)

theorem lt88 (t : Fin cfg0.N) : t.val < 88 := lt_of_lt_of_eq t.isLt N_0

/-- Row `r` of point `t`'s block, as a row of the array. -/
def row (t : Fin cfg0.N) (r : Fin 1024) : Fin 8192 := ⟨1024 * (t.val / 11) + r.val, by have := lt88 t; omega⟩

/-- Entry `k` of point `t`'s step, as an index of the contraction. -/
def ctr (t : Fin cfg0.N) (k : Fin 512) : Fin 5632 := ⟨512 * (t.val % 11) + k.val, by omega⟩

theorem blk0 (c : Dev nD) (t : Fin cfg0.N) (r : Fin 1024) (k : Fin 512) :
    iblk m c 0 t (ix2 r k) = m ((c : Thread nD τ).loc main_arg0) (ix2 (row t r) (ctr t k)) := by
  obtain ⟨h0, h1⟩ := (idx_facts t).1
  unfold iblk
  rw [View.read_apply]
  show V m c main_arg0 _ = _
  rw [V_main_arg0]
  refine congrArg _ (funext fun a => Fin.ext ?_)
  match a with
  | ⟨0, _⟩ => show win0_0.index t 0 * 1024 + 1 * r.val = 1024 * (t.val / 11) + r.val; rw [h0]; omega
  | ⟨1, _⟩ => show win0_0.index t 1 * 512 + 1 * k.val = 512 * (t.val % 11) + k.val; rw [h1]; omega

theorem blk2 (c : Dev nD) (t : Fin cfg0.N) (r : Fin 1024) (l : Fin 2048) :
    iblk m c 2 t (ix2 r l) = m ((c : Thread nD τ).loc main_arg2) (ix2 (row t r) l) := by
  obtain ⟨h0, h1⟩ := (idx_facts t).2.2.1
  unfold iblk
  rw [View.read_apply]
  show V m c main_arg2 _ = _
  rw [V_main_arg2]
  refine congrArg _ (funext fun a => Fin.ext ?_)
  match a with
  | ⟨0, _⟩ => show win0_2.index t 0 * 1024 + 1 * r.val = 1024 * (t.val / 11) + r.val; rw [h0]; omega
  | ⟨1, _⟩ => show win0_2.index t 1 * 2048 + 1 * l.val = l.val; rw [h1]; omega

theorem V1 (c : Dev nD) (l : Fin 2048) : V m c main_v1 (ix2 0 l) = m ((c : Thread nD τ).loc main_arg3) (ix1 l) := by
  unfold V
  after_reads_at

theorem blk3 (c : Dev nD) (t : Fin cfg0.N) (l : Fin 2048) :
    iblk m c 3 t (ix2 0 l) = m ((c : Thread nD τ).loc main_arg3) (ix1 l) := by
  obtain ⟨h0, h1⟩ := (idx_facts t).2.2.2.1
  unfold iblk
  rw [View.read_apply]
  refine Eq.trans ?_ (V1 m c l)
  show V m c main_v1 _ = _
  refine congrArg _ (funext fun a => Fin.ext ?_)
  match a with
  | ⟨0, _⟩ => show win0_3.index t 0 * 1 + 1 * 0 = 0; rw [h0]
  | ⟨1, _⟩ => show win0_3.index t 1 * 2048 + 1 * l.val = l.val; rw [h1]; omega

theorem V2 (c : Dev nD) (l : Fin 2048) : V m c main_v2 (ix2 0 l) = m ((c : Thread nD τ).loc main_arg4) (ix1 l) := by
  unfold V
  after_reads_at

theorem blk4 (c : Dev nD) (t : Fin cfg0.N) (l : Fin 2048) :
    iblk m c 4 t (ix2 0 l) = m ((c : Thread nD τ).loc main_arg4) (ix1 l) := by
  obtain ⟨h0, h1⟩ := (idx_facts t).2.2.2.2.1
  unfold iblk
  rw [View.read_apply]
  refine Eq.trans ?_ (V2 m c l)
  show V m c main_v2 _ = _
  refine congrArg _ (funext fun a => Fin.ext ?_)
  match a with
  | ⟨0, _⟩ => show win0_4.index t 0 * 1 + 1 * 0 = 0; rw [h0]
  | ⟨1, _⟩ => show win0_4.index t 1 * 2048 + 1 * l.val = l.val; rw [h1]; omega

theorem V0 (c : Dev nD) (k : Fin 5632) (l : Fin 2048) : V m c main_v0 (ix3 0 k l) = m ((c : Thread nD τ).loc main_arg1) (ix2 k l) := by
  unfold V
  after_reads_at

theorem blk1 (c : Dev nD) (t : Fin cfg0.N) (k : Fin 512) (l : Fin 2048) :
    iblk m c 1 t (ix3 0 k l) = m ((c : Thread nD τ).loc main_arg1) (ix2 (ctr t k) l) := by
  obtain ⟨h0, h1, h2⟩ := (idx_facts t).2.1
  unfold iblk
  rw [View.read_apply]
  refine Eq.trans ?_ (V0 m c (ctr t k) l)
  show V m c main_v0 _ = _
  refine congrArg _ (funext fun a => Fin.ext ?_)
  match a with
  | ⟨0, _⟩ => show win0_1.index t 0 * 1 + 1 * 0 = 0; rw [h0]
  | ⟨1, _⟩ => show win0_1.index t 1 * 512 + 1 * k.val = 512 * (t.val % 11) + k.val; rw [h1]; omega
  | ⟨2, _⟩ => show win0_1.index t 2 * 2048 + 1 * l.val = l.val; rw [h2]; omega

/-! ## The payloads -/

theorem pay1_apply (a : Vec Ideal S1024x512 .bf16) (w : Vec Ideal S1x512x512 .bf16) (r : Fin 1024) (l : Fin 512) :
    k0_pay1 a w (ix2 r l) = ∑ k : Fin 512, a (ix2 r k) * w (ix3 0 k l) := by
  pointwise [k0_pay1]

theorem pay8_apply (a : Vec Ideal S1024x512 .bf16) (w : Vec Ideal S1x512x512 .bf16) (o : Vec Ideal S1024x512 .f32) (r : Fin 1024) (l : Fin 512) :
    k0_pay8 a w o (ix2 r l) = o (ix2 r l) + ∑ k : Fin 512, a (ix2 r k) * w (ix3 0 k l) := by
  pointwise [k0_pay8]

theorem pay6_apply (x : Vec Ideal S1024x2048 .f32) (o : Vec Ideal S1024x2048 .f32) (g : Vec Ideal S1x2048 .f32) (r : Fin 1024) (l : Fin 2048) :
    k0_pay6 x o g (ix2 r l) = x (ix2 r l) + rms (fun k => o (ix2 r k)) (fun k => g (ix2 0 k)) l := by
  unfold rms
  pointwise [k0_pay6]

theorem pay7_apply (x : Vec Ideal S1024x2048 .f32) (o : Vec Ideal S1024x2048 .f32) (g g' : Vec Ideal S1x2048 .f32) (r : Fin 1024) (l : Fin 2048) :
    k0_pay7 x o g g' (ix2 r l) = rms (fun k => k0_pay6 x o g (ix2 r k)) (fun k => g' (ix2 0 k)) l := by
  unfold rms
  pointwise [k0_pay7]

section Reference
open Cert.Reference3Ideal.Read

theorem ref1_apply (x0 : Vec Ideal S8192x5632 .bf16) (x1 : Vec Ideal S5632x2048 .bf16) (x2 : Vec Ideal S8192x2048 .f32)
    (x3 : Vec Ideal S2048 .f32) (r : Fin 8192) (l : Fin 2048) :
    val_main_v16 (F := Ideal) x0 x1 x2 x3 (ix2 r l)
      = x2 (ix2 r l) + rms (fun k => ∑ j, x0 (ix2 r j) * x1 (ix2 j k)) (fun k => x3 (ix1 k)) l := by
  unfold rms
  pointwise [val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1]

theorem ref2_apply (x0 : Vec Ideal S8192x5632 .bf16) (x1 : Vec Ideal S5632x2048 .bf16) (x2 : Vec Ideal S8192x2048 .f32)
    (x3 x4 : Vec Ideal S2048 .f32) (r : Fin 8192) (l : Fin 2048) :
    val_main_v30 (F := Ideal) x0 x1 x2 x3 x4 (ix2 r l)
      = rms (fun k => val_main_v16 (F := Ideal) x0 x1 x2 x3 (ix2 r k)) (fun k => x4 (ix1 k)) l := by
  unfold rms
  pointwise [val_main_v30, val_main_v29, val_main_v28, val_main_v27, val_main_v26, val_main_v25, val_main_v24, val_main_v23, val_main_v22, val_main_v21, val_main_v20, val_main_v19, val_main_v18, val_main_v17, val_main_cst_2, val_main_cst_3, val_main_cst_4]

end Reference

/-! ## What a step leaves in the output block -/

section Steps

variable (c : Dev nD) (t : Fin cfg0.N) (a : Vec Ideal S1024x512 .bf16) (w : Vec Ideal S1x512x2048 .bf16) (x : Vec Ideal S1024x2048 .f32)
  (g g' : Vec Ideal S1x2048 .f32) (o : Vec Ideal S1024x2048 .f32)

/-- A column slice of the weight and of the block, read back at an index. -/
theorem slice_w (w : Vec Ideal S1x512x2048 .bf16) (a : Vec Ideal S1024x512 .bf16) (n : ℕ) (inb) (r r' : Fin 1024) (l : Fin 2048) (l' : Fin 512)
    (hr : r.val = r'.val) (hl : l.val = n + l'.val) :
    ∑ k : Fin 512, a (ix2 r' k) * View.ld w (Rect.unit (s := S1x512x2048) ![0, 0, n] ![1, 512, 512] inb) (ix3 0 k l')
      = ∑ k : Fin 512, a (ix2 r k) * w (ix3 0 k l) := by
  obtain rfl : r = r' := Fin.ext hr
  refine Finset.sum_congr rfl fun k _ => congrArg (_ * ·) (congrArg w (funext fun a => Fin.ext ?_))
  match a with
  | ⟨0, _⟩ => rfl
  | ⟨1, _⟩ => show 0 + 1 * k.val = k.val; omega
  | ⟨2, _⟩ => show n + 1 * l'.val = l.val; omega

theorem slice_o (o : Vec Ideal S1024x2048 .f32) (n : ℕ) (inb) (r r' : Fin 1024) (l : Fin 2048) (l' : Fin 512)
    (hr : r.val = r'.val) (hl : l.val = n + l'.val) :
    View.ld o (Rect.unit (s := S1024x2048) ![0, n] ![1024, 512] inb) (ix2 r' l') = o (ix2 r l) := by
  refine congrArg o (funext fun a => Fin.ext ?_)
  match a with
  | ⟨0, _⟩ => show 0 + 1 * r'.val = r.val; omega
  | ⟨1, _⟩ => show n + 1 * l'.val = l.val; omega

theorem pay_add (n : ℕ) (inb inb') (r r' : Fin 1024) (l : Fin 2048) (l' : Fin 512) (hr : r.val = r'.val) (hl : l.val = n + l'.val) :
    k0_pay8 a (View.ld w (Rect.unit (s := S1x512x2048) ![0, 0, n] ![1, 512, 512] inb))
      (View.ld o (Rect.unit (s := S1024x2048) ![0, n] ![1024, 512] inb')) (ix2 r' l')
      = o (ix2 r l) + ∑ k : Fin 512, a (ix2 r k) * w (ix3 0 k l) :=
  (pay8_apply _ _ _ r' l').trans (congrArg₂ (fun x y : EReal => x + y) (slice_o o n inb' r r' l l' hr hl) (slice_w w a n inb r r' l l' hr hl))

theorem pay9_eq (a : Vec Ideal S1024x512 .bf16) (w : Vec Ideal S1x512x512 .bf16) (o : Vec Ideal S1024x512 .f32) : k0_pay9 a w o = k0_pay8 a w o := rfl
theorem pay10_eq (a : Vec Ideal S1024x512 .bf16) (w : Vec Ideal S1x512x512 .bf16) (o : Vec Ideal S1024x512 .f32) : k0_pay10 a w o = k0_pay8 a w o := rfl
theorem pay5_eq (a : Vec Ideal S1024x512 .bf16) (w : Vec Ideal S1x512x512 .bf16) (o : Vec Ideal S1024x512 .f32) : k0_pay5 (k0_pay11 a w) o = k0_pay8 a w o := rfl
theorem pay2_eq (a : Vec Ideal S1024x512 .bf16) (w : Vec Ideal S1x512x512 .bf16) : k0_pay2 a w = k0_pay1 a w := rfl
theorem pay3_eq (a : Vec Ideal S1024x512 .bf16) (w : Vec Ideal S1x512x512 .bf16) : k0_pay3 a w = k0_pay1 a w := rfl
theorem pay4_eq (a : Vec Ideal S1024x512 .bf16) (w : Vec Ideal S1x512x512 .bf16) : k0_pay4 a w = k0_pay1 a w := rfl

/-- The first step's four column tiles. -/
theorem out_A (h0 : cond0_0 (grid0.coords t)) (h1 : ¬ cond0_1 (grid0.coords t)) (h2 : ¬ cond0_2 (grid0.coords t)) (r : Fin 1024) (l : Fin 2048) :
    out0_A_5 c (grid0.coords t) (ms0_0 t) (hs0_0 t) (ms0_1 t) (hs0_1 t) (ms0_2 t) (hs0_2 t) (ms0_3 t) (hs0_3 t) (ms0_4 t) (hs0_4 t)
      (ms0_5 t) (hs0_5 t) (ms0_6 t) (hs0_6 t) h0 h1 h2 a w x g g' (ix2 r l)
      = ∑ k : Fin 512, a (ix2 r k) * w (ix3 0 k l) := by
  unfold out0_A_5
  rw [View.read_writes_eq_canon _ _ _ (cover0_A_5 c _ _ _ _ _ _ _ _ _ _ _ _ _ _ _ _ _ _ _ _ _ _ _)]
  unfold kernelRun0_A
  dsimp only
  sl_unfold_words
  simp only [View.readAt_eq_ld, (hs0_0 t).read_unread, (hs0_1 t).read_unread, View.ld_unit_zero (S := S1024x512) hz]
  canon_tiles j h
  all_goals
    first | rw [pay2_eq] | rw [pay3_eq] | rw [pay4_eq] | skip
    idx_vars j
    refine (pay1_apply _ _ _ _).trans ?_
  · exact slice_w w a 1536 _ r _ l _ h0 h1
  · exact slice_w w a 1024 _ r _ l _ h0 h1
  · exact slice_w w a 512 _ r _ l _ h0 h1
  · exact slice_w w a 0 _ r _ l _ h0 (h1.trans (Nat.zero_add _).symm)

/-- A later step's four stores into the output block, the last first. -/
def steps : List (View.Piece (Elt Ideal) S1024x2048 .f32) :=
  [⟨Rect.unit ![0, 1536] ![1024, 512] inb_S1024x2048_S1024x512_0_1536,
      k0_pay5 (k0_pay11 a (View.ld w (Rect.unit ![0, 0, 1536] ![1, 512, 512] inb_S1x512x2048_S1x512x512_0_0_1536)))
        (View.ld o (Rect.unit ![0, 1536] ![1024, 512] inb_S1024x2048_S1024x512_0_1536))⟩,
   ⟨Rect.unit ![0, 1024] ![1024, 512] inb_S1024x2048_S1024x512_0_1024,
      k0_pay10 a (View.ld w (Rect.unit ![0, 0, 1024] ![1, 512, 512] inb_S1x512x2048_S1x512x512_0_0_1024))
        (View.ld o (Rect.unit ![0, 1024] ![1024, 512] inb_S1024x2048_S1024x512_0_1024))⟩,
   ⟨Rect.unit ![0, 512] ![1024, 512] inb_S1024x2048_S1024x512_0_512,
      k0_pay9 a (View.ld w (Rect.unit ![0, 0, 512] ![1, 512, 512] inb_S1x512x2048_S1x512x512_0_0_512))
        (View.ld o (Rect.unit ![0, 512] ![1024, 512] inb_S1024x2048_S1024x512_0_512))⟩,
   ⟨Rect.unit ![0, 0] ![1024, 512] inb_S1024x2048_S1024x512_0_0,
      k0_pay8 a (View.ld w (Rect.unit ![0, 0, 0] ![1, 512, 512] inb_S1x512x2048_S1x512x512_0_0_0))
        (View.ld o (Rect.unit ![0, 0] ![1024, 512] inb_S1024x2048_S1024x512_0_0))⟩]

theorem steps_canon (r : Fin 1024) (l : Fin 2048) :
    View.canon (steps a w o) (ix2 r l) = o (ix2 r l) + ∑ k : Fin 512, a (ix2 r k) * w (ix3 0 k l) := by
  unfold steps
  canon_tiles j h
  all_goals
    first | rw [pay5_eq] | rw [pay10_eq] | rw [pay9_eq] | skip
    idx_vars j
  · exact pay_add a w o 1536 _ _ r _ l _ h0 h1
  · exact pay_add a w o 1024 _ _ r _ l _ h0 h1
  · exact pay_add a w o 512 _ _ r _ l _ h0 h1
  · exact pay_add a w o 0 _ _ r _ l _ h0 (h1.trans (Nat.zero_add _).symm)

theorem out_B (h0 : ¬ cond0_0 (grid0.coords t)) (h1 : cond0_1 (grid0.coords t)) (h2 : ¬ cond0_2 (grid0.coords t)) (r : Fin 1024) (l : Fin 2048) :
    out0_B_5 c (grid0.coords t) (ms0_0 t) (hs0_0 t) (ms0_1 t) (hs0_1 t) (ms0_2 t) (hs0_2 t) (ms0_3 t) (hs0_3 t) (ms0_4 t) (hs0_4 t)
      (ms0_5 t) (hs0_5 t) (ms0_6 t) (hs0_6 t) h0 h1 h2 a w x g g' o (ix2 r l)
      = o (ix2 r l) + ∑ k : Fin 512, a (ix2 r k) * w (ix3 0 k l) := by
  unfold out0_B_5
  rw [View.read_writes_eq_canon _ _ _ (cover0_B_5 c _ _ _ _ _ _ _ _ _ _ _ _ _ _ _ _ _ _ _ _ _ _ _ _)]
  unfold kernelRun0_B
  dsimp only
  sl_unfold_words
  simp only [View.readAt_eq_ld, (hs0_0 t).read_unread, (hs0_1 t).read_unread, (hs0_5 t).read_unread, View.ld_unit_zero (S := S1024x512) hz]
  exact steps_canon a w o r l

/-- The finished contraction, as the last step reads it back. -/
theorem steps_cov (v : View sig .tc .vmem S1024x2048 .f32) :
    v.readCov (steps a w o) (Rect.unit (s := S1024x2048) ![0, 0] ![1024, 2048] inb_S1024x2048_S1024x2048_0_0).toLoadRect = View.canon (steps a w o) := by
  rw [View.readCov_eq_canon_ld _ _ _ (fun y => View.cover_of_tiledL (steps a w o) S1024x512.size (by sl_kernel_rfl) y)]
  exact View.ld_unit_zero (S := S1024x2048) hz _ _

theorem out_C5 (h0 : ¬ cond0_0 (grid0.coords t)) (h1 : cond0_1 (grid0.coords t)) (h2 : cond0_2 (grid0.coords t)) (r : Fin 1024) (l : Fin 2048) :
    out0_C_5 c (grid0.coords t) (ms0_0 t) (hs0_0 t) (ms0_1 t) (hs0_1 t) (ms0_2 t) (hs0_2 t) (ms0_3 t) (hs0_3 t) (ms0_4 t) (hs0_4 t)
      (ms0_5 t) (hs0_5 t) (ms0_6 t) (hs0_6 t) h0 h1 h2 a w x g g' o (ix2 r l)
      = k0_pay6 x (View.canon (steps a w o)) g (ix2 r l) := by
  unfold out0_C_5
  rw [View.read_writes_eq_canon _ _ _ (cover0_C_5 c _ _ _ _ _ _ _ _ _ _ _ _ _ _ _ _ _ _ _ _ _ _ _ _)]
  unfold kernelRun0_C
  dsimp only
  sl_unfold_words
  simp only [View.readAt_eq_ld, (hs0_0 t).read_unread, (hs0_1 t).read_unread, (hs0_2 t).read_unread, (hs0_3 t).read_unread, (hs0_5 t).read_unread, View.ld_unit_zero (S := S1024x512) hz,
    View.ld_unit_zero (S := S1024x2048) hz, View.ld_unit_zero (S := S1x2048) hz, View.canon_cons_unit_zero (S := S1024x2048) hz]
  exact congrArg (fun z => k0_pay6 x z g (ix2 r l)) (steps_cov a w o _)

theorem out_C6 (h0 : ¬ cond0_0 (grid0.coords t)) (h1 : cond0_1 (grid0.coords t)) (h2 : cond0_2 (grid0.coords t)) (r : Fin 1024) (l : Fin 2048) :
    out0_C_6 c (grid0.coords t) (ms0_0 t) (hs0_0 t) (ms0_1 t) (hs0_1 t) (ms0_2 t) (hs0_2 t) (ms0_3 t) (hs0_3 t) (ms0_4 t) (hs0_4 t)
      (ms0_5 t) (hs0_5 t) (ms0_6 t) (hs0_6 t) h0 h1 h2 a w x g g' o (ix2 r l)
      = k0_pay7 x (View.canon (steps a w o)) g g' (ix2 r l) := by
  unfold out0_C_6
  rw [View.read_writes_eq_canon _ _ _ (cover0_C_6 c _ _ _ _ _ _ _ _ _ _ _ _ _ _ _ _ _ _ _ _ _ _ _ _)]
  unfold kernelRun0_C
  dsimp only
  sl_unfold_words
  simp only [View.readAt_eq_ld, (hs0_0 t).read_unread, (hs0_1 t).read_unread, (hs0_2 t).read_unread, (hs0_3 t).read_unread, (hs0_4 t).read_unread, (hs0_5 t).read_unread, View.ld_unit_zero (S := S1024x512) hz,
    View.ld_unit_zero (S := S1024x2048) hz, View.ld_unit_zero (S := S1x2048) hz, View.canon_unit_zero (S := S1024x2048) hz]
  exact congrArg (fun z => k0_pay7 x z g g' (ix2 r l)) (steps_cov a w o _)

end Steps

/-! ## The sweep over the steps -/

/-- The `q`-th product of the contraction at a row and a column, zero past its end. -/
def term (c : Dev nD) (R : Fin 8192) (l : Fin 2048) (q : ℕ) : EReal :=
  if h : q < 5632 then @HMul.hMul EReal EReal EReal _ (m ((c : Thread nD τ).loc main_arg0) (ix2 R ⟨q, h⟩)) (m ((c : Thread nD τ).loc main_arg1) (ix2 ⟨q, h⟩ l)) else 0

/-- A point's products are the contraction's of its step. -/
theorem step_sum (c : Dev nD) (t : Fin cfg0.N) (r : Fin 1024) (l : Fin 2048) (a : Vec Ideal S1024x512 .bf16) (w : Vec Ideal S1x512x2048 .bf16)
    (ha : a = iblk m c 0 t) (hw : w = iblk m c 1 t) :
    ∑ k : Fin 512, a (ix2 r k) * w (ix3 0 k l) = ∑ q ∈ Finset.range 512, term m c (row t r) l (512 * (t.val % 11) + q) := by
  subst ha hw
  rw [Finset.sum_range]
  refine Finset.sum_congr rfl fun k _ => ?_
  unfold term
  rw [dif_pos (show 512 * (t.val % 11) + k.val < 5632 by omega)]
  exact congrArg₂ (fun x y : EReal => x * y) (blk0 m c t r k) (blk1 m c t k l)

/-- The first step of a row of blocks leaves its own products. -/
theorem acc_first (c : Dev nD) (t : Fin cfg0.N) (h0 : t.val % 11 = 0) (r : Fin 1024) (l : Fin 2048) :
    (outsAt0 m c t.val t.isLt).1 (ix2 r l) = ∑ q ∈ Finset.range (512 * (t.val % 11 + 1)), term m c (row t r) l q := by
  rw [outsAt0_A m c t h0 (by omega) (by omega)]
  dsimp only
  rw [out_A, step_sum m c t r l _ _ rfl rfl, h0]
  refine Finset.sum_congr rfl fun q _ => congrArg _ ?_
  omega

/-- Before the last step the output block holds the contraction of the steps done. -/
theorem acc_eq (c : Dev nD) : ∀ (n : ℕ) (t : Fin cfg0.N), t.val = n → ¬ t.val % 11 = 10 → ∀ (r : Fin 1024) (l : Fin 2048),
    (outsAt0 m c t.val t.isLt).1 (ix2 r l) = ∑ q ∈ Finset.range (512 * (t.val % 11 + 1)), term m c (row t r) l q := by
  intro n
  induction n with
  | zero =>
    intro t ht h10 r l
    exact acc_first m c t (by omega) r l
  | succ n ih =>
    intro t ht h10 r l
    by_cases h0 : t.val % 11 = 0
    · exact acc_first m c t h0 r l
    · obtain ⟨s, hs⟩ : ∃ s : Fin cfg0.N, s.val = t.val - 1 := ⟨⟨t.val - 1, Nat.lt_of_le_of_lt (Nat.sub_le _ _) t.isLt⟩, rfl⟩
      have hrow : row s r = row t r := Fin.ext (by show 1024 * (s.val / 11) + r.val = 1024 * (t.val / 11) + r.val; omega)
      have e := ih s (by omega) (by omega) r l
      rw [hrow] at e
      rw [outsAt0_B m c t h0 (by omega) h10]
      dsimp only
      rw [out_B, step_sum m c t r l _ _ rfl rfl, show 512 * (t.val % 11 + 1) = 512 * (s.val % 11 + 1) + 512 by omega, Finset.sum_range_add]
      refine congrArg₂ (fun x y : EReal => x + y) (Eq.trans ?_ e) ?_
      · obtain ⟨sv, hsv⟩ := s
        dsimp only at hs
        subst hs
        rfl
      · refine Finset.sum_congr rfl fun q _ => congrArg _ ?_
        omega

/-- At the last step the four stores leave the whole contraction. -/
theorem last_eq (c : Dev nD) (t : Fin cfg0.N) (h : t.val % 11 = 10) (r : Fin 1024) (l : Fin 2048) :
    View.canon (steps (iblk m c 0 t) (iblk m c 1 t) (outsAt0 m c (t.val - 1) (Nat.lt_of_le_of_lt (Nat.sub_le _ _) t.isLt)).1) (ix2 r l)
      = ∑ j : Fin 5632, @HMul.hMul EReal EReal EReal _ (m ((c : Thread nD τ).loc main_arg0) (ix2 (row t r) j)) (m ((c : Thread nD τ).loc main_arg1) (ix2 j l)) := by
  refine (steps_canon _ _ _ r l).trans ?_
  rw [step_sum m c t r l _ _ rfl rfl, acc_eq m c _ ⟨t.val - 1, Nat.lt_of_le_of_lt (Nat.sub_le _ _) t.isLt⟩ rfl (by show ¬ (t.val - 1) % 11 = 10; omega) r l, show 512 * ((t.val - 1) % 11 + 1) = 5120 by omega,
    show row ⟨t.val - 1, Nat.lt_of_le_of_lt (Nat.sub_le _ _) t.isLt⟩ r = row t r from
      Fin.ext (by show 1024 * ((t.val - 1) / 11) + r.val = 1024 * (t.val / 11) + r.val; omega),
    show 512 * (t.val % 11) = 5120 by omega, ← Finset.sum_range_add, Finset.sum_range]
  refine Finset.sum_congr rfl fun q _ => ?_
  unfold term
  rw [dif_pos q.isLt]

/-- The first result array: the reference's composed term of the arguments. -/
def G5 (c : Dev nD) : Vec Ideal S8192x2048 .f32 :=
  Cert.Reference3Ideal.Read.val_main_v16 (F := Ideal) (m ((c : Thread nD τ).loc main_arg0)) (m ((c : Thread nD τ).loc main_arg1))
    (m ((c : Thread nD τ).loc main_arg2)) (m ((c : Thread nD τ).loc main_arg3))

/-- The second result array. -/
def G6 (c : Dev nD) : Vec Ideal S8192x2048 .bf16 :=
  Cert.Reference3Ideal.Read.val_main_v30 (F := Ideal) (m ((c : Thread nD τ).loc main_arg0)) (m ((c : Thread nD τ).loc main_arg1))
    (m ((c : Thread nD τ).loc main_arg2)) (m ((c : Thread nD τ).loc main_arg3)) (m ((c : Thread nD τ).loc main_arg4))

theorem block5 (c : Dev nD) (t : Fin cfg0.N) (h : t.val % 11 = 10) (r : Fin 1024) (l : Fin 2048) :
    k0_pay6 (iblk m c 2 t) (View.canon (steps (iblk m c 0 t) (iblk m c 1 t) (outsAt0 m c (t.val - 1) (Nat.lt_of_le_of_lt (Nat.sub_le _ _) t.isLt)).1))
      (iblk m c 3 t) (ix2 r l) = G5 m c (ix2 (row t r) l) := by
  rw [pay6_apply, G5, ref1_apply, blk2]
  simp only [last_eq m c t h, blk3]

theorem block6 (c : Dev nD) (t : Fin cfg0.N) (h : t.val % 11 = 10) (r : Fin 1024) (l : Fin 2048) :
    k0_pay7 (iblk m c 2 t) (View.canon (steps (iblk m c 0 t) (iblk m c 1 t) (outsAt0 m c (t.val - 1) (Nat.lt_of_le_of_lt (Nat.sub_le _ _) t.isLt)).1))
      (iblk m c 3 t) (iblk m c 4 t) (ix2 r l) = G6 m c (ix2 (row t r) l) := by
  rw [pay7_apply, G6, ref2_apply]
  simp only [block5 m c t h, blk4]
  rfl

/-- What a row block's last point writes back to the first result is its block of the reference's term. -/
theorem flushed5_eq (c : Dev nD) (t : Fin cfg0.N) (hf : (cfg0.win 5).flush t = true) :
    (dats m 0 c).flushed 5 t = (win0_5.blk t).view.read (Elt Ideal) (G5 m c) := by
  have h : t.val % 11 = 10 := (flush0_5 t).mp hf
  rw [Value.flushed5_C m c t (by omega) (by omega) h]
  funext j
  rw [View.read_apply]
  obtain ⟨h0, h1⟩ := (idx_facts t).2.2.2.2.2.1
  idx_vars j
  refine (out_C5 c t _ _ _ _ _ _ _ _ _ _ _).trans ((block5 m c t h _ _).trans (congrArg _ (funext fun a => Fin.ext ?_)))
  match a with
  | ⟨0, _⟩ => show 1024 * (t.val / 11) + j0.val = win0_5.index t 0 * 1024 + 1 * j0.val; rw [h0]; omega
  | ⟨1, _⟩ => show j1.val = win0_5.index t 1 * 2048 + 1 * j1.val; rw [h1]; omega

theorem cover5 (i : S8192x2048.Idx) : ∃ t : Fin cfg0.N, (cfg0.win 5).flush t = true ∧ i ∈ ((cfg0.win 5).blk t).view.set := by
  have hi0 : (i 0).val < 8192 := (i 0).isLt
  have hi1 : (i 1).val < 2048 := (i 1).isLt
  obtain ⟨t, ht⟩ : ∃ t : Fin cfg0.N, t.val = 11 * ((i 0).val / 1024) + 10 :=
    ⟨⟨11 * ((i 0).val / 1024) + 10, by show _ < grid0.N; rw [N_0]; omega⟩, rfl⟩
  refine ⟨t, (flush0_5 t).mpr (by omega), ?_⟩
  show i ∈ ((View.whole main_v3_0).slice (win0_5.rect t)).set
  rw [View.set_slice_whole, Rect.mem_set_unit]
  obtain ⟨h0, h1⟩ := (idx_facts t).2.2.2.2.2.1
  intro a
  match a with
  | ⟨0, _⟩ => show win0_5.index t 0 * 1024 ≤ (i 0).val ∧ (i 0).val < win0_5.index t 0 * 1024 + 1024; rw [h0, ht]; omega
  | ⟨1, _⟩ => show win0_5.index t 1 * 2048 ≤ (i 1).val ∧ (i 1).val < win0_5.index t 1 * 2048 + 2048; rw [h1]; omega

theorem final5 (c : Dev nD) : (dats m 0 c).arrAt 5 cfg0.N = G5 m c :=
  (dats m 0 c).arrAt_eq_of_cover 5 (G5 m c) (fun t hf => flushed5_eq m c t hf) cover5

/-- What a row block's last point writes back to the second result is its block of the reference's term. -/
theorem flushed6_eq (c : Dev nD) (t : Fin cfg0.N) (hf : (cfg0.win 6).flush t = true) :
    (dats m 0 c).flushed 6 t = (win0_6.blk t).view.read (Elt Ideal) (G6 m c) := by
  have h : t.val % 11 = 10 := (flush0_6 t).mp hf
  rw [Value.flushed6_C m c t (by omega) (by omega) h]
  funext j
  rw [View.read_apply]
  obtain ⟨h0, h1⟩ := (idx_facts t).2.2.2.2.2.2
  idx_vars j
  refine (out_C6 c t _ _ _ _ _ _ _ _ _ _ _).trans ((block6 m c t h _ _).trans (congrArg _ (funext fun a => Fin.ext ?_)))
  match a with
  | ⟨0, _⟩ => show 1024 * (t.val / 11) + j0.val = win0_6.index t 0 * 1024 + 1 * j0.val; rw [h0]; omega
  | ⟨1, _⟩ => show j1.val = win0_6.index t 1 * 2048 + 1 * j1.val; rw [h1]; omega

theorem cover6 (i : S8192x2048.Idx) : ∃ t : Fin cfg0.N, (cfg0.win 6).flush t = true ∧ i ∈ ((cfg0.win 6).blk t).view.set := by
  have hi0 : (i 0).val < 8192 := (i 0).isLt
  have hi1 : (i 1).val < 2048 := (i 1).isLt
  obtain ⟨t, ht⟩ : ∃ t : Fin cfg0.N, t.val = 11 * ((i 0).val / 1024) + 10 :=
    ⟨⟨11 * ((i 0).val / 1024) + 10, by show _ < grid0.N; rw [N_0]; omega⟩, rfl⟩
  refine ⟨t, (flush0_6 t).mpr (by omega), ?_⟩
  show i ∈ ((View.whole main_v3_1).slice (win0_6.rect t)).set
  rw [View.set_slice_whole, Rect.mem_set_unit]
  obtain ⟨h0, h1⟩ := (idx_facts t).2.2.2.2.2.2
  intro a
  match a with
  | ⟨0, _⟩ => show win0_6.index t 0 * 1024 ≤ (i 0).val ∧ (i 0).val < win0_6.index t 0 * 1024 + 1024; rw [h0, ht]; omega
  | ⟨1, _⟩ => show win0_6.index t 1 * 2048 ≤ (i 1).val ∧ (i 1).val < win0_6.index t 1 * 2048 + 2048; rw [h1]; omega

theorem final6 (c : Dev nD) : (dats m 0 c).arrAt 6 cfg0.N = G6 m c :=
  (dats m 0 c).arrAt_eq_of_cover 6 (G6 m c) (fun t hf => flushed6_eq m c t hf) cover6

/-- The kernel's and the reference's runs end at one pair of arrays. -/
theorem algebraic : Cert.algebraic_Kernel3Ideal_Reference3Ideal := by
  intro m ρ m' ρ' _ hag
  refine ⟨G5 m, G6 m, (θ_run _ _ _).mono (fun r h c => ?_) (Value.run_blocks m ρ),
    (θ_run _ _ _).mono (fun r h c => ?_) (Cert.Reference3Ideal.Value.run m' ρ')⟩
  · obtain ⟨e5, e6, h⟩ := h c
    exact ⟨e5.trans (final5 m c), e6.trans (final6 m c), h⟩
  · obtain ⟨e5, e6, h⟩ := h c
    obtain ⟨a0, a1, a2, a3, a4⟩ := hag c
    refine ⟨e5.trans ?_, e6.trans ?_, h⟩
    · rw [a0, a1, a2, a3]; rfl
    · rw [Cert.Reference3Ideal.Read.val_main_v30_eq, a0, a1, a2, a3, a4]
      rfl

end Cert.Proof.DownProj

end
-- ==== Proof.InProj.lean ====
/-
  The input projection of the odd layers: the product of the normed stream with the weight, a 2048 by 512 block at a point,
  the tanh form of GELU on the left half of the columns. The result array is the reference's composed term of the arguments.
-/
module

public import proofs.«01_k».proof.Defs
public import proofs.«01_k».proof.Proof.Gen.Kernel4Ideal.Value
public import proofs.«01_k».proof.Proof.Gen.Reference4Ideal.Run
public import proofs.«01_k».proof.Proof.Gen.Reference4Ideal.Read
public import proofs.«01_k».proof.Proof.Shared
public import Idealize.ShloMosaic.Lib.Pipeline.ValueKit.Tiles

@[expose] public section

set_option maxRecDepth 16384

noncomputable section

open Idealize.ShloMosaic Idealize.ShloMosaic.TcCoe Idealize.SL.Sem
open Idealize.ShloMosaic.Pipeline (Dat)

namespace Cert.Proof.InProj

open Cert.Kernel4Ideal Cert.Kernel4Ideal.Gen Cert.Proof.Shared

variable (m : (ℓ : Loc nD τ sig) → Buf (Elt Ideal) ℓ) (ρ : Dev nD → PrngReg)

/-- The index maps, decided over the points: row block `t / 8`, column block `t % 8`. -/
theorem idx_facts : ∀ t : Fin cfg0.N, (win0_0.index t 0 = t.val / 8 ∧ win0_0.index t 1 = 0)
    ∧ (win0_1.index t 0 = 0 ∧ win0_1.index t 1 = 0 ∧ win0_1.index t 2 = t.val % 8)
    ∧ (win0_2.index t 0 = t.val / 8 ∧ win0_2.index t 1 = t.val % 8) :=
  (by decide +kernel : ∀ t : Fin grid0.N, _)

theorem lt32 (t : Fin cfg0.N) : t.val < 32 := lt_of_lt_of_eq t.isLt N_0

/-- Row `r` of point `t`'s block, as a row of the array. -/
def row (t : Fin cfg0.N) (r : Fin 2048) : Fin 8192 := ⟨2048 * (t.val / 8) + r.val, by have := lt32 t; omega⟩

/-- Column `l` of point `t`'s block, as a column of the array. -/
def col (t : Fin cfg0.N) (l : Fin 512) : Fin 4096 := ⟨512 * (t.val % 8) + l.val, by omega⟩

theorem blk0 (c : Dev nD) (t : Fin cfg0.N) (r : Fin 2048) (l : Fin 2048) :
    iblk m c 0 t (ix2 r l) = m ((c : Thread nD τ).loc main_arg0) (ix2 (row t r) l) := by
  obtain ⟨h0, h1⟩ := (idx_facts t).1
  unfold iblk
  rw [View.read_apply]
  show V m c main_arg0 _ = _
  rw [V_main_arg0]
  refine congrArg _ (funext fun a => Fin.ext ?_)
  match a with
  | ⟨0, _⟩ => show win0_0.index t 0 * 2048 + 1 * r.val = 2048 * (t.val / 8) + r.val; rw [h0]; omega
  | ⟨1, _⟩ => show win0_0.index t 1 * 2048 + 1 * l.val = l.val; rw [h1]; omega

theorem blk1 (c : Dev nD) (t : Fin cfg0.N) (k : Fin 2048) (l : Fin 512) :
    iblk m c 1 t (ix3 0 k l) = m ((c : Thread nD τ).loc main_arg1) (ix3 0 k (col t l)) := by
  obtain ⟨h0, h1, h2⟩ := (idx_facts t).2.1
  unfold iblk
  rw [View.read_apply]
  show V m c main_arg1 _ = _
  rw [V_main_arg1]
  refine congrArg _ (funext fun a => Fin.ext ?_)
  match a with
  | ⟨0, _⟩ => show win0_1.index t 0 * 1 + 1 * 0 = 0; rw [h0]
  | ⟨1, _⟩ => show win0_1.index t 1 * 2048 + 1 * k.val = k.val; rw [h1]; omega
  | ⟨2, _⟩ => show win0_1.index t 2 * 512 + 1 * l.val = 512 * (t.val % 8) + l.val; rw [h2]; omega

/-- The tanh form of GELU. -/
def gelu (x : EReal) : EReal :=
  x * (Ideal.ofBits FTy.f32 0x3F000000#32 * (Ideal.ofBits FTy.f32 0x3F800000#32
    + Ideal.tanh (Ideal.ofBits FTy.f32 0x3F4C422A#32 * (x + Ideal.ofBits FTy.f32 0x3D372713#32 * (x * x * x)))))

theorem pay4_apply (w : Vec Ideal S1x2048x512 .f32) (a : Vec Ideal S512x2048 .bf16) (r l : Fin 512) :
    k0_pay4 w a (ix2 r l) = ∑ k : Fin 2048, a (ix2 r k) * w (ix3 0 k l) := by
  pointwise [k0_pay4, k0_pay1]

theorem pay3_apply (w : Vec Ideal S1x2048x512 .f32) (a : Vec Ideal S512x2048 .bf16) (r l : Fin 512) :
    k0_pay3 w a (ix2 r l) = gelu (∑ k : Fin 2048, a (ix2 r k) * w (ix3 0 k l)) := by
  unfold gelu
  pointwise [k0_pay3, k0_pay1]
  rw [mul_comm (Ideal.ofBits FTy.f32 1056964608#32) _, mul_assoc]

theorem pay9_eq (w : Vec Ideal S1x2048x512 .f32) (a : Vec Ideal S512x2048 .bf16) : k0_pay9 (k0_pay1 w) a = k0_pay3 w a := rfl
theorem pay8_eq (w : Vec Ideal S1x2048x512 .f32) (a : Vec Ideal S512x2048 .bf16) : k0_pay8 (k0_pay1 w) a = k0_pay3 w a := rfl
theorem pay2_eq (w : Vec Ideal S1x2048x512 .f32) (a : Vec Ideal S512x2048 .bf16) :
    k0_pay2 (k0_pay10 (k0_pay1 w) a) (FloatOps.ofBits FTy.f32 1056964608#32) = k0_pay3 w a := rfl
theorem pay5_eq (w : Vec Ideal S1x2048x512 .f32) (a : Vec Ideal S512x2048 .bf16) : k0_pay5 w a = k0_pay4 w a := rfl
theorem pay6_eq (w : Vec Ideal S1x2048x512 .f32) (a : Vec Ideal S512x2048 .bf16) : k0_pay6 w a = k0_pay4 w a := rfl
theorem pay7_eq (w : Vec Ideal S1x2048x512 .f32) (a : Vec Ideal S512x2048 .bf16) : k0_pay7 w a = k0_pay4 w a := rfl

/-- A row of a block's 512-row slice is a row of the block. -/
theorem slice_sum (x0 : Vec Ideal S2048x2048 .bf16) (x1 : Vec Ideal S1x2048x512 .f32) (o : ℕ) (inb) (r : Fin 2048) (l : Fin 512)
    (x0' x1' : Fin 512) (h0 : r.val = o + x0'.val) (h1 : l.val = x1'.val) :
    ∑ k : Fin 2048, View.ld x0 (Rect.unit (s := S2048x2048) ![o, 0] ![512, 2048] inb) (ix2 x0' k) * x1 (ix3 0 k x1')
      = ∑ k : Fin 2048, x0 (ix2 r k) * x1 (ix3 0 k l) := by
  obtain rfl : l = x1' := Fin.ext h1
  refine Finset.sum_congr rfl fun k _ => congrArg (· * _) (congrArg x0 (funext fun a => Fin.ext ?_))
  match a with
  | ⟨0, _⟩ => show o + 1 * x0'.val = r.val; omega
  | ⟨1, _⟩ => show 0 + 1 * k.val = k.val; omega

section Reference
open Cert.Reference4Ideal.Read

theorem ref_left (x0 : Vec Ideal S8192x2048 .bf16) (x1 : Vec Ideal S2x2048x4096 .f32) (r : Fin 8192) (l : Fin 4096) (h : l.val < 2048) :
    val_main_v20 (F := Ideal) x0 x1 (ix2 r l) = gelu (∑ k : Fin 2048, x0 (ix2 r k) * x1 (ix3 0 k l)) := by
  unfold gelu
  pointwise [val_main_v20, val_main_v19, val_main_v18, val_main_v17, val_main_v16, val_main_v15, val_main_v14, val_main_v13, val_main_v12, val_main_v11,
    val_main_v10, val_main_v9, val_main_v8, val_main_v7, val_main_v6, val_main_v5, val_main_v4, val_main_v3, val_main_v2,
    val_main_v1, val_main_v0, val_main_cst, val_main_cst_0, val_main_cst_1, val_main_cst_2]
  rw [dif_pos h]

theorem ref_right (x0 : Vec Ideal S8192x2048 .bf16) (x1 : Vec Ideal S2x2048x4096 .f32) (r : Fin 8192) (l : Fin 4096) (h : ¬ l.val < 2048) :
    val_main_v20 (F := Ideal) x0 x1 (ix2 r l) = ∑ k : Fin 2048, x0 (ix2 r k) * x1 (ix3 0 k l) := by
  pointwise [val_main_v20, val_main_v19, val_main_v18, val_main_v17, val_main_v16, val_main_v15, val_main_v14, val_main_v13, val_main_v12, val_main_v11,
    val_main_v10, val_main_v9, val_main_v8, val_main_v7, val_main_v6, val_main_v5, val_main_v4, val_main_v3, val_main_v2,
    val_main_v1, val_main_v0, val_main_cst, val_main_cst_0, val_main_cst_1, val_main_cst_2]
  rw [dif_neg h]
  refine Finset.sum_congr rfl fun k _ => congrArg (fun y => _ * x1 (ix3 0 k y)) (Fin.ext ?_)
  show 2048 + (l.val - 2048) = l.val
  omega

end Reference

/-- What a point with columns in the left half leaves in its block. -/
theorem out_A (c : Dev nD) (t : Fin cfg0.N) (h0 : cond0_0 (grid0.coords t)) (h1 : ¬ cond0_1 (grid0.coords t))
    (x0 : Vec Ideal S2048x2048 .bf16) (x1 : Vec Ideal S1x2048x512 .f32) (r : Fin 2048) (l : Fin 512) :
    out0_A_2 c (grid0.coords t) (ms0_0 t) (hs0_0 t) (ms0_1 t) (hs0_1 t) (ms0_2 t) (hs0_2 t) h0 h1 x0 x1 (ix2 r l)
      = gelu (∑ k : Fin 2048, x0 (ix2 r k) * x1 (ix3 0 k l)) := by
  unfold out0_A_2
  rw [View.read_writes_eq_canon _ _ _ (cover0_A_2 c _ _ _ _ _ _ _ _ _ _ _)]
  unfold kernelRun0_A
  dsimp only
  sl_unfold_words
  simp only [View.readAt_eq_ld, (hs0_0 t).read_unread, (hs0_1 t).read_unread, View.ld_unit_zero (S := S1x2048x512) hz3]
  canon_tiles j h
  all_goals
    first | rw [pay9_eq] | rw [pay8_eq] | rw [pay2_eq] | skip
    idx_vars j
    refine (pay3_apply _ _ _ _).trans (congrArg gelu ?_)
  · exact slice_sum x0 x1 1536 _ r l _ _ h0 h1
  · exact slice_sum x0 x1 1024 _ r l _ _ h0 h1
  · exact slice_sum x0 x1 512 _ r l _ _ h0 h1
  · exact slice_sum x0 x1 0 _ r l _ _ (h0.trans (Nat.zero_add _).symm) h1

theorem out_B (c : Dev nD) (t : Fin cfg0.N) (h0 : ¬ cond0_0 (grid0.coords t)) (h1 : cond0_1 (grid0.coords t))
    (x0 : Vec Ideal S2048x2048 .bf16) (x1 : Vec Ideal S1x2048x512 .f32) (r : Fin 2048) (l : Fin 512) :
    out0_B_2 c (grid0.coords t) (ms0_0 t) (hs0_0 t) (ms0_1 t) (hs0_1 t) (ms0_2 t) (hs0_2 t) h0 h1 x0 x1 (ix2 r l)
      = ∑ k : Fin 2048, x0 (ix2 r k) * x1 (ix3 0 k l) := by
  unfold out0_B_2
  rw [View.read_writes_eq_canon _ _ _ (cover0_B_2 c _ _ _ _ _ _ _ _ _ _ _)]
  unfold kernelRun0_B
  dsimp only
  sl_unfold_words
  simp only [View.readAt_eq_ld, (hs0_0 t).read_unread, (hs0_1 t).read_unread, View.ld_unit_zero (S := S1x2048x512) hz3]
  canon_tiles j h
  all_goals
    first | rw [pay5_eq] | rw [pay6_eq] | rw [pay7_eq] | skip
    idx_vars j
    refine (pay4_apply _ _ _ _).trans ?_
  · exact slice_sum x0 x1 1536 _ r l _ _ h0 h1
  · exact slice_sum x0 x1 1024 _ r l _ _ h0 h1
  · exact slice_sum x0 x1 512 _ r l _ _ h0 h1
  · exact slice_sum x0 x1 0 _ r l _ _ (h0.trans (Nat.zero_add _).symm) h1

/-- The result array: the reference's composed term of the arguments. -/
def G (c : Dev nD) : Vec Ideal S8192x4096 .bf16 :=
  Cert.Reference4Ideal.Read.val_main_v20 (F := Ideal) (m ((c : Thread nD τ).loc main_arg0)) (m ((c : Thread nD τ).loc main_arg1))

/-- What a point leaves in its block, at an index. -/
theorem flushed_apply (c : Dev nD) (t : Fin cfg0.N) (r : Fin 2048) (l : Fin 512) :
    ((dats m 0 c).flushed 2 t : Vec Ideal S2048x512 .bf16) (ix2 r l) = G m c (ix2 (row t r) (col t l)) := by
  have hs := Finset.sum_congr (rfl : (Finset.univ : Finset (Fin 2048)) = _) fun k _ =>
    congrArg₂ (fun x y : EReal => x * y) (blk0 m c t r k) (blk1 m c t k l)
  by_cases h : t.val % 8 ≤ 3
  · rw [Value.flushed2_A m c t h (by omega)]
    refine (out_A c t _ _ _ _ r l).trans ?_
    refine (congrArg gelu hs).trans ?_
    exact (ref_left _ _ _ _ (by show 512 * (t.val % 8) + l.val < 2048; omega)).symm
  · rw [Value.flushed2_B m c t h (by omega)]
    refine (out_B c t _ _ _ _ r l).trans ?_
    refine hs.trans ?_
    exact (ref_right _ _ _ _ (by show ¬ 512 * (t.val % 8) + l.val < 2048; omega)).symm

theorem flushed_eq (c : Dev nD) (t : Fin cfg0.N) :
    (dats m 0 c).flushed 2 t = (win0_2.blk t).view.read (Elt Ideal) (G m c) := by
  funext j
  rw [View.read_apply]
  obtain ⟨h0, h1⟩ := (idx_facts t).2.2
  idx_vars j
  refine (flushed_apply m c t _ _).trans (congrArg _ (funext fun a => Fin.ext ?_))
  match a with
  | ⟨0, _⟩ => show 2048 * (t.val / 8) + j0.val = win0_2.index t 0 * 2048 + 1 * j0.val; rw [h0]; omega
  | ⟨1, _⟩ => show 512 * (t.val % 8) + j1.val = win0_2.index t 1 * 512 + 1 * j1.val; rw [h1]; omega

/-- Every index of the result is in the block its row and column name. -/
theorem cover (i : S8192x4096.Idx) : ∃ t : Fin cfg0.N, (cfg0.win 2).flush t = true ∧ i ∈ ((cfg0.win 2).blk t).view.set := by
  have hi0 : (i 0).val < 8192 := (i 0).isLt
  have hi1 : (i 1).val < 4096 := (i 1).isLt
  obtain ⟨t, ht⟩ : ∃ t : Fin cfg0.N, t.val = 8 * ((i 0).val / 2048) + (i 1).val / 512 :=
    ⟨⟨8 * ((i 0).val / 2048) + (i 1).val / 512, by show _ < grid0.N; rw [N_0]; omega⟩, rfl⟩
  refine ⟨t, flush0_2 t, ?_⟩
  show i ∈ ((View.whole main_v0).slice (win0_2.rect t)).set
  rw [View.set_slice_whole, Rect.mem_set_unit]
  obtain ⟨h0, h1⟩ := (idx_facts t).2.2
  intro a
  match a with
  | ⟨0, _⟩ => show win0_2.index t 0 * 2048 ≤ (i 0).val ∧ (i 0).val < win0_2.index t 0 * 2048 + 2048; rw [h0, ht]; omega
  | ⟨1, _⟩ => show win0_2.index t 1 * 512 ≤ (i 1).val ∧ (i 1).val < win0_2.index t 1 * 512 + 512; rw [h1, ht]; omega

theorem final (c : Dev nD) : (dats m 0 c).arrAt 2 cfg0.N = G m c :=
  (dats m 0 c).arrAt_eq_of_cover 2 (G m c) (fun t _ => flushed_eq m c t) cover

/-- The kernel's and the reference's runs end at one array. -/
theorem algebraic : Cert.algebraic_Kernel4Ideal_Reference4Ideal := by
  intro m ρ m' ρ' _ hag
  refine ⟨G m, (θ_run _ _ _).mono (fun r h c => ?_) (Value.run_blocks m ρ),
    (θ_run _ _ _).mono (fun r h c => ?_) (Cert.Reference4Ideal.Value.run m' ρ')⟩
  · obtain ⟨e, h⟩ := h c
    exact ⟨e.trans (final m c), h⟩
  · obtain ⟨e, h⟩ := h c
    obtain ⟨a0, a1⟩ := hag c
    refine ⟨e.trans ?_, h⟩
    rw [a0, a1]
    rfl

end Cert.Proof.InProj

end
-- ==== Proof.OutProj.lean ====
/-
  The output projection of the odd layers: one 512-row block of the product, its root-mean-square scaling added to the
  residual stream, and the next norm of the sum. The result arrays are the reference's composed terms of the arguments.
-/
module

public import proofs.«01_k».proof.Defs
public import proofs.«01_k».proof.Proof.Gen.Kernel5Ideal.Value
public import proofs.«01_k».proof.Proof.Gen.Reference5Ideal.Run
public import proofs.«01_k».proof.Proof.Gen.Reference5Ideal.Read
public import proofs.«01_k».proof.Proof.Shared

@[expose] public section

set_option maxRecDepth 16384

noncomputable section

open Idealize.ShloMosaic Idealize.ShloMosaic.TcCoe Idealize.SL.Sem
open Idealize.ShloMosaic.Pipeline (Dat)

namespace Cert.Proof.OutProj

open Cert.Kernel5Ideal Cert.Kernel5Ideal.Gen Cert.Proof.Shared

variable (m : (ℓ : Loc nD τ sig) → Buf (Elt Ideal) ℓ) (ρ : Dev nD → PrngReg)

/-- The index maps, decided over the sixteen points. -/
theorem idx_facts : ∀ t : Fin cfg0.N, (win0_0.index t 0 = t.val ∧ win0_0.index t 1 = 0)
    ∧ (win0_1.index t 0 = 0 ∧ win0_1.index t 1 = 0 ∧ win0_1.index t 2 = 0)
    ∧ (win0_2.index t 0 = t.val ∧ win0_2.index t 1 = 0)
    ∧ (win0_3.index t 0 = 0 ∧ win0_3.index t 1 = 0)
    ∧ (win0_4.index t 0 = 0 ∧ win0_4.index t 1 = 0)
    ∧ (win0_5.index t 0 = t.val ∧ win0_5.index t 1 = 0)
    ∧ (win0_6.index t 0 = t.val ∧ win0_6.index t 1 = 0) :=
  (by decide +kernel : ∀ t : Fin grid0.N, _)

theorem lt16 (t : Fin cfg0.N) : t.val < 16 := lt_of_lt_of_eq t.isLt N_0

/-- Row `r` of point `t`'s block, as a row of the array. -/
def row (t : Fin cfg0.N) (r : Fin 512) : Fin 8192 := ⟨512 * t.val + r.val, by have := lt16 t; omega⟩

theorem blk0 (c : Dev nD) (t : Fin cfg0.N) (r : Fin 512) (l : Fin 2048) :
    iblk m c 0 t (ix2 r l) = m ((c : Thread nD τ).loc main_arg0) (ix2 (row t r) l) := by
  obtain ⟨h0, h1⟩ := (idx_facts t).1
  unfold iblk
  rw [View.read_apply]
  show V m c main_arg0 _ = _
  rw [V_main_arg0]
  refine congrArg _ (funext fun a => Fin.ext ?_)
  match a with
  | ⟨0, _⟩ => show win0_0.index t 0 * 512 + 1 * r.val = 512 * t.val + r.val; rw [h0]; omega
  | ⟨1, _⟩ => show win0_0.index t 1 * 2048 + 1 * l.val = l.val; rw [h1]; omega

theorem blk2 (c : Dev nD) (t : Fin cfg0.N) (r : Fin 512) (l : Fin 2048) :
    iblk m c 2 t (ix2 r l) = m ((c : Thread nD τ).loc main_arg2) (ix2 (row t r) l) := by
  obtain ⟨h0, h1⟩ := (idx_facts t).2.2.1
  unfold iblk
  rw [View.read_apply]
  show V m c main_arg2 _ = _
  rw [V_main_arg2]
  refine congrArg _ (funext fun a => Fin.ext ?_)
  match a with
  | ⟨0, _⟩ => show win0_2.index t 0 * 512 + 1 * r.val = 512 * t.val + r.val; rw [h0]; omega
  | ⟨1, _⟩ => show win0_2.index t 1 * 2048 + 1 * l.val = l.val; rw [h1]; omega

theorem blk1 (c : Dev nD) (t : Fin cfg0.N) (k : Fin 2048) (l : Fin 2048) :
    iblk m c 1 t (ix3 0 k l) = m ((c : Thread nD τ).loc main_arg1) (ix3 0 k l) := by
  obtain ⟨h0, h1, h2⟩ := (idx_facts t).2.1
  unfold iblk
  rw [View.read_apply]
  show V m c main_arg1 _ = _
  rw [V_main_arg1]
  refine congrArg _ (funext fun a => Fin.ext ?_)
  match a with
  | ⟨0, _⟩ => show win0_1.index t 0 * 1 + 1 * 0 = 0; rw [h0]
  | ⟨1, _⟩ => show win0_1.index t 1 * 2048 + 1 * k.val = k.val; rw [h1]; omega
  | ⟨2, _⟩ => show win0_1.index t 2 * 2048 + 1 * l.val = l.val; rw [h2]; omega

/-- The reshaped weights, read at an index. -/
theorem V0 (c : Dev nD) (l : Fin 2048) : V m c main_v0 (ix2 0 l) = m ((c : Thread nD τ).loc main_arg3) (ix1 l) := by
  unfold V
  after_reads_at
theorem V1 (c : Dev nD) (l : Fin 2048) : V m c main_v1 (ix2 0 l) = m ((c : Thread nD τ).loc main_arg4) (ix1 l) := by
  unfold V
  after_reads_at

theorem blk3 (c : Dev nD) (t : Fin cfg0.N) (l : Fin 2048) :
    iblk m c 3 t (ix2 0 l) = m ((c : Thread nD τ).loc main_arg3) (ix1 l) := by
  obtain ⟨h0, h1⟩ := (idx_facts t).2.2.2.1
  unfold iblk
  rw [View.read_apply]
  refine Eq.trans ?_ (V0 m c l)
  show V m c main_v0 _ = _
  refine congrArg _ (funext fun a => Fin.ext ?_)
  match a with
  | ⟨0, _⟩ => show win0_3.index t 0 * 1 + 1 * 0 = 0; rw [h0]
  | ⟨1, _⟩ => show win0_3.index t 1 * 2048 + 1 * l.val = l.val; rw [h1]; omega

theorem blk4 (c : Dev nD) (t : Fin cfg0.N) (l : Fin 2048) :
    iblk m c 4 t (ix2 0 l) = m ((c : Thread nD τ).loc main_arg4) (ix1 l) := by
  obtain ⟨h0, h1⟩ := (idx_facts t).2.2.2.2.1
  unfold iblk
  rw [View.read_apply]
  refine Eq.trans ?_ (V1 m c l)
  show V m c main_v1 _ = _
  refine congrArg _ (funext fun a => Fin.ext ?_)
  match a with
  | ⟨0, _⟩ => show win0_4.index t 0 * 1 + 1 * 0 = 0; rw [h0]
  | ⟨1, _⟩ => show win0_4.index t 1 * 2048 + 1 * l.val = l.val; rw [h1]; omega

/-- The residual stream with the scaled product added, at an index. -/
theorem pay1_apply (a : Vec Ideal S512x2048 .bf16) (w : Vec Ideal S1x2048x2048 .bf16) (x : Vec Ideal S512x2048 .f32)
    (g : Vec Ideal S1x2048 .f32) (r : Fin 512) (l : Fin 2048) :
    k0_pay1 a w x g (ix2 r l) = x (ix2 r l) + rms (fun k => ∑ j, a (ix2 r j) * w (ix3 0 j k)) (fun k => g (ix2 0 k)) l := by
  unfold rms
  pointwise [k0_pay1]

/-- Its norm, at an index. -/
theorem pay2_apply (a : Vec Ideal S512x2048 .bf16) (w : Vec Ideal S1x2048x2048 .bf16) (x : Vec Ideal S512x2048 .f32)
    (g g' : Vec Ideal S1x2048 .f32) (r : Fin 512) (l : Fin 2048) :
    k0_pay2 a w x g g' (ix2 r l) = rms (fun k => k0_pay1 a w x g (ix2 r k)) (fun k => g' (ix2 0 k)) l := by
  unfold rms
  pointwise [k0_pay2]

section Reference
open Cert.Reference5Ideal.Read

/-- The reference's sum, at an index. -/
theorem ref1_apply (x0 : Vec Ideal S8192x2048 .bf16) (x1 : Vec Ideal S2x2048x2048 .bf16) (x2 : Vec Ideal S8192x2048 .f32)
    (x3 : Vec Ideal S2048 .f32) (r : Fin 8192) (l : Fin 2048) :
    val_main_v18 (F := Ideal) x0 x1 x2 x3 (ix2 r l)
      = x2 (ix2 r l) + rms (fun k => ∑ j, x0 (ix2 r j) * x1 (ix3 0 j k)) (fun k => x3 (ix1 k)) l := by
  unfold rms
  pointwise [val_main_v18, val_main_v17, val_main_v16, val_main_v15, val_main_v14, val_main_v13, val_main_v12, val_main_v11,
    val_main_v10, val_main_v9, val_main_v8, val_main_v7, val_main_v6, val_main_v5, val_main_v4, val_main_v3, val_main_v2,
    val_main_v1, val_main_v0, val_main_cst, val_main_cst_0, val_main_cst_1]

/-- The reference's norm of it, at an index. -/
theorem ref2_apply (x0 : Vec Ideal S8192x2048 .bf16) (x1 : Vec Ideal S2x2048x2048 .bf16) (x2 : Vec Ideal S8192x2048 .f32)
    (x3 x4 : Vec Ideal S2048 .f32) (r : Fin 8192) (l : Fin 2048) :
    val_main_v32 (F := Ideal) x0 x1 x2 x3 x4 (ix2 r l)
      = rms (fun k => val_main_v18 (F := Ideal) x0 x1 x2 x3 (ix2 r k)) (fun k => x4 (ix1 k)) l := by
  unfold rms
  pointwise [val_main_v32, val_main_v31, val_main_v30, val_main_v29, val_main_v28, val_main_v27, val_main_v26, val_main_v25,
    val_main_v24, val_main_v23, val_main_v22, val_main_v21, val_main_v20, val_main_v19, val_main_cst_2, val_main_cst_3,
    val_main_cst_4]

/-- What the first result array ends holding. -/
abbrev G5 (c : Dev nD) : Buf (Elt Ideal) ((c : Thread nD τ).loc main_v2_0) :=
  val_main_v18 (F := Ideal) (m ((c : Thread nD τ).loc main_arg0)) (m ((c : Thread nD τ).loc main_arg1))
    (m ((c : Thread nD τ).loc main_arg2)) (m ((c : Thread nD τ).loc main_arg3))

/-- What the second result array ends holding. -/
abbrev G6 (c : Dev nD) : Buf (Elt Ideal) ((c : Thread nD τ).loc main_v2_1) :=
  val_main_v32 (F := Ideal) (m ((c : Thread nD τ).loc main_arg0)) (m ((c : Thread nD τ).loc main_arg1))
    (m ((c : Thread nD τ).loc main_arg2)) (m ((c : Thread nD τ).loc main_arg3)) (m ((c : Thread nD τ).loc main_arg4))

end Reference

theorem block5 (c : Dev nD) (t : Fin cfg0.N) (r : Fin 512) (l : Fin 2048) :
    k0_pay1 (iblk m c 0 t) (iblk m c 1 t) (iblk m c 2 t) (iblk m c 3 t) (ix2 r l) = G5 m c (ix2 (row t r) l) := by
  rw [pay1_apply, G5, ref1_apply, blk2]
  simp only [blk0, blk1, blk3]

theorem block6 (c : Dev nD) (t : Fin cfg0.N) (r : Fin 512) (l : Fin 2048) :
    k0_pay2 (iblk m c 0 t) (iblk m c 1 t) (iblk m c 2 t) (iblk m c 3 t) (iblk m c 4 t) (ix2 r l) = G6 m c (ix2 (row t r) l) := by
  rw [pay2_apply, G6, ref2_apply]
  simp only [block5, blk4]

/-- What a point writes back to the first result is its block of the reference's term. -/
theorem flushed5_eq (c : Dev nD) (t : Fin cfg0.N) :
    (dats m 0 c).flushed 5 t = (win0_5.blk t).view.read (Elt Ideal) (G5 m c) := by
  rw [Value.flushed5]
  unfold out0_5
  rw [View.canon_unit_zero hz]
  simp only [View.ld_unit_zero (S := S512x2048) hz, View.ld_unit_zero (S := S1x2048) hz, View.ld_unit_zero (S := S1x2048x2048) hz3]
  funext j
  rw [View.read_apply]
  obtain ⟨h0, h1⟩ := (idx_facts t).2.2.2.2.2.1
  idx_vars j
  refine (block5 m c t _ _).trans (congrArg _ (funext fun a => Fin.ext ?_))
  match a with
  | ⟨0, _⟩ => show 512 * t.val + j0.val = win0_5.index t 0 * 512 + 1 * j0.val; rw [h0]; omega
  | ⟨1, _⟩ => show j1.val = win0_5.index t 1 * 2048 + 1 * j1.val; rw [h1]; omega

/-- Every index of the first result is in the block of the point its row names. -/
theorem cover5 (i : S8192x2048.Idx) : ∃ t : Fin cfg0.N, (cfg0.win 5).flush t = true ∧ i ∈ ((cfg0.win 5).blk t).view.set := by
  have hi0 : (i 0).val < 8192 := (i 0).isLt
  have hi1 : (i 1).val < 2048 := (i 1).isLt
  obtain ⟨t, ht⟩ : ∃ t : Fin cfg0.N, t.val = (i 0).val / 512 :=
    ⟨⟨(i 0).val / 512, by show _ < grid0.N; rw [N_0]; omega⟩, rfl⟩
  refine ⟨t, flush0_5 t, ?_⟩
  show i ∈ ((View.whole main_v2_0).slice (win0_5.rect t)).set
  rw [View.set_slice_whole, Rect.mem_set_unit]
  obtain ⟨h0, h1⟩ := (idx_facts t).2.2.2.2.2.1
  intro a
  match a with
  | ⟨0, _⟩ => show win0_5.index t 0 * 512 ≤ (i 0).val ∧ (i 0).val < win0_5.index t 0 * 512 + 512; rw [h0, ht]; omega
  | ⟨1, _⟩ => show win0_5.index t 1 * 2048 ≤ (i 1).val ∧ (i 1).val < win0_5.index t 1 * 2048 + 2048; rw [h1]; omega

theorem final5 (c : Dev nD) : (dats m 0 c).arrAt 5 cfg0.N = G5 m c :=
  (dats m 0 c).arrAt_eq_of_cover 5 (G5 m c) (fun t _ => flushed5_eq m c t) cover5

/-- What a point writes back to the second result is its block of the reference's term. -/
theorem flushed6_eq (c : Dev nD) (t : Fin cfg0.N) :
    (dats m 0 c).flushed 6 t = (win0_6.blk t).view.read (Elt Ideal) (G6 m c) := by
  rw [Value.flushed6]
  unfold out0_6
  rw [View.canon_unit_zero hz]
  simp only [View.ld_unit_zero (S := S512x2048) hz, View.ld_unit_zero (S := S1x2048) hz, View.ld_unit_zero (S := S1x2048x2048) hz3]
  funext j
  rw [View.read_apply]
  obtain ⟨h0, h1⟩ := (idx_facts t).2.2.2.2.2.2
  idx_vars j
  refine (block6 m c t _ _).trans (congrArg _ (funext fun a => Fin.ext ?_))
  match a with
  | ⟨0, _⟩ => show 512 * t.val + j0.val = win0_6.index t 0 * 512 + 1 * j0.val; rw [h0]; omega
  | ⟨1, _⟩ => show j1.val = win0_6.index t 1 * 2048 + 1 * j1.val; rw [h1]; omega

/-- Every index of the second result is in the block of the point its row names. -/
theorem cover6 (i : S8192x2048.Idx) : ∃ t : Fin cfg0.N, (cfg0.win 6).flush t = true ∧ i ∈ ((cfg0.win 6).blk t).view.set := by
  have hi0 : (i 0).val < 8192 := (i 0).isLt
  have hi1 : (i 1).val < 2048 := (i 1).isLt
  obtain ⟨t, ht⟩ : ∃ t : Fin cfg0.N, t.val = (i 0).val / 512 :=
    ⟨⟨(i 0).val / 512, by show _ < grid0.N; rw [N_0]; omega⟩, rfl⟩
  refine ⟨t, flush0_6 t, ?_⟩
  show i ∈ ((View.whole main_v2_1).slice (win0_6.rect t)).set
  rw [View.set_slice_whole, Rect.mem_set_unit]
  obtain ⟨h0, h1⟩ := (idx_facts t).2.2.2.2.2.2
  intro a
  match a with
  | ⟨0, _⟩ => show win0_6.index t 0 * 512 ≤ (i 0).val ∧ (i 0).val < win0_6.index t 0 * 512 + 512; rw [h0, ht]; omega
  | ⟨1, _⟩ => show win0_6.index t 1 * 2048 ≤ (i 1).val ∧ (i 1).val < win0_6.index t 1 * 2048 + 2048; rw [h1]; omega

theorem final6 (c : Dev nD) : (dats m 0 c).arrAt 6 cfg0.N = G6 m c :=
  (dats m 0 c).arrAt_eq_of_cover 6 (G6 m c) (fun t _ => flushed6_eq m c t) cover6

/-- The kernel's and the reference's runs end at one pair of arrays. -/
theorem algebraic : Cert.algebraic_Kernel5Ideal_Reference5Ideal := by
  intro m ρ m' ρ' _ hag
  refine ⟨G5 m, G6 m, (θ_run _ _ _).mono (fun r h c => ?_) (Value.run_blocks m ρ),
    (θ_run _ _ _).mono (fun r h c => ?_) (Cert.Reference5Ideal.Value.run m' ρ')⟩
  · obtain ⟨e5, e6, h⟩ := h c
    exact ⟨e5.trans (final5 m c), e6.trans (final6 m c), h⟩
  · obtain ⟨e5, e6, h⟩ := h c
    obtain ⟨a0, a1, a2, a3, a4⟩ := hag c
    refine ⟨e5.trans ?_, e6.trans ?_, h⟩
    · rw [a0, a1, a2, a3]; rfl
    · rw [Cert.Reference5Ideal.Read.val_main_v32_eq, a0, a1, a2, a3, a4]

end Cert.Proof.OutProj

end
-- ==== Proof.EvenIn.lean ====
/-
  The input projection of the even layers: the product of the normed stream with the first 4096 columns of the weight, a
  2048 by 512 block at a point. The result array is the reference's composed term of the arguments.
-/
module

public import proofs.«01_k».proof.Defs
public import proofs.«01_k».proof.Proof.Gen.Kernel6Ideal.Value
public import proofs.«01_k».proof.Proof.Gen.Reference6Ideal.Run
public import proofs.«01_k».proof.Proof.Gen.Reference6Ideal.Read
public import proofs.«01_k».proof.Proof.Shared
public import Idealize.ShloMosaic.Lib.Pipeline.ValueKit.Tiles

@[expose] public section

set_option maxRecDepth 16384

noncomputable section

open Idealize.ShloMosaic Idealize.ShloMosaic.TcCoe Idealize.SL.Sem
open Idealize.ShloMosaic.Pipeline (Dat)

namespace Cert.Proof.EvenIn

open Cert.Kernel6Ideal Cert.Kernel6Ideal.Gen Cert.Proof.Shared

variable (m : (ℓ : Loc nD τ sig) → Buf (Elt Ideal) ℓ) (ρ : Dev nD → PrngReg)

/-- The index maps, decided over the points: row block `t / 8`, column block `t % 8`. -/
theorem idx_facts : ∀ t : Fin cfg0.N, (win0_0.index t 0 = t.val / 8 ∧ win0_0.index t 1 = 0)
    ∧ (win0_1.index t 0 = 0 ∧ win0_1.index t 1 = 0 ∧ win0_1.index t 2 = t.val % 8)
    ∧ (win0_2.index t 0 = t.val / 8 ∧ win0_2.index t 1 = t.val % 8) :=
  (by decide +kernel : ∀ t : Fin grid0.N, _)

theorem lt32 (t : Fin cfg0.N) : t.val < 32 := lt_of_lt_of_eq t.isLt N_0

/-- Row `r` of point `t`'s block, as a row of the array. -/
def row (t : Fin cfg0.N) (r : Fin 2048) : Fin 8192 := ⟨2048 * (t.val / 8) + r.val, by have := lt32 t; omega⟩

/-- Column `l` of point `t`'s block, as a column of the array. -/
def col (t : Fin cfg0.N) (l : Fin 512) : Fin 4096 := ⟨512 * (t.val % 8) + l.val, by omega⟩

theorem blk0 (c : Dev nD) (t : Fin cfg0.N) (r : Fin 2048) (l : Fin 2048) :
    iblk m c 0 t (ix2 r l) = m ((c : Thread nD τ).loc main_arg0) (ix2 (row t r) l) := by
  obtain ⟨h0, h1⟩ := (idx_facts t).1
  unfold iblk
  rw [View.read_apply]
  show V m c main_arg0 _ = _
  rw [V_main_arg0]
  refine congrArg _ (funext fun a => Fin.ext ?_)
  match a with
  | ⟨0, _⟩ => show win0_0.index t 0 * 2048 + 1 * r.val = 2048 * (t.val / 8) + r.val; rw [h0]; omega
  | ⟨1, _⟩ => show win0_0.index t 1 * 2048 + 1 * l.val = l.val; rw [h1]; omega

/-- The weight's block: every point's lies inside the array, so what the point holds is the array's. -/
theorem blk1 (c : Dev nD) (t : Fin cfg0.N) (k : Fin 2048) (l : Fin 512) :
    X0_1 m c t (ix3 0 k l) = m ((c : Thread nD τ).loc main_arg1) (ix3 0 k ⟨(col t l).val, by have := (col t l).isLt; omega⟩) := by
  obtain ⟨h0, h1, h2⟩ := (idx_facts t).2.1
  unfold X0_1 Pipeline.Window.fill
  rw [dif_pos (moved0_1 t _)]
  unfold iblk
  rw [View.read_apply]
  show V m c main_arg1 _ = _
  rw [V_main_arg1]
  refine congrArg _ (funext fun a => Fin.ext ?_)
  match a with
  | ⟨0, _⟩ => show win0_1.index t 0 * 1 + 1 * 0 = 0; rw [h0]
  | ⟨1, _⟩ => show win0_1.index t 1 * 2048 + 1 * k.val = k.val; rw [h1]; omega
  | ⟨2, _⟩ => show win0_1.index t 2 * 512 + 1 * l.val = 512 * (t.val % 8) + l.val; rw [h2]; omega

theorem pay2_apply (w : Vec Ideal S1x2048x512 .f32) (a : Vec Ideal S512x2048 .bf16) (r l : Fin 512) :
    k0_pay2 w a (ix2 r l) = ∑ k : Fin 2048, a (ix2 r k) * w (ix3 0 k l) := by
  pointwise [k0_pay2, k0_pay1]

theorem pay3_eq (w : Vec Ideal S1x2048x512 .f32) (a : Vec Ideal S512x2048 .bf16) : k0_pay3 w a = k0_pay2 w a := rfl
theorem pay4_eq (w : Vec Ideal S1x2048x512 .f32) (a : Vec Ideal S512x2048 .bf16) : k0_pay4 w a = k0_pay2 w a := rfl
theorem pay5_eq (w : Vec Ideal S1x2048x512 .f32) (a : Vec Ideal S512x2048 .bf16) : k0_pay5 w a = k0_pay2 w a := rfl

/-- A row of a block's 512-row slice is a row of the block. -/
theorem slice_sum (x0 : Vec Ideal S2048x2048 .bf16) (x1 : Vec Ideal S1x2048x512 .f32) (o : ℕ) (inb) (r : Fin 2048) (l : Fin 512)
    (x0' x1' : Fin 512) (h0 : r.val = o + x0'.val) (h1 : l.val = x1'.val) :
    ∑ k : Fin 2048, View.ld x0 (Rect.unit (s := S2048x2048) ![o, 0] ![512, 2048] inb) (ix2 x0' k) * x1 (ix3 0 k x1')
      = ∑ k : Fin 2048, x0 (ix2 r k) * x1 (ix3 0 k l) := by
  obtain rfl : l = x1' := Fin.ext h1
  refine Finset.sum_congr rfl fun k _ => congrArg (· * _) (congrArg x0 (funext fun a => Fin.ext ?_))
  match a with
  | ⟨0, _⟩ => show o + 1 * x0'.val = r.val; omega
  | ⟨1, _⟩ => show 0 + 1 * k.val = k.val; omega

section Reference
open Cert.Reference6Ideal.Read

theorem ref_apply (x0 : Vec Ideal S8192x2048 .bf16) (x1 : Vec Ideal S2x2048x4384 .f32) (r : Fin 8192) (l : Fin 4096) :
    val_main_v5 (F := Ideal) x0 x1 (ix2 r l) = ∑ k : Fin 2048, x0 (ix2 r k) * x1 (ix3 0 k ⟨l.val, by omega⟩) := by
  pointwise [val_main_v5, val_main_v4, val_main_v3, val_main_v2, val_main_v1, val_main_v0]

end Reference

/-- What a point leaves in its block. -/
theorem out (c : Dev nD) (t : Fin cfg0.N) (x0 : Vec Ideal S2048x2048 .bf16) (x1 : Vec Ideal S1x2048x512 .f32) (r : Fin 2048) (l : Fin 512) :
    out0_A_2 c (grid0.coords t) (ms0_0 t) (hs0_0 t) (ms0_1 t) (hs0_1 t) (ms0_2 t) (hs0_2 t) x0 x1 (ix2 r l)
      = ∑ k : Fin 2048, x0 (ix2 r k) * x1 (ix3 0 k l) := by
  unfold out0_A_2
  rw [View.read_writes_eq_canon _ _ _ (cover0_A_2 c _ _ _ _ _ _ _ _ _)]
  unfold kernelRun0_A
  dsimp only
  sl_unfold_words
  simp only [View.readAt_eq_ld, (hs0_0 t).read_unread, (hs0_1 t).read_unread, View.ld_unit_zero (S := S1x2048x512) hz3]
  canon_tiles j h
  all_goals
    first | rw [pay3_eq] | rw [pay4_eq] | rw [pay5_eq] | skip
    idx_vars j
    refine (pay2_apply _ _ _ _).trans ?_
  · exact slice_sum x0 x1 1536 _ r l _ _ h0 h1
  · exact slice_sum x0 x1 1024 _ r l _ _ h0 h1
  · exact slice_sum x0 x1 512 _ r l _ _ h0 h1
  · exact slice_sum x0 x1 0 _ r l _ _ (h0.trans (Nat.zero_add _).symm) h1

/-- The result array: the reference's composed term of the arguments. -/
def G (c : Dev nD) : Vec Ideal S8192x4096 .bf16 :=
  Cert.Reference6Ideal.Read.val_main_v5 (F := Ideal) (m ((c : Thread nD τ).loc main_arg0)) (m ((c : Thread nD τ).loc main_arg1))

/-- What a point leaves in its block, at an index. -/
theorem flushed_apply (c : Dev nD) (t : Fin cfg0.N) (r : Fin 2048) (l : Fin 512) :
    ((dats m 0 c).flushed 2 t : Vec Ideal S2048x512 .bf16) (ix2 r l) = G m c (ix2 (row t r) (col t l)) := by
  have hs := Finset.sum_congr (rfl : (Finset.univ : Finset (Fin 2048)) = _) fun k _ =>
    congrArg₂ (fun x y : EReal => x * y) (blk0 m c t r k) (blk1 m c t k l)
  rw [Value.flushed2_A m c t]
  refine (out c t _ _ r l).trans ?_
  exact hs.trans (ref_apply _ _ _ _).symm

theorem flushed_eq (c : Dev nD) (t : Fin cfg0.N) :
    (dats m 0 c).flushed 2 t = (win0_2.blk t).view.read (Elt Ideal) (G m c) := by
  funext j
  rw [View.read_apply]
  obtain ⟨h0, h1⟩ := (idx_facts t).2.2
  idx_vars j
  refine (flushed_apply m c t _ _).trans (congrArg _ (funext fun a => Fin.ext ?_))
  match a with
  | ⟨0, _⟩ => show 2048 * (t.val / 8) + j0.val = win0_2.index t 0 * 2048 + 1 * j0.val; rw [h0]; omega
  | ⟨1, _⟩ => show 512 * (t.val % 8) + j1.val = win0_2.index t 1 * 512 + 1 * j1.val; rw [h1]; omega

/-- Every index of the result is in the block its row and column name. -/
theorem cover (i : S8192x4096.Idx) : ∃ t : Fin cfg0.N, (cfg0.win 2).flush t = true ∧ i ∈ ((cfg0.win 2).blk t).view.set := by
  have hi0 : (i 0).val < 8192 := (i 0).isLt
  have hi1 : (i 1).val < 4096 := (i 1).isLt
  obtain ⟨t, ht⟩ : ∃ t : Fin cfg0.N, t.val = 8 * ((i 0).val / 2048) + (i 1).val / 512 :=
    ⟨⟨8 * ((i 0).val / 2048) + (i 1).val / 512, by show _ < grid0.N; rw [N_0]; omega⟩, rfl⟩
  refine ⟨t, flush0_2 t, ?_⟩
  show i ∈ ((View.whole main_v0).slice (win0_2.rect t)).set
  rw [View.set_slice_whole, Rect.mem_set_unit]
  obtain ⟨h0, h1⟩ := (idx_facts t).2.2
  intro a
  match a with
  | ⟨0, _⟩ => show win0_2.index t 0 * 2048 ≤ (i 0).val ∧ (i 0).val < win0_2.index t 0 * 2048 + 2048; rw [h0, ht]; omega
  | ⟨1, _⟩ => show win0_2.index t 1 * 512 ≤ (i 1).val ∧ (i 1).val < win0_2.index t 1 * 512 + 512; rw [h1, ht]; omega

theorem final (c : Dev nD) : (dats m 0 c).arrAt 2 cfg0.N = G m c :=
  (dats m 0 c).arrAt_eq_of_cover 2 (G m c) (fun t _ => flushed_eq m c t) cover

/-- The kernel's and the reference's runs end at one array. -/
theorem algebraic : Cert.algebraic_Kernel6Ideal_Reference6Ideal := by
  intro m ρ m' ρ' _ hag
  refine ⟨G m, (θ_run _ _ _).mono (fun r h c => ?_) (Value.run_blocks m ρ),
    (θ_run _ _ _).mono (fun r h c => ?_) (Cert.Reference6Ideal.Value.run m' ρ')⟩
  · obtain ⟨e, h⟩ := h c
    exact ⟨e.trans (final m c), h⟩
  · obtain ⟨e, h⟩ := h c
    obtain ⟨a0, a1⟩ := hag c
    refine ⟨e.trans ?_, h⟩
    rw [a0, a1]
    rfl

end Cert.Proof.EvenIn

end
-- ==== Proof.EvenLr.lean ====
/-
  The low-rank input projection of the even layers: the product of the normed stream with the last 288 columns of the
  weight, padded with zeros to 384, a block of 2048 rows at a point. The kernel pads the weight, the reference the product:
  a column of zeros has the product zero. The result array is the reference's composed term of the arguments.
-/
module

public import proofs.«01_k».proof.Defs
public import proofs.«01_k».proof.Proof.Gen.Kernel7Ideal.Value
public import proofs.«01_k».proof.Proof.Gen.Reference7Ideal.Run
public import proofs.«01_k».proof.Proof.Gen.Reference7Ideal.Read
public import proofs.«01_k».proof.Proof.Shared
public import Idealize.ShloMosaic.Lib.Pipeline.ValueKit.Tiles

@[expose] public section

set_option maxRecDepth 16384

noncomputable section

open Idealize.ShloMosaic Idealize.ShloMosaic.TcCoe Idealize.SL.Sem
open Idealize.ShloMosaic.Pipeline (Dat)

namespace Cert.Proof.EvenLr

open Cert.Kernel7Ideal Cert.Kernel7Ideal.Gen Cert.Proof.Shared

variable (m : (ℓ : Loc nD τ sig) → Buf (Elt Ideal) ℓ) (ρ : Dev nD → PrngReg)

/-- The index maps, decided over the four points. -/
theorem idx_facts : ∀ t : Fin cfg0.N, (win0_0.index t 0 = t.val ∧ win0_0.index t 1 = 0)
    ∧ (win0_1.index t 0 = 0 ∧ win0_1.index t 1 = 0 ∧ win0_1.index t 2 = 0)
    ∧ (win0_2.index t 0 = t.val ∧ win0_2.index t 1 = 0) :=
  (by decide +kernel : ∀ t : Fin grid0.N, _)

theorem lt4 (t : Fin cfg0.N) : t.val < 4 := lt_of_lt_of_eq t.isLt N_0

/-- Row `r` of point `t`'s block, as a row of the array. -/
def row (t : Fin cfg0.N) (r : Fin 2048) : Fin 8192 := ⟨2048 * t.val + r.val, by have := lt4 t; omega⟩

/-- The weight's last 288 columns, then zeros. -/
def wpad (x1 : Vec Ideal S2x2048x4384 .f32) (k : Fin 2048) (l : Fin 384) : EReal :=
  if h : l.val < 288 then x1 (ix3 0 k ⟨4096 + l.val, by omega⟩) else 0

/-- The number the padding converts is zero. -/
theorem zero_pad : (FloatOps.sitofp FTy.f32 0#32 : Ideal .f32) = 0 := by
  show (((0#32).toInt : ℝ) : EReal) = 0
  simp

theorem blk0 (c : Dev nD) (t : Fin cfg0.N) (r : Fin 2048) (l : Fin 2048) :
    iblk m c 0 t (ix2 r l) = m ((c : Thread nD τ).loc main_arg0) (ix2 (row t r) l) := by
  obtain ⟨h0, h1⟩ := (idx_facts t).1
  unfold iblk
  rw [View.read_apply]
  show V m c main_arg0 _ = _
  rw [V_main_arg0]
  refine congrArg _ (funext fun a => Fin.ext ?_)
  match a with
  | ⟨0, _⟩ => show win0_0.index t 0 * 2048 + 1 * r.val = 2048 * t.val + r.val; rw [h0]; omega
  | ⟨1, _⟩ => show win0_0.index t 1 * 2048 + 1 * l.val = l.val; rw [h1]; omega

/-- The padded weight, read at an index. -/
theorem V3 (c : Dev nD) (k : Fin 2048) (l : Fin 384) :
    V m c main_v3 (ix3 0 k l) = wpad (m ((c : Thread nD τ).loc main_arg1)) k l := by
  unfold V wpad
  after_reads_at
  exact dite_congr rfl (fun _ => rfl) fun _ => zero_pad

theorem blk1 (c : Dev nD) (t : Fin cfg0.N) (k : Fin 2048) (l : Fin 384) :
    iblk m c 1 t (ix3 0 k l) = wpad (m ((c : Thread nD τ).loc main_arg1)) k l := by
  obtain ⟨h0, h1, h2⟩ := (idx_facts t).2.1
  unfold iblk
  rw [View.read_apply]
  refine Eq.trans ?_ (V3 m c k l)
  show V m c main_v3 _ = _
  refine congrArg _ (funext fun a => Fin.ext ?_)
  match a with
  | ⟨0, _⟩ => show win0_1.index t 0 * 1 + 1 * 0 = 0; rw [h0]
  | ⟨1, _⟩ => show win0_1.index t 1 * 2048 + 1 * k.val = k.val; rw [h1]; omega
  | ⟨2, _⟩ => show win0_1.index t 2 * 384 + 1 * l.val = l.val; rw [h2]; omega

theorem pay2_apply (w : Vec Ideal S1x2048x384 .f32) (a : Vec Ideal S512x2048 .bf16) (r : Fin 512) (l : Fin 384) :
    k0_pay2 w a (ix2 r l) = ∑ k : Fin 2048, a (ix2 r k) * w (ix3 0 k l) := by
  pointwise [k0_pay2, k0_pay1]

theorem pay3_eq (w : Vec Ideal S1x2048x384 .f32) (a : Vec Ideal S512x2048 .bf16) : k0_pay3 w a = k0_pay2 w a := rfl
theorem pay4_eq (w : Vec Ideal S1x2048x384 .f32) (a : Vec Ideal S512x2048 .bf16) : k0_pay4 w a = k0_pay2 w a := rfl
theorem pay5_eq (w : Vec Ideal S1x2048x384 .f32) (a : Vec Ideal S512x2048 .bf16) : k0_pay5 w a = k0_pay2 w a := rfl

/-- A row of a block's 512-row slice is a row of the block. -/
theorem slice_sum (x0 : Vec Ideal S2048x2048 .bf16) (x1 : Vec Ideal S1x2048x384 .f32) (o : ℕ) (inb) (r : Fin 2048) (l : Fin 384)
    (x0' : Fin 512) (x1' : Fin 384) (h0 : r.val = o + x0'.val) (h1 : l.val = x1'.val) :
    ∑ k : Fin 2048, View.ld x0 (Rect.unit (s := S2048x2048) ![o, 0] ![512, 2048] inb) (ix2 x0' k) * x1 (ix3 0 k x1')
      = ∑ k : Fin 2048, x0 (ix2 r k) * x1 (ix3 0 k l) := by
  obtain rfl : l = x1' := Fin.ext h1
  refine Finset.sum_congr rfl fun k _ => congrArg (· * _) (congrArg x0 (funext fun a => Fin.ext ?_))
  match a with
  | ⟨0, _⟩ => show o + 1 * x0'.val = r.val; omega
  | ⟨1, _⟩ => show 0 + 1 * k.val = k.val; omega

section Reference
open Cert.Reference7Ideal.Read

theorem ref_apply (x0 : Vec Ideal S8192x2048 .bf16) (x1 : Vec Ideal S2x2048x4384 .f32) (r : Fin 8192) (l : Fin 384) :
    val_main_v5 (F := Ideal) x0 x1 (ix2 r l) = ∑ k : Fin 2048, x0 (ix2 r k) * wpad x1 k l := by
  unfold wpad
  pointwise [val_main_v5, val_main_call0_v0, val_main_c, val_main_v4, val_main_v3, val_main_v2, val_main_v1, val_main_v0]
  by_cases h : l.val < 288
  · simp only [dif_pos h]
  · simp only [dif_neg h, mul_zero, Finset.sum_const_zero]
    exact zero_pad

end Reference

/-- What a point leaves in its block. -/
theorem out (x0 : Vec Ideal S2048x2048 .bf16) (x1 : Vec Ideal S1x2048x384 .f32) (r : Fin 2048) (l : Fin 384) :
    out0_2 x0 x1 (ix2 r l) = ∑ k : Fin 2048, x0 (ix2 r k) * x1 (ix3 0 k l) := by
  unfold out0_2
  simp only [View.ld_unit_zero (S := S1x2048x384) hz3]
  canon_tiles j h
  all_goals
    first | rw [pay3_eq] | rw [pay4_eq] | rw [pay5_eq] | skip
    idx_vars j
    refine (pay2_apply _ _ _ _).trans ?_
  · exact slice_sum x0 x1 1536 _ r l _ _ h0 h1
  · exact slice_sum x0 x1 1024 _ r l _ _ h0 h1
  · exact slice_sum x0 x1 512 _ r l _ _ h0 h1
  · exact slice_sum x0 x1 0 _ r l _ _ (h0.trans (Nat.zero_add _).symm) h1

/-- The result array: the reference's composed term of the arguments. -/
def G (c : Dev nD) : Vec Ideal S8192x384 .f32 :=
  Cert.Reference7Ideal.Read.val_main_v5 (F := Ideal) (m ((c : Thread nD τ).loc main_arg0)) (m ((c : Thread nD τ).loc main_arg1))

theorem flushed_eq (c : Dev nD) (t : Fin cfg0.N) :
    (dats m 0 c).flushed 2 t = (win0_2.blk t).view.read (Elt Ideal) (G m c) := by
  rw [Value.flushed2]
  funext j
  rw [View.read_apply]
  obtain ⟨h0, h1⟩ := (idx_facts t).2.2
  idx_vars j
  refine (out _ _ _ _).trans ?_
  refine (Finset.sum_congr rfl fun k _ => congrArg₂ (fun x y : EReal => x * y) (blk0 m c t _ k) (blk1 m c t k _)).trans ?_
  refine (ref_apply _ _ (row t j0) j1).symm.trans (congrArg (G m c) (funext fun a => Fin.ext ?_))
  match a with
  | ⟨0, _⟩ => show 2048 * t.val + j0.val = win0_2.index t 0 * 2048 + 1 * j0.val; rw [h0]; omega
  | ⟨1, _⟩ => show j1.val = win0_2.index t 1 * 384 + 1 * j1.val; rw [h1]; omega

/-- Every index of the result is in the block its row names. -/
theorem cover (i : S8192x384.Idx) : ∃ t : Fin cfg0.N, (cfg0.win 2).flush t = true ∧ i ∈ ((cfg0.win 2).blk t).view.set := by
  have hi0 : (i 0).val < 8192 := (i 0).isLt
  have hi1 : (i 1).val < 384 := (i 1).isLt
  obtain ⟨t, ht⟩ : ∃ t : Fin cfg0.N, t.val = (i 0).val / 2048 :=
    ⟨⟨(i 0).val / 2048, by show _ < grid0.N; rw [N_0]; omega⟩, rfl⟩
  refine ⟨t, flush0_2 t, ?_⟩
  show i ∈ ((View.whole main_v4).slice (win0_2.rect t)).set
  rw [View.set_slice_whole, Rect.mem_set_unit]
  obtain ⟨h0, h1⟩ := (idx_facts t).2.2
  intro a
  match a with
  | ⟨0, _⟩ => show win0_2.index t 0 * 2048 ≤ (i 0).val ∧ (i 0).val < win0_2.index t 0 * 2048 + 2048; rw [h0, ht]; omega
  | ⟨1, _⟩ => show win0_2.index t 1 * 384 ≤ (i 1).val ∧ (i 1).val < win0_2.index t 1 * 384 + 384; rw [h1]; omega

theorem final (c : Dev nD) : (dats m 0 c).arrAt 2 cfg0.N = G m c :=
  (dats m 0 c).arrAt_eq_of_cover 2 (G m c) (fun t _ => flushed_eq m c t) cover

/-- The kernel's and the reference's runs end at one array. -/
theorem algebraic : Cert.algebraic_Kernel7Ideal_Reference7Ideal := by
  intro m ρ m' ρ' _ hag
  refine ⟨G m, (θ_run _ _ _).mono (fun r h c => ?_) (Value.run_blocks m ρ),
    (θ_run _ _ _).mono (fun r h c => ?_) (Cert.Reference7Ideal.Value.run m' ρ')⟩
  · obtain ⟨e, h⟩ := h c
    exact ⟨e.trans (final m c), h⟩
  · obtain ⟨e, h⟩ := h c
    obtain ⟨a0, a1⟩ := hag c
    refine ⟨e.trans ?_, h⟩
    rw [a0, a1]
    rfl

end Cert.Proof.EvenLr

end
-- ==== Proof.EvenMath.lean ====
/-
  The per-head normalisation of the even layers on the extended reals: sums over the 64 lanes of a head, with which a row
  of real numbers is centred and scaled.
-/
module

public import Idealize.ShloMosaic.PureOps.Ideal
public import Idealize.ShloMosaic.PureOps.Ideal.Laws
public import Idealize.ShloMosaic.Lib.IdealHost

@[expose] public section

noncomputable section

open Idealize.ShloMosaic

namespace Cert.Proof.EvenMath

/-! ## Real numbers among the extended -/

/-- Neither infinity. -/
def IsReal (x : EReal) : Prop := ∃ a : ℝ, x = (a : EReal)

theorem IsReal.add {x y : EReal} : IsReal x → IsReal y → IsReal (x + y) := by
  rintro ⟨a, rfl⟩ ⟨b, rfl⟩
  exact ⟨a + b, (EReal.coe_add a b).symm⟩

theorem IsReal.sub {x y : EReal} : IsReal x → IsReal y → IsReal (x - y) := by
  rintro ⟨a, rfl⟩ ⟨b, rfl⟩
  exact ⟨a - b, (EReal.coe_sub a b).symm⟩

theorem IsReal.mul {x y : EReal} : IsReal x → IsReal y → IsReal (x * y) := by
  rintro ⟨a, rfl⟩ ⟨b, rfl⟩
  exact ⟨a * b, (EReal.coe_mul a b).symm⟩

theorem IsReal.sum {ι : Type} (s : Finset ι) {f : ι → EReal} (h : ∀ i, IsReal (f i)) : IsReal (∑ i ∈ s, f i) := by
  classical
  induction s using Finset.induction_on with
  | empty => exact ⟨0, by simp⟩
  | insert a s ha ih => rw [Finset.sum_insert ha]; exact (h a).add ih

theorem IsReal.sub_self {x : EReal} : IsReal x → x - x = 0 := by
  rintro ⟨a, rfl⟩
  rw [← EReal.coe_sub, _root_.sub_self, EReal.coe_zero]

/-! ## Sixty-four -/

/-- The literal 64 and its reciprocal's literal. -/
def c64 : EReal := Ideal.ofBits .f32 0x42800000#32
def r64 : EReal := Ideal.ofBits .f32 0x3C800000#32

theorem c64_eq : c64 = ((64 : ℝ) : EReal) := by
  have e : (1115684864 : ℕ) >>> 23 % 256 = 133 := by decide
  have s : ¬ BitVec.extractLsb' 31 1 1115684864#32 = 1#1 := by decide
  unfold c64
  norm_num [Ideal.ofBits, Ideal.ieee, e, s]
  try norm_cast

theorem r64_eq : r64 = (((64 : ℝ)⁻¹ : ℝ) : EReal) := by
  have e : (1015021568 : ℕ) >>> 23 % 256 = 121 := by decide
  have s : ¬ BitVec.extractLsb' 31 1 1015021568#32 = 1#1 := by decide
  unfold r64
  norm_num [Ideal.ofBits, Ideal.ieee, e, s]
  try norm_cast

/-- Division by 64 is the product with its reciprocal. -/
theorem div_c64 (x : EReal) : Ideal.div x c64 = x * r64 := by
  have h : c64 ≠ 0 := by rw [c64_eq]; exact_mod_cast (by norm_num : (64 : ℝ) ≠ 0)
  unfold Ideal.div
  rw [if_neg h, c64_eq, r64_eq, EReal.coe_inv]

theorem IsReal.r64 : IsReal r64 := ⟨_, r64_eq⟩

/-! ## Heads -/

/-- The sum over the lanes of head `q`. -/
def hsum (f : Fin 1024 → EReal) (q : Fin 16) : EReal := ∑ k : Fin 64, f ⟨64 * q.val + k.val, by omega⟩

/-- The head of a lane. -/
def head (l : Fin 1024) : Fin 16 := ⟨l.val / 64, by omega⟩

/-- A lane less its head's mean. -/
def cent (f : Fin 1024 → EReal) (l : Fin 1024) : EReal := f l - hsum f (head l) * r64

/-- A lane less its head's mean, over the root of its head's variance (plus the printed epsilon). -/
def hnorm (f : Fin 1024 → EReal) (l : Fin 1024) : EReal :=
  cent f l * Ideal.rsqrt (hsum (fun k => cent f k * cent f k) (head l) * r64 + Ideal.ofBits .f32 0x3A27C5AC#32)

theorem IsReal.hsum {f : Fin 1024 → EReal} (h : ∀ k, IsReal (f k)) (q : Fin 16) : IsReal (hsum f q) :=
  IsReal.sum _ fun _ => h _

theorem IsReal.cent {f : Fin 1024 → EReal} (h : ∀ k, IsReal (f k)) (l : Fin 1024) : IsReal (cent f l) :=
  (h l).sub ((IsReal.hsum h _).mul IsReal.r64)

/-- A sum over two heads' lanes, masked to the head of lane `a`, is the sum over that head's. -/
theorem masked_sum (g : Fin 128 → EReal) (a : Fin 128) :
    ∑ k : Fin 128, g k * (if k.val / 64 = a.val / 64 then 1 else 0) = ∑ k : Fin 64, g ⟨64 * (a.val / 64) + k.val, by omega⟩ := by
  simp only [mul_ite, mul_one, mul_zero]
  rw [← Finset.sum_filter]
  refine (Finset.sum_bij (fun (k : Fin 64) _ => (⟨64 * (a.val / 64) + k.val, by omega⟩ : Fin 128)) ?_ ?_ ?_ ?_).symm
  · intro k _
    simp only [Finset.mem_filter, Finset.mem_univ, true_and]
    omega
  · intro k _ k' _ h
    have := congrArg Fin.val h
    exact Fin.ext (by simpa using this)
  · intro b hb
    simp only [Finset.mem_filter, Finset.mem_univ, true_and] at hb
    exact ⟨⟨b.val - 64 * (a.val / 64), by omega⟩, Finset.mem_univ _, Fin.ext (by show 64 * (a.val / 64) + (b.val - 64 * (a.val / 64)) = b.val; omega)⟩
  · intro k _
    rfl

/-! ## The two halves -/

/-- A row gated by the logistic function of its product with a matrix. -/
def glu (f : Fin 1024 → EReal) (w : Fin 1024 → Fin 1024 → EReal) (l : Fin 1024) : EReal :=
  f l * Ideal.div 1 (1 + Ideal.exp (-∑ k, f k * w k l))

/-- The product of two half rows, side by side, with a matrix. -/
def mix (a b : Fin 1024 → EReal) (w : Fin 2048 → Fin 2048 → EReal) (l : Fin 2048) : EReal :=
  ∑ j : Fin 1024, a j * w ⟨j.val, by omega⟩ l + ∑ j : Fin 1024, b j * w ⟨1024 + j.val, by omega⟩ l

/-- The product of the concatenated row is the sum over its halves. -/
theorem mix_eq (a b : Fin 1024 → EReal) (w : Fin 2048 → Fin 2048 → EReal) (l : Fin 2048) :
    ∑ j : Fin 2048, (if h : j.val < 1024 then a ⟨j.val, h⟩ else b ⟨j.val - 1024, by omega⟩) * w j l = mix a b w l := by
  refine (Fin.sum_univ_add (a := 1024) (b := 1024) _).trans ?_
  unfold mix
  refine congrArg₂ (· + ·) ?_ ?_
  · refine Finset.sum_congr rfl fun j _ => ?_
    rw [dif_pos (by show j.val < 1024; omega)]
    rfl
  · refine Finset.sum_congr rfl fun j _ => ?_
    rw [dif_neg (by show ¬ 1024 + j.val < 1024; omega)]
    refine congrArg (fun k => b k * _) (Fin.ext ?_)
    show 1024 + j.val - 1024 = j.val
    omega

end Cert.Proof.EvenMath

end
-- ==== Proof.EvenHead.lean ====
/-
  The even layers' output projection, its per-head sums: each tile of 128 lanes against a 0/1 matrix of the two heads in it.
-/
module

public import proofs.«01_k».proof.Defs
public import proofs.«01_k».proof.Proof.Gen.Kernel8Ideal.Value
public import proofs.«01_k».proof.Proof.Shared
public import proofs.«01_k».proof.Proof.EvenMath

@[expose] public section

set_option maxRecDepth 16384

noncomputable section

open Idealize.ShloMosaic Idealize.ShloMosaic.TcCoe Idealize.SL.Sem
open Idealize.ShloMosaic.Pipeline (Dat)

namespace Cert.Proof.EvenHead

open Cert.Kernel8Ideal Cert.Kernel8Ideal.Gen Cert.Proof.Shared Cert.Proof.EvenMath

/-- The matrix of ones where two lanes of a tile are of one head. -/
def ones : FVec Ideal S128x128 .bf16 :=
  k0_pay4 (F := Ideal) k0_pay2 (iota .tc S128x128 32 [1] iota_S128x128_d1_w32) 64#32 k0_pay3

/-- The floor of a lane's quotient by 64, as the kernel spells it, decided over the lanes. -/
theorem quotWord (a : Fin 128) :
    Scalar.select
      (IntOp.andi
        (IntOp.cmpi CmpIPredicate.ne
          (IntOp.subi (BitVec.setWidth 32 (IntOp.cmpi CmpIPredicate.sgt (BitVec.ofNat 32 a.val) 0#32))
            (BitVec.setWidth 32 (IntOp.cmpi CmpIPredicate.slt (BitVec.ofNat 32 a.val) 0#32)))
          (Scalar.subi (Scalar.extui (Scalar.cmpi CmpIPredicate.sgt 64#32 0#32))
            (Scalar.extui (Scalar.cmpi CmpIPredicate.slt 64#32 0#32))))
        (IntOp.cmpi CmpIPredicate.ne (IntOp.remsi ArithUnit.vector (BitVec.ofNat 32 a.val) 64#32) 0#32))
      (IntOp.subi (IntOp.divsi ArithUnit.vector (BitVec.ofNat 32 a.val) 64#32) 1#32)
      (IntOp.divsi ArithUnit.vector (BitVec.ofNat 32 a.val) 64#32) = BitVec.ofNat 32 (a.val / 64) := by
  revert a
  decide +kernel

theorem rowWord (a b : Fin 128) : k0_pay2 (ix2 a b) = BitVec.ofNat 32 (a.val / 64) := by
  pointwise [k0_pay2]
  exact quotWord a

theorem ones_apply (a b : Fin 128) : ones (ix2 a b) = if a.val / 64 = b.val / 64 then 1 else 0 := by
  unfold ones
  pointwise [k0_pay4, k0_pay3]
  rw [rowWord, quotWord]
  have hw : (BitVec.ofNat 32 (a.val / 64) = BitVec.ofNat 32 (b.val / 64)) ↔ a.val / 64 = b.val / 64 := by
    rw [← BitVec.toNat_inj, BitVec.toNat_ofNat, BitVec.toNat_ofNat]
    omega
  show (((BitVec.setWidth 32 (IntOp.cmpi CmpIPredicate.eq _ _)).toInt : ℝ) : EReal) = _
  by_cases h : a.val / 64 = b.val / 64
  · rw [if_pos h, h]
    have : IntOp.cmpi CmpIPredicate.eq (BitVec.ofNat 32 (b.val / 64)) (BitVec.ofNat 32 (b.val / 64)) = 1#1 := by
      simp [IntOp.cmpi]
    rw [this]
    norm_num
  · rw [if_neg h]
    have : IntOp.cmpi CmpIPredicate.eq (BitVec.ofNat 32 (a.val / 64)) (BitVec.ofNat 32 (b.val / 64)) = 0#1 := by
      show BitVec.ofBool (BitVec.ofNat 32 (a.val / 64) == BitVec.ofNat 32 (b.val / 64)) = 0#1
      rw [beq_eq_false_iff_ne.mpr fun e => h (hw.1 e)]
      rfl
    rw [this]
    norm_num

/-- A tile's per-head sums: the tile and what its rounding left out, each against the 0/1 matrix. -/
def tile (y : FVec Ideal S256x128 .f32) : FVec Ideal S256x128 .f32 :=
  addf (matmul dot_S256x128_S128x128_S256x128_1_0_0_1_n_n none (truncf .bf16 y bitsLt_bf16_f32) ones (constant S256x128 .f32 0x00000000#32))
    (matmul dot_S256x128_S128x128_S256x128_1_0_0_1_n_n none
      (truncf .bf16 (subf y (extf .f32 (truncf .bf16 y bitsLt_bf16_f32) bitsLt_bf16_f32)) bitsLt_bf16_f32) ones (constant S256x128 .f32 0x00000000#32))

theorem tile_apply (y : FVec Ideal S256x128 .f32) (r : Fin 256) (l : Fin 128) (hy : ∀ k, IsReal (y (ix2 r k))) :
    tile y (ix2 r l) = ∑ k : Fin 64, y (ix2 r ⟨64 * (l.val / 64) + k.val, by omega⟩) := by
  refine Eq.trans ?_ (masked_sum (fun k => y (ix2 r k)) l)
  pointwise [tile]
  have hz : ∀ k : Fin 128, (y (ix2 r k) - y (ix2 r k)) * ones (ix2 k l) = 0 := fun k => by rw [(hy k).sub_self, zero_mul]
  rw [Finset.sum_congr rfl fun k _ => hz k, Finset.sum_const_zero, add_zero]
  simp only [ones_apply]

/-- Each lane's head sum: the eight tiles of a row of 1024 lanes. -/
def spread (x : FVec Ideal S256x1024 .f32) : FVec Ideal S256x1024 .f32 :=
  concatenate S256x1024 1
    [⟨S256x128, tile (extractStridedSlice S256x128 ![0, 0] x slices_S256x1024_o0_0_S256x128)⟩,
      ⟨S256x128, tile (extractStridedSlice S256x128 ![0, 128] x slices_S256x1024_o0_128_S256x128)⟩,
      ⟨S256x128, tile (extractStridedSlice S256x128 ![0, 256] x slices_S256x1024_o0_256_S256x128)⟩,
      ⟨S256x128, tile (extractStridedSlice S256x128 ![0, 384] x slices_S256x1024_o0_384_S256x128)⟩,
      ⟨S256x128, tile (extractStridedSlice S256x128 ![0, 512] x slices_S256x1024_o0_512_S256x128)⟩,
      ⟨S256x128, tile (extractStridedSlice S256x128 ![0, 640] x slices_S256x1024_o0_640_S256x128)⟩,
      ⟨S256x128, tile (extractStridedSlice S256x128 ![0, 768] x slices_S256x1024_o0_768_S256x128)⟩,
      ⟨S256x128, tile (extractStridedSlice S256x128 ![0, 896] x slices_S256x1024_o0_896_S256x128)⟩]
    concatenates_S256x128_S256x128_S256x128_S256x128_S256x128_S256x128_S256x128_S256x128_S256x1024_d1

theorem spread_apply (x : FVec Ideal S256x1024 .f32) (r : Fin 256) (l : Fin 1024) (hx : ∀ k, IsReal (x (ix2 r k))) :
    spread x (ix2 r l) = hsum (fun k => x (ix2 r k)) (head l) := by
  have hd : (head l).val = l.val / 64 := rfl
  unfold hsum
  pointwise [spread]
  split_ifs
  all_goals
    refine (tile_apply _ _ _ fun k => ?_).trans (Finset.sum_congr rfl fun k _ => ?_)
    · pointwise
      exact hx _
    · pointwise
      refine congrArg (fun k => x (ix2 r k)) (Fin.ext ?_)
      dsimp only
      omega

variable (x0 : Vec Ideal S256x1024 .f32) (x1 : Vec Ideal S1x1024x1024 .bf16) (x2 : Vec Ideal S256x1024 .f32) (x3 x4 : Vec Ideal S256x1024 .bf16)
  (x5 x6 : Vec Ideal S1x1024 .f32) (x7 : Vec Ideal S1x2048x2048 .bf16) (x8 : Vec Ideal S256x2048 .f32) (x9 x10 : Vec Ideal S1x2048 .f32)

/-- The centred rows. -/
theorem pay29_eq : k0_pay29 x0 x1 x2 x3 x4 x5 x6 x7 x8 x9 x10
    = subf x2 (mulf (spread x2) (broadcast S256x1024 (Scalar.ofBits .f32 0x3C800000#32))) := by
  have e : View.ld x2 (r0_0 : Rect S256x1024) = x2 := View.ld_unit_zero (S := S256x1024) hz _ _
  unfold k0_pay29
  rw [e]
  rfl

/-- The normalised, weighted, gated rows. -/
theorem pay30_eq : ∃ c, c = k0_pay29 x0 x1 x2 x3 x4 x5 x6 x7 x8 x9 x10 ∧ k0_pay30 x0 x1 x2 x3 x4 x5 x6 x7 x8 x9 x10
    = truncf .bf16 (mulf (addf (addf (mulf (mulf c (rsqrt (addf (mulf (spread (mulf c c)) (broadcast S256x1024 (Scalar.ofBits .f32 0x3C800000#32)))
        (broadcast S256x1024 (Scalar.ofBits .f32 0x3A27C5AC#32))))) (broadcastTo S256x1024 (shapeCast S1x1024 x5 shapeCasts_S1x1024_S1x1024) broadcasts_S1x1024_S256x1024))
        (broadcastTo S256x1024 (shapeCast S1x1024 x6 shapeCasts_S1x1024_S1x1024) broadcasts_S1x1024_S256x1024)) (extf .f32 x3 bitsLt_bf16_f32)) (extf .f32 x4 bitsLt_bf16_f32)) bitsLt_bf16_f32 := by
  refine ⟨_, rfl, ?_⟩
  have e3 : View.ld x3 (r0_0 : Rect S256x1024) = x3 := View.ld_unit_zero (S := S256x1024) hz _ _
  have e4 : View.ld x4 (r0_0 : Rect S256x1024) = x4 := View.ld_unit_zero (S := S256x1024) hz _ _
  have e5 : View.ld x5 (r0_2 : Rect S1x1024) = x5 := View.ld_unit_zero (S := S1x1024) hz _ _
  have e6 : View.ld x6 (r0_2 : Rect S1x1024) = x6 := View.ld_unit_zero (S := S1x1024) hz _ _
  unfold k0_pay30
  rw [e3, e4, e5, e6]
  generalize k0_pay29 x0 x1 x2 x3 x4 x5 x6 x7 x8 x9 x10 = c
  rfl

theorem pay29_apply (r : Fin 256) (l : Fin 1024) (hx : ∀ k, IsReal (x2 (ix2 r k))) :
    k0_pay29 x0 x1 x2 x3 x4 x5 x6 x7 x8 x9 x10 (ix2 r l) = cent (fun k => x2 (ix2 r k)) l := by
  rw [pay29_eq]
  unfold cent
  rw [← spread_apply x2 r l hx]
  pointwise
  rfl

theorem pay30_apply (r : Fin 256) (l : Fin 1024) (hx : ∀ k, IsReal (x2 (ix2 r k))) :
    k0_pay30 x0 x1 x2 x3 x4 x5 x6 x7 x8 x9 x10 (ix2 r l)
      = (hnorm (fun k => x2 (ix2 r k)) l * x5 (ix2 0 l) + x6 (ix2 0 l) + x3 (ix2 r l)) * x4 (ix2 r l) := by
  obtain ⟨c, hc, e⟩ := pay30_eq x0 x1 x2 x3 x4 x5 x6 x7 x8 x9 x10
  have hl : ∀ k, c (ix2 r k) = cent (fun k => x2 (ix2 r k)) k := fun k => by rw [hc]; exact pay29_apply _ _ _ _ _ _ _ _ _ _ _ r k hx
  have hs : spread (mulf c c) (ix2 r l) = hsum (fun k => cent (fun k => x2 (ix2 r k)) k * cent (fun k => x2 (ix2 r k)) k) (head l) := by
    refine (spread_apply (mulf c c) r l fun k => ?_).trans (congrArg (fun f => hsum f (head l)) (funext fun k => ?_))
    · show IsReal (c (ix2 r k) * c (ix2 r k))
      rw [hl k]
      exact (IsReal.cent hx k).mul (IsReal.cent hx k)
    · show c (ix2 r k) * c (ix2 r k) = _
      rw [hl k]
  rw [e]
  unfold hnorm
  rw [← hs, ← hl l]
  generalize spread (mulf c c) = s
  pointwise
  rfl

end Cert.Proof.EvenHead

end
-- ==== Proof.EvenRef.lean ====
/-
  The reference of the even layers' output projection, read at an index.
-/
module

public import proofs.«01_k».proof.Defs
public import proofs.«01_k».proof.Proof.Gen.Reference8Ideal.Run
public import proofs.«01_k».proof.Proof.Gen.Reference8Ideal.Read
public import proofs.«01_k».proof.Proof.Shared
public import proofs.«01_k».proof.Proof.EvenMath

@[expose] public section

set_option maxRecDepth 16384

noncomputable section

open Idealize.ShloMosaic Idealize.ShloMosaic.TcCoe Idealize.SL.Sem

namespace Cert.Proof.EvenRef

open Cert.Reference8Ideal Cert.Reference8Ideal.Gen Cert.Reference8Ideal.Read Cert.Proof.Shared Cert.Proof.EvenMath

variable (x0 : Vec Ideal S8192x1024 .f32) (x1 : Vec Ideal S2x1024x1024 .bf16) (x2 : Vec Ideal S8192x1024 .f32) (x3 x4 : Vec Ideal S8192x1024 .bf16)
  (x5 x6 : Vec Ideal S1024 .f32) (x7 : Vec Ideal S2x2048x2048 .bf16) (x8 : Vec Ideal S8192x2048 .f32) (x9 x10 : Vec Ideal S2048 .f32)

/-- The gated half. -/
theorem glu_apply (r : Fin 8192) (l : Fin 1024) :
    val_main_v10 (F := Ideal) x0 x1 (ix2 r l) = glu (fun k => x0 (ix2 r k)) (fun k l => x1 (ix3 0 k l)) l := by
  unfold glu
  pointwise [val_main_v10, val_main_v9, val_main_v8, val_main_v7, val_main_v6, val_main_v5, val_main_v4, val_main_v3, val_main_v2,
    val_main_v1, val_main_v0, val_main_cst, val_main_cst_0]

/-- A head's lane less the head's mean. -/
theorem cent_apply (r : Fin 8192) (q : Fin 16) (d : Fin 64) :
    val_main_v24 (F := Ideal) x2 (ix3 r q d) = cent (fun k => x2 (ix2 r k)) ⟨64 * q.val + d.val, by omega⟩ := by
  have hq : head ⟨64 * q.val + d.val, by omega⟩ = q := Fin.ext (by show (64 * q.val + d.val) / 64 = q.val; omega)
  unfold cent
  rw [hq, ← div_c64]
  unfold hsum c64
  pointwise [val_main_v24, val_main_v23, val_main_v15, val_main_v14, val_main_v13, val_main_v12, val_main_v11, val_main_cst_1, val_main_cst_2]
  simp only [Nat.mul_comm q.val 64]

theorem cent'_apply (r : Fin 8192) (q : Fin 16) (d : Fin 64) :
    val_main_v17 (F := Ideal) x2 (ix3 r q d) = cent (fun k => x2 (ix2 r k)) ⟨64 * q.val + d.val, by omega⟩ :=
  cent_apply x2 r q d

/-- The reciprocal root of a head's variance. -/
theorem scale_apply (r : Fin 8192) (q : Fin 16) :
    val_main_v27 (F := Ideal) x2 (ix3 r q 0) = Ideal.rsqrt (hsum (fun k => cent (fun k => x2 (ix2 r k)) k * cent (fun k => x2 (ix2 r k)) k) q * r64
      + Ideal.ofBits .f32 0x3A27C5AC#32) := by
  rw [← div_c64]
  unfold hsum c64
  simp only [← cent'_apply]
  pointwise [val_main_v27, val_main_v26, val_main_v25, val_main_v22, val_main_v21, val_main_v20, val_main_v19, val_main_v18, val_main_cst_3, val_main_cst_4,
    val_main_cst_5]

/-- The normalised, weighted, gated half. -/
theorem half_apply (r : Fin 8192) (l : Fin 1024) :
    val_main_v42 (F := Ideal) x2 x3 x4 x5 x6 (ix2 r l)
      = (hnorm (fun k => x2 (ix2 r k)) l * x5 (ix1 l) + x6 (ix1 l) + x3 (ix2 r l)) * x4 (ix2 r l) := by
  pointwise [val_main_v42, val_main_v41, val_main_v40, val_main_v39, val_main_v38, val_main_v37, val_main_v36, val_main_v35, val_main_v34, val_main_v33,
    val_main_v32, val_main_v31, val_main_v30, val_main_v29, val_main_v28]
  have hl : (⟨64 * (l.val / 64) + l.val % 64, by omega⟩ : Fin 1024) = l := Fin.ext (by show 64 * (l.val / 64) + l.val % 64 = l.val; omega)
  rw [cent_apply, scale_apply, hl]
  rfl

/-- Both halves against the output matrix. -/
theorem mix_apply (r : Fin 8192) (l : Fin 2048) :
    val_main_v47 (F := Ideal) x0 x1 x2 x3 x4 x5 x6 x7 (ix2 r l)
      = mix (fun k => val_main_v10 (F := Ideal) x0 x1 (ix2 r k)) (fun k => val_main_v42 (F := Ideal) x2 x3 x4 x5 x6 (ix2 r k))
          (fun k l => x7 (ix3 0 k l)) l := by
  rw [← mix_eq]
  pointwise [val_main_v47, val_main_v46, val_main_v45, val_main_v44, val_main_v43]

/-- The first result. -/
theorem sum_apply (r : Fin 8192) (l : Fin 2048) :
    val_main_v61 (F := Ideal) x0 x1 x2 x3 x4 x5 x6 x7 x8 x9 (ix2 r l)
      = x8 (ix2 r l) + rms (fun k => val_main_v47 (F := Ideal) x0 x1 x2 x3 x4 x5 x6 x7 (ix2 r k)) (fun k => x9 (ix1 k)) l := by
  unfold rms
  pointwise [val_main_v61, val_main_v60, val_main_v59, val_main_v58, val_main_v57, val_main_v56, val_main_v55, val_main_v54, val_main_v53, val_main_v52,
    val_main_v51, val_main_v50, val_main_v49, val_main_v48, val_main_cst_6, val_main_cst_7, val_main_cst_8]

/-- The second result, the norm of the first. -/
theorem norm_apply (r : Fin 8192) (l : Fin 2048) :
    val_main_v75 (F := Ideal) x0 x1 x2 x3 x4 x5 x6 x7 x8 x9 x10 (ix2 r l)
      = rms (fun k => val_main_v61 (F := Ideal) x0 x1 x2 x3 x4 x5 x6 x7 x8 x9 (ix2 r k)) (fun k => x10 (ix1 k)) l := by
  unfold rms
  pointwise [val_main_v75, val_main_v74, val_main_v73, val_main_v72, val_main_v71, val_main_v70, val_main_v69, val_main_v68, val_main_v67, val_main_v66,
    val_main_v65, val_main_v64, val_main_v63, val_main_v62, val_main_cst_9, val_main_cst_10, val_main_cst_11]

end Cert.Proof.EvenRef

end
-- ==== Proof.EvenOut.lean ====
/-
  The output projection of the even layers: one 256-row block of the gated halves' product with the output matrix, its
  root-mean-square scaling added to the residual stream, and the next norm of the sum. Where the second branch's rows are
  finite, the result arrays are the reference's composed terms of the arguments.
-/
module

public import proofs.«01_k».proof.Defs
public import proofs.«01_k».proof.Proof.Gen.Kernel8Ideal.Value
public import proofs.«01_k».proof.Proof.Gen.Pre_finite_rows
public import proofs.«01_k».proof.Proof.EvenHead
public import proofs.«01_k».proof.Proof.EvenRef

@[expose] public section

set_option maxRecDepth 16384

noncomputable section

open Idealize.ShloMosaic Idealize.ShloMosaic.TcCoe Idealize.SL.Sem
open Idealize.ShloMosaic.Pipeline (Dat)

namespace Cert.Proof.EvenOut

open Cert.Kernel8Ideal Cert.Kernel8Ideal.Gen Cert.Proof.Shared Cert.Proof.EvenMath

/-! ## The body, at an index -/

/-- The gated half. -/
theorem pay1_apply (a : Vec Ideal S256x1024 .f32) (w : Vec Ideal S1x1024x1024 .bf16) (r : Fin 256) (l : Fin 1024) :
    k0_pay1 a w (ix2 r l) = glu (fun k => a (ix2 r k)) (fun k l => w (ix3 0 k l)) l := by
  unfold glu
  pointwise [k0_pay1]
  rw [zero_sub]

/-- Its product with the upper half of the output matrix. -/
theorem pay22_apply (a : FVec Ideal S256x1024 .bf16) (w : Vec Ideal S1x1024x2048 .bf16) (r : Fin 256) (l : Fin 2048) :
    k0_pay22 a w (ix2 r l) = ∑ j, a (ix2 r j) * w (ix3 0 j l) := by
  pointwise [k0_pay22]

/-- The residual stream with the scaled product added. -/
theorem pay23_apply (b : FVec Ideal S256x1024 .bf16) (s : FVec Ideal S256x2048 .f32) (w : Vec Ideal S1x1024x2048 .bf16)
    (x : Vec Ideal S256x2048 .f32) (g : Vec Ideal S1x2048 .f32) (r : Fin 256) (l : Fin 2048) :
    k0_pay23 b s w x g (ix2 r l)
      = x (ix2 r l) + rms (fun k => s (ix2 r k) + ∑ j, b (ix2 r j) * w (ix3 0 j k)) (fun k => g (ix2 0 k)) l := by
  unfold rms
  pointwise [k0_pay23]

/-- Its norm. -/
theorem pay24_apply (b : FVec Ideal S256x1024 .bf16) (s : FVec Ideal S256x2048 .f32) (w : Vec Ideal S1x1024x2048 .bf16)
    (x : Vec Ideal S256x2048 .f32) (g g' : Vec Ideal S1x2048 .f32) (r : Fin 256) (l : Fin 2048) :
    k0_pay24 b s w x g g' (ix2 r l) = rms (fun k => k0_pay23 b s w x g (ix2 r k)) (fun k => g' (ix2 0 k)) l := by
  unfold rms
  pointwise [k0_pay24]

/-- The halves of the output matrix, read. -/
theorem upper_apply (w : Vec Ideal S1x2048x2048 .bf16) (j : Fin 1024) (l : Fin 2048) :
    View.ld w r0_3 (ix3 0 j l) = w (ix3 0 ⟨j.val, by omega⟩ l) := by
  refine congrArg w (funext fun a => Fin.ext ?_)
  match a with
  | ⟨0, _⟩ => show 0 + 1 * 0 = 0; omega
  | ⟨1, _⟩ => show 0 + 1 * j.val = j.val; omega
  | ⟨2, _⟩ => show 0 + 1 * l.val = l.val; omega

theorem lower_apply (w : Vec Ideal S1x2048x2048 .bf16) (j : Fin 1024) (l : Fin 2048) :
    View.ld w r0_4 (ix3 0 j l) = w (ix3 0 ⟨1024 + j.val, by omega⟩ l) := by
  refine congrArg w (funext fun a => Fin.ext ?_)
  match a with
  | ⟨0, _⟩ => show 0 + 1 * 0 = 0; omega
  | ⟨1, _⟩ => show 1024 + 1 * j.val = 1024 + j.val; omega
  | ⟨2, _⟩ => show 0 + 1 * l.val = l.val; omega

section Body

variable (x0 : Vec Ideal S256x1024 .f32) (x1 : Vec Ideal S1x1024x1024 .bf16) (x2 : Vec Ideal S256x1024 .f32) (x3 x4 : Vec Ideal S256x1024 .bf16)
  (x5 x6 : Vec Ideal S1x1024 .f32) (x7 : Vec Ideal S1x2048x2048 .bf16) (x8 : Vec Ideal S256x2048 .f32) (x9 x10 : Vec Ideal S1x2048 .f32)

/-- The product of both halves with the output matrix, from the blocks. -/
theorem mix_apply (r : Fin 256) (l : Fin 2048) (hx : ∀ k, IsReal (x2 (ix2 r k))) :
    k0_pay31 x0 x1 x2 x3 x4 x5 x6 x7 x8 x9 x10 (ix2 r l)
        + ∑ j, k0_pay30 x0 x1 x2 x3 x4 x5 x6 x7 x8 x9 x10 (ix2 r j) * View.ld x7 r0_4 (ix3 0 j l)
      = mix (glu (fun k => x0 (ix2 r k)) (fun k l => x1 (ix3 0 k l)))
          (fun k => (hnorm (fun k => x2 (ix2 r k)) k * x5 (ix2 0 k) + x6 (ix2 0 k) + x3 (ix2 r k)) * x4 (ix2 r k))
          (fun k l => x7 (ix3 0 k l)) l := by
  have e0 : View.ld x0 (r0_0 : Rect S256x1024) = x0 := View.ld_unit_zero (S := S256x1024) hz _ _
  have e1 : View.ld x1 (r0_1 : Rect S1x1024x1024) = x1 := View.ld_unit_zero (S := S1x1024x1024) hz3 _ _
  unfold mix k0_pay31
  rw [e0, e1, pay22_apply]
  refine congrArg₂ (· + ·) (Finset.sum_congr rfl fun j _ => ?_) (Finset.sum_congr rfl fun j _ => ?_)
  · rw [pay1_apply, upper_apply]
  · rw [EvenHead.pay30_apply _ _ _ _ _ _ _ _ _ _ _ _ _ hx, lower_apply]

/-- The first output block, at an index. -/
theorem out11_apply (r : Fin 256) (l : Fin 2048) (hx : ∀ k, IsReal (x2 (ix2 r k))) :
    out0_11 x0 x1 x2 x3 x4 x5 x6 x7 x8 x9 x10 (ix2 r l)
      = x8 (ix2 r l) + rms (mix (glu (fun k => x0 (ix2 r k)) (fun k l => x1 (ix3 0 k l)))
          (fun k => (hnorm (fun k => x2 (ix2 r k)) k * x5 (ix2 0 k) + x6 (ix2 0 k) + x3 (ix2 r k)) * x4 (ix2 r k))
          (fun k l => x7 (ix3 0 k l))) (fun k => x9 (ix2 0 k)) l := by
  have e8 : View.ld x8 (r0_5 : Rect S256x2048) = x8 := View.ld_unit_zero (S := S256x2048) hz _ _
  have e9 : View.ld x9 (r0_6 : Rect S1x2048) = x9 := View.ld_unit_zero (S := S1x2048) hz _ _
  unfold out0_11
  rw [View.canon_unit_zero hz, e8, e9, pay23_apply]
  exact congrArg (fun f => x8 (ix2 r l) + rms f _ l) (funext fun k => mix_apply x0 x1 x2 x3 x4 x5 x6 x7 x8 x9 x10 r k hx)

/-- The second output block is the norm of the first. -/
theorem out12_apply (r : Fin 256) (l : Fin 2048) :
    out0_12 x0 x1 x2 x3 x4 x5 x6 x7 x8 x9 x10 (ix2 r l)
      = rms (fun k => out0_11 x0 x1 x2 x3 x4 x5 x6 x7 x8 x9 x10 (ix2 r k)) (fun k => x10 (ix2 0 k)) l := by
  have e10 : View.ld x10 (r0_6 : Rect S1x2048) = x10 := View.ld_unit_zero (S := S1x2048) hz _ _
  unfold out0_12 out0_11
  rw [View.canon_unit_zero hz, View.canon_unit_zero hz, e10, pay24_apply]

end Body

/-! ## The blocks -/

variable (m : (ℓ : Loc nD τ sig) → Buf (Elt Ideal) ℓ) (ρ : Dev nD → PrngReg)

/-- The index maps of the windows that follow the rows, decided over the points. -/
theorem row_facts : ∀ t : Fin cfg0.N, (win0_0.index t 0 = t.val ∧ win0_0.index t 1 = 0) ∧ (win0_2.index t 0 = t.val ∧ win0_2.index t 1 = 0)
    ∧ (win0_3.index t 0 = t.val ∧ win0_3.index t 1 = 0) ∧ (win0_4.index t 0 = t.val ∧ win0_4.index t 1 = 0)
    ∧ (win0_8.index t 0 = t.val ∧ win0_8.index t 1 = 0) ∧ (win0_11.index t 0 = t.val ∧ win0_11.index t 1 = 0)
    ∧ (win0_12.index t 0 = t.val ∧ win0_12.index t 1 = 0) :=
  (by decide +kernel : ∀ t : Fin grid0.N, _)

/-- And of those that stay where they are. -/
theorem still_facts : ∀ t : Fin cfg0.N, (win0_1.index t 0 = 0 ∧ win0_1.index t 1 = 0 ∧ win0_1.index t 2 = 0)
    ∧ (win0_7.index t 0 = 0 ∧ win0_7.index t 1 = 0 ∧ win0_7.index t 2 = 0)
    ∧ (win0_5.index t 0 = 0 ∧ win0_5.index t 1 = 0) ∧ (win0_6.index t 0 = 0 ∧ win0_6.index t 1 = 0)
    ∧ (win0_9.index t 0 = 0 ∧ win0_9.index t 1 = 0) ∧ (win0_10.index t 0 = 0 ∧ win0_10.index t 1 = 0) :=
  (by decide +kernel : ∀ t : Fin grid0.N, _)

theorem lt32 (t : Fin cfg0.N) : t.val < 32 := lt_of_lt_of_eq t.isLt N_0

/-- Row `r` of point `t`'s block, as a row of the array. -/
def row (t : Fin cfg0.N) (r : Fin 256) : Fin 8192 := ⟨256 * t.val + r.val, by have := lt32 t; omega⟩

/-- An index is the one its coordinates name. -/
theorem named2 {n k : Nat} (i : Shape.Idx ⟨2, ![n, k]⟩) (a : Fin n) (b : Fin k) (h0 : (i 0).val = a.val) (h1 : (i 1).val = b.val) : i = ix2 a b :=
  funext fun x => Fin.ext (match x with | ⟨0, _⟩ => h0 | ⟨1, _⟩ => h1)

/-- A coordinate of a block's row. -/
theorem at_row {i : Nat} (t : Fin cfg0.N) (r : Fin 256) (h : i = t.val) : i * 256 + 1 * r.val = 256 * t.val + r.val := by rw [h]; omega

theorem blk0 (c : Dev nD) (t : Fin cfg0.N) (r : Fin 256) (l : Fin 1024) :
    iblk m c 0 t (ix2 r l) = m ((c : Thread nD τ).loc main_arg0) (ix2 (row t r) l) := by
  unfold iblk
  rw [View.read_apply]
  refine (congrFun (V_main_arg0 m c) _).trans (congrArg _ (named2 _ _ _ ?_ ?_))
  · exact at_row t r (row_facts t).1.1
  · exact at_zero l.val (row_facts t).1.2

theorem blk2 (c : Dev nD) (t : Fin cfg0.N) (r : Fin 256) (l : Fin 1024) :
    iblk m c 2 t (ix2 r l) = m ((c : Thread nD τ).loc main_arg2) (ix2 (row t r) l) := by
  unfold iblk
  rw [View.read_apply]
  refine (congrFun (V_main_arg2 m c) _).trans (congrArg _ (named2 _ _ _ ?_ ?_))
  · exact at_row t r (row_facts t).2.1.1
  · exact at_zero l.val (row_facts t).2.1.2

theorem blk3 (c : Dev nD) (t : Fin cfg0.N) (r : Fin 256) (l : Fin 1024) :
    iblk m c 3 t (ix2 r l) = m ((c : Thread nD τ).loc main_arg3) (ix2 (row t r) l) := by
  unfold iblk
  rw [View.read_apply]
  refine (congrFun (V_main_arg3 m c) _).trans (congrArg _ (named2 _ _ _ ?_ ?_))
  · exact at_row t r (row_facts t).2.2.1.1
  · exact at_zero l.val (row_facts t).2.2.1.2

theorem blk4 (c : Dev nD) (t : Fin cfg0.N) (r : Fin 256) (l : Fin 1024) :
    iblk m c 4 t (ix2 r l) = m ((c : Thread nD τ).loc main_arg4) (ix2 (row t r) l) := by
  unfold iblk
  rw [View.read_apply]
  refine (congrFun (V_main_arg4 m c) _).trans (congrArg _ (named2 _ _ _ ?_ ?_))
  · exact at_row t r (row_facts t).2.2.2.1.1
  · exact at_zero l.val (row_facts t).2.2.2.1.2

theorem blk8 (c : Dev nD) (t : Fin cfg0.N) (r : Fin 256) (l : Fin 2048) :
    iblk m c 8 t (ix2 r l) = m ((c : Thread nD τ).loc main_arg8) (ix2 (row t r) l) := by
  unfold iblk
  rw [View.read_apply]
  refine (congrFun (V_main_arg8 m c) _).trans (congrArg _ (named2 _ _ _ ?_ ?_))
  · exact at_row t r (row_facts t).2.2.2.2.1.1
  · exact at_zero l.val (row_facts t).2.2.2.2.1.2

theorem blk1 (c : Dev nD) (t : Fin cfg0.N) (k l : Fin 1024) :
    iblk m c 1 t (ix3 0 k l) = m ((c : Thread nD τ).loc main_arg1) (ix3 0 k l) := by
  unfold iblk
  rw [View.read_apply]
  refine (congrFun (V_main_arg1 m c) _).trans (congrArg _ (named3 _ _ _ _ ?_ ?_ ?_))
  · exact at_zero 0 (still_facts t).1.1
  · exact at_zero k.val (still_facts t).1.2.1
  · exact at_zero l.val (still_facts t).1.2.2

theorem blk7 (c : Dev nD) (t : Fin cfg0.N) (k l : Fin 2048) :
    iblk m c 7 t (ix3 0 k l) = m ((c : Thread nD τ).loc main_arg7) (ix3 0 k l) := by
  unfold iblk
  rw [View.read_apply]
  refine (congrFun (V_main_arg7 m c) _).trans (congrArg _ (named3 _ _ _ _ ?_ ?_ ?_))
  · exact at_zero 0 (still_facts t).2.1.1
  · exact at_zero k.val (still_facts t).2.1.2.1
  · exact at_zero l.val (still_facts t).2.1.2.2

theorem V0 (c : Dev nD) (l : Fin 1024) : V m c main_v0 (ix2 0 l) = m ((c : Thread nD τ).loc main_arg5) (ix1 l) := by
  unfold V
  after_reads_at
theorem blk5 (c : Dev nD) (t : Fin cfg0.N) (l : Fin 1024) :
    iblk m c 5 t (ix2 0 l) = m ((c : Thread nD τ).loc main_arg5) (ix1 l) := by
  unfold iblk
  rw [View.read_apply]
  refine Eq.trans (congrArg (V m c main_v0) (named2 _ _ _ ?_ ?_)) (V0 m c l)
  · exact at_zero 0 (still_facts t).2.2.1.1
  · exact at_zero l.val (still_facts t).2.2.1.2

theorem V1 (c : Dev nD) (l : Fin 1024) : V m c main_v1 (ix2 0 l) = m ((c : Thread nD τ).loc main_arg6) (ix1 l) := by
  unfold V
  after_reads_at
theorem blk6 (c : Dev nD) (t : Fin cfg0.N) (l : Fin 1024) :
    iblk m c 6 t (ix2 0 l) = m ((c : Thread nD τ).loc main_arg6) (ix1 l) := by
  unfold iblk
  rw [View.read_apply]
  refine Eq.trans (congrArg (V m c main_v1) (named2 _ _ _ ?_ ?_)) (V1 m c l)
  · exact at_zero 0 (still_facts t).2.2.2.1.1
  · exact at_zero l.val (still_facts t).2.2.2.1.2

theorem V2 (c : Dev nD) (l : Fin 2048) : V m c main_v2 (ix2 0 l) = m ((c : Thread nD τ).loc main_arg9) (ix1 l) := by
  unfold V
  after_reads_at
theorem blk9 (c : Dev nD) (t : Fin cfg0.N) (l : Fin 2048) :
    iblk m c 9 t (ix2 0 l) = m ((c : Thread nD τ).loc main_arg9) (ix1 l) := by
  unfold iblk
  rw [View.read_apply]
  refine Eq.trans (congrArg (V m c main_v2) (named2 _ _ _ ?_ ?_)) (V2 m c l)
  · exact at_zero 0 (still_facts t).2.2.2.2.1.1
  · exact at_zero l.val (still_facts t).2.2.2.2.1.2

theorem V3 (c : Dev nD) (l : Fin 2048) : V m c main_v3 (ix2 0 l) = m ((c : Thread nD τ).loc main_arg10) (ix1 l) := by
  unfold V
  after_reads_at
theorem blk10 (c : Dev nD) (t : Fin cfg0.N) (l : Fin 2048) :
    iblk m c 10 t (ix2 0 l) = m ((c : Thread nD τ).loc main_arg10) (ix1 l) := by
  unfold iblk
  rw [View.read_apply]
  refine Eq.trans (congrArg (V m c main_v3) (named2 _ _ _ ?_ ?_)) (V3 m c l)
  · exact at_zero 0 (still_facts t).2.2.2.2.2.1
  · exact at_zero l.val (still_facts t).2.2.2.2.2.2

/-! ## The arrays -/

open Cert.Reference8Ideal.Read in
/-- What the first result array ends holding. -/
abbrev G11 (c : Dev nD) : Buf (Elt Ideal) ((c : Thread nD τ).loc main_v4_0) :=
  val_main_v61 (F := Ideal) (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5)) (m ((c : Thread nD τ).loc main_arg6))
    (m ((c : Thread nD τ).loc main_arg7)) (m ((c : Thread nD τ).loc main_arg8)) (m ((c : Thread nD τ).loc main_arg9))

open Cert.Reference8Ideal.Read in
/-- What the second result array ends holding. -/
abbrev G12 (c : Dev nD) : Buf (Elt Ideal) ((c : Thread nD τ).loc main_v4_1) :=
  val_main_v75 (F := Ideal) (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5)) (m ((c : Thread nD τ).loc main_arg6))
    (m ((c : Thread nD τ).loc main_arg7)) (m ((c : Thread nD τ).loc main_arg8)) (m ((c : Thread nD τ).loc main_arg9)) (m ((c : Thread nD τ).loc main_arg10))

/-- The bound of the precondition is a real number. -/
theorem top_bits : ∃ a : ℝ, Ideal.ofBits .f32 0x7F7FFFFF#32 = (a : EReal) := by
  have e : (2139095039 : ℕ) >>> 23 % 256 = 254 := by decide
  have s : ¬ BitVec.extractLsb' 31 1 2139095039#32 = 1#1 := by decide
  norm_num [Ideal.ofBits, Ideal.ieee, e, s]

/-- A value whose absolute value is at most a real number is one. -/
theorem real_of_le (x : EReal) (b : ℝ) (h : BitVec.ofBool (decide (max x (-x) ≤ (b : EReal))) = 1#1) : IsReal x := by
  have hle : max x (-x) ≤ (b : EReal) := by
    by_contra hn
    rw [decide_eq_false hn] at h
    exact absurd h (by decide)
  induction x using EReal.rec with
  | bot => exact absurd hle (not_le_of_gt (lt_max_of_lt_right (EReal.coe_lt_top _)))
  | top => exact absurd hle (not_le_of_gt (lt_max_of_lt_left (EReal.coe_lt_top _)))
  | coe a => exact ⟨a, rfl⟩

/-- Under the precondition every entry of the second branch's rows is a real number. -/
theorem real_rows (hp : Cert.Pre_Kernel8Ideal_finite_rows m) (c : Dev nD) (i : S8192x1024.Idx) :
    IsReal (m ((c : Thread nD τ).loc main_arg2) i) := by
  have h := congrFun (hp c) i
  unfold Cert.Pre_finite_rows.fn at h
  idx_vars i
  pointwise at h
  obtain ⟨b, hb⟩ := top_bits
  rw [hb] at h
  exact real_of_le _ b h

theorem block11 (hp : Cert.Pre_Kernel8Ideal_finite_rows m) (c : Dev nD) (t : Fin cfg0.N) (r : Fin 256) (l : Fin 2048) :
    out0_11 (iblk m c 0 t) (iblk m c 1 t) (iblk m c 2 t) (iblk m c 3 t) (iblk m c 4 t) (iblk m c 5 t) (iblk m c 6 t) (iblk m c 7 t) (iblk m c 8 t)
      (iblk m c 9 t) (iblk m c 10 t) (ix2 r l) = G11 m c (ix2 (row t r) l) := by
  refine (out11_apply _ _ _ _ _ _ _ _ _ _ _ r l fun k => ?_).trans ?_
  · rw [blk2]
    exact real_rows m hp c _
  · rw [G11, EvenRef.sum_apply]
    simp only [EvenRef.mix_apply, EvenRef.glu_apply, EvenRef.half_apply, blk0, blk1, blk2, blk3, blk4, blk5, blk6, blk7, blk8, blk9]

theorem block12 (hp : Cert.Pre_Kernel8Ideal_finite_rows m) (c : Dev nD) (t : Fin cfg0.N) (r : Fin 256) (l : Fin 2048) :
    out0_12 (iblk m c 0 t) (iblk m c 1 t) (iblk m c 2 t) (iblk m c 3 t) (iblk m c 4 t) (iblk m c 5 t) (iblk m c 6 t) (iblk m c 7 t) (iblk m c 8 t)
      (iblk m c 9 t) (iblk m c 10 t) (ix2 r l) = G12 m c (ix2 (row t r) l) := by
  refine (out12_apply _ _ _ _ _ _ _ _ _ _ _ r l).trans ?_
  rw [G12, EvenRef.norm_apply]
  simp only [block11 m hp, blk10]

/-- The point whose block holds a row. -/
theorem point_of (i : Fin 8192) : ∃ t : Fin cfg0.N, t.val = i.val / 256 :=
  ⟨⟨i.val / 256, by show _ < grid0.N; rw [N_0]; omega⟩, rfl⟩

/-- What a point writes back to the first result is its block of the reference's term. -/
theorem flushed11_eq (hp : Cert.Pre_Kernel8Ideal_finite_rows m) (c : Dev nD) (t : Fin cfg0.N) :
    (dats m 0 c).flushed 11 t = (win0_11.blk t).view.read (Elt Ideal) (G11 m c) := by
  rw [Value.flushed11]
  funext j
  rw [View.read_apply]
  idx_vars j
  refine (block11 m hp c t _ _).trans (congrArg _ (named2 _ _ _ ?_ ?_).symm)
  · exact at_row t j0 (row_facts t).2.2.2.2.2.1.1
  · exact at_zero j1.val (row_facts t).2.2.2.2.2.1.2

theorem final11 (hp : Cert.Pre_Kernel8Ideal_finite_rows m) (c : Dev nD) : (dats m 0 c).arrAt 11 cfg0.N = G11 m c := by
  refine (dats m 0 c).arrAt_eq_of_cover 11 (G11 m c) (fun t _ => flushed11_eq m hp c t) fun i => ?_
  obtain ⟨t, ht⟩ := point_of (i 0)
  refine ⟨t, flush0_11 t, ?_⟩
  show i ∈ ((View.whole main_v4_0).slice (win0_11.rect t)).set
  rw [View.set_slice_whole, Rect.mem_set_unit]
  obtain ⟨h0, h1⟩ := (row_facts t).2.2.2.2.2.1
  have hi1 : (i 1).val < 2048 := (i 1).isLt
  intro a
  match a with
  | ⟨0, _⟩ => show win0_11.index t 0 * 256 ≤ (i 0).val ∧ (i 0).val < win0_11.index t 0 * 256 + 256; rw [h0, ht]; omega
  | ⟨1, _⟩ => show win0_11.index t 1 * 2048 ≤ (i 1).val ∧ (i 1).val < win0_11.index t 1 * 2048 + 2048; rw [h1]; omega

/-- What a point writes back to the second result is its block of the reference's term. -/
theorem flushed12_eq (hp : Cert.Pre_Kernel8Ideal_finite_rows m) (c : Dev nD) (t : Fin cfg0.N) :
    (dats m 0 c).flushed 12 t = (win0_12.blk t).view.read (Elt Ideal) (G12 m c) := by
  rw [Value.flushed12]
  funext j
  rw [View.read_apply]
  idx_vars j
  refine (block12 m hp c t _ _).trans (congrArg _ (named2 _ _ _ ?_ ?_).symm)
  · exact at_row t j0 (row_facts t).2.2.2.2.2.2.1
  · exact at_zero j1.val (row_facts t).2.2.2.2.2.2.2

theorem final12 (hp : Cert.Pre_Kernel8Ideal_finite_rows m) (c : Dev nD) : (dats m 0 c).arrAt 12 cfg0.N = G12 m c := by
  refine (dats m 0 c).arrAt_eq_of_cover 12 (G12 m c) (fun t _ => flushed12_eq m hp c t) fun i => ?_
  obtain ⟨t, ht⟩ := point_of (i 0)
  refine ⟨t, flush0_12 t, ?_⟩
  show i ∈ ((View.whole main_v4_1).slice (win0_12.rect t)).set
  rw [View.set_slice_whole, Rect.mem_set_unit]
  obtain ⟨h0, h1⟩ := (row_facts t).2.2.2.2.2.2
  have hi1 : (i 1).val < 2048 := (i 1).isLt
  intro a
  match a with
  | ⟨0, _⟩ => show win0_12.index t 0 * 256 ≤ (i 0).val ∧ (i 0).val < win0_12.index t 0 * 256 + 256; rw [h0, ht]; omega
  | ⟨1, _⟩ => show win0_12.index t 1 * 2048 ≤ (i 1).val ∧ (i 1).val < win0_12.index t 1 * 2048 + 2048; rw [h1]; omega

/-- The kernel's and the reference's runs end at one pair of arrays, where the second branch's rows are finite. -/
theorem algebraic : Cert.algebraic_Kernel8Ideal_Reference8Ideal_pre_finite_rows := by
  intro m ρ m' ρ' hp hag
  refine ⟨G11 m, G12 m, (θ_run _ _ _).mono (fun r h c => ?_) (Value.run_blocks m ρ),
    (θ_run _ _ _).mono (fun r h c => ?_) (Cert.Reference8Ideal.Value.run m' ρ')⟩
  · obtain ⟨e5, e6, h⟩ := h c
    exact ⟨e5.trans (final11 m hp c), e6.trans (final12 m hp c), h⟩
  · obtain ⟨e5, e6, h⟩ := h c
    obtain ⟨a0, a1, a2, a3, a4, a5, a6, a7, a8, a9, a10⟩ := hag c
    refine ⟨e5.trans ?_, e6.trans ?_, h⟩
    · rw [Cert.Reference8Ideal.Read.val_main_v61_eq, a0, a1, a2, a3, a4, a5, a6, a7, a8, a9]
    · rw [Cert.Reference8Ideal.Read.val_main_v75_eq, a0, a1, a2, a3, a4, a5, a6, a7, a8, a9, a10]

end Cert.Proof.EvenOut

end
-- ==== Proof.Norm.lean ====
/-
  The trunk's first norm: a block of 512 rows at a point, each row scaled by the reciprocal root of its mean square and by
  the weights. The result array is the reference's composed term of the arguments.
-/
module

public import proofs.«01_k».proof.Defs
public import proofs.«01_k».proof.Proof.Gen.Kernel9Ideal.Value
public import proofs.«01_k».proof.Proof.Gen.Reference9Ideal.Run
public import proofs.«01_k».proof.Proof.Gen.Reference9Ideal.Read
public import proofs.«01_k».proof.Proof.Shared

@[expose] public section

set_option maxRecDepth 16384

noncomputable section

open Idealize.ShloMosaic Idealize.ShloMosaic.TcCoe Idealize.SL.Sem
open Idealize.ShloMosaic.Pipeline (Dat)

namespace Cert.Proof.Norm

open Cert.Kernel9Ideal Cert.Kernel9Ideal.Gen Cert.Proof.Shared

variable (m : (ℓ : Loc nD τ sig) → Buf (Elt Ideal) ℓ) (ρ : Dev nD → PrngReg)

/-- The index maps, decided over the sixteen points. -/
theorem idx_facts : ∀ t : Fin cfg0.N, (win0_0.index t 0 = t.val ∧ win0_0.index t 1 = 0)
    ∧ (win0_1.index t 0 = 0 ∧ win0_1.index t 1 = 0)
    ∧ (win0_2.index t 0 = t.val ∧ win0_2.index t 1 = 0) :=
  (by decide +kernel : ∀ t : Fin grid0.N, _)

theorem lt16 (t : Fin cfg0.N) : t.val < 16 := lt_of_lt_of_eq t.isLt N_0

/-- Row `r` of point `t`'s block, as a row of the array. -/
def row (t : Fin cfg0.N) (r : Fin 512) : Fin 8192 := ⟨512 * t.val + r.val, by have := lt16 t; omega⟩

theorem blk0 (c : Dev nD) (t : Fin cfg0.N) (r : Fin 512) (l : Fin 2048) :
    iblk m c 0 t (ix2 r l) = m ((c : Thread nD τ).loc main_arg0) (ix2 (row t r) l) := by
  obtain ⟨h0, h1⟩ := (idx_facts t).1
  unfold iblk
  rw [View.read_apply]
  show V m c main_arg0 _ = _
  rw [V_main_arg0]
  refine congrArg _ (funext fun a => Fin.ext ?_)
  match a with
  | ⟨0, _⟩ => show win0_0.index t 0 * 512 + 1 * r.val = 512 * t.val + r.val; rw [h0]; omega
  | ⟨1, _⟩ => show win0_0.index t 1 * 2048 + 1 * l.val = l.val; rw [h1]; omega

/-- The reshaped weight, read at an index. -/
theorem V0 (c : Dev nD) (l : Fin 2048) : V m c main_v0 (ix2 0 l) = m ((c : Thread nD τ).loc main_arg1) (ix1 l) := by
  unfold V
  after_reads_at

theorem blk1 (c : Dev nD) (t : Fin cfg0.N) (l : Fin 2048) :
    iblk m c 1 t (ix2 0 l) = m ((c : Thread nD τ).loc main_arg1) (ix1 l) := by
  obtain ⟨h0, h1⟩ := (idx_facts t).2.1
  unfold iblk
  rw [View.read_apply]
  refine Eq.trans ?_ (V0 m c l)
  show V m c main_v0 _ = _
  refine congrArg _ (funext fun a => Fin.ext ?_)
  match a with
  | ⟨0, _⟩ => show win0_1.index t 0 * 1 + 1 * 0 = 0; rw [h0]
  | ⟨1, _⟩ => show win0_1.index t 1 * 2048 + 1 * l.val = l.val; rw [h1]; omega

/-- The norm of a block's row, at an index. -/
theorem pay1_apply (x : Vec Ideal S512x2048 .f32) (g : Vec Ideal S1x2048 .f32) (r : Fin 512) (l : Fin 2048) :
    k0_pay1 x g (ix2 r l) = rms (fun k => x (ix2 r k)) (fun k => g (ix2 0 k)) l := by
  unfold rms
  pointwise [k0_pay1]

section Reference
open Cert.Reference9Ideal.Read

/-- The reference's norm, at an index. -/
theorem ref_apply (x0 : Vec Ideal S8192x2048 .f32) (x1 : Vec Ideal S2048 .f32) (r : Fin 8192) (l : Fin 2048) :
    val_main_v13 (F := Ideal) x0 x1 (ix2 r l) = rms (fun k => x0 (ix2 r k)) (fun k => x1 (ix1 k)) l := by
  unfold rms
  pointwise [val_main_v13, val_main_v12, val_main_v11, val_main_v10, val_main_v9, val_main_v8, val_main_v7, val_main_v6,
    val_main_v5, val_main_v4, val_main_v3, val_main_v2, val_main_v1, val_main_v0, val_main_cst, val_main_cst_0, val_main_cst_1]

/-- What the result array ends holding. -/
abbrev G2 (c : Dev nD) : Buf (Elt Ideal) ((c : Thread nD τ).loc main_v1) :=
  val_main_v13 (F := Ideal) (m ((c : Thread nD τ).loc main_arg0)) (m ((c : Thread nD τ).loc main_arg1))

end Reference

theorem block2 (c : Dev nD) (t : Fin cfg0.N) (r : Fin 512) (l : Fin 2048) :
    k0_pay1 (iblk m c 0 t) (iblk m c 1 t) (ix2 r l) = G2 m c (ix2 (row t r) l) := by
  rw [pay1_apply, G2, ref_apply]
  simp only [blk0, blk1]

/-- What a point writes back to the result is its block of the reference's term. -/
theorem flushed2_eq (c : Dev nD) (t : Fin cfg0.N) :
    (dats m 0 c).flushed 2 t = (win0_2.blk t).view.read (Elt Ideal) (G2 m c) := by
  rw [Value.flushed2]
  unfold out0_2
  rw [View.canon_unit_zero hz]
  simp only [View.ld_unit_zero (S := S512x2048) hz, View.ld_unit_zero (S := S1x2048) hz]
  funext j
  rw [View.read_apply]
  obtain ⟨h0, h1⟩ := (idx_facts t).2.2
  idx_vars j
  refine (block2 m c t _ _).trans (congrArg _ (funext fun a => Fin.ext ?_))
  match a with
  | ⟨0, _⟩ => show 512 * t.val + j0.val = win0_2.index t 0 * 512 + 1 * j0.val; rw [h0]; omega
  | ⟨1, _⟩ => show j1.val = win0_2.index t 1 * 2048 + 1 * j1.val; rw [h1]; omega

/-- Every index of the result is in the block of the point its row names. -/
theorem cover2 (i : S8192x2048.Idx) : ∃ t : Fin cfg0.N, (cfg0.win 2).flush t = true ∧ i ∈ ((cfg0.win 2).blk t).view.set := by
  have hi0 : (i 0).val < 8192 := (i 0).isLt
  have hi1 : (i 1).val < 2048 := (i 1).isLt
  obtain ⟨t, ht⟩ : ∃ t : Fin cfg0.N, t.val = (i 0).val / 512 :=
    ⟨⟨(i 0).val / 512, by show _ < grid0.N; rw [N_0]; omega⟩, rfl⟩
  refine ⟨t, flush0_2 t, ?_⟩
  show i ∈ ((View.whole main_v1).slice (win0_2.rect t)).set
  rw [View.set_slice_whole, Rect.mem_set_unit]
  obtain ⟨h0, h1⟩ := (idx_facts t).2.2
  intro a
  match a with
  | ⟨0, _⟩ => show win0_2.index t 0 * 512 ≤ (i 0).val ∧ (i 0).val < win0_2.index t 0 * 512 + 512; rw [h0, ht]; omega
  | ⟨1, _⟩ => show win0_2.index t 1 * 2048 ≤ (i 1).val ∧ (i 1).val < win0_2.index t 1 * 2048 + 2048; rw [h1]; omega

theorem final2 (c : Dev nD) : (dats m 0 c).arrAt 2 cfg0.N = G2 m c :=
  (dats m 0 c).arrAt_eq_of_cover 2 (G2 m c) (fun t _ => flushed2_eq m c t) cover2

/-- The kernel's and the reference's runs end at one array. -/
theorem algebraic : Cert.algebraic_Kernel9Ideal_Reference9Ideal := by
  intro m ρ m' ρ' _ hag
  refine ⟨G2 m, (θ_run _ _ _).mono (fun r h c => ?_) (Value.run_blocks m ρ),
    (θ_run _ _ _).mono (fun r h c => ?_) (Cert.Reference9Ideal.Value.run m' ρ')⟩
  · obtain ⟨e, h⟩ := h c
    exact ⟨e.trans (final2 m c), h⟩
  · obtain ⟨e, h⟩ := h c
    obtain ⟨a0, a1⟩ := hag c
    refine ⟨e.trans ?_, h⟩
    rw [a0, a1]
    rfl

end Cert.Proof.Norm

end
-- ==== Proof.Disc.lean ====
/-
  The zero-order-hold discretisation of a diagonal state space: one grid point holds every array whole. The transition is
  `exp (λ dt)`, written by its two real parts, and each of the sixteen input channels is stored scaled by
  `(exp (λ dt) - 1) / λ`. The four result arrays are the reference's composed terms of the arguments.
-/
module

public import proofs.«01_k».proof.Defs
public import proofs.«01_k».proof.Proof.Gen.Kernel10Ideal.Value
public import proofs.«01_k».proof.Proof.Gen.Reference10Ideal.Run
public import proofs.«01_k».proof.Proof.Gen.Reference10Ideal.Read
public import proofs.«01_k».proof.Proof.Shared

@[expose] public section

set_option maxRecDepth 16384

noncomputable section

open Idealize.ShloMosaic Idealize.ShloMosaic.TcCoe Idealize.SL.Sem
open Idealize.ShloMosaic.Pipeline (Dat)

namespace Cert.Proof.Disc

open Cert.Kernel10Ideal Cert.Kernel10Ideal.Gen Cert.Proof.Shared

variable (m : (ℓ : Loc nD τ sig) → Buf (Elt Ideal) ℓ) (ρ : Dev nD → PrngReg)

/-! ## The scalars: `p + q i` the pole, `s` the logarithm of its step -/

/-- The real part of the transition. -/
def aRe (p q s : EReal) : EReal := Ideal.exp (p * Ideal.exp s) * Ideal.cos (q * Ideal.exp s)

/-- The imaginary part of the transition. -/
def aIm (p q s : EReal) : EReal := Ideal.exp (p * Ideal.exp s) * Ideal.sin (q * Ideal.exp s)

/-- The real part of the input's gain. -/
def gRe (p q s : EReal) : EReal :=
  Ideal.div ((aRe p q s - Ideal.ofBits FTy.f32 0x3F800000#32) * p + aIm p q s * q) (p * p + q * q)

/-- The imaginary part of the input's gain. -/
def gIm (p q s : EReal) : EReal :=
  Ideal.div (aIm p q s * p - (aRe p q s - Ideal.ofBits FTy.f32 0x3F800000#32) * q) (p * p + q * q)

/-! ## The payloads at an index -/

section Payload

variable (v0 v1 v2 : Vec Ideal S64x64 .f32) (g h : Vec Ideal S64x64 .f32) (b d : Vec Ideal S16x64x64 .f32) (a l : Fin 64)

theorem pay8_apply : k0_pay8 v0 v1 v2 (ix2 a l) = aRe (v0 (ix2 a l)) (v1 (ix2 a l)) (v2 (ix2 a l)) := by
  unfold aRe
  pointwise [k0_pay8, k0_pay7, k0_pay6]

theorem pay9_apply : k0_pay9 v0 v1 v2 (ix2 a l) = aIm (v0 (ix2 a l)) (v1 (ix2 a l)) (v2 (ix2 a l)) := by
  unfold aIm
  pointwise [k0_pay9, k0_pay7, k0_pay6]

theorem pay12_apply : k0_pay12 v0 v1 v2 (ix2 a l) = gRe (v0 (ix2 a l)) (v1 (ix2 a l)) (v2 (ix2 a l)) := by
  unfold gRe
  rw [← pay8_apply, ← pay9_apply]
  pointwise [k0_pay12, k0_pay11, k0_pay10]

theorem pay13_apply : k0_pay13 v0 v1 v2 (ix2 a l) = gIm (v0 (ix2 a l)) (v1 (ix2 a l)) (v2 (ix2 a l)) := by
  unfold gIm
  rw [← pay8_apply, ← pay9_apply]
  pointwise [k0_pay13, k0_pay11, k0_pay10]

/-- The real part of a gain times an input, channel by channel. -/
def mulRe (y : S16x64x64.Idx) : EReal := g (ix2 (y 1) (y 2)) * b y - h (ix2 (y 1) (y 2)) * d y

/-- The imaginary part of a gain times an input, channel by channel. -/
def mulIm (y : S16x64x64.Idx) : EReal := g (ix2 (y 1) (y 2)) * d y + h (ix2 (y 1) (y 2)) * b y

/-- One channel of a sixteen-channel array. -/
abbrev chan (k : Nat) (hk : ∀ a, (![k, 0, 0] : Fin 3 → Nat) a + S1x64x64.size a ≤ S16x64x64.size a) : Rect S16x64x64 :=
  Rect.unit (s := S16x64x64) ![k, 0, 0] S1x64x64.size hk

/-- An index of a channel, as an index of the array. -/
theorem chan_idx (k : Nat) (hk) (z : Fin 1) : ((chan k hk).idx (ix3 z a l)) 1 = a ∧ ((chan k hk).idx (ix3 z a l)) 2 = l := by
  constructor <;> apply Fin.ext
  · show 0 + 1 * a.val = a.val; omega
  · show 0 + 1 * l.val = l.val; omega

theorem pay4_apply (x y : Vec Ideal S1x64x64 .f32) (z : Fin 1) :
    k0_pay4 g h x y (ix3 z a l) = g (ix2 a l) * x (ix3 z a l) - h (ix2 a l) * y (ix3 z a l) := by
  rw [Subsingleton.elim z 0]
  pointwise [k0_pay4, k0_pay3, k0_pay2]

theorem pay5_apply (x y : Vec Ideal S1x64x64 .f32) (z : Fin 1) :
    k0_pay5 g h x y (ix3 z a l) = g (ix2 a l) * y (ix3 z a l) + h (ix2 a l) * x (ix3 z a l) := by
  rw [Subsingleton.elim z 0]
  pointwise [k0_pay5, k0_pay3, k0_pay2]

/-- A channel's store of the real part is that channel of `mulRe`. -/
theorem pieceRe (k : Nat) (hk) (x : (chan k hk).shape.Idx) :
    k0_pay4 g h (View.ld b (chan k hk)) (View.ld d (chan k hk)) x = mulRe g h b d ((chan k hk).idx x) := by
  have key : ∀ (z : Fin 1) (a l : Fin 64), k0_pay4 g h (View.ld b (chan k hk)) (View.ld d (chan k hk)) (ix3 z a l)
      = mulRe g h b d ((chan k hk).idx (ix3 z a l)) := by
    intro z a l
    rw [pay4_apply, mulRe, (chan_idx a l k hk z).1, (chan_idx a l k hk z).2]
  idx_vars x
  exact key _ _ _

/-- A channel's store of the imaginary part is that channel of `mulIm`. -/
theorem pieceIm (k : Nat) (hk) (x : (chan k hk).shape.Idx) :
    k0_pay5 g h (View.ld b (chan k hk)) (View.ld d (chan k hk)) x = mulIm g h b d ((chan k hk).idx x) := by
  have key : ∀ (z : Fin 1) (a l : Fin 64), k0_pay5 g h (View.ld b (chan k hk)) (View.ld d (chan k hk)) (ix3 z a l)
      = mulIm g h b d ((chan k hk).idx (ix3 z a l)) := by
    intro z a l
    rw [pay5_apply, mulIm, (chan_idx a l k hk z).1, (chan_idx a l k hk z).2]
  idx_vars x
  exact key _ _ _

/-- The sixteen stores of the real part leave `mulRe` of the gains. -/
theorem out7_apply (y : S16x64x64.Idx) : out0_7 v0 v1 v2 b d y = mulRe (k0_pay12 v0 v1 v2) (k0_pay13 v0 v1 v2) b d y := by
  unfold_out out0_7
  simp only [View.ld_unit_zero (S := S64x64) hz]
  refine View.canon_apply_of_pieces _ _ ?_ y (cover0_7 _ _ _ _ _ _ _ _ _ _ _ _ _ _ _ _ y)
  intro pc hpc
  simp only [List.mem_cons, List.not_mem_nil, or_false] at hpc
  rcases hpc with rfl | rfl | rfl | rfl | rfl | rfl | rfl | rfl | rfl | rfl | rfl | rfl | rfl | rfl | rfl | rfl <;>
    exact pieceRe _ _ b d _ _

/-- The sixteen stores of the imaginary part leave `mulIm` of the gains. -/
theorem out8_apply (y : S16x64x64.Idx) : out0_8 v0 v1 v2 b d y = mulIm (k0_pay12 v0 v1 v2) (k0_pay13 v0 v1 v2) b d y := by
  unfold_out out0_8
  simp only [View.ld_unit_zero (S := S64x64) hz]
  refine View.canon_apply_of_pieces _ _ ?_ y (cover0_8 _ _ _ _ _ _ _ _ _ _ _ _ _ _ _ _ y)
  intro pc hpc
  simp only [List.mem_cons, List.not_mem_nil, or_false] at hpc
  rcases hpc with rfl | rfl | rfl | rfl | rfl | rfl | rfl | rfl | rfl | rfl | rfl | rfl | rfl | rfl | rfl | rfl <;>
    exact pieceIm _ _ b d _ _

end Payload

/-! ## The reference at an index -/

section Reference
open Cert.Reference10Ideal.Read

variable (x0 x1 : Vec Ideal S64x64 .f32) (x2 : Vec Ideal S64 .f32) (x3 x4 : Vec Ideal S64x64x16 .f32) (a l : Fin 64) (k : Fin 16)

theorem ref8 : val_main_v8 (F := Ideal) x0 x1 x2 (ix2 a l) = aRe (x0 (ix2 a l)) (x1 (ix2 a l)) (x2 (ix1 a)) := by
  unfold aRe
  pointwise [val_main_v8, val_main_v7, val_main_v6, val_main_v5, val_main_v4, val_main_v3, val_main_v2, val_main_v1, val_main_v0]

theorem ref12 : val_main_v12 (F := Ideal) x0 x1 x2 (ix2 a l) = aIm (x0 (ix2 a l)) (x1 (ix2 a l)) (x2 (ix1 a)) := by
  unfold aIm
  pointwise [val_main_v12, val_main_v11, val_main_v10, val_main_v9, val_main_v4, val_main_v3, val_main_v2, val_main_v1, val_main_v0]

theorem ref21 : val_main_v21 (F := Ideal) x0 x1 x2 (ix2 a l) = gRe (x0 (ix2 a l)) (x1 (ix2 a l)) (x2 (ix1 a)) := by
  unfold gRe
  rw [← ref8, ← ref12]
  pointwise [val_main_v21, val_main_v20, val_main_v19, val_main_v18, val_main_v17, val_main_v16, val_main_cst, val_main_v15,
    val_main_v14, val_main_v13]

theorem ref26 : val_main_v26 (F := Ideal) x0 x1 x2 (ix2 a l) = gIm (x0 (ix2 a l)) (x1 (ix2 a l)) (x2 (ix1 a)) := by
  unfold gIm
  rw [← ref8, ← ref12]
  pointwise [val_main_v26, val_main_v25, val_main_v24, val_main_v23, val_main_v17, val_main_v16, val_main_cst, val_main_v15,
    val_main_v14, val_main_v13]

theorem ref38 : val_main_v38 (F := Ideal) x0 x1 x2 x3 x4 (ix3 k a l)
    = gRe (x0 (ix2 a l)) (x1 (ix2 a l)) (x2 (ix1 a)) * x3 (ix3 a l k) - gIm (x0 (ix2 a l)) (x1 (ix2 a l)) (x2 (ix1 a)) * x4 (ix3 a l k) := by
  rw [← ref21, ← ref26]
  pointwise [val_main_v38, val_main_v32, val_main_v31, val_main_v30, val_main_v29, val_main_v28, val_main_v27, val_main_v22]

theorem ref39 : val_main_v39 (F := Ideal) x0 x1 x2 x3 x4 (ix3 k a l)
    = gRe (x0 (ix2 a l)) (x1 (ix2 a l)) (x2 (ix1 a)) * x4 (ix3 a l k) + gIm (x0 (ix2 a l)) (x1 (ix2 a l)) (x2 (ix1 a)) * x3 (ix3 a l k) := by
  rw [← ref21, ← ref26]
  pointwise [val_main_v39, val_main_v37, val_main_v36, val_main_v35, val_main_v34, val_main_v33, val_main_v27, val_main_v22]

/-- What the four result arrays end holding. -/
abbrev G5 (c : Dev nD) : Buf (Elt Ideal) ((c : Thread nD τ).loc main_v4_0) :=
  val_main_v8 (F := Ideal) (m ((c : Thread nD τ).loc main_arg0)) (m ((c : Thread nD τ).loc main_arg1)) (m ((c : Thread nD τ).loc main_arg2))
abbrev G6 (c : Dev nD) : Buf (Elt Ideal) ((c : Thread nD τ).loc main_v4_1) :=
  val_main_v12 (F := Ideal) (m ((c : Thread nD τ).loc main_arg0)) (m ((c : Thread nD τ).loc main_arg1)) (m ((c : Thread nD τ).loc main_arg2))
abbrev G7 (c : Dev nD) : Buf (Elt Ideal) ((c : Thread nD τ).loc main_v4_2) :=
  val_main_v38 (F := Ideal) (m ((c : Thread nD τ).loc main_arg0)) (m ((c : Thread nD τ).loc main_arg1)) (m ((c : Thread nD τ).loc main_arg2))
    (m ((c : Thread nD τ).loc main_arg3)) (m ((c : Thread nD τ).loc main_arg4))
abbrev G8 (c : Dev nD) : Buf (Elt Ideal) ((c : Thread nD τ).loc main_v4_3) :=
  val_main_v39 (F := Ideal) (m ((c : Thread nD τ).loc main_arg0)) (m ((c : Thread nD τ).loc main_arg1)) (m ((c : Thread nD τ).loc main_arg2))
    (m ((c : Thread nD τ).loc main_arg3)) (m ((c : Thread nD τ).loc main_arg4))

end Reference

/-! ## The blocks -/

section Blocks

variable (c : Dev nD) (t : Fin cfg0.N)

theorem V1 (a l : Fin 64) : V m c main_v1 (ix2 a l) = m ((c : Thread nD τ).loc main_arg2) (ix1 a) := by
  unfold V
  after_reads_at

theorem V2 (k : Fin 16) (a l : Fin 64) : V m c main_v2 (ix3 k a l) = m ((c : Thread nD τ).loc main_arg3) (ix3 a l k) := by
  unfold V
  after_reads_at

theorem V3 (k : Fin 16) (a l : Fin 64) : V m c main_v3 (ix3 k a l) = m ((c : Thread nD τ).loc main_arg4) (ix3 a l k) := by
  unfold V
  after_reads_at

/-- The index of the only point's block, whole: an index of the array itself. -/
theorem whole2 (i j : S64x64.Idx) (h : ∀ a, (i a).val = 0 * S64x64.size a + 1 * (j a).val) : i = j :=
  funext fun a => Fin.ext (by have := h a; omega)

theorem whole3 (i j : S16x64x64.Idx) (h : ∀ a, (i a).val = 0 * S16x64x64.size a + 1 * (j a).val) : i = j :=
  funext fun a => Fin.ext (by have := h a; omega)

theorem blk0 (a l : Fin 64) : iblk m c 0 t (ix2 a l) = m ((c : Thread nD τ).loc main_arg0) (ix2 a l) := by
  unfold iblk
  rw [View.read_apply]
  show V m c main_arg0 _ = _
  rw [V_main_arg0]
  exact congrArg _ (whole2 _ _ fun a => rfl)

theorem blk1 (a l : Fin 64) : iblk m c 1 t (ix2 a l) = m ((c : Thread nD τ).loc main_arg1) (ix2 a l) := by
  unfold iblk
  rw [View.read_apply]
  show V m c main_arg1 _ = _
  rw [V_main_arg1]
  exact congrArg _ (whole2 _ _ fun a => rfl)

theorem blk2 (a l : Fin 64) : iblk m c 2 t (ix2 a l) = m ((c : Thread nD τ).loc main_arg2) (ix1 a) := by
  unfold iblk
  rw [View.read_apply]
  refine Eq.trans ?_ (V1 m c a l)
  show V m c main_v1 _ = _
  exact congrArg _ (whole2 _ _ fun a => rfl)

theorem blk3 (k : Fin 16) (a l : Fin 64) : iblk m c 3 t (ix3 k a l) = m ((c : Thread nD τ).loc main_arg3) (ix3 a l k) := by
  unfold iblk
  rw [View.read_apply]
  refine Eq.trans ?_ (V2 m c k a l)
  show V m c main_v2 _ = _
  exact congrArg _ (whole3 _ _ fun a => rfl)

theorem blk4 (k : Fin 16) (a l : Fin 64) : iblk m c 4 t (ix3 k a l) = m ((c : Thread nD τ).loc main_arg4) (ix3 a l k) := by
  unfold iblk
  rw [View.read_apply]
  refine Eq.trans ?_ (V3 m c k a l)
  show V m c main_v3 _ = _
  exact congrArg _ (whole3 _ _ fun a => rfl)

theorem block5 (a l : Fin 64) : k0_pay8 (iblk m c 0 t) (iblk m c 1 t) (iblk m c 2 t) (ix2 a l) = G5 m c (ix2 a l) := by
  rw [pay8_apply, G5, ref8, blk0, blk1, blk2]

theorem block6 (a l : Fin 64) : k0_pay9 (iblk m c 0 t) (iblk m c 1 t) (iblk m c 2 t) (ix2 a l) = G6 m c (ix2 a l) := by
  rw [pay9_apply, G6, ref12, blk0, blk1, blk2]

theorem block7 (k : Fin 16) (a l : Fin 64) :
    out0_7 (iblk m c 0 t) (iblk m c 1 t) (iblk m c 2 t) (iblk m c 3 t) (iblk m c 4 t) (ix3 k a l) = G7 m c (ix3 k a l) := by
  rw [out7_apply, G7, ref38]
  show k0_pay12 (F := Ideal) _ _ _ (ix2 a l) * iblk m c 3 t (ix3 k a l) - k0_pay13 (F := Ideal) _ _ _ (ix2 a l) * iblk m c 4 t (ix3 k a l) = _
  rw [pay12_apply, pay13_apply, blk0, blk1, blk2, blk3, blk4]

theorem block8 (k : Fin 16) (a l : Fin 64) :
    out0_8 (iblk m c 0 t) (iblk m c 1 t) (iblk m c 2 t) (iblk m c 3 t) (iblk m c 4 t) (ix3 k a l) = G8 m c (ix3 k a l) := by
  rw [out8_apply, G8, ref39]
  show k0_pay12 (F := Ideal) _ _ _ (ix2 a l) * iblk m c 4 t (ix3 k a l) + k0_pay13 (F := Ideal) _ _ _ (ix2 a l) * iblk m c 3 t (ix3 k a l) = _
  rw [pay12_apply, pay13_apply, blk0, blk1, blk2, blk3, blk4]

/-! ## What the point writes back -/

theorem flushed5_eq : (dats m 0 c).flushed 5 t = (win0_5.blk t).view.read (Elt Ideal) (G5 m c) := by
  rw [Value.flushed5]
  unfold out0_5
  rw [View.canon_unit_zero hz]
  simp only [View.ld_unit_zero (S := S64x64) hz]
  funext j
  rw [View.read_apply]
  idx_vars j
  exact (block5 m c t _ _).trans (congrArg _ (whole2 _ _ fun a => rfl).symm)

theorem flushed6_eq : (dats m 0 c).flushed 6 t = (win0_6.blk t).view.read (Elt Ideal) (G6 m c) := by
  rw [Value.flushed6]
  unfold out0_6
  rw [View.canon_unit_zero hz]
  simp only [View.ld_unit_zero (S := S64x64) hz]
  funext j
  rw [View.read_apply]
  idx_vars j
  exact (block6 m c t _ _).trans (congrArg _ (whole2 _ _ fun a => rfl).symm)

theorem flushed7_eq : (dats m 0 c).flushed 7 t = (win0_7.blk t).view.read (Elt Ideal) (G7 m c) := by
  rw [Value.flushed7]
  funext j
  rw [View.read_apply]
  idx_vars j
  exact (block7 m c t _ _ _).trans (congrArg _ (whole3 _ _ fun a => rfl).symm)

theorem flushed8_eq : (dats m 0 c).flushed 8 t = (win0_8.blk t).view.read (Elt Ideal) (G8 m c) := by
  rw [Value.flushed8]
  funext j
  rw [View.read_apply]
  idx_vars j
  exact (block8 m c t _ _ _).trans (congrArg _ (whole3 _ _ fun a => rfl).symm)

end Blocks

/-! ## The result arrays -/

/-- The only point. -/
def pt : Fin cfg0.N := ⟨0, by show 0 < grid0.N; rw [N_0]; omega⟩

theorem cover5 (i : S64x64.Idx) : ∃ t : Fin cfg0.N, (cfg0.win 5).flush t = true ∧ i ∈ ((cfg0.win 5).blk t).view.set := by
  refine ⟨pt, flush0_5 pt, ?_⟩
  show i ∈ ((View.whole main_v4_0).slice (win0_5.rect pt)).set
  rw [View.set_slice_whole, Rect.mem_set_unit]
  intro a
  show 0 * S64x64.size a ≤ (i a).val ∧ (i a).val < 0 * S64x64.size a + S64x64.size a
  have := (i a).isLt
  omega

theorem cover6 (i : S64x64.Idx) : ∃ t : Fin cfg0.N, (cfg0.win 6).flush t = true ∧ i ∈ ((cfg0.win 6).blk t).view.set := by
  refine ⟨pt, flush0_6 pt, ?_⟩
  show i ∈ ((View.whole main_v4_1).slice (win0_6.rect pt)).set
  rw [View.set_slice_whole, Rect.mem_set_unit]
  intro a
  show 0 * S64x64.size a ≤ (i a).val ∧ (i a).val < 0 * S64x64.size a + S64x64.size a
  have := (i a).isLt
  omega

theorem cover7 (i : S16x64x64.Idx) : ∃ t : Fin cfg0.N, (cfg0.win 7).flush t = true ∧ i ∈ ((cfg0.win 7).blk t).view.set := by
  refine ⟨pt, flush0_7 pt, ?_⟩
  show i ∈ ((View.whole main_v4_2).slice (win0_7.rect pt)).set
  rw [View.set_slice_whole, Rect.mem_set_unit]
  intro a
  show 0 * S16x64x64.size a ≤ (i a).val ∧ (i a).val < 0 * S16x64x64.size a + S16x64x64.size a
  have := (i a).isLt
  omega

theorem cover8 (i : S16x64x64.Idx) : ∃ t : Fin cfg0.N, (cfg0.win 8).flush t = true ∧ i ∈ ((cfg0.win 8).blk t).view.set := by
  refine ⟨pt, flush0_8 pt, ?_⟩
  show i ∈ ((View.whole main_v4_3).slice (win0_8.rect pt)).set
  rw [View.set_slice_whole, Rect.mem_set_unit]
  intro a
  show 0 * S16x64x64.size a ≤ (i a).val ∧ (i a).val < 0 * S16x64x64.size a + S16x64x64.size a
  have := (i a).isLt
  omega

theorem final5 (c : Dev nD) : (dats m 0 c).arrAt 5 cfg0.N = G5 m c :=
  (dats m 0 c).arrAt_eq_of_cover 5 (G5 m c) (fun t _ => flushed5_eq m c t) cover5

theorem final6 (c : Dev nD) : (dats m 0 c).arrAt 6 cfg0.N = G6 m c :=
  (dats m 0 c).arrAt_eq_of_cover 6 (G6 m c) (fun t _ => flushed6_eq m c t) cover6

theorem final7 (c : Dev nD) : (dats m 0 c).arrAt 7 cfg0.N = G7 m c :=
  (dats m 0 c).arrAt_eq_of_cover 7 (G7 m c) (fun t _ => flushed7_eq m c t) cover7

theorem final8 (c : Dev nD) : (dats m 0 c).arrAt 8 cfg0.N = G8 m c :=
  (dats m 0 c).arrAt_eq_of_cover 8 (G8 m c) (fun t _ => flushed8_eq m c t) cover8

/-- The kernel's and the reference's runs end at the same four arrays. -/
theorem algebraic : Cert.algebraic_Kernel10Ideal_Reference10Ideal := by
  intro m ρ m' ρ' _ hag
  refine ⟨G5 m, G6 m, G7 m, G8 m, (θ_run _ _ _).mono (fun r h c => ?_) (Value.run_blocks m ρ),
    (θ_run _ _ _).mono (fun r h c => ?_) (Cert.Reference10Ideal.Value.run m' ρ')⟩
  · obtain ⟨e5, e6, e7, e8, h⟩ := h c
    exact ⟨e5.trans (final5 m c), e6.trans (final6 m c), e7.trans (final7 m c), e8.trans (final8 m c), h⟩
  · obtain ⟨e5, e6, e7, e8, h⟩ := h c
    obtain ⟨a0, a1, a2, a3, a4⟩ := hag c
    refine ⟨e5.trans ?_, e6.trans ?_, e7.trans ?_, e8.trans ?_, h⟩
    · rw [Cert.Reference10Ideal.Read.val_main_v8_eq, a0, a1, a2]
    · rw [Cert.Reference10Ideal.Read.val_main_v12_eq, a0, a1, a2]
    · rw [Cert.Reference10Ideal.Read.val_main_v38_eq, a0, a1, a2, a3, a4]
    · rw [Cert.Reference10Ideal.Read.val_main_v39_eq, a0, a1, a2, a3, a4]

end Cert.Proof.Disc

end
-- ==== Proof.Tables.lean ====
/-
  The tables of the blocked complex scan: for every tile, from its input columns `B`, its output columns `C` and its
  transition `a`, the eight blocks of `Re (B aᵗ C)`, the reversed columns `B aᵗ`, the rows `C aʳ⁺¹` and `a⁸`. Every entry
  is one complex product with a power of `a`, and the kernel and the reference both build the powers one factor at a time.
-/
module

public import proofs.«01_k».proof.Defs
public import proofs.«01_k».proof.Proof.Gen.Kernel11Ideal.Frame
public import proofs.«01_k».proof.Proof.Shared

@[expose] public section

set_option maxRecDepth 16384

noncomputable section

open Idealize.ShloMosaic Idealize.ShloMosaic.TcCoe Idealize.SL.Sem
open Idealize.ShloMosaic.Pipeline (Dat)

namespace Cert.Proof.Tables

open Cert.Kernel11Ideal Cert.Kernel11Ideal.Gen Cert.Proof.Shared

/-! ## Complex numbers as pairs -/

/-- The product of two complex numbers. -/
def cmul (u v : EReal × EReal) : EReal × EReal := (u.1 * v.1 - u.2 * v.2, u.1 * v.2 + u.2 * v.1)

/-- A power, one factor at a time. -/
def cpow (z : EReal × EReal) : ℕ → EReal × EReal
  | 0 => (1, 0)
  | n + 1 => cmul (cpow z n) z

theorem cpow_one (z : EReal × EReal) : cpow z 1 = z := by
  obtain ⟨p, q⟩ := z
  simp [cpow, cmul]

/-- The powers of an array of complex numbers, from a first array of them. -/
def iter {S : Shape} (z u : FVec Ideal S .f32 × FVec Ideal S .f32) : ℕ → FVec Ideal S .f32 × FVec Ideal S .f32
  | 0 => u
  | n + 1 => (subf (mulf (iter z u n).1 z.1) (mulf (iter z u n).2 z.2), addf (mulf (iter z u n).1 z.2) (mulf (iter z u n).2 z.1))

theorem iter_apply {S : Shape} (z u : FVec Ideal S .f32 × FVec Ideal S .f32) (i : S.Idx) (k : ℕ)
    (h : (u.1 i, u.2 i) = cpow (z.1 i, z.2 i) k) (n : ℕ) :
    ((iter z u n).1 i, (iter z u n).2 i) = cpow (z.1 i, z.2 i) (k + n) := by
  induction n with
  | zero => exact h
  | succ n ih =>
    show cmul ((iter z u n).1 i, (iter z u n).2 i) (z.1 i, z.2 i) = cmul (cpow (z.1 i, z.2 i) (k + n)) (z.1 i, z.2 i)
    rw [ih]

/-- An entry of the kernel's block at power `t`, without the skip: the real part of `Σ B aᵗ C`. -/
def kEl (B A C : Fin 512 → EReal × EReal) (t : ℕ) : EReal :=
  ∑ l, (cmul (B l) (cpow (A l) t)).1 * (C l).1 - ∑ l, (cmul (B l) (cpow (A l) t)).2 * (C l).2

/-- The skip: on the diagonal, and of the first block only. -/
def skip (t : ℕ) (a b : Fin 128) (d : EReal) : EReal := if t = 0 then (if a = b then 1 else 0) * d else 0

/-- Whether two lane numbers agree, as a bit. -/
theorem eq_bit (a b : Fin 128) :
    IntOp.cmpi CmpIPredicate.eq (BitVec.ofNat 32 a.val) (BitVec.ofNat 32 b.val) = if a = b then 1#1 else 0#1 := by
  have e : (BitVec.ofNat 32 a.val = BitVec.ofNat 32 b.val) ↔ a = b := by
    constructor
    · intro h
      have := congrArg BitVec.toNat h
      simp only [BitVec.toNat_ofNat] at this
      exact Fin.ext (by omega)
    · rintro rfl; rfl
  by_cases h : a = b
  · subst h
    simp [IntOp.cmpi]
  · have hb : (BitVec.ofNat 32 a.val == BitVec.ofNat 32 b.val) = false := beq_eq_false_iff_ne.mpr (mt e.mp h)
    rw [if_neg h]
    show BitVec.ofBool (BitVec.ofNat 32 a.val == BitVec.ofNat 32 b.val) = 0#1
    rw [hb]
    rfl

/-! ## The blocks of one tile -/

section Tile

variable (x0 x1 : Vec Ideal S1x128x512 .f32) (x2 x3 : Vec Ideal S1x512x128 .f32) (x4 x5 : Vec Ideal S1x1x512 .f32)
  (x6 x7 : Vec Ideal S1x512x128 .f32) (x8 : Vec Ideal S1x1x128 .f32)

def tB (a : Fin 128) (l : Fin 512) : EReal × EReal := (x0 (ix3 0 a l), x1 (ix3 0 a l))
def tC (b : Fin 128) (l : Fin 512) : EReal × EReal := (x2 (ix3 0 l b), x3 (ix3 0 l b))
def tA (l : Fin 512) : EReal × EReal := (x4 (ix3 0 0 l), x5 (ix3 0 0 l))

/-- The powers of the transition along the lanes. -/
abbrev rowPow : ℕ → FVec Ideal S1x512 .f32 × FVec Ideal S1x512 .f32 :=
  iter (k0_pay7 (View.ld x4 r0_2), k0_pay8 (View.ld x5 r0_2)) (k0_pay12 (F := Ideal), k0_pay13 (F := Ideal))

/-- The same powers down the rows, from the first. -/
abbrev colPow : ℕ → FVec Ideal S512x128 .f32 × FVec Ideal S512x128 .f32 :=
  iter (k0_pay9 (View.ld x6 r0_1), k0_pay10 (View.ld x7 r0_1)) (k0_pay9 (View.ld x6 r0_1), k0_pay10 (View.ld x7 r0_1))

theorem rowPow_apply (n : ℕ) (l : Fin 512) :
    ((rowPow x4 x5 n).1 (ix2 0 l), (rowPow x4 x5 n).2 (ix2 0 l)) = cpow (tA x4 x5 l) n := by
  have e4 : k0_pay7 (View.ld x4 r0_2) (ix2 0 l) = x4 (ix3 0 0 l) := by
    rw [View.ld_unit_zero (S := S1x1x512) hz3]
    pointwise [k0_pay7]
  have e5 : k0_pay8 (View.ld x5 r0_2) (ix2 0 l) = x5 (ix3 0 0 l) := by
    rw [View.ld_unit_zero (S := S1x1x512) hz3]
    pointwise [k0_pay8]
  have e := iter_apply (k0_pay7 (View.ld x4 r0_2), k0_pay8 (View.ld x5 r0_2)) (k0_pay12 (F := Ideal), k0_pay13 (F := Ideal)) (ix2 0 l) 0
    (by
      show (k0_pay12 (F := Ideal) (ix2 0 l), k0_pay13 (F := Ideal) (ix2 0 l)) = (1, 0)
      refine Prod.ext ?_ ?_
      · pointwise [k0_pay12]
      · pointwise [k0_pay13]) n
  rw [Nat.zero_add] at e
  refine e.trans ?_
  show cpow (k0_pay7 (View.ld x4 r0_2) (ix2 0 l), k0_pay8 (View.ld x5 r0_2) (ix2 0 l)) n = _
  rw [e4, e5, tA]

theorem colPow_apply (n : ℕ) (l : Fin 512) (b : Fin 128) :
    ((colPow x6 x7 n).1 (ix2 l b), (colPow x6 x7 n).2 (ix2 l b)) = cpow (tC x6 x7 b l) (n + 1) := by
  have e6 : k0_pay9 (View.ld x6 r0_1) (ix2 l b) = x6 (ix3 0 l b) := by
    rw [View.ld_unit_zero (S := S1x512x128) hz3]
    pointwise [k0_pay9]
  have e7 : k0_pay10 (View.ld x7 r0_1) (ix2 l b) = x7 (ix3 0 l b) := by
    rw [View.ld_unit_zero (S := S1x512x128) hz3]
    pointwise [k0_pay10]
  have e := iter_apply (k0_pay9 (View.ld x6 r0_1), k0_pay10 (View.ld x7 r0_1)) (k0_pay9 (View.ld x6 r0_1), k0_pay10 (View.ld x7 r0_1)) (ix2 l b) 1
    (cpow_one _).symm n
  rw [Nat.add_comm 1 n] at e
  refine e.trans ?_
  show cpow (k0_pay9 (View.ld x6 r0_1) (ix2 l b), k0_pay10 (View.ld x7 r0_1) (ix2 l b)) (n + 1) = _
  rw [e6, e7, tC]

section Payload

variable (v1 v3 : FVec Ideal S128x512 .f32) (v5 v7 : FVec Ideal S512x128 .f32) (P : FVec Ideal S1x512 .f32 × FVec Ideal S1x512 .f32)
  (Q : FVec Ideal S512x128 .f32 × FVec Ideal S512x128 .f32) (a b : Fin 128) (l : Fin 512) (z : Fin 1)

theorem pay52_apply : k0_pay52 v1 v3 P.1 P.2 (ix2 a l) = (cmul (v1 (ix2 a l), v3 (ix2 a l)) (P.1 (ix2 0 l), P.2 (ix2 0 l))).1 := by
  unfold cmul
  pointwise [k0_pay52]

theorem pay53_apply : k0_pay53 v1 v3 P.1 P.2 (ix2 a l) = (cmul (v1 (ix2 a l), v3 (ix2 a l)) (P.1 (ix2 0 l), P.2 (ix2 0 l))).2 := by
  unfold cmul
  pointwise [k0_pay53]

theorem pay55_apply : k0_pay55 v1 v3 P.1 P.2 (ix3 z a l) = (cmul (v1 (ix2 a l), v3 (ix2 a l)) (P.1 (ix2 0 l), P.2 (ix2 0 l))).1 := by
  rw [Subsingleton.elim z 0, ← pay52_apply]
  pointwise [k0_pay55]

theorem pay56_apply : k0_pay56 v1 v3 P.1 P.2 (ix3 z a l) = (cmul (v1 (ix2 a l), v3 (ix2 a l)) (P.1 (ix2 0 l), P.2 (ix2 0 l))).2 := by
  rw [Subsingleton.elim z 0, ← pay53_apply]
  pointwise [k0_pay56]

theorem pay54_apply : k0_pay54 v1 v3 v5 v7 P.1 P.2 (ix3 z a b)
    = ∑ l, (cmul (v1 (ix2 a l), v3 (ix2 a l)) (P.1 (ix2 0 l), P.2 (ix2 0 l))).1 * v5 (ix2 l b)
      - ∑ l, (cmul (v1 (ix2 a l), v3 (ix2 a l)) (P.1 (ix2 0 l), P.2 (ix2 0 l))).2 * v7 (ix2 l b) := by
  rw [Subsingleton.elim z 0]
  simp only [← pay52_apply, ← pay53_apply]
  pointwise [k0_pay54]

theorem pay11_apply : k0_pay11 (F := Ideal) (ix2 a b) = if a = b then (1 : EReal) else 0 := by
  pointwise [k0_pay11]
  rw [eq_bit]
  split
  · show (((1#32).toInt : ℝ) : EReal) = 1
    simp
  · show (((0#32).toInt : ℝ) : EReal) = 0
    simp

theorem pay48_apply (d : Vec Ideal S1x1x128 .f32) : k0_pay48 v1 v3 v5 v7 (k0_pay11 (F := Ideal)) P.1 P.2 d (ix3 z a b)
    = k0_pay54 v1 v3 v5 v7 P.1 P.2 (ix3 z a b) + (if a = b then (1 : EReal) else 0) * d (ix3 0 0 b) := by
  rw [← pay11_apply, Subsingleton.elim z 0]
  show k0_pay48 v1 v3 v5 v7 (k0_pay11 (F := Ideal)) P.1 P.2 d (ix3 0 a b) = _
  generalize k0_pay11 (F := Ideal) = e
  pointwise [k0_pay48, k0_pay54, k0_pay46, k0_pay47, k0_pay52, k0_pay53]

theorem pay91_apply : k0_pay91 v5 v7 Q.1 Q.2 (ix3 z l b) = (cmul (v5 (ix2 l b), v7 (ix2 l b)) (Q.1 (ix2 l b), Q.2 (ix2 l b))).1 := by
  rw [Subsingleton.elim z 0]
  unfold cmul
  pointwise [k0_pay91]

theorem pay95_apply : k0_pay95 v5 v7 Q.1 Q.2 (ix3 z l b) = -(cmul (v5 (ix2 l b), v7 (ix2 l b)) (Q.1 (ix2 l b), Q.2 (ix2 l b))).2 := by
  rw [Subsingleton.elim z 0, ← zero_sub]
  unfold cmul
  pointwise [k0_pay95]

end Payload

/-! ### What each output block holds -/

def wkB (y : S1x1024x128.Idx) : EReal :=
  kEl (tB x0 x1 ⟨(y 1).val % 128, Nat.mod_lt _ (by norm_num)⟩) (tA x4 x5) (tC x2 x3 (y 2)) ((y 1).val / 128)
    + skip ((y 1).val / 128) ⟨(y 1).val % 128, Nat.mod_lt _ (by norm_num)⟩ (y 2) (x8 (ix3 0 0 (y 2)))

def wbB (y : S1x1024x1024.Idx) : EReal :=
  let l : Fin 512 := ⟨(y 2).val % 512, Nat.mod_lt _ (by norm_num)⟩
  let u := cmul (tB x0 x1 ⟨(y 1).val % 128, Nat.mod_lt _ (by norm_num)⟩ l) (cpow (tA x4 x5 l) (7 - (y 1).val / 128))
  if (y 2).val < 512 then u.1 else u.2

def wcB (y : S1x1024x1024.Idx) : EReal :=
  let l : Fin 512 := ⟨(y 1).val % 512, Nat.mod_lt _ (by norm_num)⟩
  let b : Fin 128 := ⟨(y 2).val % 128, Nat.mod_lt _ (by norm_num)⟩
  let u := cmul (tC x2 x3 b l) (cpow (tC x6 x7 b l) ((y 2).val / 128 + 1))
  if (y 1).val < 512 then u.1 else -u.2

theorem wkB_at (y : S1x1024x128.Idx) (t : ℕ) (a b : Fin 128) (h1 : (y 1).val = 128 * t + a.val) (h2 : (y 2).val = b.val) :
    wkB x0 x1 x2 x3 x4 x5 x8 y = kEl (tB x0 x1 a) (tA x4 x5) (tC x2 x3 b) t + skip t a b (x8 (ix3 0 0 b)) := by
  have ht : (y 1).val / 128 = t := by omega
  have ha : (⟨(y 1).val % 128, Nat.mod_lt _ (by norm_num)⟩ : Fin 128) = a := Fin.ext (show (y 1).val % 128 = a.val by omega)
  have hb : y 2 = b := Fin.ext h2
  unfold wkB
  rw [ht, ha, hb]

theorem wbB_at (y : S1x1024x1024.Idx) (t h : ℕ) (ht : t ≤ 7) (hh : h < 2) (a : Fin 128) (l : Fin 512)
    (h1 : (y 1).val = 128 * (7 - t) + a.val) (h2 : (y 2).val = 512 * h + l.val) :
    wbB x0 x1 x4 x5 y = if h = 0 then (cmul (tB x0 x1 a l) (cpow (tA x4 x5 l) t)).1 else (cmul (tB x0 x1 a l) (cpow (tA x4 x5 l) t)).2 := by
  have ht : 7 - (y 1).val / 128 = t := by omega
  have ha : (⟨(y 1).val % 128, Nat.mod_lt _ (by norm_num)⟩ : Fin 128) = a := Fin.ext (show (y 1).val % 128 = a.val by omega)
  have hl : (⟨(y 2).val % 512, Nat.mod_lt _ (by norm_num)⟩ : Fin 512) = l := Fin.ext (show (y 2).val % 512 = l.val by omega)
  have hc : ((y 2).val < 512) = (h = 0) := propext (by omega)
  unfold wbB
  simp only [ht, ha, hl, hc]

theorem wcB_at (y : S1x1024x1024.Idx) (r h : ℕ) (hh : h < 2) (b : Fin 128) (l : Fin 512)
    (h1 : (y 1).val = 512 * h + l.val) (h2 : (y 2).val = 128 * r + b.val) :
    wcB x2 x3 x6 x7 y = if h = 0 then (cmul (tC x2 x3 b l) (cpow (tC x6 x7 b l) (r + 1))).1
      else -(cmul (tC x2 x3 b l) (cpow (tC x6 x7 b l) (r + 1))).2 := by
  have hr : (y 2).val / 128 = r := by omega
  have hb : (⟨(y 2).val % 128, Nat.mod_lt _ (by norm_num)⟩ : Fin 128) = b := Fin.ext (show (y 2).val % 128 = b.val by omega)
  have hl : (⟨(y 1).val % 512, Nat.mod_lt _ (by norm_num)⟩ : Fin 512) = l := Fin.ext (show (y 1).val % 512 = l.val by omega)
  have hc : ((y 1).val < 512) = (h = 0) := propext (by omega)
  unfold wcB
  simp only [hr, hb, hl, hc]

/-! ### The arrays a tile loads, read flat -/

abbrev b0 : FVec Ideal S128x512 .f32 := k0_pay3 (View.ld x0 r0_0)
abbrev b1 : FVec Ideal S128x512 .f32 := k0_pay4 (View.ld x1 r0_0)
abbrev c0 : FVec Ideal S512x128 .f32 := k0_pay5 (View.ld x2 r0_1)
abbrev c1 : FVec Ideal S512x128 .f32 := k0_pay6 (View.ld x3 r0_1)

theorem b_apply (a : Fin 128) (l : Fin 512) : (b0 x0 (ix2 a l), b1 x1 (ix2 a l)) = tB x0 x1 a l := by
  refine Prod.ext ?_ ?_
  · show k0_pay3 (View.ld x0 r0_0) (ix2 a l) = x0 (ix3 0 a l)
    rw [View.ld_unit_zero (S := S1x128x512) hz3]
    pointwise [k0_pay3]
  · show k0_pay4 (View.ld x1 r0_0) (ix2 a l) = x1 (ix3 0 a l)
    rw [View.ld_unit_zero (S := S1x128x512) hz3]
    pointwise [k0_pay4]

theorem c_apply (l : Fin 512) (b : Fin 128) : (c0 x2 (ix2 l b), c1 x3 (ix2 l b)) = tC x2 x3 b l := by
  refine Prod.ext ?_ ?_
  · show k0_pay5 (View.ld x2 r0_1) (ix2 l b) = x2 (ix3 0 l b)
    rw [View.ld_unit_zero (S := S1x512x128) hz3]
    pointwise [k0_pay5]
  · show k0_pay6 (View.ld x3 r0_1) (ix2 l b) = x3 (ix3 0 l b)
    rw [View.ld_unit_zero (S := S1x512x128) hz3]
    pointwise [k0_pay6]

theorem mid_apply (t : ℕ) (a b : Fin 128) (z : Fin 1) :
    k0_pay54 (b0 x0) (b1 x1) (c0 x2) (c1 x3) (rowPow x4 x5 t).1 (rowPow x4 x5 t).2 (ix3 z a b)
      = kEl (tB x0 x1 a) (tA x4 x5) (tC x2 x3 b) t := by
  rw [pay54_apply, kEl]
  simp only [b_apply, rowPow_apply, ← c_apply]

/-! ### The stores, piece by piece -/

/-- A block of `128` rows of the first table. -/
abbrev rowsK (o : ℕ) (ho : ∀ a, (![0, o, 0] : Fin 3 → ℕ) a + S1x128x128.size a ≤ S1x1024x128.size a) : Rect S1x1024x128 :=
  Rect.unit (s := S1x1024x128) ![0, o, 0] S1x128x128.size ho
/-- A block of the second. -/
abbrev rectB (o p : ℕ) (ho : ∀ a, (![0, o, p] : Fin 3 → ℕ) a + S1x128x512.size a ≤ S1x1024x1024.size a) : Rect S1x1024x1024 :=
  Rect.unit (s := S1x1024x1024) ![0, o, p] S1x128x512.size ho
/-- A block of the third. -/
abbrev rectC (o p : ℕ) (ho : ∀ a, (![0, o, p] : Fin 3 → ℕ) a + S1x512x128.size a ≤ S1x1024x1024.size a) : Rect S1x1024x1024 :=
  Rect.unit (s := S1x1024x1024) ![0, o, p] S1x512x128.size ho

theorem at_off (o k n : ℕ) (h : o = n) : o + 1 * k = n + k := by omega

theorem pieceK (t o : ℕ) (ht : t ≠ 0) (h : o = 128 * t) (ho) (x : (rowsK o ho).shape.Idx) :
    k0_pay54 (b0 x0) (b1 x1) (c0 x2) (c1 x3) (rowPow x4 x5 t).1 (rowPow x4 x5 t).2 x
      = wkB x0 x1 x2 x3 x4 x5 x8 ((rowsK o ho).idx x) := by
  have key : ∀ (z : Fin 1) (a b : Fin 128), k0_pay54 (b0 x0) (b1 x1) (c0 x2) (c1 x3) (rowPow x4 x5 t).1 (rowPow x4 x5 t).2 (ix3 z a b)
      = wkB x0 x1 x2 x3 x4 x5 x8 ((rowsK o ho).idx (ix3 z a b)) := by
    intro z a b
    rw [mid_apply, wkB_at x0 x1 x2 x3 x4 x5 x8 _ t a b (at_off o a.val _ h) (by show 0 + 1 * b.val = b.val; omega),
      skip, if_neg ht, add_zero]
  idx_vars x
  exact key _ _ _

theorem pieceK0 (ho) (x : (rowsK 0 ho).shape.Idx) :
    k0_pay48 (b0 x0) (b1 x1) (c0 x2) (c1 x3) (k0_pay11 (F := Ideal)) (rowPow x4 x5 0).1 (rowPow x4 x5 0).2 (View.ld x8 r0_3) x
      = wkB x0 x1 x2 x3 x4 x5 x8 ((rowsK 0 ho).idx x) := by
  have key : ∀ (z : Fin 1) (a b : Fin 128), k0_pay48 (b0 x0) (b1 x1) (c0 x2) (c1 x3) (k0_pay11 (F := Ideal)) (rowPow x4 x5 0).1 (rowPow x4 x5 0).2
      (View.ld x8 r0_3) (ix3 z a b) = wkB x0 x1 x2 x3 x4 x5 x8 ((rowsK 0 ho).idx (ix3 z a b)) := by
    intro z a b
    rw [pay48_apply, mid_apply, wkB_at x0 x1 x2 x3 x4 x5 x8 _ 0 a b (at_off 0 a.val _ rfl) (by show 0 + 1 * b.val = b.val; omega),
      skip, if_pos rfl, View.ld_unit_zero (S := S1x1x128) hz3]
  idx_vars x
  exact key _ _ _

theorem pieceBRe (t o : ℕ) (ht : t ≤ 7) (h : o = 128 * (7 - t)) (ho) (x : (rectB o 0 ho).shape.Idx) :
    k0_pay55 (b0 x0) (b1 x1) (rowPow x4 x5 t).1 (rowPow x4 x5 t).2 x = wbB x0 x1 x4 x5 ((rectB o 0 ho).idx x) := by
  have key : ∀ (z : Fin 1) (a : Fin 128) (l : Fin 512), k0_pay55 (b0 x0) (b1 x1) (rowPow x4 x5 t).1 (rowPow x4 x5 t).2 (ix3 z a l)
      = wbB x0 x1 x4 x5 ((rectB o 0 ho).idx (ix3 z a l)) := by
    intro z a l
    rw [pay55_apply, b_apply, rowPow_apply, wbB_at x0 x1 x4 x5 _ t 0 ht (by omega) a l (at_off o a.val _ h) (at_off 0 l.val _ rfl), if_pos rfl]
  idx_vars x
  exact key _ _ _

theorem pieceBIm (t o : ℕ) (ht : t ≤ 7) (h : o = 128 * (7 - t)) (ho) (x : (rectB o 512 ho).shape.Idx) :
    k0_pay56 (b0 x0) (b1 x1) (rowPow x4 x5 t).1 (rowPow x4 x5 t).2 x = wbB x0 x1 x4 x5 ((rectB o 512 ho).idx x) := by
  have key : ∀ (z : Fin 1) (a : Fin 128) (l : Fin 512), k0_pay56 (b0 x0) (b1 x1) (rowPow x4 x5 t).1 (rowPow x4 x5 t).2 (ix3 z a l)
      = wbB x0 x1 x4 x5 ((rectB o 512 ho).idx (ix3 z a l)) := by
    intro z a l
    rw [pay56_apply, b_apply, rowPow_apply, wbB_at x0 x1 x4 x5 _ t 1 ht (by omega) a l (at_off o a.val _ h) (at_off 512 l.val _ rfl),
      if_neg one_ne_zero]
  idx_vars x
  exact key _ _ _

theorem pieceCRe (r p : ℕ) (h : p = 128 * r) (ho) (x : (rectC 0 p ho).shape.Idx) :
    k0_pay91 (c0 x2) (c1 x3) (colPow x6 x7 r).1 (colPow x6 x7 r).2 x = wcB x2 x3 x6 x7 ((rectC 0 p ho).idx x) := by
  have key : ∀ (z : Fin 1) (l : Fin 512) (b : Fin 128), k0_pay91 (c0 x2) (c1 x3) (colPow x6 x7 r).1 (colPow x6 x7 r).2 (ix3 z l b)
      = wcB x2 x3 x6 x7 ((rectC 0 p ho).idx (ix3 z l b)) := by
    intro z l b
    rw [pay91_apply, c_apply, colPow_apply, wcB_at x2 x3 x6 x7 _ r 0 (by omega) b l (at_off 0 l.val _ rfl) (at_off p b.val _ h), if_pos rfl]
  idx_vars x
  exact key _ _ _

theorem pieceCIm (r p : ℕ) (h : p = 128 * r) (ho) (x : (rectC 512 p ho).shape.Idx) :
    k0_pay95 (c0 x2) (c1 x3) (colPow x6 x7 r).1 (colPow x6 x7 r).2 x = wcB x2 x3 x6 x7 ((rectC 512 p ho).idx x) := by
  have key : ∀ (z : Fin 1) (l : Fin 512) (b : Fin 128), k0_pay95 (c0 x2) (c1 x3) (colPow x6 x7 r).1 (colPow x6 x7 r).2 (ix3 z l b)
      = wcB x2 x3 x6 x7 ((rectC 512 p ho).idx (ix3 z l b)) := by
    intro z l b
    rw [pay95_apply, c_apply, colPow_apply, wcB_at x2 x3 x6 x7 _ r 1 (by omega) b l (at_off 512 l.val _ rfl) (at_off p b.val _ h),
      if_neg one_ne_zero]
  idx_vars x
  exact key _ _ _

/-! ### The five output blocks -/

theorem out9_apply (y : S1x1024x128.Idx) : out0_9 x0 x1 x2 x3 x4 x5 x6 x7 x8 y = wkB x0 x1 x2 x3 x4 x5 x8 y := by
  unfold out0_9
  refine View.canon_apply_of_pieces _ _ ?_ y (cover0_9 _ _ _ _ _ _ _ _ y)
  intro pc hpc
  simp only [List.mem_cons, List.not_mem_nil, or_false] at hpc
  rcases hpc with rfl | rfl | rfl | rfl | rfl | rfl | rfl | rfl
  · exact pieceK x0 x1 x2 x3 x4 x5 x8 7 896 (by omega) rfl inb_S1x1024x128_S1x128x128_0_896_0
  · exact pieceK x0 x1 x2 x3 x4 x5 x8 6 768 (by omega) rfl inb_S1x1024x128_S1x128x128_0_768_0
  · exact pieceK x0 x1 x2 x3 x4 x5 x8 5 640 (by omega) rfl inb_S1x1024x128_S1x128x128_0_640_0
  · exact pieceK x0 x1 x2 x3 x4 x5 x8 4 512 (by omega) rfl inb_S1x1024x128_S1x128x128_0_512_0
  · exact pieceK x0 x1 x2 x3 x4 x5 x8 3 384 (by omega) rfl inb_S1x1024x128_S1x128x128_0_384_0
  · exact pieceK x0 x1 x2 x3 x4 x5 x8 2 256 (by omega) rfl inb_S1x1024x128_S1x128x128_0_256_0
  · exact pieceK x0 x1 x2 x3 x4 x5 x8 1 128 (by omega) rfl inb_S1x1024x128_S1x128x128_0_128_0
  · exact pieceK0 x0 x1 x2 x3 x4 x5 x8 inb_S1x1024x128_S1x128x128_0_0_0

theorem out10_apply (y : S1x1024x1024.Idx) : out0_10 x0 x1 x2 x3 x4 x5 x6 x7 x8 y = wbB x0 x1 x4 x5 y := by
  unfold out0_10
  refine View.canon_apply_of_pieces _ _ ?_ y (cover0_10 _ _ _ _ _ _ _ _ _ _ _ _ _ _ _ _ y)
  intro pc hpc
  simp only [List.mem_cons, List.not_mem_nil, or_false] at hpc
  rcases hpc with rfl | rfl | rfl | rfl | rfl | rfl | rfl | rfl | rfl | rfl | rfl | rfl | rfl | rfl | rfl | rfl
  · exact pieceBIm x0 x1 x4 x5 7 0 (by omega) rfl inb_S1x1024x1024_S1x128x512_0_0_512
  · exact pieceBRe x0 x1 x4 x5 7 0 (by omega) rfl inb_S1x1024x1024_S1x128x512_0_0_0
  · exact pieceBIm x0 x1 x4 x5 6 128 (by omega) rfl inb_S1x1024x1024_S1x128x512_0_128_512
  · exact pieceBRe x0 x1 x4 x5 6 128 (by omega) rfl inb_S1x1024x1024_S1x128x512_0_128_0
  · exact pieceBIm x0 x1 x4 x5 5 256 (by omega) rfl inb_S1x1024x1024_S1x128x512_0_256_512
  · exact pieceBRe x0 x1 x4 x5 5 256 (by omega) rfl inb_S1x1024x1024_S1x128x512_0_256_0
  · exact pieceBIm x0 x1 x4 x5 4 384 (by omega) rfl inb_S1x1024x1024_S1x128x512_0_384_512
  · exact pieceBRe x0 x1 x4 x5 4 384 (by omega) rfl inb_S1x1024x1024_S1x128x512_0_384_0
  · exact pieceBIm x0 x1 x4 x5 3 512 (by omega) rfl inb_S1x1024x1024_S1x128x512_0_512_512
  · exact pieceBRe x0 x1 x4 x5 3 512 (by omega) rfl inb_S1x1024x1024_S1x128x512_0_512_0
  · exact pieceBIm x0 x1 x4 x5 2 640 (by omega) rfl inb_S1x1024x1024_S1x128x512_0_640_512
  · exact pieceBRe x0 x1 x4 x5 2 640 (by omega) rfl inb_S1x1024x1024_S1x128x512_0_640_0
  · exact pieceBIm x0 x1 x4 x5 1 768 (by omega) rfl inb_S1x1024x1024_S1x128x512_0_768_512
  · exact pieceBRe x0 x1 x4 x5 1 768 (by omega) rfl inb_S1x1024x1024_S1x128x512_0_768_0
  · exact pieceBIm x0 x1 x4 x5 0 896 (by omega) rfl inb_S1x1024x1024_S1x128x512_0_896_512
  · exact pieceBRe x0 x1 x4 x5 0 896 (by omega) rfl inb_S1x1024x1024_S1x128x512_0_896_0

theorem out11_apply (y : S1x1024x1024.Idx) : out0_11 x0 x1 x2 x3 x4 x5 x6 x7 x8 y = wcB x2 x3 x6 x7 y := by
  unfold out0_11
  refine View.canon_apply_of_pieces _ _ ?_ y (cover0_11 _ _ _ _ _ _ _ _ _ _ _ _ _ _ _ _ y)
  intro pc hpc
  simp only [List.mem_cons, List.not_mem_nil, or_false] at hpc
  rcases hpc with rfl | rfl | rfl | rfl | rfl | rfl | rfl | rfl | rfl | rfl | rfl | rfl | rfl | rfl | rfl | rfl
  · exact pieceCIm x2 x3 x6 x7 7 896 rfl inb_S1x1024x1024_S1x512x128_0_512_896
  · exact pieceCRe x2 x3 x6 x7 7 896 rfl inb_S1x1024x1024_S1x512x128_0_0_896
  · exact pieceCIm x2 x3 x6 x7 6 768 rfl inb_S1x1024x1024_S1x512x128_0_512_768
  · exact pieceCRe x2 x3 x6 x7 6 768 rfl inb_S1x1024x1024_S1x512x128_0_0_768
  · exact pieceCIm x2 x3 x6 x7 5 640 rfl inb_S1x1024x1024_S1x512x128_0_512_640
  · exact pieceCRe x2 x3 x6 x7 5 640 rfl inb_S1x1024x1024_S1x512x128_0_0_640
  · exact pieceCIm x2 x3 x6 x7 4 512 rfl inb_S1x1024x1024_S1x512x128_0_512_512
  · exact pieceCRe x2 x3 x6 x7 4 512 rfl inb_S1x1024x1024_S1x512x128_0_0_512
  · exact pieceCIm x2 x3 x6 x7 3 384 rfl inb_S1x1024x1024_S1x512x128_0_512_384
  · exact pieceCRe x2 x3 x6 x7 3 384 rfl inb_S1x1024x1024_S1x512x128_0_0_384
  · exact pieceCIm x2 x3 x6 x7 2 256 rfl inb_S1x1024x1024_S1x512x128_0_512_256
  · exact pieceCRe x2 x3 x6 x7 2 256 rfl inb_S1x1024x1024_S1x512x128_0_0_256
  · exact pieceCIm x2 x3 x6 x7 1 128 rfl inb_S1x1024x1024_S1x512x128_0_512_128
  · exact pieceCRe x2 x3 x6 x7 1 128 rfl inb_S1x1024x1024_S1x512x128_0_0_128
  · exact pieceCIm x2 x3 x6 x7 0 0 rfl inb_S1x1024x1024_S1x512x128_0_512_0
  · exact pieceCRe x2 x3 x6 x7 0 0 rfl inb_S1x1024x1024_S1x512x128_0_0_0

theorem out12_apply (z w : Fin 1) (l : Fin 512) : out0_12 x0 x1 x2 x3 x4 x5 x6 x7 x8 (ix3 z w l) = (cpow (tA x4 x5 l) 8).1 := by
  rw [Subsingleton.elim z 0, Subsingleton.elim w 0, ← rowPow_apply]
  unfold out0_12
  rw [View.canon_unit_zero hz3]
  show k0_pay1 (F := Ideal) (rowPow x4 x5 8).1 (ix3 0 0 l) = (rowPow x4 x5 8).1 (ix2 0 l)
  generalize (rowPow x4 x5 8).1 = v
  pointwise [k0_pay1]

theorem out13_apply (z w : Fin 1) (l : Fin 512) : out0_13 x0 x1 x2 x3 x4 x5 x6 x7 x8 (ix3 z w l) = (cpow (tA x4 x5 l) 8).2 := by
  rw [Subsingleton.elim z 0, Subsingleton.elim w 0, ← rowPow_apply]
  unfold out0_13
  rw [View.canon_unit_zero hz3]
  show k0_pay2 (F := Ideal) (rowPow x4 x5 8).2 (ix3 0 0 l) = (rowPow x4 x5 8).2 (ix2 0 l)
  generalize (rowPow x4 x5 8).2 = v
  pointwise [k0_pay2]

end Tile

end Cert.Proof.Tables

end
-- ==== Proof.TablesRef.lean ====
/-
  The reference's tables at an index: the powers of the transition side by side, the products with the input and output
  columns, and the three reshapes.
-/
module

public import proofs.«01_k».proof.Proof.Tables
public import proofs.«01_k».proof.Proof.Gen.Reference11Ideal.Run
public import proofs.«01_k».proof.Proof.Gen.Reference11Ideal.Read
public import Idealize.ShloMosaic.Lib.Pipeline.ValueKit.Tiles

@[expose] public section

set_option maxRecDepth 16384

noncomputable section

open Idealize.ShloMosaic Idealize.ShloMosaic.TcCoe Idealize.SL.Sem

namespace Cert.Proof.TablesRef

open Cert.Proof.Shared Cert.Proof.Tables Cert.Reference11Ideal Cert.Reference11Ideal.Gen Cert.Reference11Ideal.Read

variable (x0 x1 : Vec Ideal S8x128x512 .f32) (x2 x3 : Vec Ideal S8x512x128 .f32) (x4 x5 : Vec Ideal S8x1x512 .f32)
  (x6 : Vec Ideal S8x1x128 .f32) (j : Fin 8) (a b : Fin 128) (l : Fin 512)

def rB : EReal × EReal := (x0 (ix3 j a l), x1 (ix3 j a l))
def rC : EReal × EReal := (x2 (ix3 j l b), x3 (ix3 j l b))
def rA : EReal × EReal := (x4 (ix3 j 0 l), x5 (ix3 j 0 l))

/-- The powers of the transition. -/
abbrev pows : ℕ → FVec Ideal S8x1x512 .f32 × FVec Ideal S8x1x512 .f32 :=
  iter (x4, x5) (val_main_v0 (F := Ideal), val_main_v1 (F := Ideal))

theorem pows_apply (n : ℕ) : ((pows x4 x5 n).1 (ix3 j 0 l), (pows x4 x5 n).2 (ix3 j 0 l)) = cpow (rA x4 x5 j l) n := by
  have e := iter_apply (x4, x5) (val_main_v0 (F := Ideal), val_main_v1 (F := Ideal)) (ix3 j 0 l) 0
    (by
      show (val_main_v0 (F := Ideal) (ix3 j 0 l), val_main_v1 (F := Ideal) (ix3 j 0 l)) = (1, 0)
      refine Prod.ext ?_ ?_
      · pointwise [val_main_v0, val_main_cst]
      · pointwise [val_main_v1, val_main_cst_0]) n
  rw [Nat.zero_add] at e
  exact e

theorem v50_apply (t : Fin 9) : val_main_v50 (F := Ideal) x4 x5 (ix3 j t l) = (pows x4 x5 t.val).1 (ix3 j 0 l) := by
  show concatenate S8x9x512 1 (List.ofFn fun n : Fin 9 => (⟨S8x1x512, (pows x4 x5 n.val).1⟩ : (s : Shape) × (s.Idx → EReal))) _ (ix3 j t l) = _
  refine concatenate_ofFn_unit_eq 1 _ _ _ _ rfl rfl (fun n i hn h0 hi => ?_)
  have hn' : n = t := (Fin.ext hn).symm
  subst hn'
  exact congrArg _ (named3 i j 0 l (hi 0 (by decide)) h0 (hi 2 (by decide)))

theorem v51_apply (t : Fin 9) : val_main_v51 (F := Ideal) x4 x5 (ix3 j t l) = (pows x4 x5 t.val).2 (ix3 j 0 l) := by
  show concatenate S8x9x512 1 (List.ofFn fun n : Fin 9 => (⟨S8x1x512, (pows x4 x5 n.val).2⟩ : (s : Shape) × (s.Idx → EReal))) _ (ix3 j t l) = _
  refine concatenate_ofFn_unit_eq 1 _ _ _ _ rfl rfl (fun n i hn h0 hi => ?_)
  have hn' : n = t := (Fin.ext hn).symm
  subst hn'
  exact congrArg _ (named3 i j 0 l (hi 0 (by decide)) h0 (hi 2 (by decide)))

/-- The two parts of a power, where the tables read them. -/
theorem p50 (t : Fin 9) : val_main_v50 (F := Ideal) x4 x5 (ix3 j t l) = (cpow (rA x4 x5 j l) t.val).1 := by
  rw [v50_apply, ← pows_apply]

theorem p51 (t : Fin 9) : val_main_v51 (F := Ideal) x4 x5 (ix3 j t l) = (cpow (rA x4 x5 j l) t.val).2 := by
  rw [v51_apply, ← pows_apply]

/-- And one place further, as the rows of the third table read them. -/
theorem q50 (r : Fin 8) : val_main_v50 (F := Ideal) x4 x5 (ix3 j ⟨1 + r.val, by omega⟩ l) = (cpow (rA x4 x5 j l) (r.val + 1)).1 := by
  rw [p50]
  show (cpow _ (1 + r.val)).1 = _
  rw [Nat.add_comm]

theorem q51 (r : Fin 8) : val_main_v51 (F := Ideal) x4 x5 (ix3 j ⟨1 + r.val, by omega⟩ l) = (cpow (rA x4 x5 j l) (r.val + 1)).2 := by
  rw [p51]
  show (cpow _ (1 + r.val)).2 = _
  rw [Nat.add_comm]

theorem v64_apply (t : Fin 8) : val_main_v64 (F := Ideal) x0 x1 x4 x5 (ix4 j t a l) = (cmul (rB x0 x1 j a l) (cpow (rA x4 x5 j l) t.val)).1 := by
  have e0 := p50 x4 x5 j l t.castSucc
  have e1 := p51 x4 x5 j l t.castSucc
  unfold cmul
  rw [Fin.val_castSucc] at e0 e1
  rw [← e0, ← e1, rB]
  pointwise [val_main_v64, val_main_v63, val_main_v62, val_main_v61, val_main_v60, val_main_v59, val_main_v58, val_main_v57, val_main_v56,
    val_main_v55, val_main_v54, val_main_v53, val_main_v52]
  rfl

theorem v73_apply (t : Fin 8) : val_main_v73 (F := Ideal) x0 x1 x4 x5 (ix4 j t a l) = (cmul (rB x0 x1 j a l) (cpow (rA x4 x5 j l) t.val)).2 := by
  have e0 := p50 x4 x5 j l t.castSucc
  have e1 := p51 x4 x5 j l t.castSucc
  unfold cmul
  rw [Fin.val_castSucc] at e0 e1
  rw [← e0, ← e1, rB]
  pointwise [val_main_v73, val_main_v72, val_main_v71, val_main_v70, val_main_v69, val_main_v68, val_main_v67, val_main_v66, val_main_v65,
    val_main_v55, val_main_v54, val_main_v53, val_main_v52]
  rfl

theorem v108_apply (r : Fin 8) : val_main_v108 (F := Ideal) x2 x3 x4 x5 (ix4 j l r b) = (cmul (rC x2 x3 j b l) (cpow (rA x4 x5 j l) (r.val + 1))).1 := by
  unfold cmul
  rw [← q50, ← q51, rC]
  pointwise [val_main_v108, val_main_v107, val_main_v106, val_main_v105, val_main_v104, val_main_v103, val_main_v102, val_main_v101, val_main_v100,
    val_main_v99, val_main_v98, val_main_v97, val_main_v96, val_main_v95, val_main_v94]

theorem v117_apply (r : Fin 8) : val_main_v117 (F := Ideal) x2 x3 x4 x5 (ix4 j l r b) = (cmul (rC x2 x3 j b l) (cpow (rA x4 x5 j l) (r.val + 1))).2 := by
  unfold cmul
  rw [← q50, ← q51, rC]
  pointwise [val_main_v117, val_main_v116, val_main_v115, val_main_v114, val_main_v113, val_main_v112, val_main_v111, val_main_v110, val_main_v109,
    val_main_v99, val_main_v98, val_main_v97, val_main_v96, val_main_v95, val_main_v94]

theorem v76_apply (t : Fin 8) : val_main_v76 (F := Ideal) x0 x1 x2 x3 x4 x5 (ix4 j t a b)
    = kEl (fun l => rB x0 x1 j a l) (fun l => rA x4 x5 j l) (fun l => rC x2 x3 j b l) t.val := by
  have el : ∀ k, lidx_main_v74 (ix4 j t a b) k = ix4 j t a k := fun k => funext fun x =>
    match x with | ⟨0, _⟩ => rfl | ⟨1, _⟩ => rfl | ⟨2, _⟩ => rfl | ⟨3, _⟩ => rfl
  have er : ∀ k, ridx_main_v74 (ix4 j t a b) k = ix3 j k b := fun k => funext fun x =>
    match x with | ⟨0, _⟩ => rfl | ⟨1, _⟩ => rfl | ⟨2, _⟩ => rfl
  have el' : ∀ k, lidx_main_v75 (ix4 j t a b) k = ix4 j t a k := el
  have er' : ∀ k, ridx_main_v75 (ix4 j t a b) k = ix3 j k b := er
  rw [val_main_v76_apply, val_main_v74_apply, val_main_v75_apply, kEl]
  simp only [← v64_apply, ← v73_apply, el, er, el', er']
  rfl

/-- Whether a block is the first, as a bit. -/
theorem eq_zero_bit (t : Fin 8) : IntOp.cmpi CmpIPredicate.eq (BitVec.ofNat 32 t.val) 0#32 = if t.val = 0 then 1#1 else 0#1 := by
  revert t
  decide

theorem v92_apply (t : Fin 8) : val_main_v92 (F := Ideal) x6 (ix4 j t a b) = skip t.val a b (x6 (ix3 j 0 b)) := by
  unfold skip
  pointwise [val_main_v92, val_main_call0_v3, val_main_call0_v2, val_main_call0_v1, val_main_call0_v0, val_main_cst_2, val_main_v91, val_main_c_1,
    val_main_v90, val_main_v89, val_main_v88, val_main_v87, val_main_v86, val_main_v85, val_main_v84, val_main_v83, val_main_v82, val_main_v81,
    val_main_v80, val_main_v79, val_main_c, val_main_v78, val_main_v77]
  have e0 : IntOp.addi (BitVec.ofNat 32 a.val) 0#32 = BitVec.ofNat 32 a.val := BitVec.add_zero _
  have ez : (id (constant (F := Ideal) S_ FTy.f32 0#32) ix0 : EReal) = 0 := by
    show constant (F := Ideal) S_ FTy.f32 0#32 ix0 = (0 : EReal)
    pointwise []
  rw [e0, eq_bit, eq_zero_bit, ez]
  by_cases ht : t.val = 0
  · rw [if_pos ht, if_pos ht]
    show FloatOps.uitofp (F := Ideal) FTy.f32 (if a = b then 1#1 else 0#1) * x6 (ix3 j 0 b) = _
    congr 1
    split
    · show (((1#1).toNat : ℝ) : EReal) = 1
      simp
    · show (((0#1).toNat : ℝ) : EReal) = 0
      simp
  · rw [if_neg ht, if_neg ht]
    rfl

/-- The first result: block `t` of a tile's rows is the product at power `t`. -/
theorem ref119 (i : S8x1024x128.Idx) (t : Fin 8) (h0 : (i 0).val = j.val) (h1 : (i 1).val = 128 * t.val + a.val) (h2 : (i 2).val = b.val) :
    val_main_v119 (F := Ideal) x0 x1 x2 x3 x4 x5 x6 i
      = kEl (fun l => rB x0 x1 j a l) (fun l => rA x4 x5 j l) (fun l => rC x2 x3 j b l) t.val + skip t.val a b (x6 (ix3 j 0 b)) := by
  have e : idx_main_v118 i = ix4 j t a b := by
    funext x
    apply Fin.ext
    match x with
    | ⟨0, _⟩ => show (((i 0).val * 1024 + (i 1).val) * 128 + (i 2).val) / 131072 = j.val; omega
    | ⟨1, _⟩ => show (((i 0).val * 1024 + (i 1).val) * 128 + (i 2).val) / 16384 % 8 = t.val; omega
    | ⟨2, _⟩ => show (((i 0).val * 1024 + (i 1).val) * 128 + (i 2).val) / 128 % 128 = a.val; omega
    | ⟨3, _⟩ => show (((i 0).val * 1024 + (i 1).val) * 128 + (i 2).val) % 128 = b.val; omega
  rw [val_main_v119_apply, val_main_v118_apply, e, val_main_v93_apply, v76_apply, v92_apply]
  rfl

/-- The second: the blocks stand in reverse, the real parts left of the imaginary. -/
theorem ref123 (i : S8x1024x1024.Idx) (t : Fin 8) (h : ℕ) (hh : h < 2) (h0 : (i 0).val = j.val) (h1 : (i 1).val = 128 * (7 - t.val) + a.val)
    (h2 : (i 2).val = 512 * h + l.val) :
    val_main_v123 (F := Ideal) x0 x1 x4 x5 i = if h = 0 then (cmul (rB x0 x1 j a l) (cpow (rA x4 x5 j l) t.val)).1
      else (cmul (rB x0 x1 j a l) (cpow (rA x4 x5 j l) t.val)).2 := by
  have ht := t.isLt
  have e : idx_main_v122 i = ix4 j ⟨7 - t.val, by omega⟩ a ⟨512 * h + l.val, by omega⟩ := by
    funext x
    apply Fin.ext
    match x with
    | ⟨0, _⟩ => show (((i 0).val * 1024 + (i 1).val) * 1024 + (i 2).val) / 1048576 = j.val; omega
    | ⟨1, _⟩ => show (((i 0).val * 1024 + (i 1).val) * 1024 + (i 2).val) / 131072 % 8 = 7 - t.val; omega
    | ⟨2, _⟩ => show (((i 0).val * 1024 + (i 1).val) * 1024 + (i 2).val) / 1024 % 128 = a.val; omega
    | ⟨3, _⟩ => show (((i 0).val * 1024 + (i 1).val) * 1024 + (i 2).val) % 1024 = 512 * h + l.val; omega
  have er : ∀ c : Fin 1024, val_main_v121 (F := Ideal) x0 x1 x4 x5 (ix4 j ⟨7 - t.val, by omega⟩ a c) = val_main_v120 (F := Ideal) x0 x1 x4 x5 (ix4 j t a c) := by
    intro c
    unfold val_main_v121 Host.reverse
    refine congrArg (val_main_v120 (F := Ideal) x0 x1 x4 x5) (funext fun x => ?_)
    match x with
    | ⟨0, _⟩ => rfl
    | ⟨1, _⟩ => exact Fin.ext (show 8 - (7 - t.val + 1) = t.val by omega)
    | ⟨2, _⟩ => rfl
    | ⟨3, _⟩ => rfl
  rw [val_main_v123_apply, val_main_v122_apply, e, er]
  show val_main_v120 (F := Ideal) x0 x1 x4 x5 (ix4 j t a ⟨512 * h + l.val, _⟩) = _
  obtain rfl | rfl : h = 0 ∨ h = 1 := by omega
  · rw [if_pos rfl, ← v64_apply]
    pointwise [val_main_v120]
  · rw [if_neg one_ne_zero, ← v73_apply]
    pointwise [val_main_v120]

/-- The third: the real parts above the imaginary, whose sign is turned. -/
theorem ref127 (i : S8x1024x1024.Idx) (r : Fin 8) (h : ℕ) (hh : h < 2) (h0 : (i 0).val = j.val) (h1 : (i 1).val = 512 * h + l.val)
    (h2 : (i 2).val = 128 * r.val + b.val) :
    val_main_v127 (F := Ideal) x2 x3 x4 x5 i = if h = 0 then (cmul (rC x2 x3 j b l) (cpow (rA x4 x5 j l) (r.val + 1))).1
      else -(cmul (rC x2 x3 j b l) (cpow (rA x4 x5 j l) (r.val + 1))).2 := by
  have e : idx_main_v126 i = ix4 j ⟨512 * h + l.val, by omega⟩ r b := by
    funext x
    apply Fin.ext
    match x with
    | ⟨0, _⟩ => show (((i 0).val * 1024 + (i 1).val) * 1024 + (i 2).val) / 1048576 = j.val; omega
    | ⟨1, _⟩ => show (((i 0).val * 1024 + (i 1).val) * 1024 + (i 2).val) / 1024 % 1024 = 512 * h + l.val; omega
    | ⟨2, _⟩ => show (((i 0).val * 1024 + (i 1).val) * 1024 + (i 2).val) / 128 % 8 = r.val; omega
    | ⟨3, _⟩ => show (((i 0).val * 1024 + (i 1).val) * 1024 + (i 2).val) % 128 = b.val; omega
  rw [val_main_v127_apply, val_main_v126_apply, e]
  show val_main_v125 (F := Ideal) x2 x3 x4 x5 (ix4 j ⟨512 * h + l.val, _⟩ r b) = _
  obtain rfl | rfl : h = 0 ∨ h = 1 := by omega
  · rw [if_pos rfl, ← v108_apply]
    pointwise [val_main_v125]
  · rw [if_neg one_ne_zero, ← v117_apply]
    pointwise [val_main_v125, val_main_v124]

/-- The eighth power. -/
theorem ref46 (z : Fin 1) : val_main_v46 (F := Ideal) x4 x5 (ix3 j z l) = (cpow (rA x4 x5 j l) 8).1 := by
  rw [Subsingleton.elim z 0, ← pows_apply]
  rfl

theorem ref49 (z : Fin 1) : val_main_v49 (F := Ideal) x4 x5 (ix3 j z l) = (cpow (rA x4 x5 j l) 8).2 := by
  rw [Subsingleton.elim z 0, ← pows_apply]
  rfl

end Cert.Proof.TablesRef

end
-- ==== Proof.TablesEnd.lean ====
/-
  The tables' run: eight points, one tile each, every window's block following the tile. What the points write back are
  the reference's five arrays.
-/
module

public import proofs.«01_k».proof.Proof.TablesRef

@[expose] public section

set_option maxRecDepth 16384

noncomputable section

open Idealize.ShloMosaic Idealize.ShloMosaic.TcCoe Idealize.SL.Sem
open Idealize.ShloMosaic.Pipeline (Dat)

namespace Cert.Proof.TablesEnd

open Cert.Kernel11Ideal Cert.Kernel11Ideal.Gen Cert.Proof.Shared Cert.Proof.Tables Cert.Proof.TablesRef

variable (m : (ℓ : Loc nD τ sig) → Buf (Elt Ideal) ℓ) (ρ : Dev nD → PrngReg)

section Reference
open Cert.Reference11Ideal.Read

/-- What the five result arrays end holding. -/
abbrev G9 (c : Dev nD) : Buf (Elt Ideal) ((c : Thread nD τ).loc main_v4_0) :=
  val_main_v119 (F := Ideal) (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5)) (m ((c : Thread nD τ).loc main_arg6))
abbrev G10 (c : Dev nD) : Buf (Elt Ideal) ((c : Thread nD τ).loc main_v4_1) :=
  val_main_v123 (F := Ideal) (m ((c : Thread nD τ).loc main_arg0)) (m ((c : Thread nD τ).loc main_arg1)) (m ((c : Thread nD τ).loc main_arg4))
    (m ((c : Thread nD τ).loc main_arg5))
abbrev G11 (c : Dev nD) : Buf (Elt Ideal) ((c : Thread nD τ).loc main_v4_2) :=
  val_main_v127 (F := Ideal) (m ((c : Thread nD τ).loc main_arg2)) (m ((c : Thread nD τ).loc main_arg3)) (m ((c : Thread nD τ).loc main_arg4))
    (m ((c : Thread nD τ).loc main_arg5))
abbrev G12 (c : Dev nD) : Buf (Elt Ideal) ((c : Thread nD τ).loc main_v4_3) :=
  val_main_v46 (F := Ideal) (m ((c : Thread nD τ).loc main_arg4)) (m ((c : Thread nD τ).loc main_arg5))
abbrev G13 (c : Dev nD) : Buf (Elt Ideal) ((c : Thread nD τ).loc main_v4_4) :=
  val_main_v49 (F := Ideal) (m ((c : Thread nD τ).loc main_arg4)) (m ((c : Thread nD τ).loc main_arg5))

end Reference

/-! ## Where a point's blocks lie -/

/-- A window's block is the point's tile, whole. -/
abbrev tiles (f : Fin 3 → ℕ) (t : ℕ) : Prop := f 0 = t ∧ f 1 = 0 ∧ f 2 = 0

theorem in_facts : ∀ t : Fin cfg0.N, tiles (win0_0.index t) t.val ∧ tiles (win0_1.index t) t.val ∧ tiles (win0_2.index t) t.val
    ∧ tiles (win0_3.index t) t.val ∧ tiles (win0_4.index t) t.val ∧ tiles (win0_5.index t) t.val ∧ tiles (win0_6.index t) t.val
    ∧ tiles (win0_7.index t) t.val ∧ tiles (win0_8.index t) t.val :=
  (by decide +kernel : ∀ t : Fin grid0.N, _)

theorem out_facts : ∀ t : Fin cfg0.N, tiles (win0_9.index t) t.val ∧ tiles (win0_10.index t) t.val ∧ tiles (win0_11.index t) t.val
    ∧ tiles (win0_12.index t) t.val ∧ tiles (win0_13.index t) t.val :=
  (by decide +kernel : ∀ t : Fin grid0.N, _)

/-- The tile of a point. -/
def tile (t : Fin cfg0.N) : Fin 8 := ⟨t.val, lt_of_lt_of_eq t.isLt N_0⟩

theorem at_tile {i : ℕ} (t : Fin cfg0.N) (z : Fin 1) (h : i = t.val) : i * 1 + 1 * z.val = (tile t).val := by
  rw [h]; show t.val * 1 + 1 * z.val = t.val; omega

section Blocks

variable (c : Dev nD) (t : Fin cfg0.N) (a b : Fin 128) (l : Fin 512)

theorem blk0 : iblk m c 0 t (ix3 0 a l) = m ((c : Thread nD τ).loc main_arg0) (ix3 (tile t) a l) := by
  unfold iblk
  rw [View.read_apply]
  obtain ⟨h0, h1, h2⟩ := (in_facts t).1
  exact (congrFun (V_main_arg0 m c) _).trans (congrArg _ (named3 _ _ _ _ (at_tile t 0 h0) (at_zero a.val h1) (at_zero l.val h2)))

theorem blk1 : iblk m c 1 t (ix3 0 a l) = m ((c : Thread nD τ).loc main_arg1) (ix3 (tile t) a l) := by
  unfold iblk
  rw [View.read_apply]
  obtain ⟨h0, h1, h2⟩ := (in_facts t).2.1
  exact (congrFun (V_main_arg1 m c) _).trans (congrArg _ (named3 _ _ _ _ (at_tile t 0 h0) (at_zero a.val h1) (at_zero l.val h2)))

theorem blk2 : iblk m c 2 t (ix3 0 l b) = m ((c : Thread nD τ).loc main_arg2) (ix3 (tile t) l b) := by
  unfold iblk
  rw [View.read_apply]
  obtain ⟨h0, h1, h2⟩ := (in_facts t).2.2.1
  exact (congrFun (V_main_arg2 m c) _).trans (congrArg _ (named3 _ _ _ _ (at_tile t 0 h0) (at_zero l.val h1) (at_zero b.val h2)))

theorem blk3 : iblk m c 3 t (ix3 0 l b) = m ((c : Thread nD τ).loc main_arg3) (ix3 (tile t) l b) := by
  unfold iblk
  rw [View.read_apply]
  obtain ⟨h0, h1, h2⟩ := (in_facts t).2.2.2.1
  exact (congrFun (V_main_arg3 m c) _).trans (congrArg _ (named3 _ _ _ _ (at_tile t 0 h0) (at_zero l.val h1) (at_zero b.val h2)))

theorem blk4 : iblk m c 4 t (ix3 0 0 l) = m ((c : Thread nD τ).loc main_arg4) (ix3 (tile t) 0 l) := by
  unfold iblk
  rw [View.read_apply]
  obtain ⟨h0, h1, h2⟩ := (in_facts t).2.2.2.2.1
  exact (congrFun (V_main_arg4 m c) _).trans (congrArg _ (named3 _ _ _ _ (at_tile t 0 h0) (at_zero 0 h1) (at_zero l.val h2)))

theorem blk5 : iblk m c 5 t (ix3 0 0 l) = m ((c : Thread nD τ).loc main_arg5) (ix3 (tile t) 0 l) := by
  unfold iblk
  rw [View.read_apply]
  obtain ⟨h0, h1, h2⟩ := (in_facts t).2.2.2.2.2.1
  exact (congrFun (V_main_arg5 m c) _).trans (congrArg _ (named3 _ _ _ _ (at_tile t 0 h0) (at_zero 0 h1) (at_zero l.val h2)))

/-- The transition, spread down the rows before the call. -/
theorem V1 (j : Fin 8) : V m c main_v1 (ix3 j l b) = m ((c : Thread nD τ).loc main_arg4) (ix3 j 0 l) := by
  unfold V
  after_reads_at

theorem V3 (j : Fin 8) : V m c main_v3 (ix3 j l b) = m ((c : Thread nD τ).loc main_arg5) (ix3 j 0 l) := by
  unfold V
  after_reads_at

theorem blk6 : iblk m c 6 t (ix3 0 l b) = m ((c : Thread nD τ).loc main_arg4) (ix3 (tile t) 0 l) := by
  unfold iblk
  rw [View.read_apply]
  obtain ⟨h0, h1, h2⟩ := (in_facts t).2.2.2.2.2.2.1
  exact Eq.trans (congrArg (V m c main_v1) (named3 _ _ _ _ (at_tile t 0 h0) (at_zero l.val h1) (at_zero b.val h2))) (V1 m c b l (tile t))

theorem blk7 : iblk m c 7 t (ix3 0 l b) = m ((c : Thread nD τ).loc main_arg5) (ix3 (tile t) 0 l) := by
  unfold iblk
  rw [View.read_apply]
  obtain ⟨h0, h1, h2⟩ := (in_facts t).2.2.2.2.2.2.2.1
  exact Eq.trans (congrArg (V m c main_v3) (named3 _ _ _ _ (at_tile t 0 h0) (at_zero l.val h1) (at_zero b.val h2))) (V3 m c b l (tile t))

theorem blk8 : iblk m c 8 t (ix3 0 0 b) = m ((c : Thread nD τ).loc main_arg6) (ix3 (tile t) 0 b) := by
  unfold iblk
  rw [View.read_apply]
  obtain ⟨h0, h1, h2⟩ := (in_facts t).2.2.2.2.2.2.2.2
  exact (congrFun (V_main_arg6 m c) _).trans (congrArg _ (named3 _ _ _ _ (at_tile t 0 h0) (at_zero 0 h1) (at_zero b.val h2)))

theorem eB : tB (iblk m c 0 t) (iblk m c 1 t) a = fun l => rB (m ((c : Thread nD τ).loc main_arg0)) (m ((c : Thread nD τ).loc main_arg1)) (tile t) a l :=
  funext fun l => Prod.ext (blk0 m c t a l) (blk1 m c t a l)

theorem eC : tC (iblk m c 2 t) (iblk m c 3 t) b = fun l => rC (m ((c : Thread nD τ).loc main_arg2)) (m ((c : Thread nD τ).loc main_arg3)) (tile t) b l :=
  funext fun l => Prod.ext (blk2 m c t b l) (blk3 m c t b l)

theorem eA : tA (iblk m c 4 t) (iblk m c 5 t) = fun l => rA (m ((c : Thread nD τ).loc main_arg4)) (m ((c : Thread nD τ).loc main_arg5)) (tile t) l :=
  funext fun l => Prod.ext (blk4 m c t l) (blk5 m c t l)

theorem eA' : tC (iblk m c 6 t) (iblk m c 7 t) b = fun l => rA (m ((c : Thread nD τ).loc main_arg4)) (m ((c : Thread nD τ).loc main_arg5)) (tile t) l :=
  funext fun l => Prod.ext (blk6 m c t b l) (blk7 m c t b l)

/-! ## The five blocks of a point -/

/-- A row of a table by its block and its row in the block. -/
def hi (r : Fin 1024) : Fin 8 := ⟨r.val / 128, by omega⟩
def lo (r : Fin 1024) : Fin 128 := ⟨r.val % 128, by omega⟩
/-- And by its half. -/
def wide (r : Fin 1024) : Fin 512 := ⟨r.val % 512, by omega⟩

theorem hi_lo (r : Fin 1024) : r.val = 128 * (hi r).val + (lo r).val := (Nat.div_add_mod _ _).symm
theorem half_wide (r : Fin 1024) : r.val = 512 * (r.val / 512) + (wide r).val := (Nat.div_add_mod _ _).symm
theorem half_lt (r : Fin 1024) : r.val / 512 < 2 := by omega

theorem block9 (z : Fin 1) (r : Fin 1024) : out0_9 (iblk m c 0 t) (iblk m c 1 t) (iblk m c 2 t) (iblk m c 3 t) (iblk m c 4 t) (iblk m c 5 t)
    (iblk m c 6 t) (iblk m c 7 t) (iblk m c 8 t) (ix3 z r b) = G9 m c (ix3 (tile t) r b) := by
  rw [out9_apply, wkB_at _ _ _ _ _ _ _ _ (hi r).val (lo r) b (hi_lo r) rfl, G9,
    ref119 _ _ _ _ _ _ _ (tile t) (lo r) b _ (hi r) rfl (hi_lo r) rfl, eB, eA, eC, blk8]

theorem block10 (z : Fin 1) (r s : Fin 1024) : out0_10 (iblk m c 0 t) (iblk m c 1 t) (iblk m c 2 t) (iblk m c 3 t) (iblk m c 4 t) (iblk m c 5 t)
    (iblk m c 6 t) (iblk m c 7 t) (iblk m c 8 t) (ix3 z r s) = G10 m c (ix3 (tile t) r s) := by
  have hr : r.val = 128 * (7 - (hi r).rev.val) + (lo r).val := by
    have := hi_lo r
    rw [Fin.val_rev]
    omega
  rw [out10_apply, wbB_at _ _ _ _ _ (hi r).rev.val (s.val / 512) (by omega) (half_lt s) (lo r) (wide s) hr (half_wide s), G10,
    ref123 _ _ _ _ (tile t) (lo r) (wide s) _ (hi r).rev (s.val / 512) (half_lt s) rfl hr (half_wide s), eB, eA]

theorem block11 (z : Fin 1) (r s : Fin 1024) : out0_11 (iblk m c 0 t) (iblk m c 1 t) (iblk m c 2 t) (iblk m c 3 t) (iblk m c 4 t) (iblk m c 5 t)
    (iblk m c 6 t) (iblk m c 7 t) (iblk m c 8 t) (ix3 z r s) = G11 m c (ix3 (tile t) r s) := by
  rw [out11_apply, wcB_at _ _ _ _ _ (hi s).val (r.val / 512) (half_lt r) (lo s) (wide r) (half_wide r) (hi_lo s), G11,
    ref127 _ _ _ _ (tile t) (lo s) (wide r) _ (hi s) (r.val / 512) (half_lt r) rfl (half_wide r) (hi_lo s), eC, eA']

theorem block12 (z w : Fin 1) : out0_12 (iblk m c 0 t) (iblk m c 1 t) (iblk m c 2 t) (iblk m c 3 t) (iblk m c 4 t) (iblk m c 5 t)
    (iblk m c 6 t) (iblk m c 7 t) (iblk m c 8 t) (ix3 z w l) = G12 m c (ix3 (tile t) w l) := by
  rw [out12_apply, G12, ref46, eA]

theorem block13 (z w : Fin 1) : out0_13 (iblk m c 0 t) (iblk m c 1 t) (iblk m c 2 t) (iblk m c 3 t) (iblk m c 4 t) (iblk m c 5 t)
    (iblk m c 6 t) (iblk m c 7 t) (iblk m c 8 t) (ix3 z w l) = G13 m c (ix3 (tile t) w l) := by
  rw [out13_apply, G13, ref49, eA]

/-! ## What a point writes back -/

theorem flushed9_eq : (dats m 0 c).flushed 9 t = (win0_9.blk t).view.read (Elt Ideal) (G9 m c) := by
  show (cfg0.win 9).cut (grid0.coords t) ((dats m 0 c).after 9 t) = _
  rw [after0_9]
  funext j
  rw [View.read_apply]
  obtain ⟨h0, h1, h2⟩ := (out_facts t).1
  idx_vars j
  exact (block9 m c t j2 j0 j1).trans (congrArg _ (named3 _ _ _ _ (at_tile t j0 h0) (at_zero j1.val h1) (at_zero j2.val h2)).symm)

theorem flushed10_eq : (dats m 0 c).flushed 10 t = (win0_10.blk t).view.read (Elt Ideal) (G10 m c) := by
  show (cfg0.win 10).cut (grid0.coords t) ((dats m 0 c).after 10 t) = _
  rw [after0_10]
  funext j
  rw [View.read_apply]
  obtain ⟨h0, h1, h2⟩ := (out_facts t).2.1
  idx_vars j
  exact (block10 m c t j0 j1 j2).trans (congrArg _ (named3 _ _ _ _ (at_tile t j0 h0) (at_zero j1.val h1) (at_zero j2.val h2)).symm)

theorem flushed11_eq : (dats m 0 c).flushed 11 t = (win0_11.blk t).view.read (Elt Ideal) (G11 m c) := by
  show (cfg0.win 11).cut (grid0.coords t) ((dats m 0 c).after 11 t) = _
  rw [after0_11]
  funext j
  rw [View.read_apply]
  obtain ⟨h0, h1, h2⟩ := (out_facts t).2.2.1
  idx_vars j
  exact (block11 m c t j0 j1 j2).trans (congrArg _ (named3 _ _ _ _ (at_tile t j0 h0) (at_zero j1.val h1) (at_zero j2.val h2)).symm)

theorem flushed12_eq : (dats m 0 c).flushed 12 t = (win0_12.blk t).view.read (Elt Ideal) (G12 m c) := by
  show (cfg0.win 12).cut (grid0.coords t) ((dats m 0 c).after 12 t) = _
  rw [after0_12]
  funext j
  rw [View.read_apply]
  obtain ⟨h0, h1, h2⟩ := (out_facts t).2.2.2.1
  idx_vars j
  exact (block12 m c t j2 j0 j1).trans (congrArg _ (named3 _ _ _ _ (at_tile t j0 h0) (at_zero j1.val h1) (at_zero j2.val h2)).symm)

theorem flushed13_eq : (dats m 0 c).flushed 13 t = (win0_13.blk t).view.read (Elt Ideal) (G13 m c) := by
  show (cfg0.win 13).cut (grid0.coords t) ((dats m 0 c).after 13 t) = _
  rw [after0_13]
  funext j
  rw [View.read_apply]
  obtain ⟨h0, h1, h2⟩ := (out_facts t).2.2.2.2
  idx_vars j
  exact (block13 m c t j2 j0 j1).trans (congrArg _ (named3 _ _ _ _ (at_tile t j0 h0) (at_zero j1.val h1) (at_zero j2.val h2)).symm)

end Blocks

/-! ## The result arrays -/

/-- The point of a tile. -/
def point (j : Fin 8) : Fin cfg0.N := ⟨j.val, lt_of_lt_of_eq j.isLt N_0.symm⟩

/-- The coordinates of a tile's block cover the tile. -/
theorem in_tile {j n k : ℕ} {x1 x2 : ℕ} {f : Fin 3 → ℕ} (h : tiles f j) (h1 : x1 < n) (h2 : x2 < k) :
    (f 0 * 1 ≤ j ∧ j < f 0 * 1 + 1) ∧ (f 1 * n ≤ x1 ∧ x1 < f 1 * n + n) ∧ (f 2 * k ≤ x2 ∧ x2 < f 2 * k + k) := by
  obtain ⟨e0, e1, e2⟩ := h
  rw [e0, e1, e2]
  omega

theorem final9 (c : Dev nD) : (dats m 0 c).arrAt 9 cfg0.N = G9 m c := by
  refine (dats m 0 c).arrAt_eq_of_cover 9 (G9 m c) (fun t _ => flushed9_eq m c t) fun i => ⟨point (i 0), flush0_9 _, ?_⟩
  show i ∈ ((View.whole main_v4_0).slice (win0_9.rect (point (i 0)))).set
  rw [View.set_slice_whole, Rect.mem_set_unit]
  obtain ⟨h0, h1, h2⟩ := in_tile (out_facts (point (i 0))).1 (i 1).isLt (i 2).isLt
  intro a
  match a with
  | ⟨0, _⟩ => exact h0
  | ⟨1, _⟩ => exact h1
  | ⟨2, _⟩ => exact h2

theorem final10 (c : Dev nD) : (dats m 0 c).arrAt 10 cfg0.N = G10 m c := by
  refine (dats m 0 c).arrAt_eq_of_cover 10 (G10 m c) (fun t _ => flushed10_eq m c t) fun i => ⟨point (i 0), flush0_10 _, ?_⟩
  show i ∈ ((View.whole main_v4_1).slice (win0_10.rect (point (i 0)))).set
  rw [View.set_slice_whole, Rect.mem_set_unit]
  obtain ⟨h0, h1, h2⟩ := in_tile (out_facts (point (i 0))).2.1 (i 1).isLt (i 2).isLt
  intro a
  match a with
  | ⟨0, _⟩ => exact h0
  | ⟨1, _⟩ => exact h1
  | ⟨2, _⟩ => exact h2

theorem final11 (c : Dev nD) : (dats m 0 c).arrAt 11 cfg0.N = G11 m c := by
  refine (dats m 0 c).arrAt_eq_of_cover 11 (G11 m c) (fun t _ => flushed11_eq m c t) fun i => ⟨point (i 0), flush0_11 _, ?_⟩
  show i ∈ ((View.whole main_v4_2).slice (win0_11.rect (point (i 0)))).set
  rw [View.set_slice_whole, Rect.mem_set_unit]
  obtain ⟨h0, h1, h2⟩ := in_tile (out_facts (point (i 0))).2.2.1 (i 1).isLt (i 2).isLt
  intro a
  match a with
  | ⟨0, _⟩ => exact h0
  | ⟨1, _⟩ => exact h1
  | ⟨2, _⟩ => exact h2

theorem final12 (c : Dev nD) : (dats m 0 c).arrAt 12 cfg0.N = G12 m c := by
  refine (dats m 0 c).arrAt_eq_of_cover 12 (G12 m c) (fun t _ => flushed12_eq m c t) fun i => ⟨point (i 0), flush0_12 _, ?_⟩
  show i ∈ ((View.whole main_v4_3).slice (win0_12.rect (point (i 0)))).set
  rw [View.set_slice_whole, Rect.mem_set_unit]
  obtain ⟨h0, h1, h2⟩ := in_tile (out_facts (point (i 0))).2.2.2.1 (i 1).isLt (i 2).isLt
  intro a
  match a with
  | ⟨0, _⟩ => exact h0
  | ⟨1, _⟩ => exact h1
  | ⟨2, _⟩ => exact h2

theorem final13 (c : Dev nD) : (dats m 0 c).arrAt 13 cfg0.N = G13 m c := by
  refine (dats m 0 c).arrAt_eq_of_cover 13 (G13 m c) (fun t _ => flushed13_eq m c t) fun i => ⟨point (i 0), flush0_13 _, ?_⟩
  show i ∈ ((View.whole main_v4_4).slice (win0_13.rect (point (i 0)))).set
  rw [View.set_slice_whole, Rect.mem_set_unit]
  obtain ⟨h0, h1, h2⟩ := in_tile (out_facts (point (i 0))).2.2.2.2 (i 1).isLt (i 2).isLt
  intro a
  match a with
  | ⟨0, _⟩ => exact h0
  | ⟨1, _⟩ => exact h1
  | ⟨2, _⟩ => exact h2

/-- Where the arguments are held: each is a window's array, read and never written. -/
theorem kept (r : PUnit × MemSt nD τ sig (Elt Ideal)) (h : Pipeline.FramePost cfgs (dats m) 0 (V m) r) (c : Dev nD) :
    r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  ⟨((h c).1 0).trans (((dats m 0 c).arrAt_in 0 rfl _).trans ((A_eq m c 0).trans (V_main_arg0 m c))),
   ((h c).1 1).trans (((dats m 0 c).arrAt_in 1 rfl _).trans ((A_eq m c 1).trans (V_main_arg1 m c))),
   ((h c).1 2).trans (((dats m 0 c).arrAt_in 2 rfl _).trans ((A_eq m c 2).trans (V_main_arg2 m c))),
   ((h c).1 3).trans (((dats m 0 c).arrAt_in 3 rfl _).trans ((A_eq m c 3).trans (V_main_arg3 m c))),
   ((h c).1 4).trans (((dats m 0 c).arrAt_in 4 rfl _).trans ((A_eq m c 4).trans (V_main_arg4 m c))),
   ((h c).1 5).trans (((dats m 0 c).arrAt_in 5 rfl _).trans ((A_eq m c 5).trans (V_main_arg5 m c))),
   ((h c).1 8).trans (((dats m 0 c).arrAt_in 8 rfl _).trans ((A_eq m c 8).trans (V_main_arg6 m c)))⟩

/-- The kernel's and the reference's runs end at the same five arrays. -/
theorem algebraic : Cert.algebraic_Kernel11Ideal_Reference11Ideal := by
  intro m ρ m' ρ' _ hag
  refine ⟨G9 m, G10 m, G11 m, G12 m, G13 m, (θ_run _ _ _).mono (fun r h c => ?_) (run_main m ρ),
    (θ_run _ _ _).mono (fun r h c => ?_) (Cert.Reference11Ideal.Value.run m' ρ')⟩
  · exact ⟨((h c).1 9).trans (final9 m c), ((h c).1 10).trans (final10 m c), ((h c).1 11).trans (final11 m c),
      ((h c).1 12).trans (final12 m c), ((h c).1 13).trans (final13 m c), kept m r h c⟩
  · obtain ⟨e9, e10, e11, e12, e13, h⟩ := h c
    obtain ⟨a0, a1, a2, a3, a4, a5, a6⟩ := hag c
    refine ⟨e9.trans ((Cert.Reference11Ideal.Read.val_main_v119_eq _).trans ?_), e10.trans ((Cert.Reference11Ideal.Read.val_main_v123_eq _).trans ?_),
      e11.trans ((Cert.Reference11Ideal.Read.val_main_v127_eq _).trans ?_), e12.trans ((Cert.Reference11Ideal.Read.val_main_v46_eq _).trans ?_),
      e13.trans ((Cert.Reference11Ideal.Read.val_main_v49_eq _).trans ?_), h⟩
    all_goals clear e9 e10 e11 e12 e13
    · exact (congr (congr (congr (congr (congr (congr (congrArg _ a0) a1) a2) a3) a4) a5) a6)
    · exact congr (congr (congr (congrArg _ a0) a1) a4) a5
    · exact congr (congr (congr (congrArg _ a2) a3) a4) a5
    · exact congr (congrArg _ a4) a5
    · exact congr (congrArg _ a4) a5

end Cert.Proof.TablesEnd

end
-- ==== Proof.lean ====
/-
  The proof of `Cert.Claim`: for each call the frames of the kernel, of the kernel over the extended reals and of the
  reference, and that the last two compute the same arrays.
-/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.ReferenceIdeal.Step
public import proofs.«01_k».proof.Proof.Gen.Kernel2
public import proofs.«01_k».proof.Proof.Gen.Kernel2.Frame
public import proofs.«01_k».proof.Proof.Gen.Kernel2Ideal
public import proofs.«01_k».proof.Proof.Gen.Reference2Ideal
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Value
public import proofs.«01_k».proof.Proof.Gen.Reference3Ideal
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Value
public import proofs.«01_k».proof.Proof.Gen.Reference4Ideal
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Value
public import proofs.«01_k».proof.Proof.Gen.Reference5Ideal
public import proofs.«01_k».proof.Proof.Gen.Kernel6
public import proofs.«01_k».proof.Proof.Gen.Kernel6.Frame
public import proofs.«01_k».proof.Proof.Gen.Kernel6Ideal
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import proofs.«01_k».proof.Proof.Gen.Kernel7
public import proofs.«01_k».proof.Proof.Gen.Kernel7.Frame
public import proofs.«01_k».proof.Proof.Gen.Kernel7Ideal
public import proofs.«01_k».proof.Proof.Gen.Kernel7Ideal.Value
public import proofs.«01_k».proof.Proof.Gen.Reference7Ideal
public import proofs.«01_k».proof.Proof.Gen.Reference7Ideal.Run
public import proofs.«01_k».proof.Proof.Gen.Reference7Ideal.Read
public import proofs.«01_k».proof.Proof.Gen.Kernel8
public import proofs.«01_k».proof.Proof.Gen.Kernel8.Frame
public import proofs.«01_k».proof.Proof.Gen.Kernel8Ideal
public import proofs.«01_k».proof.Proof.Gen.Kernel8Ideal.Value
public import proofs.«01_k».proof.Proof.Gen.Reference8Ideal
public import proofs.«01_k».proof.Proof.Gen.Reference8Ideal.Run
public import proofs.«01_k».proof.Proof.Gen.Reference8Ideal.Read
public import proofs.«01_k».proof.Proof.Gen.Kernel9
public import proofs.«01_k».proof.Proof.Gen.Kernel9.Frame
public import proofs.«01_k».proof.Proof.Gen.Kernel9Ideal
public import proofs.«01_k».proof.Proof.Gen.Kernel9Ideal.Value
public import proofs.«01_k».proof.Proof.Gen.Reference9Ideal
public import proofs.«01_k».proof.Proof.Gen.Reference9Ideal.Run
public import proofs.«01_k».proof.Proof.Gen.Reference9Ideal.Read
public import proofs.«01_k».proof.Proof.Gen.Kernel10
public import proofs.«01_k».proof.Proof.Gen.Kernel10.Frame
public import proofs.«01_k».proof.Proof.Gen.Kernel10Ideal
public import proofs.«01_k».proof.Proof.Gen.Kernel10Ideal.Value
public import proofs.«01_k».proof.Proof.Gen.Reference10Ideal
public import proofs.«01_k».proof.Proof.Gen.Reference10Ideal.Run
public import proofs.«01_k».proof.Proof.Gen.Reference10Ideal.Read
public import proofs.«01_k».proof.Proof.Gen.Kernel11
public import proofs.«01_k».proof.Proof.Gen.Kernel11.Frame
public import proofs.«01_k».proof.Proof.Gen.Kernel11Ideal
public import proofs.«01_k».proof.Proof.Gen.Kernel11Ideal.Frame
public import proofs.«01_k».proof.Proof.Gen.Reference11Ideal
public import proofs.«01_k».proof.Proof.Gen.Reference11Ideal.Run
public import proofs.«01_k».proof.Proof.Gen.Reference11Ideal.Read
public import proofs.«01_k».proof.Proof.Gen.Pre_finite_rows
public import proofs.«01_k».proof.Proof.Frames
public import proofs.«01_k».proof.Proof.Lru
public import proofs.«01_k».proof.Proof.Up
public import proofs.«01_k».proof.Proof.UpFrame
public import proofs.«01_k».proof.Proof.DownProj
public import proofs.«01_k».proof.Proof.InProj
public import proofs.«01_k».proof.Proof.OutProj
public import proofs.«01_k».proof.Proof.EvenIn
public import proofs.«01_k».proof.Proof.EvenLr
public import proofs.«01_k».proof.Proof.EvenOut
public import proofs.«01_k».proof.Proof.Norm
public import proofs.«01_k».proof.Proof.Disc
public import proofs.«01_k».proof.Proof.TablesEnd

@[expose] public section

noncomputable section

namespace Cert.Proof

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Kernel10.Gen.facts, Cert.Kernel10Ideal.Gen.facts, Cert.Reference10Ideal.Gen.facts,
  Cert.Kernel11.Gen.facts, Cert.Kernel11Ideal.Gen.facts, Cert.Reference11Ideal.Gen.facts,
  Cert.Pre_finite_rows.Gen.facts,
  fun m ρ _ => Cert.Kernel.Gen.frame m ρ, fun m ρ _ => Cert.KernelIdeal.Gen.frame m ρ, Frames.reference,
  UpFrame.quiescent, fun m ρ _ => UpRun.quiescent m ρ, Frames.reference2,
  fun m ρ _ => Cert.Kernel3.Gen.frame m ρ, fun m ρ _ => Cert.Kernel3Ideal.Gen.frame m ρ, Frames.reference3,
  fun m ρ _ => Cert.Kernel4.Gen.frame m ρ, fun m ρ _ => Cert.Kernel4Ideal.Gen.frame m ρ, Frames.reference4,
  fun m ρ _ => Cert.Kernel5.Gen.frame m ρ, fun m ρ _ => Cert.Kernel5Ideal.Gen.frame m ρ, Frames.reference5,
  fun m ρ _ => Cert.Kernel6.Gen.frame m ρ, fun m ρ _ => Cert.Kernel6Ideal.Gen.frame m ρ, Frames.reference6,
  fun m ρ _ => Cert.Kernel7.Gen.frame m ρ, fun m ρ _ => Cert.Kernel7Ideal.Gen.frame m ρ, Frames.reference7,
  fun m ρ _ => Cert.Kernel8.Gen.frame m ρ, fun m ρ _ => Cert.Kernel8Ideal.Gen.frame m ρ, fun m ρ _ => Cert.Kernel8Ideal.Gen.frame m ρ,
  Frames.reference8, Frames.reference8_pre,
  fun m ρ _ => Cert.Kernel9.Gen.frame m ρ, fun m ρ _ => Cert.Kernel9Ideal.Gen.frame m ρ, Frames.reference9,
  fun m ρ _ => Cert.Kernel10.Gen.frame m ρ, fun m ρ _ => Cert.Kernel10Ideal.Gen.frame m ρ, Frames.reference10,
  fun m ρ _ => Cert.Kernel11.Gen.frame m ρ, fun m ρ _ => Cert.Kernel11Ideal.Gen.frame m ρ, Frames.reference11,
  trivial, Lru.algebraic, trivial, Up.algebraic, trivial, DownProj.algebraic, trivial, InProj.algebraic, trivial, OutProj.algebraic,
  trivial, EvenIn.algebraic, trivial, EvenLr.algebraic, trivial, EvenOut.algebraic, trivial, Norm.algebraic, trivial, Disc.algebraic,
  trivial, TablesEnd.algebraic⟩

end Cert.Proof

end
